-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXRefIdeal (m : (ℓ : Loc Cert.GateXRefIdeal.nD Cert.GateXRefIdeal.τ Cert.GateXRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_QkvX (m : (ℓ : Loc Cert.QkvX.nD Cert.QkvX.τ Cert.QkvX.sig) → Buf (Elt Bits) ℓ) : Prop :=
  True

def Pre_QkvXIdeal (m : (ℓ : Loc Cert.QkvXIdeal.nD Cert.QkvXIdeal.τ Cert.QkvXIdeal.sig) → Buf (Elt Ideal) ℓ) : Prop :=
  True

def Pre_QkvXRefIdeal (m : (ℓ : Loc Cert.QkvXRefIdeal.nD Cert.QkvXRefIdeal.τ Cert.QkvXRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1)
      ∧ r.2.mem ((c.tc : Thread Cert.GateX.nD Cert.GateX.τ).loc Cert.GateX.main_arg2) = m ((c.tc : Thread Cert.GateX.nD Cert.GateX.τ).loc Cert.GateX.main_arg2)
      ∧ r.2.mem ((c.tc : Thread Cert.GateX.nD Cert.GateX.τ).loc Cert.GateX.main_arg3) = m ((c.tc : Thread Cert.GateX.nD Cert.GateX.τ).loc Cert.GateX.main_arg3)
      ∧ r.2.mem ((c.tc : Thread Cert.GateX.nD Cert.GateX.τ).loc Cert.GateX.main_arg4) = m ((c.tc : Thread Cert.GateX.nD Cert.GateX.τ).loc Cert.GateX.main_arg4)
      ∧ r.2.mem ((c.tc : Thread Cert.GateX.nD Cert.GateX.τ).loc Cert.GateX.main_arg5) = m ((c.tc : Thread Cert.GateX.nD Cert.GateX.τ).loc Cert.GateX.main_arg5)
      ∧ r.2.mem ((c.tc : Thread Cert.GateX.nD Cert.GateX.τ).loc Cert.GateX.main_arg6) = m ((c.tc : Thread Cert.GateX.nD Cert.GateX.τ).loc Cert.GateX.main_arg6))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
      ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2)
      ∧ r.2.mem ((c.tc : Thread Cert.GateXIdeal.nD Cert.GateXIdeal.τ).loc Cert.GateXIdeal.main_arg3) = m ((c.tc : Thread Cert.GateXIdeal.nD Cert.GateXIdeal.τ).loc Cert.GateXIdeal.main_arg3)
      ∧ r.2.mem ((c.tc : Thread Cert.GateXIdeal.nD Cert.GateXIdeal.τ).loc Cert.GateXIdeal.main_arg4) = m ((c.tc : Thread Cert.GateXIdeal.nD Cert.GateXIdeal.τ).loc Cert.GateXIdeal.main_arg4)
      ∧ r.2.mem ((c.tc : Thread Cert.GateXIdeal.nD Cert.GateXIdeal.τ).loc Cert.GateXIdeal.main_arg5) = m ((c.tc : Thread Cert.GateXIdeal.nD Cert.GateXIdeal.τ).loc Cert.GateXIdeal.main_arg5)
      ∧ r.2.mem ((c.tc : Thread Cert.GateXIdeal.nD Cert.GateXIdeal.τ).loc Cert.GateXIdeal.main_arg6) = m ((c.tc : Thread Cert.GateXIdeal.nD Cert.GateXIdeal.τ).loc Cert.GateXIdeal.main_arg6))
      ∧ r.2.sem = fun _ => 0)

def quiescent_GateXRefIdeal [hGateXRefIdeal : Cert.GateXRefIdeal.Facts] : Prop :=
  ∀ (m : (ℓ : Loc Cert.GateXRefIdeal.nD Cert.GateXRefIdeal.τ Cert.GateXRefIdeal.sig) → Buf (Elt Ideal) ℓ) (g : Dev Cert.GateXRefIdeal.nD → PrngReg), Pre_GateXRefIdeal m →
    θ_run (Cert.GateXRefIdeal.defs (F := Ideal)) (onTc (τ := Cert.GateXRefIdeal.τ) (Cert.GateXRefIdeal.main (F := Ideal))) ⟨m, fun _ => 0, g⟩ (fun r => (∀ c : Dev Cert.GateXRefIdeal.nD,
      r.2.mem ((c.tc : Thread Cert.GateXRefIdeal.nD Cert.GateXRefIdeal.τ).loc Cert.GateXRefIdeal.main_arg0) = m ((c.tc : Thread Cert.GateXRefIdeal.nD Cert.GateXRefIdeal.τ).loc Cert.GateXRefIdeal.main_arg0)
      ∧ r.2.mem ((c.tc : Thread Cert.GateXRefIdeal.nD Cert.GateXRefIdeal.τ).loc Cert.GateXRefIdeal.main_arg1) = m ((c.tc : Thread Cert.GateXRefIdeal.nD Cert.GateXRefIdeal.τ).loc Cert.GateXRefIdeal.main_arg1)
      ∧ r.2.mem ((c.tc : Thread Cert.GateXRefIdeal.nD Cert.GateXRefIdeal.τ).loc Cert.GateXRefIdeal.main_arg2) = m ((c.tc : Thread Cert.GateXRefIdeal.nD Cert.GateXRefIdeal.τ).loc Cert.GateXRefIdeal.main_arg2)
      ∧ r.2.mem ((c.tc : Thread Cert.GateXRefIdeal.nD Cert.GateXRefIdeal.τ).loc Cert.GateXRefIdeal.main_arg3) = m ((c.tc : Thread Cert.GateXRefIdeal.nD Cert.GateXRefIdeal.τ).loc Cert.GateXRefIdeal.main_arg3)
      ∧ r.2.mem ((c.tc : Thread Cert.GateXRefIdeal.nD Cert.GateXRefIdeal.τ).loc Cert.GateXRefIdeal.main_arg4) = m ((c.tc : Thread Cert.GateXRefIdeal.nD Cert.GateXRefIdeal.τ).loc Cert.GateXRefIdeal.main_arg4)
      ∧ r.2.mem ((c.tc : Thread Cert.GateXRefIdeal.nD Cert.GateXRefIdeal.τ).loc Cert.GateXRefIdeal.main_arg5) = m ((c.tc : Thread Cert.GateXRefIdeal.nD Cert.GateXRefIdeal.τ).loc Cert.GateXRefIdeal.main_arg5)
      ∧ r.2.mem ((c.tc : Thread Cert.GateXRefIdeal.nD Cert.GateXRefIdeal.τ).loc Cert.GateXRefIdeal.main_arg6) = m ((c.tc : Thread Cert.GateXRefIdeal.nD Cert.GateXRefIdeal.τ).loc Cert.GateXRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2)
      ∧ r.2.mem ((c.tc : Thread Cert.OutX.nD Cert.OutX.τ).loc Cert.OutX.main_arg3) = m ((c.tc : Thread Cert.OutX.nD Cert.OutX.τ).loc Cert.OutX.main_arg3)
      ∧ r.2.mem ((c.tc : Thread Cert.OutX.nD Cert.OutX.τ).loc Cert.OutX.main_arg4) = m ((c.tc : Thread Cert.OutX.nD Cert.OutX.τ).loc Cert.OutX.main_arg4)
      ∧ r.2.mem ((c.tc : Thread Cert.OutX.nD Cert.OutX.τ).loc Cert.OutX.main_arg5) = m ((c.tc : Thread Cert.OutX.nD Cert.OutX.τ).loc Cert.OutX.main_arg5)
      ∧ r.2.mem ((c.tc : Thread Cert.OutX.nD Cert.OutX.τ).loc Cert.OutX.main_arg6) = m ((c.tc : Thread Cert.OutX.nD Cert.OutX.τ).loc Cert.OutX.main_arg6))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2)
      ∧ r.2.mem ((c.tc : Thread Cert.OutXIdeal.nD Cert.OutXIdeal.τ).loc Cert.OutXIdeal.main_arg3) = m ((c.tc : Thread Cert.OutXIdeal.nD Cert.OutXIdeal.τ).loc Cert.OutXIdeal.main_arg3)
      ∧ r.2.mem ((c.tc : Thread Cert.OutXIdeal.nD Cert.OutXIdeal.τ).loc Cert.OutXIdeal.main_arg4) = m ((c.tc : Thread Cert.OutXIdeal.nD Cert.OutXIdeal.τ).loc Cert.OutXIdeal.main_arg4)
      ∧ r.2.mem ((c.tc : Thread Cert.OutXIdeal.nD Cert.OutXIdeal.τ).loc Cert.OutXIdeal.main_arg5) = m ((c.tc : Thread Cert.OutXIdeal.nD Cert.OutXIdeal.τ).loc Cert.OutXIdeal.main_arg5)
      ∧ r.2.mem ((c.tc : Thread Cert.OutXIdeal.nD Cert.OutXIdeal.τ).loc Cert.OutXIdeal.main_arg6) = m ((c.tc : Thread Cert.OutXIdeal.nD Cert.OutXIdeal.τ).loc Cert.OutXIdeal.main_arg6))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2)
      ∧ r.2.mem ((c.tc : Thread Cert.OutXRefIdeal.nD Cert.OutXRefIdeal.τ).loc Cert.OutXRefIdeal.main_arg3) = m ((c.tc : Thread Cert.OutXRefIdeal.nD Cert.OutXRefIdeal.τ).loc Cert.OutXRefIdeal.main_arg3)
      ∧ r.2.mem ((c.tc : Thread Cert.OutXRefIdeal.nD Cert.OutXRefIdeal.τ).loc Cert.OutXRefIdeal.main_arg4) = m ((c.tc : Thread Cert.OutXRefIdeal.nD Cert.OutXRefIdeal.τ).loc Cert.OutXRefIdeal.main_arg4)
      ∧ r.2.mem ((c.tc : Thread Cert.OutXRefIdeal.nD Cert.OutXRefIdeal.τ).loc Cert.OutXRefIdeal.main_arg5) = m ((c.tc : Thread Cert.OutXRefIdeal.nD Cert.OutXRefIdeal.τ).loc Cert.OutXRefIdeal.main_arg5)
      ∧ r.2.mem ((c.tc : Thread Cert.OutXRefIdeal.nD Cert.OutXRefIdeal.τ).loc Cert.OutXRefIdeal.main_arg6) = m ((c.tc : Thread Cert.OutXRefIdeal.nD Cert.OutXRefIdeal.τ).loc Cert.OutXRefIdeal.main_arg6))
      ∧ r.2.sem = fun _ => 0)

def quiescent_QkvX [hQkvX : Cert.QkvX.Facts] : Prop :=
  ∀ (m : (ℓ : Loc Cert.QkvX.nD Cert.QkvX.τ Cert.QkvX.sig) → Buf (Elt Bits) ℓ) (g : Dev Cert.QkvX.nD → PrngReg), Pre_QkvX m →
    θ_run (Cert.QkvX.defs (F := Bits)) (onTc (τ := Cert.QkvX.τ) (Cert.QkvX.main (F := Bits))) ⟨m, fun _ => 0, g⟩ (fun r => (∀ c : Dev Cert.QkvX.nD,
      r.2.mem ((c.tc : Thread Cert.QkvX.nD Cert.QkvX.τ).loc Cert.QkvX.main_arg0) = m ((c.tc : Thread Cert.QkvX.nD Cert.QkvX.τ).loc Cert.QkvX.main_arg0)
      ∧ r.2.mem ((c.tc : Thread Cert.QkvX.nD Cert.QkvX.τ).loc Cert.QkvX.main_arg1) = m ((c.tc : Thread Cert.QkvX.nD Cert.QkvX.τ).loc Cert.QkvX.main_arg1)
      ∧ r.2.mem ((c.tc : Thread Cert.QkvX.nD Cert.QkvX.τ).loc Cert.QkvX.main_arg2) = m ((c.tc : Thread Cert.QkvX.nD Cert.QkvX.τ).loc Cert.QkvX.main_arg2)
      ∧ r.2.mem ((c.tc : Thread Cert.QkvX.nD Cert.QkvX.τ).loc Cert.QkvX.main_arg3) = m ((c.tc : Thread Cert.QkvX.nD Cert.QkvX.τ).loc Cert.QkvX.main_arg3)
      ∧ r.2.mem ((c.tc : Thread Cert.QkvX.nD Cert.QkvX.τ).loc Cert.QkvX.main_arg4) = m ((c.tc : Thread Cert.QkvX.nD Cert.QkvX.τ).loc Cert.QkvX.main_arg4)
      ∧ r.2.mem ((c.tc : Thread Cert.QkvX.nD Cert.QkvX.τ).loc Cert.QkvX.main_arg5) = m ((c.tc : Thread Cert.QkvX.nD Cert.QkvX.τ).loc Cert.QkvX.main_arg5))
      ∧ r.2.sem = fun _ => 0)

def quiescent_QkvXIdeal [hQkvXIdeal : Cert.QkvXIdeal.Facts] : Prop :=
  ∀ (m : (ℓ : Loc Cert.QkvXIdeal.nD Cert.QkvXIdeal.τ Cert.QkvXIdeal.sig) → Buf (Elt Ideal) ℓ) (g : Dev Cert.QkvXIdeal.nD → PrngReg), Pre_QkvXIdeal m →
    θ_run (Cert.QkvXIdeal.defs (F := Ideal)) (onTc (τ := Cert.QkvXIdeal.τ) (Cert.QkvXIdeal.main (F := Ideal))) ⟨m, fun _ => 0, g⟩ (fun r => (∀ c : Dev Cert.QkvXIdeal.nD,
      r.2.mem ((c.tc : Thread Cert.QkvXIdeal.nD Cert.QkvXIdeal.τ).loc Cert.QkvXIdeal.main_arg0) = m ((c.tc : Thread Cert.QkvXIdeal.nD Cert.QkvXIdeal.τ).loc Cert.QkvXIdeal.main_arg0)
      ∧ r.2.mem ((c.tc : Thread Cert.QkvXIdeal.nD Cert.QkvXIdeal.τ).loc Cert.QkvXIdeal.main_arg1) = m ((c.tc : Thread Cert.QkvXIdeal.nD Cert.QkvXIdeal.τ).loc Cert.QkvXIdeal.main_arg1)
      ∧ r.2.mem ((c.tc : Thread Cert.QkvXIdeal.nD Cert.QkvXIdeal.τ).loc Cert.QkvXIdeal.main_arg2) = m ((c.tc : Thread Cert.QkvXIdeal.nD Cert.QkvXIdeal.τ).loc Cert.QkvXIdeal.main_arg2)
      ∧ r.2.mem ((c.tc : Thread Cert.QkvXIdeal.nD Cert.QkvXIdeal.τ).loc Cert.QkvXIdeal.main_arg3) = m ((c.tc : Thread Cert.QkvXIdeal.nD Cert.QkvXIdeal.τ).loc Cert.QkvXIdeal.main_arg3)
      ∧ r.2.mem ((c.tc : Thread Cert.QkvXIdeal.nD Cert.QkvXIdeal.τ).loc Cert.QkvXIdeal.main_arg4) = m ((c.tc : Thread Cert.QkvXIdeal.nD Cert.QkvXIdeal.τ).loc Cert.QkvXIdeal.main_arg4)
      ∧ r.2.mem ((c.tc : Thread Cert.QkvXIdeal.nD Cert.QkvXIdeal.τ).loc Cert.QkvXIdeal.main_arg5) = m ((c.tc : Thread Cert.QkvXIdeal.nD Cert.QkvXIdeal.τ).loc Cert.QkvXIdeal.main_arg5))
      ∧ r.2.sem = fun _ => 0)

def quiescent_QkvXRefIdeal [hQkvXRefIdeal : Cert.QkvXRefIdeal.Facts] : Prop :=
  ∀ (m : (ℓ : Loc Cert.QkvXRefIdeal.nD Cert.QkvXRefIdeal.τ Cert.QkvXRefIdeal.sig) → Buf (Elt Ideal) ℓ) (g : Dev Cert.QkvXRefIdeal.nD → PrngReg), Pre_QkvXRefIdeal m →
    θ_run (Cert.QkvXRefIdeal.defs (F := Ideal)) (onTc (τ := Cert.QkvXRefIdeal.τ) (Cert.QkvXRefIdeal.main (F := Ideal))) ⟨m, fun _ => 0, g⟩ (fun r => (∀ c : Dev Cert.QkvXRefIdeal.nD,
      r.2.mem ((c.tc : Thread Cert.QkvXRefIdeal.nD Cert.QkvXRefIdeal.τ).loc Cert.QkvXRefIdeal.main_arg0) = m ((c.tc : Thread Cert.QkvXRefIdeal.nD Cert.QkvXRefIdeal.τ).loc Cert.QkvXRefIdeal.main_arg0)
      ∧ r.2.mem ((c.tc : Thread Cert.QkvXRefIdeal.nD Cert.QkvXRefIdeal.τ).loc Cert.QkvXRefIdeal.main_arg1) = m ((c.tc : Thread Cert.QkvXRefIdeal.nD Cert.QkvXRefIdeal.τ).loc Cert.QkvXRefIdeal.main_arg1)
      ∧ r.2.mem ((c.tc : Thread Cert.QkvXRefIdeal.nD Cert.QkvXRefIdeal.τ).loc Cert.QkvXRefIdeal.main_arg2) = m ((c.tc : Thread Cert.QkvXRefIdeal.nD Cert.QkvXRefIdeal.τ).loc Cert.QkvXRefIdeal.main_arg2)
      ∧ r.2.mem ((c.tc : Thread Cert.QkvXRefIdeal.nD Cert.QkvXRefIdeal.τ).loc Cert.QkvXRefIdeal.main_arg3) = m ((c.tc : Thread Cert.QkvXRefIdeal.nD Cert.QkvXRefIdeal.τ).loc Cert.QkvXRefIdeal.main_arg3)
      ∧ r.2.mem ((c.tc : Thread Cert.QkvXRefIdeal.nD Cert.QkvXRefIdeal.τ).loc Cert.QkvXRefIdeal.main_arg4) = m ((c.tc : Thread Cert.QkvXRefIdeal.nD Cert.QkvXRefIdeal.τ).loc Cert.QkvXRefIdeal.main_arg4)
      ∧ r.2.mem ((c.tc : Thread Cert.QkvXRefIdeal.nD Cert.QkvXRefIdeal.τ).loc Cert.QkvXRefIdeal.main_arg5) = m ((c.tc : Thread Cert.QkvXRefIdeal.nD Cert.QkvXRefIdeal.τ).loc Cert.QkvXRefIdeal.main_arg5))
      ∧ r.2.sem = fun _ => 0)

def preserves_Kernel_KernelIdeal : Prop :=
  IdealRules.named_const.Statement Cert.KernelIdeal.κ "slope" .f32 0xBEEC9820#32 (((-(2 / 3)) * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v3)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v3) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v7) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v8) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v2)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v2) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v4) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)) →
    ∃ (v0 : (c : Dev Cert.QkvWIdeal.nD) → Buf (Elt Ideal) ((c.tc : Thread Cert.QkvWIdeal.nD Cert.QkvWIdeal.τ).loc Cert.QkvWIdeal.main_v0)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v0) = v0 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v10) = v0 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v10) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v0)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v0) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v8) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v2_0)) (v1 : (c : Dev Cert.UpFIdeal.nD) → Buf (Elt Ideal) ((c.tc : Thread Cert.UpFIdeal.nD Cert.UpFIdeal.τ).loc Cert.UpFIdeal.main_v2_1)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v2_0) = v0 c
          ∧ r.2.mem ((c.tc : Thread Cert.UpFIdeal.nD Cert.UpFIdeal.τ).loc Cert.UpFIdeal.main_v2_1) = v1 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v5) = v0 c
          ∧ r.2.mem ((c.tc : Thread Cert.UpFRefIdeal.nD Cert.UpFRefIdeal.τ).loc Cert.UpFRefIdeal.main_v7) = v1 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)) →
    ∃ (v0 : (c : Dev Cert.DownFIdeal.nD) → Buf (Elt Ideal) ((c.tc : Thread Cert.DownFIdeal.nD Cert.DownFIdeal.τ).loc Cert.DownFIdeal.main_v3)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v3) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v4) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)) →
    ∃ (v0 : (c : Dev Cert.OutFIdeal.nD) → Buf (Elt Ideal) ((c.tc : Thread Cert.OutFIdeal.nD Cert.OutFIdeal.τ).loc Cert.OutFIdeal.main_v0_0)) (v1 : (c : Dev Cert.OutFIdeal.nD) → Buf (Elt Ideal) ((c.tc : Thread Cert.OutFIdeal.nD Cert.OutFIdeal.τ).loc Cert.OutFIdeal.main_v0_1)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v0_0) = v0 c
          ∧ r.2.mem ((c.tc : Thread Cert.OutFIdeal.nD Cert.OutFIdeal.τ).loc Cert.OutFIdeal.main_v0_1) = v1 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v3) = v0 c
          ∧ r.2.mem ((c.tc : Thread Cert.OutFRefIdeal.nD Cert.OutFRefIdeal.τ).loc Cert.OutFRefIdeal.main_v16) = v1 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3))

def preserves_GateX_GateXIdeal : Prop :=
  True

def algebraic_GateXIdeal_GateXRefIdeal [hGateXIdeal : Cert.GateXIdeal.Facts] [hGateXRefIdeal : Cert.GateXRefIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXRefIdeal.nD Cert.GateXRefIdeal.τ Cert.GateXRefIdeal.sig) → Buf (Elt Ideal) ℓ) (g' : Dev Cert.GateXRefIdeal.nD → PrngReg), Pre_GateXIdeal m →
    (∀ c : Dev Cert.GateXIdeal.nD,
      m' ((c.tc : Thread Cert.GateXRefIdeal.nD Cert.GateXRefIdeal.τ).loc Cert.GateXRefIdeal.main_arg0) = m ((c.tc : Thread Cert.GateXIdeal.nD Cert.GateXIdeal.τ).loc Cert.GateXIdeal.main_arg0)
      ∧ m' ((c.tc : Thread Cert.GateXRefIdeal.nD Cert.GateXRefIdeal.τ).loc Cert.GateXRefIdeal.main_arg1) = m ((c.tc : Thread Cert.GateXIdeal.nD Cert.GateXIdeal.τ).loc Cert.GateXIdeal.main_arg1)
      ∧ m' ((c.tc : Thread Cert.GateXRefIdeal.nD Cert.GateXRefIdeal.τ).loc Cert.GateXRefIdeal.main_arg2) = m ((c.tc : Thread Cert.GateXIdeal.nD Cert.GateXIdeal.τ).loc Cert.GateXIdeal.main_arg2)
      ∧ m' ((c.tc : Thread Cert.GateXRefIdeal.nD Cert.GateXRefIdeal.τ).loc Cert.GateXRefIdeal.main_arg3) = m ((c.tc : Thread Cert.GateXIdeal.nD Cert.GateXIdeal.τ).loc Cert.GateXIdeal.main_arg3)
      ∧ m' ((c.tc : Thread Cert.GateXRefIdeal.nD Cert.GateXRefIdeal.τ).loc Cert.GateXRefIdeal.main_arg4) = m ((c.tc : Thread Cert.GateXIdeal.nD Cert.GateXIdeal.τ).loc Cert.GateXIdeal.main_arg4)
      ∧ m' ((c.tc : Thread Cert.GateXRefIdeal.nD Cert.GateXRefIdeal.τ).loc Cert.GateXRefIdeal.main_arg5) = m ((c.tc : Thread Cert.GateXIdeal.nD Cert.GateXIdeal.τ).loc Cert.GateXIdeal.main_arg5)
      ∧ m' ((c.tc : Thread Cert.GateXRefIdeal.nD Cert.GateXRefIdeal.τ).loc Cert.GateXRefIdeal.main_arg6) = m ((c.tc : Thread Cert.GateXIdeal.nD Cert.GateXIdeal.τ).loc Cert.GateXIdeal.main_arg6)) →
    ∃ (v0 : (c : Dev Cert.GateXIdeal.nD) → Buf (Elt Ideal) ((c.tc : Thread Cert.GateXIdeal.nD Cert.GateXIdeal.τ).loc Cert.GateXIdeal.main_v2_0)) (v1 : (c : Dev Cert.GateXIdeal.nD) → Buf (Elt Ideal) ((c.tc : Thread Cert.GateXIdeal.nD Cert.GateXIdeal.τ).loc Cert.GateXIdeal.main_v2_1)) (v2 : (c : Dev Cert.GateXIdeal.nD) → Buf (Elt Ideal) ((c.tc : Thread Cert.GateXIdeal.nD Cert.GateXIdeal.τ).loc Cert.GateXIdeal.main_v2_2)) (v3 : (c : Dev Cert.GateXIdeal.nD) → Buf (Elt Ideal) ((c.tc : Thread Cert.GateXIdeal.nD Cert.GateXIdeal.τ).loc Cert.GateXIdeal.main_v2_3)) (v4 : (c : Dev Cert.GateXIdeal.nD) → Buf (Elt Ideal) ((c.tc : Thread Cert.GateXIdeal.nD Cert.GateXIdeal.τ).loc Cert.GateXIdeal.main_v2_4)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v2_0) = v0 c
          ∧ r.2.mem ((c.tc : Thread Cert.GateXIdeal.nD Cert.GateXIdeal.τ).loc Cert.GateXIdeal.main_v2_1) = v1 c
          ∧ r.2.mem ((c.tc : Thread Cert.GateXIdeal.nD Cert.GateXIdeal.τ).loc Cert.GateXIdeal.main_v2_2) = v2 c
          ∧ r.2.mem ((c.tc : Thread Cert.GateXIdeal.nD Cert.GateXIdeal.τ).loc Cert.GateXIdeal.main_v2_3) = v3 c
          ∧ r.2.mem ((c.tc : Thread Cert.GateXIdeal.nD Cert.GateXIdeal.τ).loc Cert.GateXIdeal.main_v2_4) = v4 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
          ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2)
          ∧ r.2.mem ((c.tc : Thread Cert.GateXIdeal.nD Cert.GateXIdeal.τ).loc Cert.GateXIdeal.main_arg3) = m ((c.tc : Thread Cert.GateXIdeal.nD Cert.GateXIdeal.τ).loc Cert.GateXIdeal.main_arg3)
          ∧ r.2.mem ((c.tc : Thread Cert.GateXIdeal.nD Cert.GateXIdeal.τ).loc Cert.GateXIdeal.main_arg4) = m ((c.tc : Thread Cert.GateXIdeal.nD Cert.GateXIdeal.τ).loc Cert.GateXIdeal.main_arg4)
          ∧ r.2.mem ((c.tc : Thread Cert.GateXIdeal.nD Cert.GateXIdeal.τ).loc Cert.GateXIdeal.main_arg5) = m ((c.tc : Thread Cert.GateXIdeal.nD Cert.GateXIdeal.τ).loc Cert.GateXIdeal.main_arg5)
          ∧ r.2.mem ((c.tc : Thread Cert.GateXIdeal.nD Cert.GateXIdeal.τ).loc Cert.GateXIdeal.main_arg6) = m ((c.tc : Thread Cert.GateXIdeal.nD Cert.GateXIdeal.τ).loc Cert.GateXIdeal.main_arg6))
      ∧ θ_run (Cert.GateXRefIdeal.defs (F := Ideal)) (onTc (τ := Cert.GateXRefIdeal.τ) (Cert.GateXRefIdeal.main (F := Ideal))) ⟨m', fun _ => 0, g'⟩ (fun r => ∀ c : Dev Cert.GateXRefIdeal.nD,
          r.2.mem ((c.tc : Thread Cert.GateXRefIdeal.nD Cert.GateXRefIdeal.τ).loc Cert.GateXRefIdeal.main_v7) = v0 c
          ∧ r.2.mem ((c.tc : Thread Cert.GateXRefIdeal.nD Cert.GateXRefIdeal.τ).loc Cert.GateXRefIdeal.main_arg4) = v1 c
          ∧ r.2.mem ((c.tc : Thread Cert.GateXRefIdeal.nD Cert.GateXRefIdeal.τ).loc Cert.GateXRefIdeal.main_v31) = v2 c
          ∧ r.2.mem ((c.tc : Thread Cert.GateXRefIdeal.nD Cert.GateXRefIdeal.τ).loc Cert.GateXRefIdeal.main_v12) = v3 c
          ∧ r.2.mem ((c.tc : Thread Cert.GateXRefIdeal.nD Cert.GateXRefIdeal.τ).loc Cert.GateXRefIdeal.main_v18) = v4 c
          ∧ r.2.mem ((c.tc : Thread Cert.GateXRefIdeal.nD Cert.GateXRefIdeal.τ).loc Cert.GateXRefIdeal.main_arg0) = m' ((c.tc : Thread Cert.GateXRefIdeal.nD Cert.GateXRefIdeal.τ).loc Cert.GateXRefIdeal.main_arg0)
          ∧ r.2.mem ((c.tc : Thread Cert.GateXRefIdeal.nD Cert.GateXRefIdeal.τ).loc Cert.GateXRefIdeal.main_arg1) = m' ((c.tc : Thread Cert.GateXRefIdeal.nD Cert.GateXRefIdeal.τ).loc Cert.GateXRefIdeal.main_arg1)
          ∧ r.2.mem ((c.tc : Thread Cert.GateXRefIdeal.nD Cert.GateXRefIdeal.τ).loc Cert.GateXRefIdeal.main_arg2) = m' ((c.tc : Thread Cert.GateXRefIdeal.nD Cert.GateXRefIdeal.τ).loc Cert.GateXRefIdeal.main_arg2)
          ∧ r.2.mem ((c.tc : Thread Cert.GateXRefIdeal.nD Cert.GateXRefIdeal.τ).loc Cert.GateXRefIdeal.main_arg3) = m' ((c.tc : Thread Cert.GateXRefIdeal.nD Cert.GateXRefIdeal.τ).loc Cert.GateXRefIdeal.main_arg3)
          ∧ r.2.mem ((c.tc : Thread Cert.GateXRefIdeal.nD Cert.GateXRefIdeal.τ).loc Cert.GateXRefIdeal.main_arg4) = m' ((c.tc : Thread Cert.GateXRefIdeal.nD Cert.GateXRefIdeal.τ).loc Cert.GateXRefIdeal.main_arg4)
          ∧ r.2.mem ((c.tc : Thread Cert.GateXRefIdeal.nD Cert.GateXRefIdeal.τ).loc Cert.GateXRefIdeal.main_arg5) = m' ((c.tc : Thread Cert.GateXRefIdeal.nD Cert.GateXRefIdeal.τ).loc Cert.GateXRefIdeal.main_arg5)
          ∧ r.2.mem ((c.tc : Thread Cert.GateXRefIdeal.nD Cert.GateXRefIdeal.τ).loc Cert.GateXRefIdeal.main_arg6) = m' ((c.tc : Thread Cert.GateXRefIdeal.nD Cert.GateXRefIdeal.τ).loc Cert.GateXRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_v32) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)
      ∧ m' ((c.tc : Thread Cert.OutXRefIdeal.nD Cert.OutXRefIdeal.τ).loc Cert.OutXRefIdeal.main_arg3) = m ((c.tc : Thread Cert.OutXIdeal.nD Cert.OutXIdeal.τ).loc Cert.OutXIdeal.main_arg3)
      ∧ m' ((c.tc : Thread Cert.OutXRefIdeal.nD Cert.OutXRefIdeal.τ).loc Cert.OutXRefIdeal.main_arg4) = m ((c.tc : Thread Cert.OutXIdeal.nD Cert.OutXIdeal.τ).loc Cert.OutXIdeal.main_arg4)
      ∧ m' ((c.tc : Thread Cert.OutXRefIdeal.nD Cert.OutXRefIdeal.τ).loc Cert.OutXRefIdeal.main_arg5) = m ((c.tc : Thread Cert.OutXIdeal.nD Cert.OutXIdeal.τ).loc Cert.OutXIdeal.main_arg5)
      ∧ m' ((c.tc : Thread Cert.OutXRefIdeal.nD Cert.OutXRefIdeal.τ).loc Cert.OutXRefIdeal.main_arg6) = m ((c.tc : Thread Cert.OutXIdeal.nD Cert.OutXIdeal.τ).loc Cert.OutXIdeal.main_arg6)) →
    ∃ (v0 : (c : Dev Cert.OutXIdeal.nD) → Buf (Elt Ideal) ((c.tc : Thread Cert.OutXIdeal.nD Cert.OutXIdeal.τ).loc Cert.OutXIdeal.main_v19_0)) (v1 : (c : Dev Cert.OutXIdeal.nD) → Buf (Elt Ideal) ((c.tc : Thread Cert.OutXIdeal.nD Cert.OutXIdeal.τ).loc Cert.OutXIdeal.main_v19_1)) (v2 : (c : Dev Cert.OutXIdeal.nD) → Buf (Elt Ideal) ((c.tc : Thread Cert.OutXIdeal.nD Cert.OutXIdeal.τ).loc Cert.OutXIdeal.main_v19_2)) (v3 : (c : Dev Cert.OutXIdeal.nD) → Buf (Elt Ideal) ((c.tc : Thread Cert.OutXIdeal.nD Cert.OutXIdeal.τ).loc Cert.OutXIdeal.main_v19_3)) (v4 : (c : Dev Cert.OutXIdeal.nD) → Buf (Elt Ideal) ((c.tc : Thread Cert.OutXIdeal.nD Cert.OutXIdeal.τ).loc Cert.OutXIdeal.main_v19_4)) (v5 : (c : Dev Cert.OutXIdeal.nD) → Buf (Elt Ideal) ((c.tc : Thread Cert.OutXIdeal.nD Cert.OutXIdeal.τ).loc Cert.OutXIdeal.main_v19_5)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v19_0) = v0 c
          ∧ r.2.mem ((c.tc : Thread Cert.OutXIdeal.nD Cert.OutXIdeal.τ).loc Cert.OutXIdeal.main_v19_1) = v1 c
          ∧ r.2.mem ((c.tc : Thread Cert.OutXIdeal.nD Cert.OutXIdeal.τ).loc Cert.OutXIdeal.main_v19_2) = v2 c
          ∧ r.2.mem ((c.tc : Thread Cert.OutXIdeal.nD Cert.OutXIdeal.τ).loc Cert.OutXIdeal.main_v19_3) = v3 c
          ∧ r.2.mem ((c.tc : Thread Cert.OutXIdeal.nD Cert.OutXIdeal.τ).loc Cert.OutXIdeal.main_v19_4) = v4 c
          ∧ r.2.mem ((c.tc : Thread Cert.OutXIdeal.nD Cert.OutXIdeal.τ).loc Cert.OutXIdeal.main_v19_5) = v5 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2)
          ∧ r.2.mem ((c.tc : Thread Cert.OutXIdeal.nD Cert.OutXIdeal.τ).loc Cert.OutXIdeal.main_arg3) = m ((c.tc : Thread Cert.OutXIdeal.nD Cert.OutXIdeal.τ).loc Cert.OutXIdeal.main_arg3)
          ∧ r.2.mem ((c.tc : Thread Cert.OutXIdeal.nD Cert.OutXIdeal.τ).loc Cert.OutXIdeal.main_arg4) = m ((c.tc : Thread Cert.OutXIdeal.nD Cert.OutXIdeal.τ).loc Cert.OutXIdeal.main_arg4)
          ∧ r.2.mem ((c.tc : Thread Cert.OutXIdeal.nD Cert.OutXIdeal.τ).loc Cert.OutXIdeal.main_arg5) = m ((c.tc : Thread Cert.OutXIdeal.nD Cert.OutXIdeal.τ).loc Cert.OutXIdeal.main_arg5)
          ∧ r.2.mem ((c.tc : Thread Cert.OutXIdeal.nD Cert.OutXIdeal.τ).loc Cert.OutXIdeal.main_arg6) = m ((c.tc : Thread Cert.OutXIdeal.nD Cert.OutXIdeal.τ).loc Cert.OutXIdeal.main_arg6))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v41) = v0 c
          ∧ r.2.mem ((c.tc : Thread Cert.OutXRefIdeal.nD Cert.OutXRefIdeal.τ).loc Cert.OutXRefIdeal.main_v42) = v1 c
          ∧ r.2.mem ((c.tc : Thread Cert.OutXRefIdeal.nD Cert.OutXRefIdeal.τ).loc Cert.OutXRefIdeal.main_v43) = v2 c
          ∧ r.2.mem ((c.tc : Thread Cert.OutXRefIdeal.nD Cert.OutXRefIdeal.τ).loc Cert.OutXRefIdeal.main_v40) = v3 c
          ∧ r.2.mem ((c.tc : Thread Cert.OutXRefIdeal.nD Cert.OutXRefIdeal.τ).loc Cert.OutXRefIdeal.main_v44) = v4 c
          ∧ r.2.mem ((c.tc : Thread Cert.OutXRefIdeal.nD Cert.OutXRefIdeal.τ).loc Cert.OutXRefIdeal.main_v45) = v5 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2)
          ∧ r.2.mem ((c.tc : Thread Cert.OutXRefIdeal.nD Cert.OutXRefIdeal.τ).loc Cert.OutXRefIdeal.main_arg3) = m' ((c.tc : Thread Cert.OutXRefIdeal.nD Cert.OutXRefIdeal.τ).loc Cert.OutXRefIdeal.main_arg3)
          ∧ r.2.mem ((c.tc : Thread Cert.OutXRefIdeal.nD Cert.OutXRefIdeal.τ).loc Cert.OutXRefIdeal.main_arg4) = m' ((c.tc : Thread Cert.OutXRefIdeal.nD Cert.OutXRefIdeal.τ).loc Cert.OutXRefIdeal.main_arg4)
          ∧ r.2.mem ((c.tc : Thread Cert.OutXRefIdeal.nD Cert.OutXRefIdeal.τ).loc Cert.OutXRefIdeal.main_arg5) = m' ((c.tc : Thread Cert.OutXRefIdeal.nD Cert.OutXRefIdeal.τ).loc Cert.OutXRefIdeal.main_arg5)
          ∧ r.2.mem ((c.tc : Thread Cert.OutXRefIdeal.nD Cert.OutXRefIdeal.τ).loc Cert.OutXRefIdeal.main_arg6) = m' ((c.tc : Thread Cert.OutXRefIdeal.nD Cert.OutXRefIdeal.τ).loc Cert.OutXRefIdeal.main_arg6))

def preserves_QkvX_QkvXIdeal : Prop :=
  True

def algebraic_QkvXIdeal_QkvXRefIdeal [hQkvXIdeal : Cert.QkvXIdeal.Facts] [hQkvXRefIdeal : Cert.QkvXRefIdeal.Facts] : Prop :=
  ∀ (m : (ℓ : Loc Cert.QkvXIdeal.nD Cert.QkvXIdeal.τ Cert.QkvXIdeal.sig) → Buf (Elt Ideal) ℓ) (g : Dev Cert.QkvXIdeal.nD → PrngReg)
    (m' : (ℓ : Loc Cert.QkvXRefIdeal.nD Cert.QkvXRefIdeal.τ Cert.QkvXRefIdeal.sig) → Buf (Elt Ideal) ℓ) (g' : Dev Cert.QkvXRefIdeal.nD → PrngReg), Pre_QkvXIdeal m →
    (∀ c : Dev Cert.QkvXIdeal.nD,
      m' ((c.tc : Thread Cert.QkvXRefIdeal.nD Cert.QkvXRefIdeal.τ).loc Cert.QkvXRefIdeal.main_arg0) = m ((c.tc : Thread Cert.QkvXIdeal.nD Cert.QkvXIdeal.τ).loc Cert.QkvXIdeal.main_arg0)
      ∧ m' ((c.tc : Thread Cert.QkvXRefIdeal.nD Cert.QkvXRefIdeal.τ).loc Cert.QkvXRefIdeal.main_arg1) = m ((c.tc : Thread Cert.QkvXIdeal.nD Cert.QkvXIdeal.τ).loc Cert.QkvXIdeal.main_arg1)
      ∧ m' ((c.tc : Thread Cert.QkvXRefIdeal.nD Cert.QkvXRefIdeal.τ).loc Cert.QkvXRefIdeal.main_arg2) = m ((c.tc : Thread Cert.QkvXIdeal.nD Cert.QkvXIdeal.τ).loc Cert.QkvXIdeal.main_arg2)
      ∧ m' ((c.tc : Thread Cert.QkvXRefIdeal.nD Cert.QkvXRefIdeal.τ).loc Cert.QkvXRefIdeal.main_arg3) = m ((c.tc : Thread Cert.QkvXIdeal.nD Cert.QkvXIdeal.τ).loc Cert.QkvXIdeal.main_arg3)
      ∧ m' ((c.tc : Thread Cert.QkvXRefIdeal.nD Cert.QkvXRefIdeal.τ).loc Cert.QkvXRefIdeal.main_arg4) = m ((c.tc : Thread Cert.QkvXIdeal.nD Cert.QkvXIdeal.τ).loc Cert.QkvXIdeal.main_arg4)
      ∧ m' ((c.tc : Thread Cert.QkvXRefIdeal.nD Cert.QkvXRefIdeal.τ).loc Cert.QkvXRefIdeal.main_arg5) = m ((c.tc : Thread Cert.QkvXIdeal.nD Cert.QkvXIdeal.τ).loc Cert.QkvXIdeal.main_arg5)) →
    ∃ (v0 : (c : Dev Cert.QkvXIdeal.nD) → Buf (Elt Ideal) ((c.tc : Thread Cert.QkvXIdeal.nD Cert.QkvXIdeal.τ).loc Cert.QkvXIdeal.main_v2_0)) (v1 : (c : Dev Cert.QkvXIdeal.nD) → Buf (Elt Ideal) ((c.tc : Thread Cert.QkvXIdeal.nD Cert.QkvXIdeal.τ).loc Cert.QkvXIdeal.main_v2_1)) (v2 : (c : Dev Cert.QkvXIdeal.nD) → Buf (Elt Ideal) ((c.tc : Thread Cert.QkvXIdeal.nD Cert.QkvXIdeal.τ).loc Cert.QkvXIdeal.main_v2_2)) (v3 : (c : Dev Cert.QkvXIdeal.nD) → Buf (Elt Ideal) ((c.tc : Thread Cert.QkvXIdeal.nD Cert.QkvXIdeal.τ).loc Cert.QkvXIdeal.main_v2_3)) (v4 : (c : Dev Cert.QkvXIdeal.nD) → Buf (Elt Ideal) ((c.tc : Thread Cert.QkvXIdeal.nD Cert.QkvXIdeal.τ).loc Cert.QkvXIdeal.main_v2_4)),
      θ_run (Cert.QkvXIdeal.defs (F := Ideal)) (onTc (τ := Cert.QkvXIdeal.τ) (Cert.QkvXIdeal.main (F := Ideal))) ⟨m, fun _ => 0, g⟩ (fun r => ∀ c : Dev Cert.QkvXIdeal.nD,
          r.2.mem ((c.tc : Thread Cert.QkvXIdeal.nD Cert.QkvXIdeal.τ).loc Cert.QkvXIdeal.main_v2_0) = v0 c
          ∧ r.2.mem ((c.tc : Thread Cert.QkvXIdeal.nD Cert.QkvXIdeal.τ).loc Cert.QkvXIdeal.main_v2_1) = v1 c
          ∧ r.2.mem ((c.tc : Thread Cert.QkvXIdeal.nD Cert.QkvXIdeal.τ).loc Cert.QkvXIdeal.main_v2_2) = v2 c
          ∧ r.2.mem ((c.tc : Thread Cert.QkvXIdeal.nD Cert.QkvXIdeal.τ).loc Cert.QkvXIdeal.main_v2_3) = v3 c
          ∧ r.2.mem ((c.tc : Thread Cert.QkvXIdeal.nD Cert.QkvXIdeal.τ).loc Cert.QkvXIdeal.main_v2_4) = v4 c
          ∧ r.2.mem ((c.tc : Thread Cert.QkvXIdeal.nD Cert.QkvXIdeal.τ).loc Cert.QkvXIdeal.main_arg0) = m ((c.tc : Thread Cert.QkvXIdeal.nD Cert.QkvXIdeal.τ).loc Cert.QkvXIdeal.main_arg0)
          ∧ r.2.mem ((c.tc : Thread Cert.QkvXIdeal.nD Cert.QkvXIdeal.τ).loc Cert.QkvXIdeal.main_arg1) = m ((c.tc : Thread Cert.QkvXIdeal.nD Cert.QkvXIdeal.τ).loc Cert.QkvXIdeal.main_arg1)
          ∧ r.2.mem ((c.tc : Thread Cert.QkvXIdeal.nD Cert.QkvXIdeal.τ).loc Cert.QkvXIdeal.main_arg2) = m ((c.tc : Thread Cert.QkvXIdeal.nD Cert.QkvXIdeal.τ).loc Cert.QkvXIdeal.main_arg2)
          ∧ r.2.mem ((c.tc : Thread Cert.QkvXIdeal.nD Cert.QkvXIdeal.τ).loc Cert.QkvXIdeal.main_arg3) = m ((c.tc : Thread Cert.QkvXIdeal.nD Cert.QkvXIdeal.τ).loc Cert.QkvXIdeal.main_arg3)
          ∧ r.2.mem ((c.tc : Thread Cert.QkvXIdeal.nD Cert.QkvXIdeal.τ).loc Cert.QkvXIdeal.main_arg4) = m ((c.tc : Thread Cert.QkvXIdeal.nD Cert.QkvXIdeal.τ).loc Cert.QkvXIdeal.main_arg4)
          ∧ r.2.mem ((c.tc : Thread Cert.QkvXIdeal.nD Cert.QkvXIdeal.τ).loc Cert.QkvXIdeal.main_arg5) = m ((c.tc : Thread Cert.QkvXIdeal.nD Cert.QkvXIdeal.τ).loc Cert.QkvXIdeal.main_arg5))
      ∧ θ_run (Cert.QkvXRefIdeal.defs (F := Ideal)) (onTc (τ := Cert.QkvXRefIdeal.τ) (Cert.QkvXRefIdeal.main (F := Ideal))) ⟨m', fun _ => 0, g'⟩ (fun r => ∀ c : Dev Cert.QkvXRefIdeal.nD,
          r.2.mem ((c.tc : Thread Cert.QkvXRefIdeal.nD Cert.QkvXRefIdeal.τ).loc Cert.QkvXRefIdeal.main_v6) = v0 c
          ∧ r.2.mem ((c.tc : Thread Cert.QkvXRefIdeal.nD Cert.QkvXRefIdeal.τ).loc Cert.QkvXRefIdeal.main_arg3) = v1 c
          ∧ r.2.mem ((c.tc : Thread Cert.QkvXRefIdeal.nD Cert.QkvXRefIdeal.τ).loc Cert.QkvXRefIdeal.main_v30) = v2 c
          ∧ r.2.mem ((c.tc : Thread Cert.QkvXRefIdeal.nD Cert.QkvXRefIdeal.τ).loc Cert.QkvXRefIdeal.main_v11) = v3 c
          ∧ r.2.mem ((c.tc : Thread Cert.QkvXRefIdeal.nD Cert.QkvXRefIdeal.τ).loc Cert.QkvXRefIdeal.main_v17) = v4 c
          ∧ r.2.mem ((c.tc : Thread Cert.QkvXRefIdeal.nD Cert.QkvXRefIdeal.τ).loc Cert.QkvXRefIdeal.main_arg0) = m' ((c.tc : Thread Cert.QkvXRefIdeal.nD Cert.QkvXRefIdeal.τ).loc Cert.QkvXRefIdeal.main_arg0)
          ∧ r.2.mem ((c.tc : Thread Cert.QkvXRefIdeal.nD Cert.QkvXRefIdeal.τ).loc Cert.QkvXRefIdeal.main_arg1) = m' ((c.tc : Thread Cert.QkvXRefIdeal.nD Cert.QkvXRefIdeal.τ).loc Cert.QkvXRefIdeal.main_arg1)
          ∧ r.2.mem ((c.tc : Thread Cert.QkvXRefIdeal.nD Cert.QkvXRefIdeal.τ).loc Cert.QkvXRefIdeal.main_arg2) = m' ((c.tc : Thread Cert.QkvXRefIdeal.nD Cert.QkvXRefIdeal.τ).loc Cert.QkvXRefIdeal.main_arg2)
          ∧ r.2.mem ((c.tc : Thread Cert.QkvXRefIdeal.nD Cert.QkvXRefIdeal.τ).loc Cert.QkvXRefIdeal.main_arg3) = m' ((c.tc : Thread Cert.QkvXRefIdeal.nD Cert.QkvXRefIdeal.τ).loc Cert.QkvXRefIdeal.main_arg3)
          ∧ r.2.mem ((c.tc : Thread Cert.QkvXRefIdeal.nD Cert.QkvXRefIdeal.τ).loc Cert.QkvXRefIdeal.main_arg4) = m' ((c.tc : Thread Cert.QkvXRefIdeal.nD Cert.QkvXRefIdeal.τ).loc Cert.QkvXRefIdeal.main_arg4)
          ∧ r.2.mem ((c.tc : Thread Cert.QkvXRefIdeal.nD Cert.QkvXRefIdeal.τ).loc Cert.QkvXRefIdeal.main_arg5) = m' ((c.tc : Thread Cert.QkvXRefIdeal.nD Cert.QkvXRefIdeal.τ).loc Cert.QkvXRefIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hQkvW : Cert.QkvW.Facts) (hQkvWIdeal : Cert.QkvWIdeal.Facts) (hQkvWRefIdeal : Cert.QkvWRefIdeal.Facts) (hGateW : Cert.GateW.Facts) (hGateWIdeal : Cert.GateWIdeal.Facts) (hGateWRefIdeal : Cert.GateWRefIdeal.Facts) (hOutW : Cert.OutW.Facts) (hOutWIdeal : Cert.OutWIdeal.Facts) (hOutWRefIdeal : Cert.OutWRefIdeal.Facts) (hProjW : Cert.ProjW.Facts) (hProjWIdeal : Cert.ProjWIdeal.Facts) (hProjWRefIdeal : Cert.ProjWRefIdeal.Facts) (hUpF : Cert.UpF.Facts) (hUpFIdeal : Cert.UpFIdeal.Facts) (hUpFRefIdeal : Cert.UpFRefIdeal.Facts) (hDownF : Cert.DownF.Facts) (hDownFIdeal : Cert.DownFIdeal.Facts) (hDownFRefIdeal : Cert.DownFRefIdeal.Facts) (hOutF : Cert.OutF.Facts) (hOutFIdeal : Cert.OutFIdeal.Facts) (hOutFRefIdeal : Cert.OutFRefIdeal.Facts) (hGateX : Cert.GateX.Facts) (hGateXIdeal : Cert.GateXIdeal.Facts) (hGateXRefIdeal : Cert.GateXRefIdeal.Facts) (hMerge : Cert.Merge.Facts) (hMergeIdeal : Cert.MergeIdeal.Facts) (hMergeRefIdeal : Cert.MergeRefIdeal.Facts) (hOutX : Cert.OutX.Facts) (hOutXIdeal : Cert.OutXIdeal.Facts) (hOutXRefIdeal : Cert.OutXRefIdeal.Facts) (hQkvX : Cert.QkvX.Facts) (hQkvXIdeal : Cert.QkvXIdeal.Facts) (hQkvXRefIdeal : Cert.QkvXRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_GateW (hGateW := hGateW)
    ∧ quiescent_GateWIdeal (hGateWIdeal := hGateWIdeal)
    ∧ quiescent_GateWRefIdeal (hGateWRefIdeal := hGateWRefIdeal)
    ∧ quiescent_OutW (hOutW := hOutW)
    ∧ quiescent_OutWIdeal (hOutWIdeal := hOutWIdeal)
    ∧ quiescent_OutWRefIdeal (hOutWRefIdeal := hOutWRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownF (hDownF := hDownF)
    ∧ quiescent_DownFIdeal (hDownFIdeal := hDownFIdeal)
    ∧ quiescent_DownFRefIdeal (hDownFRefIdeal := hDownFRefIdeal)
    ∧ quiescent_OutF (hOutF := hOutF)
    ∧ quiescent_OutFIdeal (hOutFIdeal := hOutFIdeal)
    ∧ quiescent_OutFRefIdeal (hOutFRefIdeal := hOutFRefIdeal)
    ∧ quiescent_GateX (hGateX := hGateX)
    ∧ quiescent_GateXIdeal (hGateXIdeal := hGateXIdeal)
    ∧ quiescent_GateXRefIdeal (hGateXRefIdeal := hGateXRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutX (hOutX := hOutX)
    ∧ quiescent_OutXIdeal (hOutXIdeal := hOutXIdeal)
    ∧ quiescent_OutXRefIdeal (hOutXRefIdeal := hOutXRefIdeal)
    ∧ quiescent_QkvX (hQkvX := hQkvX)
    ∧ quiescent_QkvXIdeal (hQkvXIdeal := hQkvXIdeal)
    ∧ quiescent_QkvXRefIdeal (hQkvXRefIdeal := hQkvXRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_QkvW_QkvWIdeal
    ∧ algebraic_QkvWIdeal_QkvWRefIdeal (hQkvWIdeal := hQkvWIdeal) (hQkvWRefIdeal := hQkvWRefIdeal)
    ∧ preserves_GateW_GateWIdeal
    ∧ algebraic_GateWIdeal_GateWRefIdeal (hGateWIdeal := hGateWIdeal) (hGateWRefIdeal := hGateWRefIdeal)
    ∧ preserves_OutW_OutWIdeal
    ∧ algebraic_OutWIdeal_OutWRefIdeal (hOutWIdeal := hOutWIdeal) (hOutWRefIdeal := hOutWRefIdeal)
    ∧ preserves_ProjW_ProjWIdeal
    ∧ algebraic_ProjWIdeal_ProjWRefIdeal (hProjWIdeal := hProjWIdeal) (hProjWRefIdeal := hProjWRefIdeal)
    ∧ preserves_UpF_UpFIdeal
    ∧ algebraic_UpFIdeal_UpFRefIdeal (hUpFIdeal := hUpFIdeal) (hUpFRefIdeal := hUpFRefIdeal)
    ∧ preserves_DownF_DownFIdeal
    ∧ algebraic_DownFIdeal_DownFRefIdeal (hDownFIdeal := hDownFIdeal) (hDownFRefIdeal := hDownFRefIdeal)
    ∧ preserves_OutF_OutFIdeal
    ∧ algebraic_OutFIdeal_OutFRefIdeal (hOutFIdeal := hOutFIdeal) (hOutFRefIdeal := hOutFRefIdeal)
    ∧ preserves_GateX_GateXIdeal
    ∧ algebraic_GateXIdeal_GateXRefIdeal (hGateXIdeal := hGateXIdeal) (hGateXRefIdeal := hGateXRefIdeal)
    ∧ preserves_Merge_MergeIdeal
    ∧ algebraic_MergeIdeal_MergeRefIdeal (hMergeIdeal := hMergeIdeal) (hMergeRefIdeal := hMergeRefIdeal)
    ∧ preserves_OutX_OutXIdeal
    ∧ algebraic_OutXIdeal_OutXRefIdeal (hOutXIdeal := hOutXIdeal) (hOutXRefIdeal := hOutXRefIdeal)
    ∧ preserves_QkvX_QkvXIdeal
    ∧ algebraic_QkvXIdeal_QkvXRefIdeal (hQkvXIdeal := hQkvXIdeal) (hQkvXRefIdeal := hQkvXRefIdeal)
-- ==== Pre_finite.lean ====
abbrev S4096x4x128 : Shape := ⟨3, ![4096, 4, 128]⟩
abbrev S4096x4 : Shape := ⟨2, ![4096, 4]⟩
abbrev S_ : Shape := ⟨0, ![]⟩
abbrev S1 : Shape := ⟨1, ![1]⟩
abbrev S8 : Shape := ⟨1, ![8]⟩

class Facts : Prop where
  bitsLt_bf16_f32 : FTy.bits .bf16 < FTy.bits .f32
  bcast_S_S4096x4x128 : S_.BroadcastsInDim S4096x4x128 (![] : Fin 0 → Fin S4096x4x128.rank)
  reducesTo_S4096x4x128_S_d0_1_2 : S4096x4x128.ReducesTo [0, 1, 2] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v4 : IVec S_ 1) (main_v9 : IVec S_ 1) (main_v14 : IVec S_ 1) (main_v18 : IVec S_ 1) (main_v22 : IVec S_ 1) (main_v26 : IVec S_ 1) (main_v30 : IVec S_ 1) (main_v32 : FVec F S4096x4x128 .f32) (main_cst_12 : FVec F S_ .f32) : IVec S8 1 :=
  let main_v33 : FVec F S4096x4x128 .f32 := broadcastInDim S4096x4x128 ![] bcast_S_S4096x4x128 main_cst_12
  let main_v34 : IVec S4096x4x128 1 := cmpf .olt main_v32 main_v33
  let main_c_13 : IVec S_ 1 := constantI S_ 1 1#1
  let main_v35 : IVec S_ 1 := (fun x v => Host.reduce IntOp.andi x v reducesTo_S4096x4x128_S_d0_1_2 h_S_) main_v34 main_c_13
  let main_v36 : IVec S1 1 := broadcastInDim S1 ![] bcast_S_S1 main_v4
  let main_v37 : IVec S1 1 := broadcastInDim S1 ![] bcast_S_S1 main_v9
  let main_v38 : IVec S1 1 := broadcastInDim S1 ![] bcast_S_S1 main_v14
  let main_v39 : IVec S1 1 := broadcastInDim S1 ![] bcast_S_S1 main_v18
  let main_v40 : IVec S1 1 := broadcastInDim S1 ![] bcast_S_S1 main_v22
  let main_v41 : IVec S1 1 := broadcastInDim S1 ![] bcast_S_S1 main_v26
  let main_v42 : IVec S1 1 := broadcastInDim S1 ![] bcast_S_S1 main_v30
  let main_v43 : IVec S1 1 := broadcastInDim S1 ![] bcast_S_S1 main_v35
  let main_v44 : IVec S8 1 := concatenate S8 0 [⟨S1, main_v36⟩, ⟨S1, main_v37⟩, ⟨S1, main_v38⟩, ⟨S1, main_v39⟩, ⟨S1, main_v40⟩, ⟨S1, main_v41⟩, ⟨S1, main_v42⟩, ⟨S1, main_v43⟩] concatenates_S1_S1_S1_S1_S1_S1_S1_S1_S8_d0
  main_v44

def fn_part1 {F : FTy → Type} [FloatOps F] (main_arg4 : FVec F S4096x4x128 .f32) (main_arg5 : FVec F S4096x4 .f32) (main_arg6 : FVec F S4096x4 .f32) (main_arg7 : FVec F S4096x4x128 .bf16) (main_v4 : IVec S_ 1) (main_v9 : IVec S_ 1) (main_v14 : IVec S_ 1) (main_v15 : FVec F S4096x4x128 .f32) (main_v16 : FVec F S4096x4x128 .f32) : IVec S8 1 :=
  let main_v17 : IVec S4096x4x128 1 := cmpf .olt main_v15 main_v16
  let main_c_5 : IVec S_ 1 := constantI S_ 1 1#1
  let main_v18 : IVec S_ 1 := (fun x v => Host.reduce IntOp.andi x v reducesTo_S4096x4x128_S_d0_1_2 h_S_) main_v17 main_c_5
  let main_v19 : FVec F S4096x4x128 .f32 := Host.absf main_arg4
  let main_cst_6 : FVec F S_ .f32 := constant S_ .f32 0x7F800000#32
  let main_v20 : FVec F S4096x4x128 .f32 := broadcastInDim S4096x4x128 ![] bcast_S_S4096x4x128 main_cst_6
  let main_v21 : IVec S4096x4x128 1 := cmpf .olt main_v19 main_v20
  let main_c_7 : IVec S_ 1 := constantI S_ 1 1#1
  let main_v22 : IVec S_ 1 := (fun x v => Host.reduce IntOp.andi x v reducesTo_S4096x4x128_S_d0_1_2 h_S_) main_v21 main_c_7
  let main_v23 : FVec F S4096x4 .f32 := Host.absf main_arg5
  let main_cst_8 : FVec F S_ .f32 := constant S_ .f32 0x7F800000#32
  let main_v24 : FVec F S4096x4 .f32 := broadcastInDim S4096x4 ![] bcast_S_S4096x4 main_cst_8
  let main_v25 : IVec S4096x4 1 := cmpf .olt main_v23 main_v24
  let main_c_9 : IVec S_ 1 := constantI S_ 1 1#1
  let main_v26 : IVec S_ 1 := (fun x v => Host.reduce IntOp.andi x v reducesTo_S4096x4_S_d0_1 h_S_) main_v25 main_c_9
  let main_v27 : FVec F S4096x4 .f32 := Host.absf main_arg6
  let main_cst_10 : FVec F S_ .f32 := constant S_ .f32 0x7F800000#32
  let main_v28 : FVec F S4096x4 .f32 := broadcastInDim S4096x4 ![] bcast_S_S4096x4 main_cst_10
  let main_v29 : IVec S4096x4 1 := cmpf .olt main_v27 main_v28
  let main_c_11 : IVec S_ 1 := constantI S_ 1 1#1
  let main_v30 : IVec S_ 1 := (fun x v => Host.reduce IntOp.andi x v reducesTo_S4096x4_S_d0_1 h_S_) main_v29 main_c_11
  let main_v31 : FVec F S4096x4x128 .f32 := (extf .f32 · bitsLt_bf16_f32) main_arg7
  let main_v32 : FVec F S4096x4x128 .f32 := Host.absf main_v31
  let main_cst_12 : FVec F S_ .f32 := constant S_ .f32 0x7F800000#32
  fn_part2 (F := F) main_v4 main_v9 main_v14 main_v18 main_v22 main_v26 main_v30 main_v32 main_cst_12

def fn {F : FTy → Type} [FloatOps F] (main_arg0 : FVec F S4096x4x128 .bf16) (main_arg1 : FVec F S4096x4x128 .bf16) (main_arg2 : FVec F S4096x4x128 .bf16) (main_arg3 : FVec F S4096x4x128 .f32) (main_arg4 : FVec F S4096x4x128 .f32) (main_arg5 : FVec F S4096x4 .f32) (main_arg6 : FVec F S4096x4 .f32) (main_arg7 : FVec F S4096x4x128 .bf16) : IVec S8 1 :=
  let main_v0 : FVec F S4096x4x128 .f32 := (extf .f32 · bitsLt_bf16_f32) main_arg0
  let main_v1 : FVec F S4096x4x128 .f32 := Host.absf main_v0
  let main_cst : FVec F S_ .f32 := constant S_ .f32 0x7F800000#32
  let main_v2 : FVec F S4096x4x128 .f32 := broadcastInDim S4096x4x128 ![] bcast_S_S4096x4x128 main_cst
  let main_v3 : IVec S4096x4x128 1 := cmpf .olt main_v1 main_v2
  let main_c : IVec S_ 1 := constantI S_ 1 1#1
  let main_v4 : IVec S_ 1 := (fun x v => Host.reduce IntOp.andi x v reducesTo_S4096x4x128_S_d0_1_2 h_S_) main_v3 main_c
  let main_v5 : FVec F S4096x4x128 .f32 := (extf .f32 · bitsLt_bf16_f32) main_arg1
  let main_v6 : FVec F S4096x4x128 .f32 := Host.absf main_v5
  let main_cst_0 : FVec F S_ .f32 := constant S_ .f32 0x7F800000#32
  let main_v7 : FVec F S4096x4x128 .f32 := broadcastInDim S4096x4x128 ![] bcast_S_S4096x4x128 main_cst_0
  let main_v8 : IVec S4096x4x128 1 := cmpf .olt main_v6 main_v7
  let main_c_1 : IVec S_ 1 := constantI S_ 1 1#1
  let main_v9 : IVec S_ 1 := (fun x v => Host.reduce IntOp.andi x v reducesTo_S4096x4x128_S_d0_1_2 h_S_) main_v8 main_c_1
  let main_v10 : FVec F S4096x4x128 .f32 := (extf .f32 · bitsLt_bf16_f32) main_arg2
  let main_v11 : FVec F S4096x4x128 .f32 := Host.absf main_v10
  let main_cst_2 : FVec F S_ .f32 := constant S_ .f32 0x7F800000#32
  let main_v12 : FVec F S4096x4x128 .f32 := broadcastInDim S4096x4x128 ![] bcast_S_S4096x4x128 main_cst_2
  let main_v13 : IVec S4096x4x128 1 := cmpf .olt main_v11 main_v12
  let main_c_3 : IVec S_ 1 := constantI S_ 1 1#1
  let main_v14 : IVec S_ 1 := (fun x v => Host.reduce IntOp.andi x v reducesTo_S4096x4x128_S_d0_1_2 h_S_) main_v13 main_c_3
  let main_v15 : FVec F S4096x4x128 .f32 := Host.absf main_arg3
  let main_cst_4 : FVec F S_ .f32 := constant S_ .f32 0x7F800000#32
  let main_v16 : FVec F S4096x4x128 .f32 := broadcastInDim S4096x4x128 ![] bcast_S_S4096x4x128 main_cst_4
  fn_part1 (F := F) main_arg4 main_arg5 main_arg6 main_arg7 main_v4 main_v9 main_v14 main_v15 main_v16
-- ==== Kernel.lean ====
abbrev S4096x4x128 : Shape := ⟨3, ![4096, 4, 128]⟩
abbrev S4096x4 : Shape := ⟨2, ![4096, 4]⟩
abbrev S4 : Shape := ⟨1, ![4]⟩
abbrev S_ : Shape := ⟨0, ![]⟩
abbrev S256x16x4x128 : Shape := ⟨4, ![256, 16, 4, 128]⟩
abbrev S4x16x256x128 : Shape := ⟨4, ![4, 16, 256, 128]⟩
abbrev S4x16x256x256 : Shape := ⟨4, ![4, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x1x1x1 : Shape := ⟨4, ![4, 1, 1, 1]⟩
abbrev S1x1x256x256 : Shape := ⟨4, ![1, 1, 256, 256]⟩
abbrev S4x1x256x256 : Shape := ⟨4, ![4, 1, 256, 256]⟩
abbrev S4x16x256 : Shape := ⟨3, ![4, 16, 256]⟩
abbrev S4x16x256x1 : Shape := ⟨4, ![4, 16, 256, 1]⟩
abbrev S256x16x4 : Shape := ⟨3, ![256, 16, 4]⟩
abbrev S4096x4x1 : Shape := ⟨3, ![4096, 4, 1]⟩
abbrev S256x8192 : Shape := ⟨2, ![256, 8192]⟩
abbrev S1x256x8192 : Shape := ⟨3, ![1, 256, 8192]⟩
abbrev S3x256x8192 : Shape := ⟨3, ![3, 256, 8192]⟩
abbrev S3x256x512 : Shape := ⟨3, ![3, 256, 512]⟩
abbrev S256x512 : Shape := ⟨2, ![256, 512]⟩
abbrev S1x1 : Shape := ⟨2, ![1, 1]⟩
abbrev S1x256x128 : Shape := ⟨3, ![1, 256, 128]⟩
abbrev S256x128 : Shape := ⟨2, ![256, 128]⟩
abbrev S1x256x512 : Shape := ⟨3, ![1, 256, 512]⟩

abbrev nBuf : Space → Nat
  | .hbm => 122
  | .vmem => 12
  | .smem => 0
  | _ => 0

abbrev bufTy : (tb : Table) → Fin (tcTables nBuf tb) → BufTy
  | .hbm, ⟨0, _⟩ => ⟨S4096x4x128, .bf16⟩
  | .hbm, ⟨1, _⟩ => ⟨S4096x4x128, .bf16⟩
  | .hbm, ⟨2, _⟩ => ⟨S4096x4x128, .bf16⟩
  | .hbm, ⟨3, _⟩ => ⟨S4096x4x128, .f32⟩
  | .hbm, ⟨4, _⟩ => ⟨S4096x4x128, .f32⟩
  | .hbm, ⟨5, _⟩ => ⟨S4096x4, .f32⟩
  | .hbm, ⟨6, _⟩ => ⟨S4096x4, .f32⟩
  | .hbm, ⟨7, _⟩ => ⟨S4096x4x128, .bf16⟩
  | .hbm, ⟨8, _⟩ => ⟨S4096x4x128, .f32⟩
  | .hbm, ⟨9, _⟩ => ⟨S4096x4x128, .f32⟩
  | .hbm, ⟨10, _⟩ => ⟨S4096x4x128, .f32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S256x16x4x128, .f32⟩
  | .hbm, ⟨26, _⟩ => ⟨S4x16x256x128, .f32⟩
  | .hbm, ⟨27, _⟩ => ⟨S256x16x4x128, .f32⟩
  | .hbm, ⟨28, _⟩ => ⟨S4x16x256x128, .f32⟩
  | .hbm, ⟨29, _⟩ => ⟨S256x16x4x128, .f32⟩
  | .hbm, ⟨30, _⟩ => ⟨S4x16x256x128, .f32⟩
  | .hbm, ⟨31, _⟩ => ⟨S4x16x256x256, .f32⟩
  | .hbm, ⟨32, _⟩ => ⟨S_, .f32⟩
  | .hbm, ⟨33, _⟩ => ⟨S4x16x256x256, .f32⟩
  | .hbm, ⟨34, _⟩ => ⟨S4x16x256x256, .f32⟩
  | .hbm, ⟨35, _⟩ => ⟨S256, .i32⟩
  | .hbm, ⟨36, _⟩ => ⟨S1x256, .i32⟩
  | .hbm, ⟨37, _⟩ => ⟨S256, .i32⟩
  | .hbm, ⟨38, _⟩ => ⟨S256x1, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256, .i32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4x1x1x1, .f32⟩
  | .hbm, ⟨47, _⟩ => ⟨S4x1x1x1, .f32⟩
  | .hbm, ⟨48, _⟩ => ⟨S256x256, .f32⟩
  | .hbm, ⟨49, _⟩ => ⟨S1x1x256x256, .f32⟩
  | .hbm, ⟨50, _⟩ => ⟨S4x1x256x256, .f32⟩
  | .hbm, ⟨51, _⟩ => ⟨S4x1x256x256, .f32⟩
  | .hbm, ⟨52, _⟩ => ⟨S4x1x256x256, .f32⟩
  | .hbm, ⟨53, _⟩ => ⟨S_, .i32⟩
  | .hbm, ⟨54, _⟩ => ⟨S256x256, .i32⟩
  | .hbm, ⟨55, _⟩ => ⟨S256x256, .i1⟩
  | .hbm, ⟨56, _⟩ => ⟨S4x16x256x256, .f32⟩
  | .hbm, ⟨57, _⟩ => ⟨S4x16x256x256, .f32⟩
  | .hbm, ⟨58, _⟩ => ⟨S_, .f32⟩
  | .hbm, ⟨59, _⟩ => ⟨S_, .f32⟩
  | .hbm, ⟨60, _⟩ => ⟨S4x16x256x256, .i1⟩
  | .hbm, ⟨61, _⟩ => ⟨S4x16x256x256, .f32⟩
  | .hbm, ⟨62, _⟩ => ⟨S4x16x256x256, .f32⟩
  | .hbm, ⟨63, _⟩ => ⟨S_, .f32⟩
  | .hbm, ⟨64, _⟩ => ⟨S4x16x256, .f32⟩
  | .hbm, ⟨65, _⟩ => ⟨S4x16x256x1, .f32⟩
  | .hbm, ⟨66, _⟩ => ⟨S4x16x256x256, .f32⟩
  | .hbm, ⟨67, _⟩ => ⟨S4x16x256x256, .f32⟩
  | .hbm, ⟨68, _⟩ => ⟨S4x16x256x256, .f32⟩
  | .hbm, ⟨69, _⟩ => ⟨S_, .f32⟩
  | .hbm, ⟨70, _⟩ => ⟨S4x16x256, .f32⟩
  | .hbm, ⟨71, _⟩ => ⟨S4x16x256x1, .f32⟩
  | .hbm, ⟨72, _⟩ => ⟨S4x16x256x256, .f32⟩
  | .hbm, ⟨73, _⟩ => ⟨S4x16x256x256, .f32⟩
  | .hbm, ⟨74, _⟩ => ⟨S4x16x256x128, .f32⟩
  | .hbm, ⟨75, _⟩ => ⟨S4x16x256x1, .f32⟩
  | .hbm, ⟨76, _⟩ => ⟨S4x16x256x1, .f32⟩
  | .hbm, ⟨77, _⟩ => ⟨S4x16x256, .f32⟩
  | .hbm, ⟨78, _⟩ => ⟨S256x16x4x128, .f32⟩
  | .hbm, ⟨79, _⟩ => ⟨S4096x4x128, .f32⟩
  | .hbm, ⟨80, _⟩ => ⟨S256x16x4, .f32⟩
  | .hbm, ⟨81, _⟩ => ⟨S4096x4, .f32⟩
  | .hbm, ⟨82, _⟩ => ⟨S4096x4, .f32⟩
  | .hbm, ⟨83, _⟩ => ⟨S4096x4, .f32⟩
  | .hbm, ⟨84, _⟩ => ⟨S4096x4, .f32⟩
  | .hbm, ⟨85, _⟩ => ⟨S4096x4, .f32⟩
  | .hbm, ⟨86, _⟩ => ⟨S4096x4, .f32⟩
  | .hbm, ⟨87, _⟩ => ⟨S4096x4, .f32⟩
  | .hbm, ⟨88, _⟩ => ⟨S4096x4, .f32⟩
  | .hbm, ⟨89, _⟩ => ⟨S4096x4, .f32⟩
  | .hbm, ⟨90, _⟩ => ⟨S4096x4, .f32⟩
  | .hbm, ⟨91, _⟩ => ⟨S4096x4, .f32⟩
  | .hbm, ⟨92, _⟩ => ⟨S4096x4, .f32⟩
  | .hbm, ⟨93, _⟩ => ⟨S4096x4x1, .f32⟩
  | .hbm, ⟨94, _⟩ => ⟨S4096x4x128, .f32⟩
  | .hbm, ⟨95, _⟩ => ⟨S4096x4x128, .f32⟩
  | .hbm, ⟨96, _⟩ => ⟨S4096x4, .f32⟩
  | .hbm, ⟨97, _⟩ => ⟨S4096x4x1, .f32⟩
  | .hbm, ⟨98, _⟩ => ⟨S4096x4x128, .f32⟩
  | .hbm, ⟨99, _⟩ => ⟨S4096x4x128, .f32⟩
  | .hbm, ⟨100, _⟩ => ⟨S4096x4x128, .f32⟩
  | .hbm, ⟨101, _⟩ => ⟨S4096x4, .f32⟩
  | .hbm, ⟨102, _⟩ => ⟨S4096x4x1, .f32⟩
  | .hbm, ⟨103, _⟩ => ⟨S4096x4x128, .f32⟩
  | .hbm, ⟨104, _⟩ => ⟨S4096x4x128, .f32⟩
  | .hbm, ⟨105, _⟩ => ⟨S4096x4x128, .f32⟩
  | .hbm, ⟨106, _⟩ => ⟨S4096x4x128, .bf16⟩
  | .hbm, ⟨107, _⟩ => ⟨S4096x4, .f32⟩
  | .hbm, ⟨108, _⟩ => ⟨S4096x4, .f32⟩
  | .hbm, ⟨109, _⟩ => ⟨S4096x4x1, .f32⟩
  | .hbm, ⟨110, _⟩ => ⟨S4096x4x128, .f32⟩
  | .hbm, ⟨111, _⟩ => ⟨S256x8192, .bf16⟩
  | .hbm, ⟨112, _⟩ => ⟨S256x8192, .bf16⟩
  | .hbm, ⟨113, _⟩ => ⟨S256x8192, .bf16⟩
  | .hbm, ⟨114, _⟩ => ⟨S1x256x8192, .bf16⟩
  | .hbm, ⟨115, _⟩ => ⟨S1x256x8192, .bf16⟩
  | .hbm, ⟨116, _⟩ => ⟨S1x256x8192, .bf16⟩
  | .hbm, ⟨117, _⟩ => ⟨S3x256x8192, .bf16⟩
  | .hbm, ⟨118, _⟩ => ⟨S256x8192, .bf16⟩
  | .hbm, ⟨119, _⟩ => ⟨S256x8192, .bf16⟩
  | .hbm, ⟨120, _⟩ => ⟨S256x8192, .f32⟩
  | .hbm, ⟨121, _⟩ => ⟨S3x256x8192, .bf16⟩
  | .local _ .vmem, ⟨0, _⟩ => ⟨S3x256x512, .bf16⟩
  | .local _ .vmem, ⟨1, _⟩ => ⟨S3x256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S3x256x512, .bf16⟩
  | .local _ .vmem, ⟨9, _⟩ => ⟨S3x256x512, .bf16⟩
  | .local _ .vmem, ⟨10, _⟩ => ⟨S256x512, .f32⟩
  | .local _ .vmem, ⟨11, _⟩ => ⟨S256x512, .f32⟩
  | _, _ => ⟨S4096x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def k0_mult1 : BitVec 32 :=
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32 : BitVec 32 := 256#32
  let v41 : BitVec 32 := Scalar.muli v40 c256_i32
  v41
def k0_mult2 : BitVec 32 :=
  let c0_i32_14 : BitVec 32 := 0#32
  let c0_i32_13 : BitVec 32 := 0#32
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32_12 : BitVec 32 := 256#32
  let v43 : BitVec 32 := Scalar.muli v40 c256_i32_12
  let c64_i32 : BitVec 32 := 64#32
  let v44 : BitVec 32 := Scalar.subi v43 c64_i32
  let v45 : BitVec 32 := Scalar.maxsi c0_i32_13 v44
  let v46 : BitVec 32 := Scalar.minsi c0_i32_14 v45
  v46
def k0_off1 : Fin 3 → Nat :=
  let c0_15 : Index := 0#32
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32 : BitVec 32 := 256#32
  let v41 : BitVec 32 := Scalar.muli v40 c256_i32
  let v42 : BitVec 32 := v41
  let v48 : Index := Scalar.indexCast v42
  let c0_16 : Index := 0#32
  ![0, v48.toNat, 0]
def k0_off2 : Fin 3 → Nat :=
  let c1 : Index := 1#32
  let c0_i32_14 : BitVec 32 := 0#32
  let c0_i32_13 : BitVec 32 := 0#32
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32_12 : BitVec 32 := 256#32
  let v43 : BitVec 32 := Scalar.muli v40 c256_i32_12
  let c64_i32 : BitVec 32 := 64#32
  let v44 : BitVec 32 := Scalar.subi v43 c64_i32
  let v45 : BitVec 32 := Scalar.maxsi c0_i32_13 v44
  let v46 : BitVec 32 := Scalar.minsi c0_i32_14 v45
  let v47 : BitVec 32 := v46
  let v51 : Index := Scalar.indexCast v47
  let c0_17 : Index := 0#32
  ![1, v51.toNat, 0]
def k0_off3 : Fin 3 → Nat :=
  let c2 : Index := 2#32
  let c0_i32_14 : BitVec 32 := 0#32
  let c0_i32_13 : BitVec 32 := 0#32
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32_12 : BitVec 32 := 256#32
  let v43 : BitVec 32 := Scalar.muli v40 c256_i32_12
  let c64_i32 : BitVec 32 := 64#32
  let v44 : BitVec 32 := Scalar.subi v43 c64_i32
  let v45 : BitVec 32 := Scalar.maxsi c0_i32_13 v44
  let v46 : BitVec 32 := Scalar.minsi c0_i32_14 v45
  let v47 : BitVec 32 := v46
  let v54 : Index := Scalar.indexCast v47
  let c0_18 : Index := 0#32
  ![2, v54.toNat, 0]
def k0_mult3 : BitVec 32 :=
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_25 : BitVec 32 := 256#32
  let v78 : BitVec 32 := Scalar.muli v77 c256_i32_25
  v78
def k0_mult4 : BitVec 32 :=
  let c0_i32_29 : BitVec 32 := 0#32
  let c0_i32_28 : BitVec 32 := 0#32
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_26 : BitVec 32 := 256#32
  let v80 : BitVec 32 := Scalar.muli v77 c256_i32_26
  let c64_i32_27 : BitVec 32 := 64#32
  let v81 : BitVec 32 := Scalar.subi v80 c64_i32_27
  let v82 : BitVec 32 := Scalar.maxsi c0_i32_28 v81
  let v83 : BitVec 32 := Scalar.minsi c0_i32_29 v82
  v83
def k0_off4 : Fin 3 → Nat :=
  let c0_30 : Index := 0#32
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_25 : BitVec 32 := 256#32
  let v78 : BitVec 32 := Scalar.muli v77 c256_i32_25
  let v79 : BitVec 32 := v78
  let v85 : Index := Scalar.indexCast v79
  let c128 : Index := 128#32
  ![0, v85.toNat, 128]
def k0_off5 : Fin 3 → Nat :=
  let c1_31 : Index := 1#32
  let c0_i32_29 : BitVec 32 := 0#32
  let c0_i32_28 : BitVec 32 := 0#32
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_26 : BitVec 32 := 256#32
  let v80 : BitVec 32 := Scalar.muli v77 c256_i32_26
  let c64_i32_27 : BitVec 32 := 64#32
  let v81 : BitVec 32 := Scalar.subi v80 c64_i32_27
  let v82 : BitVec 32 := Scalar.maxsi c0_i32_28 v81
  let v83 : BitVec 32 := Scalar.minsi c0_i32_29 v82
  let v84 : BitVec 32 := v83
  let v88 : Index := Scalar.indexCast v84
  let c128_32 : Index := 128#32
  ![1, v88.toNat, 128]
def k0_off6 : Fin 3 → Nat :=
  let c2_33 : Index := 2#32
  let c0_i32_29 : BitVec 32 := 0#32
  let c0_i32_28 : BitVec 32 := 0#32
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_26 : BitVec 32 := 256#32
  let v80 : BitVec 32 := Scalar.muli v77 c256_i32_26
  let c64_i32_27 : BitVec 32 := 64#32
  let v81 : BitVec 32 := Scalar.subi v80 c64_i32_27
  let v82 : BitVec 32 := Scalar.maxsi c0_i32_28 v81
  let v83 : BitVec 32 := Scalar.minsi c0_i32_29 v82
  let v84 : BitVec 32 := v83
  let v91 : Index := Scalar.indexCast v84
  let c128_34 : Index := 128#32
  ![2, v91.toNat, 128]
def k0_mult5 : BitVec 32 :=
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_41 : BitVec 32 := 256#32
  let v115 : BitVec 32 := Scalar.muli v114 c256_i32_41
  v115
def k0_mult6 : BitVec 32 :=
  let c0_i32_45 : BitVec 32 := 0#32
  let c0_i32_44 : BitVec 32 := 0#32
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_42 : BitVec 32 := 256#32
  let v117 : BitVec 32 := Scalar.muli v114 c256_i32_42
  let c64_i32_43 : BitVec 32 := 64#32
  let v118 : BitVec 32 := Scalar.subi v117 c64_i32_43
  let v119 : BitVec 32 := Scalar.maxsi c0_i32_44 v118
  let v120 : BitVec 32 := Scalar.minsi c0_i32_45 v119
  v120
def k0_off7 : Fin 3 → Nat :=
  let c0_46 : Index := 0#32
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_41 : BitVec 32 := 256#32
  let v115 : BitVec 32 := Scalar.muli v114 c256_i32_41
  let v116 : BitVec 32 := v115
  let v122 : Index := Scalar.indexCast v116
  let c256 : Index := 256#32
  ![0, v122.toNat, 256]
def k0_off8 : Fin 3 → Nat :=
  let c1_47 : Index := 1#32
  let c0_i32_45 : BitVec 32 := 0#32
  let c0_i32_44 : BitVec 32 := 0#32
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_42 : BitVec 32 := 256#32
  let v117 : BitVec 32 := Scalar.muli v114 c256_i32_42
  let c64_i32_43 : BitVec 32 := 64#32
  let v118 : BitVec 32 := Scalar.subi v117 c64_i32_43
  let v119 : BitVec 32 := Scalar.maxsi c0_i32_44 v118
  let v120 : BitVec 32 := Scalar.minsi c0_i32_45 v119
  let v121 : BitVec 32 := v120
  let v125 : Index := Scalar.indexCast v121
  let c256_48 : Index := 256#32
  ![1, v125.toNat, 256]
def k0_off9 : Fin 3 → Nat :=
  let c2_49 : Index := 2#32
  let c0_i32_45 : BitVec 32 := 0#32
  let c0_i32_44 : BitVec 32 := 0#32
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_42 : BitVec 32 := 256#32
  let v117 : BitVec 32 := Scalar.muli v114 c256_i32_42
  let c64_i32_43 : BitVec 32 := 64#32
  let v118 : BitVec 32 := Scalar.subi v117 c64_i32_43
  let v119 : BitVec 32 := Scalar.maxsi c0_i32_44 v118
  let v120 : BitVec 32 := Scalar.minsi c0_i32_45 v119
  let v121 : BitVec 32 := v120
  let v128 : Index := Scalar.indexCast v121
  let c256_50 : Index := 256#32
  ![2, v128.toNat, 256]
def k0_mult7 : BitVec 32 :=
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_57 : BitVec 32 := 256#32
  let v152 : BitVec 32 := Scalar.muli v151 c256_i32_57
  v152
def k0_mult8 : BitVec 32 :=
  let c0_i32_61 : BitVec 32 := 0#32
  let c0_i32_60 : BitVec 32 := 0#32
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_58 : BitVec 32 := 256#32
  let v154 : BitVec 32 := Scalar.muli v151 c256_i32_58
  let c64_i32_59 : BitVec 32 := 64#32
  let v155 : BitVec 32 := Scalar.subi v154 c64_i32_59
  let v156 : BitVec 32 := Scalar.maxsi c0_i32_60 v155
  let v157 : BitVec 32 := Scalar.minsi c0_i32_61 v156
  v157
def k0_off10 : Fin 3 → Nat :=
  let c0_62 : Index := 0#32
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_57 : BitVec 32 := 256#32
  let v152 : BitVec 32 := Scalar.muli v151 c256_i32_57
  let v153 : BitVec 32 := v152
  let v159 : Index := Scalar.indexCast v153
  let c384 : Index := 384#32
  ![0, v159.toNat, 384]
def k0_off11 : Fin 3 → Nat :=
  let c1_63 : Index := 1#32
  let c0_i32_61 : BitVec 32 := 0#32
  let c0_i32_60 : BitVec 32 := 0#32
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_58 : BitVec 32 := 256#32
  let v154 : BitVec 32 := Scalar.muli v151 c256_i32_58
  let c64_i32_59 : BitVec 32 := 64#32
  let v155 : BitVec 32 := Scalar.subi v154 c64_i32_59
  let v156 : BitVec 32 := Scalar.maxsi c0_i32_60 v155
  let v157 : BitVec 32 := Scalar.minsi c0_i32_61 v156
  let v158 : BitVec 32 := v157
  let v162 : Index := Scalar.indexCast v158
  let c384_64 : Index := 384#32
  ![1, v162.toNat, 384]
def k0_off12 : Fin 3 → Nat :=
  let c2_65 : Index := 2#32
  let c0_i32_61 : BitVec 32 := 0#32
  let c0_i32_60 : BitVec 32 := 0#32
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_58 : BitVec 32 := 256#32
  let v154 : BitVec 32 := Scalar.muli v151 c256_i32_58
  let c64_i32_59 : BitVec 32 := 64#32
  let v155 : BitVec 32 := Scalar.subi v154 c64_i32_59
  let v156 : BitVec 32 := Scalar.maxsi c0_i32_60 v155
  let v157 : BitVec 32 := Scalar.minsi c0_i32_61 v156
  let v158 : BitVec 32 := v157
  let v165 : Index := Scalar.indexCast v158
  let c384_66 : Index := 384#32
  ![2, v165.toNat, 384]
def k0_off13 : Fin 2 → Nat :=
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32 : BitVec 32 := 256#32
  let v41 : BitVec 32 := Scalar.muli v40 c256_i32
  let v42 : BitVec 32 := v41
  let v187 : Index := Scalar.indexCast v42
  let c0_71 : Index := 0#32
  ![v187.toNat, 0]
def k0_off14 : Fin 2 → Nat :=
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_25 : BitVec 32 := 256#32
  let v78 : BitVec 32 := Scalar.muli v77 c256_i32_25
  let v79 : BitVec 32 := v78
  let v190 : Index := Scalar.indexCast v79
  let c128_72 : Index := 128#32
  ![v190.toNat, 128]
def k0_off15 : Fin 2 → Nat :=
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_41 : BitVec 32 := 256#32
  let v115 : BitVec 32 := Scalar.muli v114 c256_i32_41
  let v116 : BitVec 32 := v115
  let v193 : Index := Scalar.indexCast v116
  let c256_73 : Index := 256#32
  ![v193.toNat, 256]
def k0_off16 : Fin 2 → Nat :=
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_57 : BitVec 32 := 256#32
  let v152 : BitVec 32 := Scalar.muli v151 c256_i32_57
  let v153 : BitVec 32 := v152
  let v196 : Index := Scalar.indexCast v153
  let c384_74 : Index := 384#32
  ![v196.toNat, 384]
def k0_off17 : Fin 2 → Nat :=
  let c0_i32_14 : BitVec 32 := 0#32
  let c0_i32_13 : BitVec 32 := 0#32
  let c1_i32_10 : BitVec 32 := 1#32
  let c0_i32_9 : BitVec 32 := 0#32
  let v39 : BitVec 32 := Scalar.muli c1_i32_10 c0_i32_9
  let c0_i32_11 : BitVec 32 := 0#32
  let v40 : BitVec 32 := Scalar.addi v39 c0_i32_11
  let c256_i32_12 : BitVec 32 := 256#32
  let v43 : BitVec 32 := Scalar.muli v40 c256_i32_12
  let c64_i32 : BitVec 32 := 64#32
  let v44 : BitVec 32 := Scalar.subi v43 c64_i32
  let v45 : BitVec 32 := Scalar.maxsi c0_i32_13 v44
  let v46 : BitVec 32 := Scalar.minsi c0_i32_14 v45
  let v47 : BitVec 32 := v46
  let v295 : Index := Scalar.indexCast v47
  let c0_99 : Index := 0#32
  ![v295.toNat, 0]
def k0_off18 : Fin 2 → Nat :=
  let c0_i32_29 : BitVec 32 := 0#32
  let c0_i32_28 : BitVec 32 := 0#32
  let c1_i32_23 : BitVec 32 := 1#32
  let c0_i32_9 : BitVec 32 := 0#32
  let v76 : BitVec 32 := Scalar.muli c1_i32_23 c0_i32_9
  let c0_i32_24 : BitVec 32 := 0#32
  let v77 : BitVec 32 := Scalar.addi v76 c0_i32_24
  let c256_i32_26 : BitVec 32 := 256#32
  let v80 : BitVec 32 := Scalar.muli v77 c256_i32_26
  let c64_i32_27 : BitVec 32 := 64#32
  let v81 : BitVec 32 := Scalar.subi v80 c64_i32_27
  let v82 : BitVec 32 := Scalar.maxsi c0_i32_28 v81
  let v83 : BitVec 32 := Scalar.minsi c0_i32_29 v82
  let v84 : BitVec 32 := v83
  let v321 : Index := Scalar.indexCast v84
  let c128_110 : Index := 128#32
  ![v321.toNat, 128]
def k0_off19 : Fin 2 → Nat :=
  let c0_i32_45 : BitVec 32 := 0#32
  let c0_i32_44 : BitVec 32 := 0#32
  let c1_i32_39 : BitVec 32 := 1#32
  let c0_i32_9 : BitVec 32 := 0#32
  let v113 : BitVec 32 := Scalar.muli c1_i32_39 c0_i32_9
  let c0_i32_40 : BitVec 32 := 0#32
  let v114 : BitVec 32 := Scalar.addi v113 c0_i32_40
  let c256_i32_42 : BitVec 32 := 256#32
  let v117 : BitVec 32 := Scalar.muli v114 c256_i32_42
  let c64_i32_43 : BitVec 32 := 64#32
  let v118 : BitVec 32 := Scalar.subi v117 c64_i32_43
  let v119 : BitVec 32 := Scalar.maxsi c0_i32_44 v118
  let v120 : BitVec 32 := Scalar.minsi c0_i32_45 v119
  let v121 : BitVec 32 := v120
  let v347 : Index := Scalar.indexCast v121
  let c256_121 : Index := 256#32
  ![v347.toNat, 256]
def k0_off20 : Fin 2 → Nat :=
  let c0_i32_61 : BitVec 32 := 0#32
  let c0_i32_60 : BitVec 32 := 0#32
  let c1_i32_55 : BitVec 32 := 1#32
  let c0_i32_9 : BitVec 32 := 0#32
  let v150 : BitVec 32 := Scalar.muli c1_i32_55 c0_i32_9
  let c0_i32_56 : BitVec 32 := 0#32
  let v151 : BitVec 32 := Scalar.addi v150 c0_i32_56
  let c256_i32_58 : BitVec 32 := 256#32
  let v154 : BitVec 32 := Scalar.muli v151 c256_i32_58
  let c64_i32_59 : BitVec 32 := 64#32
  let v155 : BitVec 32 := Scalar.subi v154 c64_i32_59
  let v156 : BitVec 32 := Scalar.maxsi c0_i32_60 v155
  let v157 : BitVec 32 := Scalar.minsi c0_i32_61 v156
  let v158 : BitVec 32 := v157
  let v373 : Index := Scalar.indexCast v158
  let c384_132 : Index := 384#32
  ![v373.toNat, 384]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S3x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "slope" => some (((-(2 / 3)) * (Real.log 2) : ℝ) : EReal)
  | _ => none
-- ==== ReferenceIdeal.lean ====
abbrev S4096x4x128 : Shape := ⟨3, ![4096, 4, 128]⟩
abbrev S4096x4 : Shape := ⟨2, ![4096, 4]⟩
abbrev S4 : Shape := ⟨1, ![4]⟩
abbrev S_ : Shape := ⟨0, ![]⟩
abbrev S256x16x4x128 : Shape := ⟨4, ![256, 16, 4, 128]⟩
abbrev S4x16x256x128 : Shape := ⟨4, ![4, 16, 256, 128]⟩
abbrev S4x16x256x256 : Shape := ⟨4, ![4, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x1x1x1 : Shape := ⟨4, ![4, 1, 1, 1]⟩
abbrev S1x1x256x256 : Shape := ⟨4, ![1, 1, 256, 256]⟩
abbrev S4x1x256x256 : Shape := ⟨4, ![4, 1, 256, 256]⟩
abbrev S4x16x256 : Shape := ⟨3, ![4, 16, 256]⟩
abbrev S4x16x256x1 : Shape := ⟨4, ![4, 16, 256, 1]⟩
abbrev S256x16x4 : Shape := ⟨3, ![256, 16, 4]⟩
abbrev S1x4096x4 : Shape := ⟨3, ![1, 4096, 4]⟩
abbrev S3x4096x4 : Shape := ⟨3, ![3, 4096, 4]⟩
abbrev S3x4096x4x1 : Shape := ⟨4, ![3, 4096, 4, 1]⟩
abbrev S1x4096x4x128 : Shape := ⟨4, ![1, 4096, 4, 128]⟩
abbrev S3x4096x4x128 : Shape := ⟨4, ![3, 4096, 4, 128]⟩
abbrev S4x16x128x256 : Shape := ⟨4, ![4, 16, 128, 256]⟩
abbrev S256x8192 : Shape := ⟨2, ![256, 8192]⟩
abbrev S1x256x8192 : Shape := ⟨3, ![1, 256, 8192]⟩
abbrev S3x256x8192 : Shape := ⟨3, ![3, 256, 8192]⟩

abbrev nBuf : Space → Nat
  | .hbm => 246
  | .vmem => 0
  | .smem => 0
  | _ => 0

abbrev hbmTy0_0 (i : Nat) : BufTy := match i % 128 with
  | 0 => ⟨S4096x4x128, .bf16⟩
  | 1 => ⟨S4096x4x128, .bf16⟩
  | 2 => ⟨S4096x4x128, .bf16⟩
  | 3 => ⟨S4096x4x128, .f32⟩
  | 4 => ⟨S4096x4x128, .f32⟩
  | 5 => ⟨S4096x4, .f32⟩
  | 6 => ⟨S4096x4, .f32⟩
  | 7 => ⟨S4096x4x128, .bf16⟩
  | 8 => ⟨S4096x4x128, .f32⟩
  | 9 => ⟨S4096x4x128, .f32⟩
  | 10 => ⟨S4096x4x128, .f32⟩
  | 11 => ⟨S4096x4x128, .f32⟩
  | 12 => ⟨S4, .i32⟩
  | 13 => ⟨S_, .i32⟩
  | 14 => ⟨S4, .i32⟩
  | 15 => ⟨S4, .i32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S256x16x4x128, .f32⟩
  | 27 => ⟨S4x16x256x128, .f32⟩
  | 28 => ⟨S256x16x4x128, .f32⟩
  | 29 => ⟨S4x16x256x128, .f32⟩
  | 30 => ⟨S256x16x4x128, .f32⟩
  | 31 => ⟨S4x16x256x128, .f32⟩
  | 32 => ⟨S4x16x256x256, .f32⟩
  | 33 => ⟨S_, .f32⟩
  | 34 => ⟨S4x16x256x256, .f32⟩
  | 35 => ⟨S4x16x256x256, .f32⟩
  | 36 => ⟨S256, .i32⟩
  | 37 => ⟨S1x256, .i32⟩
  | 38 => ⟨S256, .i32⟩
  | 39 => ⟨S256x1, .i32⟩
  | 40 => ⟨S256x256, .i32⟩
  | 41 => ⟨S256x256, .i32⟩
  | 42 => ⟨S256x256, .i32⟩
  | 43 => ⟨S256x256, .i32⟩
  | 44 => ⟨S_, .f32⟩
  | 45 => ⟨S4, .f32⟩
  | 46 => ⟨S4, .f32⟩
  | 47 => ⟨S4x1x1x1, .f32⟩
  | 48 => ⟨S4x1x1x1, .f32⟩
  | 49 => ⟨S256x256, .f32⟩
  | 50 => ⟨S1x1x256x256, .f32⟩
  | 51 => ⟨S4x1x256x256, .f32⟩
  | 52 => ⟨S4x1x256x256, .f32⟩
  | 53 => ⟨S4x1x256x256, .f32⟩
  | 54 => ⟨S_, .i32⟩
  | 55 => ⟨S256x256, .i32⟩
  | 56 => ⟨S256x256, .i1⟩
  | 57 => ⟨S4x16x256x256, .f32⟩
  | 58 => ⟨S4x16x256x256, .f32⟩
  | 59 => ⟨S_, .f32⟩
  | 60 => ⟨S_, .f32⟩
  | 61 => ⟨S4x16x256x256, .i1⟩
  | 62 => ⟨S4x16x256x256, .f32⟩
  | 63 => ⟨S4x16x256x256, .f32⟩
  | 64 => ⟨S_, .f32⟩
  | 65 => ⟨S4x16x256x256, .f32⟩
  | 66 => ⟨S_, .f32⟩
  | 67 => ⟨S4x16x256, .f32⟩
  | 68 => ⟨S4x16x256x1, .f32⟩
  | 69 => ⟨S4x16x256x256, .f32⟩
  | 70 => ⟨S4x16x256x256, .i1⟩
  | 71 => ⟨S4x16x256x256, .f32⟩
  | 72 => ⟨S_, .f32⟩
  | 73 => ⟨S4x16x256, .f32⟩
  | 74 => ⟨S4x16x256x1, .f32⟩
  | 75 => ⟨S4x16x256x256, .f32⟩
  | 76 => ⟨S4x16x256x256, .f32⟩
  | 77 => ⟨S4x16x256x256, .f32⟩
  | 78 => ⟨S_, .f32⟩
  | 79 => ⟨S4x16x256, .f32⟩
  | 80 => ⟨S4x16x256x1, .f32⟩
  | 81 => ⟨S4x16x256x256, .f32⟩
  | 82 => ⟨S4x16x256x256, .f32⟩
  | 83 => ⟨S4x16x256x1, .f32⟩
  | 84 => ⟨S_, .f32⟩
  | 85 => ⟨S4x16x256x1, .f32⟩
  | 86 => ⟨S4x16x256x1, .f32⟩
  | 87 => ⟨S4x16x256x128, .f32⟩
  | 88 => ⟨S4x16x256x1, .f32⟩
  | 89 => ⟨S4x16x256x1, .f32⟩
  | 90 => ⟨S4x16x256, .f32⟩
  | 91 => ⟨S256x16x4x128, .f32⟩
  | 92 => ⟨S4096x4x128, .f32⟩
  | 93 => ⟨S256x16x4, .f32⟩
  | 94 => ⟨S4096x4, .f32⟩
  | 95 => ⟨S1x4096x4, .f32⟩
  | 96 => ⟨S1x4096x4, .f32⟩
  | 97 => ⟨S1x4096x4, .f32⟩
  | 98 => ⟨S3x4096x4, .f32⟩
  | 99 => ⟨S_, .f32⟩
  | 100 => ⟨S4096x4, .f32⟩
  | 101 => ⟨S_, .f32⟩
  | 102 => ⟨S4096x4, .f32⟩
  | 103 => ⟨S_, .f32⟩
  | 104 => ⟨S4096x4, .f32⟩
  | 105 => ⟨S1x4096x4, .f32⟩
  | 106 => ⟨S3x4096x4, .f32⟩
  | 107 => ⟨S3x4096x4, .i1⟩
  | 108 => ⟨S3x4096x4, .f32⟩
  | 109 => ⟨S_, .f32⟩
  | 110 => ⟨S4096x4, .f32⟩
  | 111 => ⟨S_, .f32⟩
  | 112 => ⟨S4096x4, .f32⟩
  | 113 => ⟨S4096x4, .f32⟩
  | 114 => ⟨S_, .f32⟩
  | 115 => ⟨S4096x4, .f32⟩
  | 116 => ⟨S4096x4, .i1⟩
  | 117 => ⟨S_, .f32⟩
  | 118 => ⟨S4096x4, .f32⟩
  | 119 => ⟨S4096x4, .i1⟩
  | 120 => ⟨S_, .f32⟩
  | 121 => ⟨S4096x4, .f32⟩
  | 122 => ⟨S_, .f32⟩
  | 123 => ⟨S4096x4, .f32⟩
  | 124 => ⟨S_, .f32⟩
  | 125 => ⟨S4096x4, .f32⟩
  | 126 => ⟨S4096x4, .f32⟩
  | 127 => ⟨S4096x4, .f32⟩
  | _ => ⟨S4096x4x128, .bf16⟩

abbrev hbmTy0_1 (i : Nat) : BufTy := match i % 128 with
  | 0 => ⟨S1x4096x4, .f32⟩
  | 1 => ⟨S3x4096x4, .f32⟩
  | 2 => ⟨S3x4096x4, .f32⟩
  | 3 => ⟨S3x4096x4, .f32⟩
  | 4 => ⟨S_, .f32⟩
  | 5 => ⟨S4096x4, .f32⟩
  | 6 => ⟨S1x4096x4, .f32⟩
  | 7 => ⟨S3x4096x4, .f32⟩
  | 8 => ⟨S3x4096x4, .f32⟩
  | 9 => ⟨S1x4096x4, .f32⟩
  | 10 => ⟨S_, .f32⟩
  | 11 => ⟨S1x4096x4, .f32⟩
  | 12 => ⟨S1x4096x4, .f32⟩
  | 13 => ⟨S3x4096x4x1, .f32⟩
  | 14 => ⟨S1x4096x4x128, .f32⟩
  | 15 => ⟨S1x4096x4x128, .f32⟩
  | 16 => ⟨S1x4096x4x128, .f32⟩
  | 17 => ⟨S3x4096x4x128, .f32⟩
  | 18 => ⟨S_, .f32⟩
  | 19 => ⟨S4096x4x128, .f32⟩
  | 20 => ⟨S_, .f32⟩
  | 21 => ⟨S4096x4x128, .f32⟩
  | 22 => ⟨S3x4096x4x128, .f32⟩
  | 23 => ⟨S3x4096x4x128, .f32⟩
  | 24 => ⟨S_, .f32⟩
  | 25 => ⟨S4096x4x128, .f32⟩
  | 26 => ⟨S3x4096x4x128, .f32⟩
  | 27 => ⟨S3x4096x4x128, .f32⟩
  | 28 => ⟨S3x4096x4x128, .f32⟩
  | 29 => ⟨S3x4096x4x128, .f32⟩
  | 30 => ⟨S_, .f32⟩
  | 31 => ⟨S3x4096x4, .f32⟩
  | 32 => ⟨S3x4096x4x1, .f32⟩
  | 33 => ⟨S1x4096x4x128, .f32⟩
  | 34 => ⟨S4096x4x128, .f32⟩
  | 35 => ⟨S1x4096x4x128, .f32⟩
  | 36 => ⟨S4096x4x128, .f32⟩
  | 37 => ⟨S1x4096x4x128, .f32⟩
  | 38 => ⟨S4096x4x128, .f32⟩
  | 39 => ⟨S_, .f32⟩
  | 40 => ⟨S3x4096x4, .f32⟩
  | 41 => ⟨S3x4096x4, .f32⟩
  | 42 => ⟨S3x4096x4, .f32⟩
  | 43 => ⟨S3x4096x4, .f32⟩
  | 44 => ⟨S_, .f32⟩
  | 45 => ⟨S4096x4, .f32⟩
  | 46 => ⟨S1x4096x4, .f32⟩
  | 47 => ⟨S1x4096x4, .f32⟩
  | 48 => ⟨S3x4096x4, .f32⟩
  | 49 => ⟨S3x4096x4, .f32⟩
  | 50 => ⟨S_, .f32⟩
  | 51 => ⟨S4096x4, .f32⟩
  | 52 => ⟨S3x4096x4, .f32⟩
  | 53 => ⟨S3x4096x4, .f32⟩
  | 54 => ⟨S3x4096x4, .f32⟩
  | 55 => ⟨S1x4096x4, .f32⟩
  | 56 => ⟨S4096x4, .f32⟩
  | 57 => ⟨S1x4096x4, .f32⟩
  | 58 => ⟨S4096x4, .f32⟩
  | 59 => ⟨S1x4096x4, .f32⟩
  | 60 => ⟨S4096x4, .f32⟩
  | 61 => ⟨S256x16x4, .f32⟩
  | 62 => ⟨S4x16x256, .f32⟩
  | 63 => ⟨S256x16x4x128, .f32⟩
  | 64 => ⟨S4x16x256x128, .f32⟩
  | 65 => ⟨S4x16x256x1, .f32⟩
  | 66 => ⟨S4x16x256x1, .f32⟩
  | 67 => ⟨S4x16x128x256, .f32⟩
  | 68 => ⟨S4x16x256x128, .f32⟩
  | 69 => ⟨S4x16x256x256, .f32⟩
  | 70 => ⟨S4x16x256x256, .f32⟩
  | 71 => ⟨S4x16x256x256, .f32⟩
  | 72 => ⟨S4x16x256x256, .f32⟩
  | 73 => ⟨S_, .f32⟩
  | 74 => ⟨S4x16x256, .f32⟩
  | 75 => ⟨S4x16x256x1, .f32⟩
  | 76 => ⟨S4x16x256x1, .f32⟩
  | 77 => ⟨S4x16x256x1, .f32⟩
  | 78 => ⟨S4x16x256x256, .f32⟩
  | 79 => ⟨S4x16x256x256, .f32⟩
  | 80 => ⟨S_, .f32⟩
  | 81 => ⟨S4x16x256, .f32⟩
  | 82 => ⟨S4x16x256x256, .f32⟩
  | 83 => ⟨S4x16x256x256, .f32⟩
  | 84 => ⟨S4x16x256x256, .f32⟩
  | 85 => ⟨S4x16x256x256, .f32⟩
  | 86 => ⟨S_, .f32⟩
  | 87 => ⟨S4x16x256, .f32⟩
  | 88 => ⟨S4x16x256x1, .f32⟩
  | 89 => ⟨S4x16x256x1, .f32⟩
  | 90 => ⟨S_, .f32⟩
  | 91 => ⟨S4x16x256, .f32⟩
  | 92 => ⟨S4x16x256, .f32⟩
  | 93 => ⟨S4x16x256x256, .f32⟩
  | 94 => ⟨S4x16x256x256, .f32⟩
  | 95 => ⟨S4x16x256x256, .f32⟩
  | 96 => ⟨S_, .f32⟩
  | 97 => ⟨S4x16x256x256, .f32⟩
  | 98 => ⟨S4x16x256x256, .f32⟩
  | 99 => ⟨S_, .f32⟩
  | 100 => ⟨S4x16x256x256, .f32⟩
  | 101 => ⟨S4x16x256x256, .f32⟩
  | 102 => ⟨S4x16x256x128, .f32⟩
  | 103 => ⟨S4x16x256x128, .f32⟩
  | 104 => ⟨S256x16x4x128, .f32⟩
  | 105 => ⟨S4096x4x128, .f32⟩
  | 106 => ⟨S256x16x4x128, .f32⟩
  | 107 => ⟨S4096x4x128, .f32⟩
  | 108 => ⟨S256x16x4x128, .f32⟩
  | 109 => ⟨S4096x4x128, .f32⟩
  | 110 => ⟨S256x8192, .f32⟩
  | 111 => ⟨S256x8192, .f32⟩
  | 112 => ⟨S256x8192, .f32⟩
  | 113 => ⟨S1x256x8192, .f32⟩
  | 114 => ⟨S1x256x8192, .f32⟩
  | 115 => ⟨S1x256x8192, .f32⟩
  | 116 => ⟨S3x256x8192, .f32⟩
  | 117 => ⟨S3x256x8192, .bf16⟩
  | _ => ⟨S4096x4x128, .bf16⟩

abbrev hbmTy (i : Nat) : BufTy := match i / 128 with
  | 0 => hbmTy0_0 i
  | 1 => hbmTy0_1 i
  | _ => ⟨S4096x4x128, .bf16⟩

abbrev bufTy : (tb : Table) → Fin (tcTables nBuf tb) → BufTy
  | .hbm, ⟨i, _⟩ => hbmTy i
  | _, _ => ⟨S4096x4x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_call0_v0 : Ref sig .tc := ⟨.hbm, 60, rfl⟩
abbrev main_v44_1 : Ref sig .tc := ⟨.hbm, 61, rfl⟩
abbrev main_call0_v2 : Ref sig .tc := ⟨.hbm, 62, rfl⟩
abbrev main_v44_0 : Ref sig .tc := ⟨.hbm, 63, rfl⟩
abbrev main_call0_cst : Ref sig .tc := ⟨.hbm, 64, rfl⟩
abbrev main_v44_2 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_10 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_22 : Ref sig .tc := ⟨.hbm, 146, rfl⟩
abbrev main_v109 : Ref sig .tc := ⟨.hbm, 147, rfl⟩
abbrev main_cst_23 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_24 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_25 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_26 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_27 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_28 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_29 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_30 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_31 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_32 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_call1_cst : Ref sig .tc := ⟨.hbm, 224, rfl⟩
abbrev main_call1_v0 : Ref sig .tc := ⟨.hbm, 225, rfl⟩
abbrev main_v176 : Ref sig .tc := ⟨.hbm, 226, rfl⟩
abbrev main_cst_33 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩

abbrev nD : Nat := 1
abbrev τ : Topo := Topo.v7x

variable {F : FTy → Type} [FloatOps F]
-- ==== Up.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S4096x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownW.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpW.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpX.lean ====
abbrev S2048x8192 : Shape := ⟨2, ![2048, 8192]⟩
abbrev S4096x8192 : Shape := ⟨2, ![4096, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x1024 : Shape := ⟨2, ![1024, 1024]⟩
abbrev S1x2048x1024 : Shape := ⟨3, ![1, 2048, 1024]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S2048x4x2048, .bf16⟩
  | .hbm, ⟨3, _⟩ => ⟨S4x2048x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S2048x8192, .f32⟩
  | .hbm, ⟨3, _⟩ => ⟨S4096x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvW.lean ====
abbrev S4096x2048 : Shape := ⟨2, ![4096, 2048]⟩
abbrev S3x4096x2048 : Shape := ⟨3, ![3, 4096, 2048]⟩
abbrev S4x2048x1536 : Shape := ⟨3, ![4, 2048, 1536]⟩
abbrev S4096x1024 : Shape := ⟨2, ![4096, 1024]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4x2048x1536, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWRefIdeal.lean ====
abbrev S4096x2048 : Shape := ⟨2, ![4096, 2048]⟩
abbrev S3x4096x2048 : Shape := ⟨3, ![3, 4096, 2048]⟩
abbrev S_ : Shape := ⟨0, ![]⟩
abbrev S2048x6144 : Shape := ⟨2, ![2048, 6144]⟩
abbrev S4096x6144 : Shape := ⟨2, ![4096, 6144]⟩
abbrev S4096x3x2048 : Shape := ⟨3, ![4096, 3, 2048]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4096x2048, .f32⟩
  | .hbm, ⟨3, _⟩ => ⟨S3x4096x2048, .f32⟩
  | .hbm, ⟨4, _⟩ => ⟨S_, .f32⟩
  | .hbm, ⟨5, _⟩ => ⟨S2048x6144, .f32⟩
  | .hbm, ⟨6, _⟩ => ⟨S4096x6144, .f32⟩
  | .hbm, ⟨7, _⟩ => ⟨S4096x3x2048, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateW.lean ====
abbrev S4096x2048 : Shape := ⟨2, ![4096, 2048]⟩
abbrev S2x4096x2048 : Shape := ⟨3, ![2, 4096, 2048]⟩
abbrev S4x2048x1024 : Shape := ⟨3, ![4, 2048, 1024]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S4096x2048 : Shape := ⟨2, ![4096, 2048]⟩
abbrev S2x4096x2048 : Shape := ⟨3, ![2, 4096, 2048]⟩
abbrev S_ : Shape := ⟨0, ![]⟩
abbrev S2048x4096 : Shape := ⟨2, ![2048, 4096]⟩
abbrev S4096x4096 : Shape := ⟨2, ![4096, 4096]⟩
abbrev S4096x2x2048 : Shape := ⟨3, ![4096, 2, 2048]⟩
abbrev S2048x4x1024 : Shape := ⟨3, ![2048, 4, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S4096x2048, .f32⟩
  | .hbm, ⟨3, _⟩ => ⟨S2x4096x2048, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2x2048, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | .hbm, ⟨13, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjW.lean ====
abbrev S4096x512 : Shape := ⟨2, ![4096, 512]⟩
abbrev S4096x2048 : Shape := ⟨2, ![4096, 2048]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4x512x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S1x512x512, .bf16⟩
  | .local _ .vmem, ⟨4, _⟩ => ⟨S1x512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩
abbrev S512x4x512 : Shape := ⟨3, ![512, 4, 512]⟩
abbrev S4x512x512 : Shape := ⟨3, ![4, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S512x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x4x512, .f32⟩
  | .hbm, ⟨10, _⟩ => ⟨S4x512x512, .f32⟩
  | .hbm, ⟨11, _⟩ => ⟨S4x512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpF.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_cst : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== DownF.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S4096x2048, .f32⟩
  | .hbm, ⟨9, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== OutF.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutFRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateX.lean ====
abbrev S2048x4096 : Shape := ⟨2, ![2048, 4096]⟩
abbrev S2x4096x2048 : Shape := ⟨3, ![2, 4096, 2048]⟩
abbrev S4096x2048 : Shape := ⟨2, ![4096, 2048]⟩
abbrev S2048x2048 : Shape := ⟨2, ![2048, 2048]⟩
abbrev S2048x4x1024 : Shape := ⟨3, ![2048, 4, 1024]⟩
abbrev S4x2048x1024 : Shape := ⟨3, ![4, 2048, 1024]⟩
abbrev S1x1024x1024 : Shape := ⟨3, ![1, 1024, 1024]⟩
abbrev S1024x1024 : Shape := ⟨2, ![1024, 1024]⟩
abbrev S64x2048 : Shape := ⟨2, ![64, 2048]⟩

abbrev nBuf : Space → Nat
  | .hbm => 14
  | .vmem => 25
  | .smem => 0
  | _ => 0

abbrev bufTy : (tb : Table) → Fin (tcTables nBuf tb) → BufTy
  | .hbm, ⟨0, _⟩ => ⟨S2048x4096, .bf16⟩
  | .hbm, ⟨1, _⟩ => ⟨S2x4096x2048, .bf16⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x4x1024, .bf16⟩
  | .hbm, ⟨8, _⟩ => ⟨S4x2048x1024, .bf16⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S1024x1024, .f32⟩
  | .local _ .vmem, ⟨15, _⟩ => ⟨S1024x1024, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 2, 4], ![false, false, false]⟩

def k0_cond4 (i : grid0.Coords) : BitVec 1 :=
  let arg2 : BitVec 32 := BitVec.ofNat 32 (i 2).val
  let c3_i32_4 : BitVec 32 := 3#32
  let v15 : BitVec 1 := Scalar.cmpi .eq arg2 c3_i32_4
  let v16 : BitVec 32 := Scalar.extui v15
  let c0_i32_5 : BitVec 32 := 0#32
  let v17 : BitVec 1 := Scalar.cmpi .ne v16 c0_i32_5
  v17

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c32_i32 : BitVec 32 := 32#32
  let v4 : BitVec 1 := Scalar.cmpi .slt v3 c32_i32
  let v5 : BitVec 32 := Scalar.extui v4
  let c0_i32 : BitVec 32 := 0#32
  let v6 : BitVec 1 := Scalar.cmpi .ne v5 c0_i32
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== GateXRefIdeal.lean ====
abbrev S2048x4096 : Shape := ⟨2, ![2048, 4096]⟩
abbrev S2x4096x2048 : Shape := ⟨3, ![2, 4096, 2048]⟩
abbrev S4096x2048 : Shape := ⟨2, ![4096, 2048]⟩
abbrev S2048x2048 : Shape := ⟨2, ![2048, 2048]⟩
abbrev S_ : Shape := ⟨0, ![]⟩
abbrev S4096x4096 : Shape := ⟨2, ![4096, 4096]⟩
abbrev S4096x2x2048 : Shape := ⟨3, ![4096, 2, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x4096x2048, .bf16⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2x4096x2048, .f32⟩
  | .hbm, ⟨9, _⟩ => ⟨S_, .f32⟩
  | .hbm, ⟨10, _⟩ => ⟨S4096x2048, .f32⟩
  | .hbm, ⟨11, _⟩ => ⟨S4096x4096, .f32⟩
  | .hbm, ⟨12, _⟩ => ⟨S4096x2x2048, .f32⟩
  | .hbm, ⟨13, _⟩ => ⟨S4096x4096, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Merge.lean ====
abbrev S4096x512 : Shape := ⟨2, ![4096, 512]⟩
abbrev S512x2048 : Shape := ⟨2, ![512, 2048]⟩
abbrev S2x4096x2048 : Shape := ⟨3, ![2, 4096, 2048]⟩
abbrev S512x4x512 : Shape := ⟨3, ![512, 4, 512]⟩
abbrev S4x512x512 : Shape := ⟨3, ![4, 512, 512]⟩
abbrev S_ : Shape := ⟨0, ![]⟩
abbrev S4096x2048 : Shape := ⟨2, ![4096, 2048]⟩
abbrev S1024x512 : Shape := ⟨2, ![1024, 512]⟩
abbrev S1x512x512 : Shape := ⟨3, ![1, 512, 512]⟩
abbrev S2x1024x512 : Shape := ⟨3, ![2, 1024, 512]⟩
abbrev S512x512 : Shape := ⟨2, ![512, 512]⟩
abbrev S1x1024x512 : Shape := ⟨3, ![1, 1024, 512]⟩

abbrev nBuf : Space → Nat
  | .hbm => 20
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x2048, .bf16⟩
  | .hbm, ⟨3, _⟩ => ⟨S512x2048, .bf16⟩
  | .hbm, ⟨4, _⟩ => ⟨S2x4096x2048, .f32⟩
  | .hbm, ⟨5, _⟩ => ⟨S512x4x512, .bf16⟩
  | .hbm, ⟨6, _⟩ => ⟨S4x512x512, .bf16⟩
  | .hbm, ⟨7, _⟩ => ⟨S512x4x512, .bf16⟩
  | .hbm, ⟨8, _⟩ => ⟨S4x512x512, .bf16⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S2x4096x2048, .bf16⟩
  | .hbm, ⟨18, _⟩ => ⟨S4096x2048, .bf16⟩
  | .hbm, ⟨19, _⟩ => ⟨S2x4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S2x1024x512, .bf16⟩
  | .local _ .vmem, ⟨9, _⟩ => ⟨S2x1024x512, .bf16⟩
  | .local _ .vmem, ⟨10, _⟩ => ⟨S1024x512, .bf16⟩
  | .local _ .vmem, ⟨11, _⟩ => ⟨S1024x512, .bf16⟩
  | .local _ .vmem, ⟨12, _⟩ => ⟨S2x1024x512, .bf16⟩
  | .local _ .vmem, ⟨13, _⟩ => ⟨S2x1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4096x512 : Shape := ⟨2, ![4096, 512]⟩
abbrev S512x2048 : Shape := ⟨2, ![512, 2048]⟩
abbrev S2x4096x2048 : Shape := ⟨3, ![2, 4096, 2048]⟩
abbrev S_ : Shape := ⟨0, ![]⟩
abbrev S1x4096x2048 : Shape := ⟨3, ![1, 4096, 2048]⟩
abbrev S4096x2048 : Shape := ⟨2, ![4096, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x2048, .bf16⟩
  | .hbm, ⟨3, _⟩ => ⟨S512x2048, .bf16⟩
  | .hbm, ⟨4, _⟩ => ⟨S2x4096x2048, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S512x2048, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S1x4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S1x4096x2048, .f32⟩
  | .hbm, ⟨35, _⟩ => ⟨S_, .f32⟩
  | .hbm, ⟨36, _⟩ => ⟨S2x4096x2048, .f32⟩
  | .hbm, ⟨37, _⟩ => ⟨S4096x2048, .f32⟩
  | .hbm, ⟨38, _⟩ => ⟨S1x4096x2048, .f32⟩
  | .hbm, ⟨39, _⟩ => ⟨S_, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S2x4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== OutX.lean ====
abbrev S4096x2048 : Shape := ⟨2, ![4096, 2048]⟩
abbrev S2x4096x2048 : Shape := ⟨3, ![2, 4096, 2048]⟩
abbrev S2048x2048 : Shape := ⟨2, ![2048, 2048]⟩
abbrev S512x2048 : Shape := ⟨2, ![512, 2048]⟩
abbrev S_ : Shape := ⟨0, ![]⟩
abbrev S1x4096x2048 : Shape := ⟨3, ![1, 4096, 2048]⟩
abbrev S512x4x512 : Shape := ⟨3, ![512, 4, 512]⟩
abbrev S4x512x512 : Shape := ⟨3, ![4, 512, 512]⟩
abbrev S4x2x2048 : Shape := ⟨3, ![4, 2, 2048]⟩
abbrev S4096x512 : Shape := ⟨2, ![4096, 512]⟩
abbrev S1024x2048 : Shape := ⟨2, ![1024, 2048]⟩
abbrev S2x1024x512 : Shape := ⟨3, ![2, 1024, 512]⟩
abbrev S1x512x512 : Shape := ⟨3, ![1, 512, 512]⟩
abbrev S1024x512 : Shape := ⟨2, ![1024, 512]⟩
abbrev S1x2x512 : Shape := ⟨3, ![1, 2, 512]⟩
abbrev S1x1024x512 : Shape := ⟨3, ![1, 1024, 512]⟩
abbrev S512 : Shape := ⟨1, ![512]⟩
abbrev S1x512 : Shape := ⟨2, ![1, 512]⟩
abbrev S2x512 : Shape := ⟨2, ![2, 512]⟩
abbrev S512x512 : Shape := ⟨2, ![512, 512]⟩

abbrev nBuf : Space → Nat
  | .hbm => 35
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2x4096x2048, .f32⟩
  | .hbm, ⟨3, _⟩ => ⟨S2048x2048, .bf16⟩
  | .hbm, ⟨4, _⟩ => ⟨S512x2048, .bf16⟩
  | .hbm, ⟨5, _⟩ => ⟨S512x2048, .bf16⟩
  | .hbm, ⟨6, _⟩ => ⟨S4096x2048, .bf16⟩
  | .hbm, ⟨7, _⟩ => ⟨S2x4096x2048, .f32⟩
  | .hbm, ⟨8, _⟩ => ⟨S2x4096x2048, .f32⟩
  | .hbm, ⟨9, _⟩ => ⟨S_, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096x2048, .f32⟩
  | .hbm, ⟨14, _⟩ => ⟨S2x4096x2048, .f32⟩
  | .hbm, ⟨15, _⟩ => ⟨S1x4096x2048, .f32⟩
  | .hbm, ⟨16, _⟩ => ⟨S1x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S2x4096x2048, .bf16⟩
  | .hbm, ⟨24, _⟩ => ⟨S2x4096x2048, .bf16⟩
  | .hbm, ⟨25, _⟩ => ⟨S512x4x512, .bf16⟩
  | .hbm, ⟨26, _⟩ => ⟨S4x512x512, .bf16⟩
  | .hbm, ⟨27, _⟩ => ⟨S512x4x512, .bf16⟩
  | .hbm, ⟨28, _⟩ => ⟨S4x512x512, .bf16⟩
  | .hbm, ⟨29, _⟩ => ⟨S4096x2048, .bf16⟩
  | .hbm, ⟨30, _⟩ => ⟨S4096x2048, .bf16⟩
  | .hbm, ⟨31, _⟩ => ⟨S2x4096x2048, .bf16⟩
  | .hbm, ⟨32, _⟩ => ⟨S4x2x2048, .f32⟩
  | .hbm, ⟨33, _⟩ => ⟨S4096x512, .bf16⟩
  | .hbm, ⟨34, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2x1024x512, .bf16⟩
  | .local _ .vmem, ⟨17, _⟩ => ⟨S2x1024x512, .bf16⟩
  | .local _ .vmem, ⟨18, _⟩ => ⟨S1x2x512, .f32⟩
  | .local _ .vmem, ⟨19, _⟩ => ⟨S1x2x512, .f32⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .f32⟩
  | .local _ .vmem, ⟨25, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_34 : BitVec 32 := 0#32
  let v55 : BitVec 1 := Scalar.cmpi .ne v54 c0_i32_34
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== OutXRefIdeal.lean ====
abbrev S4096x2048 : Shape := ⟨2, ![4096, 2048]⟩
abbrev S2x4096x2048 : Shape := ⟨3, ![2, 4096, 2048]⟩
abbrev S2048x2048 : Shape := ⟨2, ![2048, 2048]⟩
abbrev S512x2048 : Shape := ⟨2, ![512, 2048]⟩
abbrev S_ : Shape := ⟨0, ![]⟩
abbrev S1x4096x2048 : Shape := ⟨3, ![1, 4096, 2048]⟩
abbrev S4096x512 : Shape := ⟨2, ![4096, 512]⟩
abbrev S2x4x1024x2048 : Shape := ⟨4, ![2, 4, 1024, 2048]⟩
abbrev S2x4x2048 : Shape := ⟨3, ![2, 4, 2048]⟩
abbrev S4x2x2048 : Shape := ⟨3, ![4, 2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2x4096x2048, .f32⟩
  | .hbm, ⟨3, _⟩ => ⟨S2048x2048, .bf16⟩
  | .hbm, ⟨4, _⟩ => ⟨S512x2048, .bf16⟩
  | .hbm, ⟨5, _⟩ => ⟨S512x2048, .bf16⟩
  | .hbm, ⟨6, _⟩ => ⟨S4096x2048, .bf16⟩
  | .hbm, ⟨7, _⟩ => ⟨S2048x2048, .f32⟩
  | .hbm, ⟨8, _⟩ => ⟨S512x2048, .f32⟩
  | .hbm, ⟨9, _⟩ => ⟨S512x2048, .f32⟩
  | .hbm, ⟨10, _⟩ => ⟨S4096x2048, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S1x4096x2048, .f32⟩
  | .hbm, ⟨24, _⟩ => ⟨S4096x2048, .f32⟩
  | .hbm, ⟨25, _⟩ => ⟨S4096x2048, .f32⟩
  | .hbm, ⟨26, _⟩ => ⟨S1x4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S1x4096x2048, .f32⟩
  | .hbm, ⟨35, _⟩ => ⟨S_, .f32⟩
  | .hbm, ⟨36, _⟩ => ⟨S2x4096x2048, .f32⟩
  | .hbm, ⟨37, _⟩ => ⟨S4096x2048, .f32⟩
  | .hbm, ⟨38, _⟩ => ⟨S4096x2048, .f32⟩
  | .hbm, ⟨39, _⟩ => ⟨S1x4096x2048, .f32⟩
  | .hbm, ⟨40, _⟩ => ⟨S_, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S_, .f32⟩
  | .hbm, ⟨45, _⟩ => ⟨S4096x512, .f32⟩
  | .hbm, ⟨46, _⟩ => ⟨S4096x2048, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x2048, .f32⟩
  | .hbm, ⟨51, _⟩ => ⟨S4096x512, .f32⟩
  | .hbm, ⟨52, _⟩ => ⟨S2x4x1024x2048, .f32⟩
  | .hbm, ⟨53, _⟩ => ⟨S_, .f32⟩
  | .hbm, ⟨54, _⟩ => ⟨S2x4x2048, .f32⟩
  | .hbm, ⟨55, _⟩ => ⟨S4x2x2048, .f32⟩
  | .hbm, ⟨56, _⟩ => ⟨S4096x2048, .bf16⟩
  | .hbm, ⟨57, _⟩ => ⟨S4096x2048, .bf16⟩
  | .hbm, ⟨58, _⟩ => ⟨S2x4096x2048, .bf16⟩
  | .hbm, ⟨59, _⟩ => ⟨S4096x512, .bf16⟩
  | .hbm, ⟨60, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== QkvX.lean ====
abbrev S2048x6144 : Shape := ⟨2, ![2048, 6144]⟩
abbrev S3x4096x2048 : Shape := ⟨3, ![3, 4096, 2048]⟩
abbrev S2048x2048 : Shape := ⟨2, ![2048, 2048]⟩
abbrev S2048x4x1536 : Shape := ⟨3, ![2048, 4, 1536]⟩
abbrev S4x2048x1536 : Shape := ⟨3, ![4, 2048, 1536]⟩
abbrev S4096x2048 : Shape := ⟨2, ![4096, 2048]⟩
abbrev S1x1024x512 : Shape := ⟨3, ![1, 1024, 512]⟩
abbrev S1x2048x512 : Shape := ⟨3, ![1, 2048, 512]⟩
abbrev S64x2048 : Shape := ⟨2, ![64, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 13
  | .vmem => 23
  | .smem => 0
  | _ => 0

abbrev bufTy : (tb : Table) → Fin (tcTables nBuf tb) → BufTy
  | .hbm, ⟨0, _⟩ => ⟨S2048x6144, .bf16⟩
  | .hbm, ⟨1, _⟩ => ⟨S3x4096x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x4x1536, .bf16⟩
  | .hbm, ⟨7, _⟩ => ⟨S4x2048x1536, .bf16⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S1024x2048, .f32⟩
  | .local _ .vmem, ⟨13, _⟩ => ⟨S1024x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S1024x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 1, 12], ![false, false, false]⟩

def k0_cond4 (i : grid0.Coords) : BitVec 1 :=
  let arg2 : BitVec 32 := BitVec.ofNat 32 (i 2).val
  let c11_i32_4 : BitVec 32 := 11#32
  let v15 : BitVec 1 := Scalar.cmpi .eq arg2 c11_i32_4
  let v16 : BitVec 32 := Scalar.extui v15
  let c0_i32_5 : BitVec 32 := 0#32
  let v17 : BitVec 1 := Scalar.cmpi .ne v16 c0_i32_5
  v17

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c12_i32 : BitVec 32 := 12#32
  let v2 : BitVec 32 := Scalar.muli v1 c12_i32
  let arg2 : BitVec 32 := BitVec.ofNat 32 (i 2).val
  let v3 : BitVec 32 := Scalar.addi v2 arg2
  let c32_i32 : BitVec 32 := 32#32
  let v4 : BitVec 1 := Scalar.cmpi .slt v3 c32_i32
  let v5 : BitVec 32 := Scalar.extui v4
  let c0_i32 : BitVec 32 := 0#32
  let v6 : BitVec 1 := Scalar.cmpi .ne v5 c0_i32
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c12_i32 : BitVec 32 := 12#32
  let v2 : BitVec 32 := Scalar.muli v1 c12_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== QkvXRefIdeal.lean ====
abbrev S2048x6144 : Shape := ⟨2, ![2048, 6144]⟩
abbrev S3x4096x2048 : Shape := ⟨3, ![3, 4096, 2048]⟩
abbrev S2048x2048 : Shape := ⟨2, ![2048, 2048]⟩
abbrev S_ : Shape := ⟨0, ![]⟩
abbrev S4096x2048 : Shape := ⟨2, ![4096, 2048]⟩
abbrev S4096x6144 : Shape := ⟨2, ![4096, 6144]⟩
abbrev S4096x3x2048 : Shape := ⟨3, ![4096, 3, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x4096x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x6144, .f32⟩
  | .hbm, ⟨7, _⟩ => ⟨S3x4096x2048, .f32⟩
  | .hbm, ⟨8, _⟩ => ⟨S_, .f32⟩
  | .hbm, ⟨9, _⟩ => ⟨S4096x2048, .f32⟩
  | .hbm, ⟨10, _⟩ => ⟨S4096x6144, .f32⟩
  | .hbm, ⟨11, _⟩ => ⟨S4096x3x2048, .f32⟩
  | .hbm, ⟨12, _⟩ => ⟨S4096x6144, .f32⟩
  | .hbm, ⟨13, _⟩ => ⟨S4096x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Body.lean ====
/- The body of the attention gradient, run once at symbolic operands: from the three staged inputs at their
   blocks and the two scratch buffers at anything, it leaves the inputs as they were and the result's buffer
   covered by the pieces the run stores. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body stores into the result's buffer, with the triple that says so. -/
def bodyRun (c : Dev nD) (i : grid0.Coords)
    (a2 : Memref sig .tc .vmem S3x256x512 .bf16) (h2 : a2.IsWhole) (a3 : Memref sig .tc .vmem S256x512 .bf16) (h3 : a3.IsWhole)
    (a4 : Memref sig .tc .vmem S256x512 .bf16) (h4 : a4.IsWhole) (a5 : Memref sig .tc .vmem S256x512 .f32) (h5 : a5.IsWhole)
    (a6 : Memref sig .tc .vmem S3x256x512 .bf16) (h6 : a6.IsWhole) (a7 : Memref sig .tc .vmem S256x512 .f32) (h7 : a7.IsWhole)
    (a8 : Memref sig .tc .vmem S256x512 .f32) (h8 : a8.IsWhole)
    (x0 : Vec F S3x256x512 .bf16) (x1 x2 : Vec F S256x512 .bf16) (x3 : Vec F S256x512 .f32) :
    { L : List (View.Piece (Elt F) S3x256x512 .bf16) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)
                ∗ (∃ d, owns (c : Thread nD τ) a7 fullShare d) ∗ (∃ d, owns (c : Thread nD τ) a8 fullShare d)) -∗ K ⟨⟩))
          ⊢ wp frame (wpE (defs₀ (F := F)) Variants.none c none) E
              (cc0_attn_a_bwd_d16 i a2 h2 a3 h3 a4 h4 a5 h5 a6 h6 a7 h7 a8 h8) K } := by
  refine ⟨?_, fun E K => ?run⟩
  case run =>
    simp only [cc0_attn_a_bwd_d16_eq_skeleton]; unfold cc0_attn_a_bwd_d16_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [HS0]
    · iexists _, _; isplitr; swap; · iexact HS0
      ipureintro; rfl
    iexists _, _; isplitr; swap; · iexact HS1
    ipureintro; rfl

end Cert.KernelIdeal.Hand

end
-- ==== Proof.Run.lean ====
/- The run of the attention gradient's program: the pipeline's proof data over the body's run (Body.lean), the body
   obligation at every grid point, and the launch. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two scratch buffers, as the memrefs the body takes. -/
abbrev sc7 : Memref sig .tc .vmem S256x512 .f32 := Memref.whole cc0_scratch0
abbrev sc8 : Memref sig .tc .vmem S256x512 .f32 := Memref.whole cc0_scratch1

/-- The region's invariant: each scratch buffer at some contents, and the generator's register. -/
theorem inv_eq (c : Dev nD) :
    (Pipeline.ΦA spec0 c : sProp 𝕄)
      = iprop(iprop((∃ d, owns (c : Thread nD τ) sc7 fullShare d) ∗ (∃ d, owns (c : Thread nD τ) sc8 fullShare d)) ∗ (∃ r, prngReg c r)) := by
  unfold Pipeline.ΦA; rw [scopedRest0_eq]; simp only [sc7, sc8, owns_whole]; try rfl

/-- The pieces the body stores at point `t`. -/
def piecesAt (c : Dev nD) (t : Fin cfg0.N) : List (View.Piece (Elt F) S3x256x512 .bf16) :=
  (bodyRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    sc7 (Memref.isWhole_whole _) sc8 (Memref.isWhole_whole _)
    (iblk m c 0 t) (iblk m c 1 t) (iblk m c 2 t) (iblk m c 3 t)).1

/-- They cover the buffer. -/
theorem pieces_cover (c : Dev nD) (t : Fin cfg0.N) (y : S3x256x512.Idx) : ∃ p ∈ piecesAt m c t, y ∈ p.1.set :=
  View.cover_of_tiledBy (piecesAt m c t) ![1, 256, 128] (by sl_kernel_rfl) y

/-- What the body leaves in the result's buffer at point `t`. -/
def outAt (c : Dev nD) (t : Fin cfg0.N) : Vec F S3x256x512 .bf16 := View.canon (piecesAt m c t)

/-- The arrays as the region finds them; after the body each input's buffer at its block, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem dats_A (c : Dev nD) (w : Fin cfg0.W) : (dats m 0 c).A w = V m c (Pipeline.arrRef spec0 w) := by dsimp only [dats]
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = outAt m c t := by dsimp only [dats]

theorem before_in0 (c : Dev nD) (t : Fin cfg0.N) (d) : (dats m 0 c).before 0 t d = iblk m c 0 t :=
  before0_0_of m (dats m 0 c) (dats_A m c 0) (after_in0 m c) t d
theorem before_in1 (c : Dev nD) (t : Fin cfg0.N) (d) : (dats m 0 c).before 1 t d = iblk m c 1 t :=
  before0_1_of m (dats m 0 c) (dats_A m c 1) (after_in1 m c) t d
theorem before_in2 (c : Dev nD) (t : Fin cfg0.N) (d) : (dats m 0 c).before 2 t d = iblk m c 2 t :=
  before0_2_of m (dats m 0 c) (dats_A m c 2) (after_in2 m c) t d
theorem before_in3 (c : Dev nD) (t : Fin cfg0.N) (d) : (dats m 0 c).before 3 t d = iblk m c 3 t :=
  before0_3_of m (dats m 0 c) (dats_A m c 3) (after_in3 m c) t d

/-- What the body is called with at point `t`, -/
def atCall (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def atReturn (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- The body's triple at any point. -/
theorem body_triple (c : Dev nD) (t : Fin cfg0.N) :
    atCall m c t ⊢ wp frame (wpE (defs₀ (F := F)) Variants.none c none) Set.univ (bodyAt0 t) (fun _ => atReturn m c t) := by
  unfold atCall atReturn bodyAt0
  simp only [before_in0, before_in1, before_in2, before_in3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_in0, after_in1, after_in2, after_in3, after_out, inv_eq]
  iintro ⟨⟨⟨HS0, HS1⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%f4, H4⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (pieces_cover m c t)

/-- The body table's row at point `t`. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_triple m c t) rfl .rfl fun _ => .rfl

set_option backward.isDefEq.respectTransparency.types false in
/-- From any memory with zero counters every weakly fair execution of @main terminates, with every array of the
    pipeline at what the proof data says, every other buffer as the region found it and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

end Cert.KernelIdeal.Hand

end
-- ==== Proof.Spec.lean ====
/- The attention gradient as real functions: the windowed attention of one group over its residue classes, the mixture
   of the three groups, the derivative as the reference's operations take it, the same derivative in the form the kernel
   computes (from the saved mixture and its log-sum), and the proof that the two agree. -/
module

public import Mathlib.Analysis.SpecialFunctions.Pow.Real
public import Mathlib.Algebra.BigOperators.Fin
public import Mathlib.Tactic.FieldSimp
public import Mathlib.Tactic.Ring
public import Mathlib.Tactic.Positivity

@[expose] public section

noncomputable section

namespace Cert.Attn

open scoped BigOperators

/-- The argument arrays as real numbers: by token, head and lane. -/
structure Args where
  q : Fin 4096 → Fin 4 → Fin 128 → ℝ
  k : Fin 4096 → Fin 4 → Fin 128 → ℝ
  v : Fin 4096 → Fin 4 → Fin 128 → ℝ
  o0 : Fin 4096 → Fin 4 → Fin 128 → ℝ
  o1 : Fin 4096 → Fin 4 → Fin 128 → ℝ
  l0 : Fin 4096 → Fin 4 → ℝ
  l1 : Fin 4096 → Fin 4 → ℝ
  dy : Fin 4096 → Fin 4 → Fin 128 → ℝ
  /-- The score's scale, an f32 word's value. -/
  sc : ℝ

/-- The token of row `i` of residue class `r`. -/
def tok (i : Fin 256) (r : Fin 16) : Fin 4096 := ⟨i.val * 16 + r.val, by omega⟩
/-- A token's row in its residue class, -/
def row (t : Fin 4096) : Fin 256 := ⟨t.val / 16, by omega⟩
/-- and the class. -/
def res (t : Fin 4096) : Fin 16 := ⟨t.val % 16, by omega⟩

theorem row_tok (i : Fin 256) (r : Fin 16) : row (tok i r) = i := by
  apply Fin.ext; simp only [row, tok]; omega
theorem res_tok (i : Fin 256) (r : Fin 16) : res (tok i r) = r := by
  apply Fin.ext; simp only [res, tok]; omega
theorem tok_row_res (t : Fin 4096) : tok (row t) (res t) = t := by
  apply Fin.ext; simp only [row, res, tok]; omega

/-- The distance of two rows. -/
def rel (i j : Fin 256) : ℝ := ((|(j.val : ℤ) - (i.val : ℤ)| : ℤ) : ℝ)
/-- The window. -/
def Band (i j : Fin 256) : Prop := |((j.val : ℤ) - (i.val : ℤ) : ℤ)| ≤ 64
instance (i j : Fin 256) : Decidable (Band i j) := inferInstanceAs (Decidable (_ ≤ _))
theorem band_self (i : Fin 256) : Band i i := by simp [Band]

/-- Head `h`'s slope times the stride. -/
def coef (h : Fin 4) : ℝ := (2 : ℝ) ^ ((-8 * ((9 + h.val : ℕ) : ℝ)) / 12) * 16

variable (A : Args) (h : Fin 4) (r : Fin 16)

def qk (i j : Fin 256) : ℝ := ∑ d, A.q (tok i r) h d * A.k (tok j r) h d
def score (i j : Fin 256) : ℝ := qk A h r i j * A.sc + -coef h * rel i j

theorem window_nonempty (i : Fin 256) : (Finset.univ.filter (Band i)).Nonempty := ⟨i, by simp [band_self]⟩
/-- The greatest score of row `i`'s window, -/
def top (i : Fin 256) : ℝ := (Finset.univ.filter (Band i)).sup' (window_nonempty i) (score A h r i)
theorem score_le_top {i j : Fin 256} (hb : Band i j) : score A h r i j ≤ top A h r i :=
  Finset.le_sup' (score A h r i) (by simp [hb])
theorem top_attained (i : Fin 256) : ∃ j, Band i j ∧ score A h r i j = top A h r i := by
  obtain ⟨j, hj, e⟩ := Finset.exists_mem_eq_sup' (window_nonempty i) (score A h r i)
  exact ⟨j, by simpa using hj, e.symm⟩

/-- the weight before normalising, -/
def pr (i j : Fin 256) : ℝ := if Band i j then Real.exp (score A h r i j - top A h r i) else 0
/-- its sum, -/
def den (i : Fin 256) : ℝ := ∑ j, pr A h r i j
theorem pr_nonneg (i j : Fin 256) : 0 ≤ pr A h r i j := by
  unfold pr; split
  · exact (Real.exp_pos _).le
  · exact le_rfl
theorem den_pos (i : Fin 256) : 0 < den A h r i := by
  refine lt_of_lt_of_le (Real.exp_pos (score A h r i i - top A h r i)) ?_
  have hle := Finset.single_le_sum (f := pr A h r i) (fun j _ => pr_nonneg A h r i j) (Finset.mem_univ i)
  simpa [den, pr, band_self] using hle
/-- the attention's output and log-sum. -/
def out (i : Fin 256) (d : Fin 128) : ℝ := ∑ j, pr A h r i j / den A h r i * A.v (tok j r) h d
def lse (i : Fin 256) : ℝ := top A h r i + Real.log (den A h r i)

variable (t : Fin 4096)

/-- The three groups' log-sums and outputs at a token. -/
def lg (g : Fin 3) : ℝ := ![A.l0 t h, A.l1 t h, lse A h (res t) (row t)] g
def og (g : Fin 3) (d : Fin 128) : ℝ := ![A.o0 t h d, A.o1 t h d, out A h (res t) (row t) d] g
def gm : ℝ := max (max (lg A h t 0) (lg A h t 1)) (lg A h t 2)
def ge (g : Fin 3) : ℝ := Real.exp (lg A h t g - gm A h t)
def gd : ℝ := ∑ g, ge A h t g
def al (g : Fin 3) : ℝ := ge A h t g / gd A h t
theorem ge_pos (g : Fin 3) : 0 < ge A h t g := Real.exp_pos _
theorem gd_pos : 0 < gd A h t := Finset.sum_pos (fun g _ => ge_pos A h t g) ⟨0, Finset.mem_univ _⟩

/-- The mixture's derivative: to the weights, to the third group's log-sum, to its output. -/
def dal (g : Fin 3) : ℝ := ∑ d, A.dy t h d * og A h t g d
def dl : ℝ := (dal A h t 2 / gd A h t + -(∑ g, dal A h t g * (1 / (gd A h t * gd A h t)) * ge A h t g)) * ge A h t 2
def dO (d : Fin 128) : ℝ := al A h t 2 * A.dy t h d

/-- The attention's derivative, as the reference's operations take it. -/
def dP (i j : Fin 256) : ℝ := ∑ d, dO A h (tok i r) d * A.v (tok j r) h d
def G (i j : Fin 256) : ℝ :=
  (dP A h r i j / den A h r i
    + (dl A h (tok i r) / den A h r i
      + -(∑ j', dP A h r i j' * (1 / (den A h r i * den A h r i)) * pr A h r i j'))) * pr A h r i j
def dS (i j : Fin 256) : ℝ := (if Band i j then G A h r i j else 0) * A.sc
def dq (i : Fin 256) (d : Fin 128) : ℝ := ∑ j, dS A h r i j * A.k (tok j r) h d
def dk (j : Fin 256) (d : Fin 128) : ℝ := ∑ i, dS A h r i j * A.q (tok i r) h d
def dv (j : Fin 256) (d : Fin 128) : ℝ := ∑ i, dO A h (tok i r) d * (pr A h r i j / den A h r i)

/-- What the kernel is given: the mixture and its log-sum. -/
def mixed (d : Fin 128) : ℝ := al A h t 0 * og A h t 0 d + al A h t 1 * og A h t 1 d + al A h t 2 * og A h t 2 d
def lj : ℝ := gm A h t + Real.log (gd A h t)

/-- What the kernel computes from it. -/
def kp (i j : Fin 256) : ℝ := if Band i j then Real.exp (score A h r i j - lj A h (tok i r)) else 0
def kdelta (i : Fin 256) : ℝ := ∑ d, A.dy (tok i r) h d * mixed A h (tok i r) d
def kdp (i j : Fin 256) : ℝ := ∑ d, A.dy (tok i r) h d * A.v (tok j r) h d
def kds (i j : Fin 256) : ℝ := kp A h r i j * (kdp A h r i j - kdelta A h r i)
def kdq (i : Fin 256) (d : Fin 128) : ℝ := (∑ j, kds A h r i j * A.k (tok j r) h d) * A.sc
def kdk (j : Fin 256) (d : Fin 128) : ℝ := ∑ i, kds A h r i j * A.q (tok i r) h d * A.sc
def kdv (j : Fin 256) (d : Fin 128) : ℝ := ∑ i, kp A h r i j * A.dy (tok i r) h d

/-- The kernel's weight is the group's share times the attention's weight. -/
theorem kp_eq (i j : Fin 256) : kp A h r i j = al A h (tok i r) 2 * (pr A h r i j / den A h r i) := by
  unfold kp pr
  split
  · have hd := den_pos A h r i
    have hg := gd_pos A h (tok i r)
    have e : Real.exp (score A h r i j - lj A h (tok i r))
        = Real.exp (score A h r i j - top A h r i) * Real.exp (top A h r i - gm A h (tok i r)) / gd A h (tok i r) := by
      rw [← Real.exp_add, lj, show score A h r i j - (gm A h (tok i r) + Real.log (gd A h (tok i r)))
        = (score A h r i j - top A h r i + (top A h r i - gm A h (tok i r))) - Real.log (gd A h (tok i r)) by ring,
        Real.exp_sub, Real.exp_log hg]
    have e2 : ge A h (tok i r) 2 = Real.exp (top A h r i - gm A h (tok i r)) * den A h r i := by
      have : lg A h (tok i r) 2 = lse A h r i := by simp [lg, row_tok, res_tok]
      rw [ge, this, lse, show top A h r i + Real.log (den A h r i) - gm A h (tok i r)
        = (top A h r i - gm A h (tok i r)) + Real.log (den A h r i) by ring, Real.exp_add, Real.exp_log hd]
    rw [e, al, e2]; field_simp
  · simp

/-- The weights' derivative is the sum of the weighted products. -/
theorem dal_two (i : Fin 256) :
    dal A h (tok i r) 2 = ∑ j, pr A h r i j / den A h r i * kdp A h r i j := by
  have : ∀ d, og A h (tok i r) 2 d = out A h r i d := fun d => by simp [og, row_tok, res_tok]
  simp only [dal, this, out, kdp, Finset.mul_sum]
  rw [Finset.sum_comm]
  exact Finset.sum_congr rfl fun j _ => Finset.sum_congr rfl fun d _ => by ring

theorem dP_eq (i j : Fin 256) : dP A h r i j = al A h (tok i r) 2 * kdp A h r i j := by
  simp only [dP, dO, kdp, Finset.mul_sum]
  exact Finset.sum_congr rfl fun d _ => by ring

theorem kdelta_eq (i : Fin 256) : kdelta A h r i = ∑ g, al A h (tok i r) g * dal A h (tok i r) g := by
  simp only [kdelta, mixed, dal, Fin.sum_univ_three, Finset.mul_sum, ← Finset.sum_add_distrib]
  exact Finset.sum_congr rfl fun d _ => by ring

theorem dl_eq (i : Fin 256) :
    dl A h (tok i r) = al A h (tok i r) 2 * (dal A h (tok i r) 2 - kdelta A h r i) := by
  have hg := (gd_pos A h (tok i r)).ne'
  rw [kdelta_eq]
  simp only [dl, al, Fin.sum_univ_three]
  field_simp
  ring

/-- The two forms of the scores' derivative agree. -/
theorem G_eq (i j : Fin 256) : G A h r i j = kds A h r i j := by
  have hd := (den_pos A h r i).ne'
  have hsum : (∑ j', dP A h r i j' * (1 / (den A h r i * den A h r i)) * pr A h r i j')
      = al A h (tok i r) 2 / den A h r i * dal A h (tok i r) 2 := by
    rw [dal_two, Finset.mul_sum]
    exact Finset.sum_congr rfl fun j' _ => by rw [dP_eq]; field_simp
  rw [G, hsum, dP_eq, dl_eq, kds, kp_eq]
  field_simp
  ring

theorem dS_eq (i j : Fin 256) : dS A h r i j = kds A h r i j * A.sc := by
  unfold dS
  split
  · rw [G_eq]
  · rename_i hb; simp [kds, kp, hb]

theorem dq_eq (i : Fin 256) (d : Fin 128) : dq A h r i d = kdq A h r i d := by
  simp only [dq, kdq, Finset.sum_mul]
  exact Finset.sum_congr rfl fun j _ => by rw [dS_eq]; ring
theorem dk_eq (j : Fin 256) (d : Fin 128) : dk A h r j d = kdk A h r j d :=
  Finset.sum_congr rfl fun i _ => by rw [dS_eq]; ring
theorem dv_eq (j : Fin 256) (d : Fin 128) : dv A h r j d = kdv A h r j d :=
  Finset.sum_congr rfl fun i _ => by rw [kp_eq, dO]; ring

end Cert.Attn
-- ==== Proof.Coe.lean ====
/- Small facts used on both sides: the ideal operations at real numbers, the constants' values, and the window's integer
   words. -/
module

public import proofs.«01_k».proof.Proof.Spec
public import Idealize.ShloMosaic.PureOps.Ideal.Laws
public import Idealize.ShloMosaic.Lib.IdealHost
public import Idealize.ShloMosaic.Lib.Affine

@[expose] public section

noncomputable section

namespace Cert.Attn

open Idealize.ShloMosaic
open scoped BigOperators

/-- A sum of reals, taken in the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_sum_of {ι : Type} [Fintype ι] {F : ι → EReal} {f : ι → ℝ} (e : ∀ k, F k = ((f k : ℝ) : EReal)) :
    (∑ k, F k) = ((∑ k, f k : ℝ) : EReal) := by
  rw [← coe_sum]; exact Finset.sum_congr rfl fun k _ => e k

/-- A quotient of reals by a nonzero real. -/
theorem coe_div {x y : ℝ} (hy : y ≠ 0) : Ideal.div (x : EReal) (y : EReal) = ((x / y : ℝ) : EReal) := by
  rw [Ideal.div_coe hy, ← EReal.coe_mul]; congr 1; ring

theorem coe_log {x : ℝ} (hx : 0 < x) : Ideal.log (x : EReal) = ((Real.log x : ℝ) : EReal) := by
  rw [Ideal.log_coe, if_neg (not_le.mpr hx)]

theorem coe_max (x y : ℝ) : max (x : EReal) (y : EReal) = ((max x y : ℝ) : EReal) :=
  (EReal.coe_strictMono.monotone.map_max (a := x) (b := y)).symm

theorem word_neg_eight : Ideal.ofBits .f32 0xC1000000#32 = ((-8 : ℝ) : EReal) := by
  simp [Ideal.ofBits, Ideal.ieee, -EReal.coe_mul, -EReal.coe_neg]; norm_num
theorem word_two : Ideal.ofBits .f32 0x40000000#32 = ((2 : ℝ) : EReal) := by
  simp [Ideal.ofBits, Ideal.ieee, -EReal.coe_mul, -EReal.coe_neg]; norm_num
theorem word_twelve : Ideal.ofBits .f32 0x41400000#32 = ((12 : ℝ) : EReal) := by
  simp [Ideal.ofBits, Ideal.ieee, -EReal.coe_mul, -EReal.coe_neg]; norm_num
theorem word_sixteen : Ideal.ofBits .f32 0x41800000#32 = ((16 : ℝ) : EReal) := by
  simp [Ideal.ofBits, Ideal.ieee, -EReal.coe_mul, -EReal.coe_neg]; norm_num
theorem word_one : Ideal.ofBits .f32 0x3F800000#32 = ((1 : ℝ) : EReal) := by
  simp [Ideal.ofBits, Ideal.ieee, -EReal.coe_mul, -EReal.coe_neg]; norm_num
theorem word_bot : Ideal.ofBits .f32 0xFF800000#32 = (⊥ : EReal) := by
  simp [Ideal.ofBits, Ideal.ieee]
theorem word_top : Ideal.ofBits .f32 0x7F800000#32 = (⊤ : EReal) := by
  simp [Ideal.ofBits, Ideal.ieee]
/-- The score's scale. -/
theorem word_scale : ∃ s : ℝ, Ideal.ofBits .f32 0x3DB504F3#32 = ((s : ℝ) : EReal) := by
  simp [Ideal.ofBits, Ideal.ieee, -EReal.coe_mul]

/-- The window's distance word, -/
def relWord (i j : Fin 256) : BitVec 32 := IntOp.absi (IntOp.subi (BitVec.ofNat 32 j.val) (BitVec.ofNat 32 i.val))

theorem relWord_toInt (i j : Fin 256) : (relWord i j).toInt = |((j.val : ℤ) - (i.val : ℤ) : ℤ)| := by
  have hi := i.isLt
  have hj := j.isLt
  unfold relWord IntOp.absi IntOp.subi
  have hx : (BitVec.ofNat 32 j.val - BitVec.ofNat 32 i.val).toInt = (j.val : ℤ) - i.val := by
    rw [BitVec.toInt_sub, BitVec.toInt_ofNat', BitVec.toInt_ofNat']
    simp only [Int.bmod_def]
    omega
  rw [BitVec.msb_eq_toInt]
  by_cases hneg : (j.val : ℤ) - i.val < 0
  · rw [hx, if_pos (by simpa using hneg), BitVec.toInt_neg, hx, abs_of_neg hneg]
    simp only [Int.bmod_def]; omega
  · rw [hx, if_neg (by simpa using hneg), hx, abs_of_nonneg (by omega)]

/-- read as a number, -/
theorem relWord_real (i j : Fin 256) : (((relWord i j).toInt : ℝ) : EReal) = ((rel i j : ℝ) : EReal) := by
  rw [relWord_toInt]; rfl

/-- and the window's bit. -/
theorem band_word (i j : Fin 256) : IntOp.cmpi .sle (relWord i j) 64#32 = 1#1 ↔ Band i j := by
  rw [IntOp.cmpi_sle, relWord_toInt]; exact Iff.rfl

theorem select_band {α : Type} (i j : Fin 256) (a b : α) :
    Scalar.select (IntOp.cmpi .sle (relWord i j) 64#32) a b = if Band i j then a else b := by
  unfold Scalar.select
  exact if_congr (band_word i j) rfl rfl

end Cert.Attn
-- ==== Proof.HeadAt.lean ====
/- The body's arithmetic for one head, at finite operands: the weights, the scores' derivative and the three gradients, read
   at explicit indices. The body writes this arithmetic out four times, once a head; the later copies are the first one. -/
module

public import proofs.«01_k».proof.Proof.Coe
public import proofs.«01_k».proof.Proof.Body
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem Cert.Attn
open scoped BigOperators

/-! ## The slope of a head -/

theorem kappa_slope : κ "slope" = some (((-(2 / 3)) * (Real.log 2) : ℝ) : EReal) := rfl

/-- The exponential of the slope constant times a whole number, sixteen times: the coefficient of head `h`. -/
theorem coef_exp (h : Fin 4) : Real.exp ((-(2 / 3)) * Real.log 2 * ((9 + h.val : ℕ) : ℝ)) * 16 = coef h := by
  unfold coef
  rw [Real.rpow_def_of_pos (by norm_num)]
  congr 2; ring

theorem coef_at (h : Fin 4) (w : BitVec 32) (hw : w.toInt = ((9 + h.val : ℕ) : ℤ)) :
    (Ideal.exp ((Named.named (F := Ideal) κ "slope" (φ := .f32) 0xBEEC9820#32 : EReal) * (FloatOps.sitofp (F := Ideal) FTy.f32 w : EReal))
      * Ideal.ofBits .f32 0x41800000#32 : EReal) = ((coef h : ℝ) : EReal) := by
  rw [show (FloatOps.sitofp (F := Ideal) FTy.f32 w : EReal) = ((((9 + h.val : ℕ) : ℤ) : ℝ) : EReal) from
    congrArg (fun z : ℤ => ((z : ℝ) : EReal)) hw,
    show (Named.named (F := Ideal) κ "slope" (φ := .f32) 0xBEEC9820#32 : EReal) = (((-(2 / 3)) * (Real.log 2) : ℝ) : EReal) from rfl,
    word_sixteen, ← EReal.coe_mul, Ideal.exp_coe, ← EReal.coe_mul, ← coef_exp]
  norm_cast

variable (i : grid0.Coords)

theorem pay6_at : (k0_pay6 (F := Ideal) i (ix2 0 0) : EReal) = ((coef 0 : ℝ) : EReal) := by
  have h1 : (i 1).val = 0 := by have := (i 1).isLt; have e : grid0.bound 1 = 1 := rfl; omega
  pointwise [k0_pay6, k0_pay5]
  exact coef_at 0 _ (rfl)
theorem pay7_at : (k0_pay7 (F := Ideal) i (ix2 0 0) : EReal) = ((coef 1 : ℝ) : EReal) := by
  have h1 : (i 1).val = 0 := by have := (i 1).isLt; have e : grid0.bound 1 = 1 := rfl; omega
  pointwise [k0_pay7, k0_pay5]
  exact coef_at 1 _ (rfl)
theorem pay8_at : (k0_pay8 (F := Ideal) i (ix2 0 0) : EReal) = ((coef 2 : ℝ) : EReal) := by
  have h1 : (i 1).val = 0 := by have := (i 1).isLt; have e : grid0.bound 1 = 1 := rfl; omega
  pointwise [k0_pay8, k0_pay5]
  exact coef_at 2 _ (rfl)
theorem pay9_at : (k0_pay9 (F := Ideal) i (ix2 0 0) : EReal) = ((coef 3 : ℝ) : EReal) := by
  have h1 : (i 1).val = 0 := by have := (i 1).isLt; have e : grid0.bound 1 = 1 := rfl; omega
  pointwise [k0_pay9, k0_pay5]
  exact coef_at 3 _ (rfl)

/-! ## One head -/

section generic
variable {F : FTy → Type} [FloatOps F] [Named F]

/-- The weights, -/
def wts (cf : FVec F S1x1 .f32) (q k : Vec F S1x256x128 .bf16) (lj : Vec F S256x128 .f32) : FVec F S256x256 .f32 :=
  k0_pay44 k0_pay16 (k0_pay17 cf q k) lj
/-- rounded, -/
def wts16 (cf : FVec F S1x1 .f32) (q k : Vec F S1x256x128 .bf16) (lj : Vec F S256x128 .f32) : FVec F S256x256 .bf16 :=
  k0_pay46 k0_pay16 (k0_pay17 cf q k) lj
/-- the scores' derivative, -/
def dsc (cf : FVec F S1x1 .f32) (q k v : Vec F S1x256x128 .bf16) (dy y : Vec F S256x128 .bf16) (lj : Vec F S256x128 .f32) :
    FVec F S256x256 .bf16 :=
  k0_pay45 k0_pay16 (k0_pay17 cf q k) (k0_pay36 dy) (k0_pay40 (k0_pay14 v) dy) y lj
/-- the queries' gradient, -/
def gq (cf : FVec F S1x1 .f32) (q k v : Vec F S1x256x128 .bf16) (dy y : Vec F S256x128 .bf16) (lj : Vec F S256x128 .f32) :
    FVec F S1x256x128 .bf16 :=
  k0_pay57 (k0_pay13 k) (dsc cf q k v dy y lj)
/-- the keys' added to what is there, -/
def gk (cf : FVec F S1x1 .f32) (q k v : Vec F S1x256x128 .bf16) (dy y : Vec F S256x128 .bf16) (lj acc : Vec F S256x128 .f32) :
    FVec F S256x128 .f32 :=
  k0_pay59 acc (k0_pay58 (k0_pay12 q) (dsc cf q k v dy y lj)) (Scalar.ofBits .f32 0x3DB504F3#32)
/-- and the values'. -/
def gv (cf : FVec F S1x1 .f32) (q k : Vec F S1x256x128 .bf16) (dy : Vec F S256x128 .bf16) (lj acc : Vec F S256x128 .f32) :
    FVec F S256x128 .f32 :=
  k0_pay60 (k0_pay36 dy) (wts16 cf q k lj) acc

end generic

/-- One head's operands hold the real numbers of `A`. -/
structure HeadHolds (A : Args) (h : Fin 4) (r : Fin 16) (cf : FVec Ideal S1x1 .f32) (q k v : Vec Ideal S1x256x128 .bf16)
    (dy y : Vec Ideal S256x128 .bf16) (lj : Vec Ideal S256x128 .f32) : Prop where
  cf : (cf (ix2 0 0) : EReal) = ((coef h : ℝ) : EReal)
  q : ∀ i d, (q (ix3 0 i d) : EReal) = ((A.q (tok i r) h d : ℝ) : EReal)
  k : ∀ i d, (k (ix3 0 i d) : EReal) = ((A.k (tok i r) h d : ℝ) : EReal)
  v : ∀ i d, (v (ix3 0 i d) : EReal) = ((A.v (tok i r) h d : ℝ) : EReal)
  dy : ∀ i d, (dy (ix2 i d) : EReal) = ((A.dy (tok i r) h d : ℝ) : EReal)
  y : ∀ i d, (y (ix2 i d) : EReal) = ((mixed A h (tok i r) d : ℝ) : EReal)
  lj : ∀ i d, (lj (ix2 i d) : EReal) = ((Cert.Attn.lj A h (tok i r) : ℝ) : EReal)
  sc : Ideal.ofBits .f32 0x3DB504F3#32 = ((A.sc : ℝ) : EReal)

section values
variable {A : Args} {h : Fin 4} {r : Fin 16} {cf : FVec Ideal S1x1 .f32} {q k v : Vec Ideal S1x256x128 .bf16}
  {dy y : Vec Ideal S256x128 .bf16} {lj acc : Vec Ideal S256x128 .f32}
variable (H : HeadHolds A h r cf q k v dy y lj) (a b : Fin 256) (d : Fin 128)

/-- The distance word with the two blocks' offsets, both zero. -/
theorem relWord_of {w w' : BitVec 32} (e : w = 0#32) (e' : w' = 0#32) :
    IntOp.absi (IntOp.subi (IntOp.addi w (BitVec.ofNat 32 b.val)) (IntOp.addi w' (BitVec.ofNat 32 a.val))) = relWord a b := by
  rw [e, e', show ∀ x : BitVec 32, IntOp.addi 0#32 x = x from BitVec.zero_add, show ∀ x : BitVec 32, IntOp.addi 0#32 x = x from BitVec.zero_add]
  rfl

theorem dist_at : k0_pay15 (ix2 a b) = relWord a b := by
  pointwise [k0_pay15]
  exact relWord_of a b rfl rfl

theorem mask_at : k0_pay16 (ix2 a b) = IntOp.cmpi .sle (relWord a b) 64#32 := by
  rw [← dist_at]; rfl

include H

theorem score_at (hb : Band a b) : (k0_pay17 cf q k (ix2 a b) : EReal) = ((score A h r a b : ℝ) : EReal) := by
  have e : (∑ d, q (ix3 0 a d) * k (ix3 0 b d) : EReal) = ((qk A h r a b : ℝ) : EReal) :=
    coe_sum_of fun d => by rw [H.q, H.k, ← EReal.coe_mul]
  have es : ∀ s t : EReal, Scalar.select (k0_pay16 (ix2 a b)) s t = s := fun s t => by
    rw [mask_at]; exact (select_band a b s t).trans (if_pos hb)
  pointwise [k0_pay17, k0_pay12, k0_pay13]
  rw [dist_at]
  refine (es _ _).trans ?_
  rw [e, H.sc, H.cf]
  refine (congrArg₂ (· - ·) (EReal.coe_mul _ _).symm (congrArg₂ (· * ·) rfl (relWord_real a b))).trans ?_
  rw [← EReal.coe_mul, ← EReal.coe_sub, score]
  congr 1; ring

theorem wts_at : (wts cf q k lj (ix2 a b) : EReal) = ((kp A h r a b : ℝ) : EReal) := by
  have es : ∀ s t : EReal, Scalar.select (k0_pay16 (ix2 a b)) s t = if Band a b then s else t := fun s t => by
    rw [mask_at]; exact select_band a b s t
  pointwise [wts, k0_pay44]
  refine (es _ _).trans ?_
  rw [kp]
  split
  · rename_i hb
    rw [score_at H a b hb]
    split
    · rw [H.lj, ← EReal.coe_sub, Ideal.exp_coe]
    · rw [H.lj, ← EReal.coe_sub, Ideal.exp_coe]
  · rfl

theorem dsc_at : (dsc cf q k v dy y lj (ix2 a b) : EReal) = ((kds A h r a b : ℝ) : EReal) := by
  have e : (k0_pay44 k0_pay16 (k0_pay17 cf q k) lj (ix2 a b) : EReal) = ((kp A h r a b : ℝ) : EReal) := wts_at H a b
  have e1 : (∑ d, dy (ix2 a d) * v (ix3 0 b d) : EReal) = ((kdp A h r a b : ℝ) : EReal) :=
    coe_sum_of fun d => by rw [H.dy, H.v, ← EReal.coe_mul]
  have e2 : (∑ d, dy (ix2 a d) * y (ix2 a d) : EReal) = ((kdelta A h r a : ℝ) : EReal) :=
    coe_sum_of fun d => by rw [H.dy, H.y, ← EReal.coe_mul]
  pointwise [dsc, k0_pay45, k0_pay36, k0_pay40, k0_pay14]
  rw [e, e1, e2, ← EReal.coe_sub, ← EReal.coe_mul]; rfl

theorem gq_at : (gq cf q k v dy y lj (ix3 0 a d) : EReal) = ((kdq A h r a d : ℝ) : EReal) := by
  have e : (∑ b, dsc cf q k v dy y lj (ix2 a b) * k (ix3 0 b d) : EReal) = ((∑ b, kds A h r a b * A.k (tok b r) h d : ℝ) : EReal) :=
    coe_sum_of fun b => by rw [dsc_at H, H.k, ← EReal.coe_mul]
  pointwise [gq, k0_pay57, k0_pay13]
  rw [e, H.sc, ← EReal.coe_mul]; rfl

theorem gk_at (ea : (acc (ix2 b d) : EReal) = 0) : (gk cf q k v dy y lj acc (ix2 b d) : EReal) = ((kdk A h r b d : ℝ) : EReal) := by
  have e : (∑ a, dsc cf q k v dy y lj (ix2 a b) * q (ix3 0 a d) : EReal) = ((∑ a, kds A h r a b * A.q (tok a r) h d : ℝ) : EReal) :=
    coe_sum_of fun a => by rw [dsc_at H, H.q, ← EReal.coe_mul]
  pointwise [gk, k0_pay59, k0_pay58, k0_pay12]
  rw [e, H.sc, ea, zero_add, ← EReal.coe_mul, kdk, Finset.sum_mul]

theorem gv_at (ea : (acc (ix2 b d) : EReal) = 0) : (gv cf q k dy lj acc (ix2 b d) : EReal) = ((kdv A h r b d : ℝ) : EReal) := by
  have e : (∑ a, wts16 cf q k lj (ix2 a b) * dy (ix2 a d) : EReal) = ((kdv A h r b d : ℝ) : EReal) :=
    coe_sum_of fun a => by rw [show (wts16 cf q k lj (ix2 a b) : EReal) = _ from wts_at H a b, H.dy, ← EReal.coe_mul]
  pointwise [gv, k0_pay60, k0_pay36]
  rw [e, ea, zero_add]

end values

/-! ## The later heads' texts -/

section copies
variable {F : FTy → Type} [FloatOps F] [Named F]
variable (cf : FVec F S1x1 .f32) (q k v : Vec F S1x256x128 .bf16) (dy y : Vec F S256x128 .bf16) (lj acc : Vec F S256x128 .f32)

theorem mask1 : k0_pay22 0#32 256#32 = k0_pay16 := rfl
theorem mask2 : k0_pay28 0#32 4294967232#32 = k0_pay16 := rfl
theorem mask3 : k0_pay34 0#32 0#32 = k0_pay16 := rfl
theorem masked1 : k0_pay23 cf 0#32 256#32 q k = k0_pay17 cf q k := rfl
theorem masked2 : k0_pay29 cf 0#32 4294967232#32 q k = k0_pay17 cf q k := rfl
theorem masked3 : k0_pay35 cf 0#32 0#32 q k = k0_pay17 cf q k := rfl

theorem dsc1 : k0_pay48 (k0_pay22 0#32 256#32) (k0_pay23 cf 0#32 256#32 q k) (k0_pay37 dy) (k0_pay41 (k0_pay20 v) dy) y lj
    = dsc cf q k v dy y lj := by rw [mask1, masked1]; rfl
theorem wts1 : k0_pay49 (k0_pay22 0#32 256#32) (k0_pay23 cf 0#32 256#32 q k) lj = wts16 cf q k lj := by rw [mask1, masked1]; rfl
theorem gq1 : k0_pay61 (k0_pay19 k) (dsc cf q k v dy y lj) = gq cf q k v dy y lj := rfl
theorem gk1 : k0_pay62 (k0_pay18 q) (dsc cf q k v dy y lj) acc = gk cf q k v dy y lj acc := rfl
theorem gv1 : k0_pay63 (k0_pay37 dy) (wts16 cf q k lj) acc = gv cf q k dy lj acc := rfl
theorem dsc2 : k0_pay52 (k0_pay28 0#32 4294967232#32) (k0_pay29 cf 0#32 4294967232#32 q k) (k0_pay42 (k0_pay26 v) dy) (k0_pay50 (k0_pay38 dy) y) lj
    = dsc cf q k v dy y lj := by rw [mask2, masked2]; rfl
theorem wts2 : k0_pay53 (k0_pay28 0#32 4294967232#32) (k0_pay29 cf 0#32 4294967232#32 q k) lj = wts16 cf q k lj := by rw [mask2, masked2]; rfl
theorem gq2 : k0_pay64 (k0_pay25 k) (dsc cf q k v dy y lj) = gq cf q k v dy y lj := rfl
theorem gk2 : k0_pay65 (k0_pay24 q) (dsc cf q k v dy y lj) acc = gk cf q k v dy y lj acc := rfl
theorem gv2 : k0_pay66 (k0_pay38 dy) (wts16 cf q k lj) acc = gv cf q k dy lj acc := rfl
theorem dsc3 : k0_pay55 (k0_pay34 0#32 0#32) (k0_pay35 cf 0#32 0#32 q k) (k0_pay39 dy) (k0_pay43 (k0_pay32 v) (k0_pay39 dy) (constant S256x256 .f32 0x00000000#32)) y lj
    = dsc cf q k v dy y lj := by rw [mask3, masked3]; rfl
theorem wts3 : k0_pay56 (k0_pay34 0#32 0#32) (k0_pay35 cf 0#32 0#32 q k) lj = wts16 cf q k lj := by rw [mask3, masked3]; rfl
theorem gq3 : k0_pay67 (k0_pay31 k) (dsc cf q k v dy y lj) = gq cf q k v dy y lj := rfl
theorem gk3 : k0_pay1 acc (k0_pay68 (k0_pay30 q) (dsc cf q k v dy y lj)) (Scalar.ofBits .f32 0x3DB504F3#32) = gk cf q k v dy y lj acc := rfl
theorem gv3 : k0_pay2 (k0_pay39 dy) (wts16 cf q k lj) acc = gv cf q k dy lj acc := rfl

end copies

end Cert.KernelIdeal.Hand
-- ==== Proof.BodyAt.lean ====
/- What the body leaves in the result's buffer, at finite blocks: plane 0 is the queries' gradient, stored a head at a time;
   planes 1 and 2 are the keys' and the values', each summed into a cleared scratch buffer and stored whole. -/
module

public import proofs.«01_k».proof.Proof.HeadAt
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.SL.Sem Cert.Attn
open scoped BigOperators

/-! ## Loads and stores of one head's lanes -/

section lanes
variable {F : FTy → Type} [FloatOps F] [Named F]

/-- A head's load of a three-plane buffer, read at an index. -/
theorem load3_at {a : Memref sig .tc .vmem S3x256x512 .bf16} (h : a.IsWhole) (X : Vec F S3x256x512 .bf16) {off : Fin 3 → ℕ} {p l : ℕ}
    (e : off = ![p, 0, l]) (hp : p < 3) (hl : l + 128 ≤ 512) (inb) (i : Fin 256) (d : Fin 128) :
    View.readAt (Elt F) a.view (Rect.unit (s := S3x256x512) off S1x256x128.size inb).toLoadRect (h.unread X) (ix3 0 i d)
      = X (ix3 ⟨p, hp⟩ i ⟨l + d.val, by omega⟩) := by
  subst e
  refine (h.readAt_unread X _ _).trans (congrArg X (funext fun b => ?_))
  apply Fin.ext
  match b with
  | ⟨0, _⟩ => show p + 1 * 0 = p; omega
  | ⟨1, _⟩ => show 0 + 1 * i.val = i.val; omega
  | ⟨2, _⟩ => show l + 1 * d.val = l + d.val; omega

theorem unit2_idx {off : Fin 2 → ℕ} {l : ℕ} (e : off = ![0, l]) (hl : l + 128 ≤ 512) (inb) (i : Fin 256) (d : Fin 128) :
    (Rect.unit (s := S256x512) off S256x128.size inb).emb (ix2 i d) = ix2 i ⟨l + d.val, by omega⟩ := by
  subst e
  funext b
  apply Fin.ext
  match b with
  | ⟨0, _⟩ => show 0 + 1 * i.val = i.val; omega
  | ⟨1, _⟩ => show l + 1 * d.val = l + d.val; omega

/-- A head's load of a plane. -/
theorem load2_at {t : EltTy} {a : Memref sig .tc .vmem S256x512 t} (h : a.IsWhole) (X : Vec F S256x512 t) {off : Fin 2 → ℕ} {l : ℕ}
    (e : off = ![0, l]) (hl : l + 128 ≤ 512) (inb) (i : Fin 256) (d : Fin 128) :
    View.readAt (Elt F) a.view (Rect.unit (s := S256x512) off S256x128.size inb).toLoadRect (h.unread X) (ix2 i d)
      = X (ix2 i ⟨l + d.val, by omega⟩) :=
  (h.readAt_unread X _ _).trans (congrArg X (unit2_idx e hl inb i d))

/-- Reading under the last store of a head's lanes, -/
theorem lanes_hit {off : Fin 2 → ℕ} {l : ℕ} (e : off = ![0, l]) (hl : l + 128 ≤ 512) (inb) (w : Vec F S256x128 .f32)
    (L : List (View.Piece (Elt F) S256x512 .f32)) (i : Fin 256) (d : Fin 128) :
    View.canon ((⟨Rect.unit (s := S256x512) off S256x128.size inb, w⟩ : View.Piece (Elt F) S256x512 .f32) :: L) (ix2 i ⟨l + d.val, by omega⟩) = w (ix2 i d) := by
  rw [← unit2_idx e hl inb i d]
  exact View.canon_cons_emb (Rect.unit (s := S256x512) _ S256x128.size inb) w L _

/-- and off it. -/
theorem lanes_skip {off : Fin 2 → ℕ} {l : ℕ} (e : off = ![0, l]) (inb) (w : Vec F S256x128 .f32)
    (L : List (View.Piece (Elt F) S256x512 .f32)) (i : Fin 256) (c : Fin 512) (hc : c.val < l ∨ l + 128 ≤ c.val) :
    View.canon ((⟨Rect.unit (s := S256x512) off S256x128.size inb, w⟩ : View.Piece (Elt F) S256x512 .f32) :: L) (ix2 i c) = View.canon L (ix2 i c) := by
  subst e
  refine View.canon_cons_of_not_mem _ _ fun hm => ?_
  have h1 := ((Rect.mem_set_unit (inb := inb)).mp hm) 1
  have h2 : l ≤ c.val ∧ c.val < l + 128 := h1
  omega

/-- A head's load of stores made before. -/
theorem loadCov_at {a : Memref sig .tc .vmem S256x512 .f32} {off : Fin 2 → ℕ} {l : ℕ} (e : off = ![0, l]) (hl : l + 128 ≤ 512) (inb)
    (L : List (View.Piece (Elt F) S256x512 .f32)) (i : Fin 256) (d : Fin 128) :
    a.view.readCov L (Rect.unit (s := S256x512) off S256x128.size inb).toLoadRect (ix2 i d) = View.canon L (ix2 i ⟨l + d.val, by omega⟩) := by
  rw [View.readCov_eq_canon']
  exact congrArg (View.canon L) (unit2_idx e hl inb i d)

/-- Clearing the buffer. -/
theorem cleared (inb) (w : Vec F S256x512 .f32) :
    View.canon [(⟨Rect.unit (s := S256x512) ![0, 0] S256x512.size inb, w⟩ : View.Piece (Elt F) S256x512 .f32)] = w :=
  View.canon_cons_unit_zero (funext fun a => by fin_cases a <;> rfl) inb w []

/-- Loading the whole buffer. -/
theorem loadWhole_at {a : Memref sig .tc .vmem S256x512 .f32} (inb) (L : List (View.Piece (Elt F) S256x512 .f32)) :
    a.view.readCov L (Rect.unit (s := S256x512) ![0, 0] S256x512.size inb).toLoadRect = View.canon L := by
  rw [View.readCov_eq_canon']
  exact View.ld_unit_zero (funext fun a => by fin_cases a <;> rfl) inb (View.canon L)

/-- Plane `p` of the result, stored whole: under it -/
theorem plane_hit {p : ℕ} (hp : p < 3) (inb) (w : Vec F S1x256x512 .bf16) (L : List (View.Piece (Elt F) S3x256x512 .bf16))
    (i : Fin 256) (c : Fin 512) :
    View.canon ((⟨Rect.unit (s := S3x256x512) ![p, 0, 0] S1x256x512.size inb, w⟩ : View.Piece (Elt F) S3x256x512 .bf16) :: L) (ix3 ⟨p, hp⟩ i c) = w (ix3 0 i c) := by
  have e : (Rect.unit (s := S3x256x512) ![p, 0, 0] S1x256x512.size inb).emb (ix3 0 i c) = ix3 ⟨p, hp⟩ i c := by
    funext b
    apply Fin.ext
    match b with
    | ⟨0, _⟩ => show p + 1 * 0 = p; omega
    | ⟨1, _⟩ => show 0 + 1 * i.val = i.val; omega
    | ⟨2, _⟩ => show 0 + 1 * c.val = c.val; omega
  rw [← e]
  exact View.canon_cons_emb (Rect.unit (s := S3x256x512) ![p, 0, 0] S1x256x512.size inb) w L _

/-- and off it. -/
theorem plane_skip {p : ℕ} (inb) (w : Vec F S1x256x512 .bf16) (L : List (View.Piece (Elt F) S3x256x512 .bf16))
    (a : Fin 3) (i : Fin 256) (c : Fin 512) (ha : a.val ≠ p) :
    View.canon ((⟨Rect.unit (s := S3x256x512) ![p, 0, 0] S1x256x512.size inb, w⟩ : View.Piece (Elt F) S3x256x512 .bf16) :: L) (ix3 a i c) = View.canon L (ix3 a i c) := by
  refine View.canon_cons_of_not_mem _ _ fun hm => ?_
  have h1 := ((Rect.mem_set_unit (inb := inb)).mp hm) 0
  have h2 : p ≤ a.val ∧ a.val < p + 1 := h1
  omega

/-- A head's lanes of plane 0: under the store -/
theorem head_hit {off : Fin 3 → ℕ} {l : ℕ} (e : off = ![0, 0, l]) (hl : l + 128 ≤ 512) (inb) (w : Vec F S1x256x128 .bf16)
    (L : List (View.Piece (Elt F) S3x256x512 .bf16)) (i : Fin 256) (d : Fin 128) :
    View.canon ((⟨Rect.unit (s := S3x256x512) off S1x256x128.size inb, w⟩ : View.Piece (Elt F) S3x256x512 .bf16) :: L) (ix3 0 i ⟨l + d.val, by omega⟩) = w (ix3 0 i d) := by
  subst e
  have e : (Rect.unit (s := S3x256x512) ![0, 0, l] S1x256x128.size inb).emb (ix3 0 i d) = ix3 0 i ⟨l + d.val, by omega⟩ := by
    funext b
    apply Fin.ext
    match b with
    | ⟨0, _⟩ => show 0 + 1 * 0 = 0; omega
    | ⟨1, _⟩ => show 0 + 1 * i.val = i.val; omega
    | ⟨2, _⟩ => show l + 1 * d.val = l + d.val; omega
  rw [← e]
  exact View.canon_cons_emb (Rect.unit (s := S3x256x512) ![0, 0, l] S1x256x128.size inb) w L _

/-- and off it. -/
theorem head_skip {off : Fin 3 → ℕ} {l : ℕ} (e : off = ![0, 0, l]) (inb) (w : Vec F S1x256x128 .bf16)
    (L : List (View.Piece (Elt F) S3x256x512 .bf16)) (a : Fin 3) (i : Fin 256) (c : Fin 512) (hc : c.val < l ∨ l + 128 ≤ c.val) :
    View.canon ((⟨Rect.unit (s := S3x256x512) off S1x256x128.size inb, w⟩ : View.Piece (Elt F) S3x256x512 .bf16) :: L) (ix3 a i c) = View.canon L (ix3 a i c) := by
  subst e
  refine View.canon_cons_of_not_mem _ _ fun hm => ?_
  have h1 := ((Rect.mem_set_unit (inb := inb)).mp hm) 2
  have h2 : l ≤ c.val ∧ c.val < l + 128 := h1
  omega

end lanes

/-! ## The pieces -/

section pieces
variable {F : FTy → Type} [FloatOps F] [Named F]
variable (i : grid0.Coords)
    (a2 : Memref sig .tc .vmem S3x256x512 .bf16) (h2 : a2.IsWhole) (a3 : Memref sig .tc .vmem S256x512 .bf16) (h3 : a3.IsWhole)
    (a4 : Memref sig .tc .vmem S256x512 .bf16) (h4 : a4.IsWhole) (a5 : Memref sig .tc .vmem S256x512 .f32) (h5 : a5.IsWhole)
    (a7 a8 : Memref sig .tc .vmem S256x512 .f32)
    (x0 : Vec F S3x256x512 .bf16) (x1 x2 : Vec F S256x512 .bf16) (x3 : Vec F S256x512 .f32)

/-- Head 0: the queries' gradient, the keys' and the values' added to what is there. -/
def gq_0 : Vec F S1x256x128 .bf16 :=
  gq (k0_pay6 i) (View.readAt (Elt F) a2.view (Rect.unit (s := S3x256x512) k0_off1 S1x256x128.size k0_off1_inb).toLoadRect (h2.unread x0))
    (View.readAt (Elt F) a2.view (Rect.unit (s := S3x256x512) k0_off2 S1x256x128.size k0_off2_inb).toLoadRect (h2.unread x0))
    (View.readAt (Elt F) a2.view (Rect.unit (s := S3x256x512) k0_off3 S1x256x128.size k0_off3_inb).toLoadRect (h2.unread x0))
    (View.readAt (Elt F) a3.view (Rect.unit (s := S256x512) k0_off13 S256x128.size k0_off13_inb).toLoadRect (h3.unread x1)) (View.readAt (Elt F) a4.view (Rect.unit (s := S256x512) k0_off13 S256x128.size k0_off13_inb).toLoadRect (h4.unread x2))
    (View.readAt (Elt F) a5.view (Rect.unit (s := S256x512) k0_off13 S256x128.size k0_off13_inb).toLoadRect (h5.unread x3))
def gk_0 (acc : Vec F S256x128 .f32) : Vec F S256x128 .f32 :=
  gk (k0_pay6 i) (View.readAt (Elt F) a2.view (Rect.unit (s := S3x256x512) k0_off1 S1x256x128.size k0_off1_inb).toLoadRect (h2.unread x0))
    (View.readAt (Elt F) a2.view (Rect.unit (s := S3x256x512) k0_off2 S1x256x128.size k0_off2_inb).toLoadRect (h2.unread x0))
    (View.readAt (Elt F) a2.view (Rect.unit (s := S3x256x512) k0_off3 S1x256x128.size k0_off3_inb).toLoadRect (h2.unread x0))
    (View.readAt (Elt F) a3.view (Rect.unit (s := S256x512) k0_off13 S256x128.size k0_off13_inb).toLoadRect (h3.unread x1)) (View.readAt (Elt F) a4.view (Rect.unit (s := S256x512) k0_off13 S256x128.size k0_off13_inb).toLoadRect (h4.unread x2))
    (View.readAt (Elt F) a5.view (Rect.unit (s := S256x512) k0_off13 S256x128.size k0_off13_inb).toLoadRect (h5.unread x3)) acc
def gv_0 (acc : Vec F S256x128 .f32) : Vec F S256x128 .f32 :=
  gv (k0_pay6 i) (View.readAt (Elt F) a2.view (Rect.unit (s := S3x256x512) k0_off1 S1x256x128.size k0_off1_inb).toLoadRect (h2.unread x0))
    (View.readAt (Elt F) a2.view (Rect.unit (s := S3x256x512) k0_off2 S1x256x128.size k0_off2_inb).toLoadRect (h2.unread x0))
    (View.readAt (Elt F) a3.view (Rect.unit (s := S256x512) k0_off13 S256x128.size k0_off13_inb).toLoadRect (h3.unread x1))
    (View.readAt (Elt F) a5.view (Rect.unit (s := S256x512) k0_off13 S256x128.size k0_off13_inb).toLoadRect (h5.unread x3)) acc

/-- Head 1: the queries' gradient, the keys' and the values' added to what is there. -/
def gq_1 : Vec F S1x256x128 .bf16 :=
  gq (k0_pay7 i) (View.readAt (Elt F) a2.view (Rect.unit (s := S3x256x512) k0_off4 S1x256x128.size k0_off4_inb).toLoadRect (h2.unread x0))
    (View.readAt (Elt F) a2.view (Rect.unit (s := S3x256x512) k0_off5 S1x256x128.size k0_off5_inb).toLoadRect (h2.unread x0))
    (View.readAt (Elt F) a2.view (Rect.unit (s := S3x256x512) k0_off6 S1x256x128.size k0_off6_inb).toLoadRect (h2.unread x0))
    (View.readAt (Elt F) a3.view (Rect.unit (s := S256x512) k0_off14 S256x128.size k0_off14_inb).toLoadRect (h3.unread x1)) (View.readAt (Elt F) a4.view (Rect.unit (s := S256x512) k0_off14 S256x128.size k0_off14_inb).toLoadRect (h4.unread x2))
    (View.readAt (Elt F) a5.view (Rect.unit (s := S256x512) k0_off14 S256x128.size k0_off14_inb).toLoadRect (h5.unread x3))
def gk_1 (acc : Vec F S256x128 .f32) : Vec F S256x128 .f32 :=
  gk (k0_pay7 i) (View.readAt (Elt F) a2.view (Rect.unit (s := S3x256x512) k0_off4 S1x256x128.size k0_off4_inb).toLoadRect (h2.unread x0))
    (View.readAt (Elt F) a2.view (Rect.unit (s := S3x256x512) k0_off5 S1x256x128.size k0_off5_inb).toLoadRect (h2.unread x0))
    (View.readAt (Elt F) a2.view (Rect.unit (s := S3x256x512) k0_off6 S1x256x128.size k0_off6_inb).toLoadRect (h2.unread x0))
    (View.readAt (Elt F) a3.view (Rect.unit (s := S256x512) k0_off14 S256x128.size k0_off14_inb).toLoadRect (h3.unread x1)) (View.readAt (Elt F) a4.view (Rect.unit (s := S256x512) k0_off14 S256x128.size k0_off14_inb).toLoadRect (h4.unread x2))
    (View.readAt (Elt F) a5.view (Rect.unit (s := S256x512) k0_off14 S256x128.size k0_off14_inb).toLoadRect (h5.unread x3)) acc
def gv_1 (acc : Vec F S256x128 .f32) : Vec F S256x128 .f32 :=
  gv (k0_pay7 i) (View.readAt (Elt F) a2.view (Rect.unit (s := S3x256x512) k0_off4 S1x256x128.size k0_off4_inb).toLoadRect (h2.unread x0))
    (View.readAt (Elt F) a2.view (Rect.unit (s := S3x256x512) k0_off5 S1x256x128.size k0_off5_inb).toLoadRect (h2.unread x0))
    (View.readAt (Elt F) a3.view (Rect.unit (s := S256x512) k0_off14 S256x128.size k0_off14_inb).toLoadRect (h3.unread x1))
    (View.readAt (Elt F) a5.view (Rect.unit (s := S256x512) k0_off14 S256x128.size k0_off14_inb).toLoadRect (h5.unread x3)) acc

/-- Head 2: the queries' gradient, the keys' and the values' added to what is there. -/
def gq_2 : Vec F S1x256x128 .bf16 :=
  gq (k0_pay8 i) (View.readAt (Elt F) a2.view (Rect.unit (s := S3x256x512) k0_off7 S1x256x128.size k0_off7_inb).toLoadRect (h2.unread x0))
    (View.readAt (Elt F) a2.view (Rect.unit (s := S3x256x512) k0_off8 S1x256x128.size k0_off8_inb).toLoadRect (h2.unread x0))
    (View.readAt (Elt F) a2.view (Rect.unit (s := S3x256x512) k0_off9 S1x256x128.size k0_off9_inb).toLoadRect (h2.unread x0))
    (View.readAt (Elt F) a3.view (Rect.unit (s := S256x512) k0_off15 S256x128.size k0_off15_inb).toLoadRect (h3.unread x1)) (View.readAt (Elt F) a4.view (Rect.unit (s := S256x512) k0_off15 S256x128.size k0_off15_inb).toLoadRect (h4.unread x2))
    (View.readAt (Elt F) a5.view (Rect.unit (s := S256x512) k0_off15 S256x128.size k0_off15_inb).toLoadRect (h5.unread x3))
def gk_2 (acc : Vec F S256x128 .f32) : Vec F S256x128 .f32 :=
  gk (k0_pay8 i) (View.readAt (Elt F) a2.view (Rect.unit (s := S3x256x512) k0_off7 S1x256x128.size k0_off7_inb).toLoadRect (h2.unread x0))
    (View.readAt (Elt F) a2.view (Rect.unit (s := S3x256x512) k0_off8 S1x256x128.size k0_off8_inb).toLoadRect (h2.unread x0))
    (View.readAt (Elt F) a2.view (Rect.unit (s := S3x256x512) k0_off9 S1x256x128.size k0_off9_inb).toLoadRect (h2.unread x0))
    (View.readAt (Elt F) a3.view (Rect.unit (s := S256x512) k0_off15 S256x128.size k0_off15_inb).toLoadRect (h3.unread x1)) (View.readAt (Elt F) a4.view (Rect.unit (s := S256x512) k0_off15 S256x128.size k0_off15_inb).toLoadRect (h4.unread x2))
    (View.readAt (Elt F) a5.view (Rect.unit (s := S256x512) k0_off15 S256x128.size k0_off15_inb).toLoadRect (h5.unread x3)) acc
def gv_2 (acc : Vec F S256x128 .f32) : Vec F S256x128 .f32 :=
  gv (k0_pay8 i) (View.readAt (Elt F) a2.view (Rect.unit (s := S3x256x512) k0_off7 S1x256x128.size k0_off7_inb).toLoadRect (h2.unread x0))
    (View.readAt (Elt F) a2.view (Rect.unit (s := S3x256x512) k0_off8 S1x256x128.size k0_off8_inb).toLoadRect (h2.unread x0))
    (View.readAt (Elt F) a3.view (Rect.unit (s := S256x512) k0_off15 S256x128.size k0_off15_inb).toLoadRect (h3.unread x1))
    (View.readAt (Elt F) a5.view (Rect.unit (s := S256x512) k0_off15 S256x128.size k0_off15_inb).toLoadRect (h5.unread x3)) acc

/-- Head 3: the queries' gradient, the keys' and the values' added to what is there. -/
def gq_3 : Vec F S1x256x128 .bf16 :=
  gq (k0_pay9 i) (View.readAt (Elt F) a2.view (Rect.unit (s := S3x256x512) k0_off10 S1x256x128.size k0_off10_inb).toLoadRect (h2.unread x0))
    (View.readAt (Elt F) a2.view (Rect.unit (s := S3x256x512) k0_off11 S1x256x128.size k0_off11_inb).toLoadRect (h2.unread x0))
    (View.readAt (Elt F) a2.view (Rect.unit (s := S3x256x512) k0_off12 S1x256x128.size k0_off12_inb).toLoadRect (h2.unread x0))
    (View.readAt (Elt F) a3.view (Rect.unit (s := S256x512) k0_off16 S256x128.size k0_off16_inb).toLoadRect (h3.unread x1)) (View.readAt (Elt F) a4.view (Rect.unit (s := S256x512) k0_off16 S256x128.size k0_off16_inb).toLoadRect (h4.unread x2))
    (View.readAt (Elt F) a5.view (Rect.unit (s := S256x512) k0_off16 S256x128.size k0_off16_inb).toLoadRect (h5.unread x3))
def gk_3 (acc : Vec F S256x128 .f32) : Vec F S256x128 .f32 :=
  gk (k0_pay9 i) (View.readAt (Elt F) a2.view (Rect.unit (s := S3x256x512) k0_off10 S1x256x128.size k0_off10_inb).toLoadRect (h2.unread x0))
    (View.readAt (Elt F) a2.view (Rect.unit (s := S3x256x512) k0_off11 S1x256x128.size k0_off11_inb).toLoadRect (h2.unread x0))
    (View.readAt (Elt F) a2.view (Rect.unit (s := S3x256x512) k0_off12 S1x256x128.size k0_off12_inb).toLoadRect (h2.unread x0))
    (View.readAt (Elt F) a3.view (Rect.unit (s := S256x512) k0_off16 S256x128.size k0_off16_inb).toLoadRect (h3.unread x1)) (View.readAt (Elt F) a4.view (Rect.unit (s := S256x512) k0_off16 S256x128.size k0_off16_inb).toLoadRect (h4.unread x2))
    (View.readAt (Elt F) a5.view (Rect.unit (s := S256x512) k0_off16 S256x128.size k0_off16_inb).toLoadRect (h5.unread x3)) acc
def gv_3 (acc : Vec F S256x128 .f32) : Vec F S256x128 .f32 :=
  gv (k0_pay9 i) (View.readAt (Elt F) a2.view (Rect.unit (s := S3x256x512) k0_off10 S1x256x128.size k0_off10_inb).toLoadRect (h2.unread x0))
    (View.readAt (Elt F) a2.view (Rect.unit (s := S3x256x512) k0_off11 S1x256x128.size k0_off11_inb).toLoadRect (h2.unread x0))
    (View.readAt (Elt F) a3.view (Rect.unit (s := S256x512) k0_off16 S256x128.size k0_off16_inb).toLoadRect (h3.unread x1))
    (View.readAt (Elt F) a5.view (Rect.unit (s := S256x512) k0_off16 S256x128.size k0_off16_inb).toLoadRect (h5.unread x3)) acc

/-- The stores into the keys' scratch buffer, last first, -/
def ks0 : List (View.Piece (Elt F) S256x512 .f32) := [⟨Rect.unit (s := S256x512) ![0, 0] S256x512.size inb_S256x512_S256x512_0_0, k0_pay10⟩]
def ks1 : List (View.Piece (Elt F) S256x512 .f32) :=
  ⟨Rect.unit (s := S256x512) k0_off17 S256x128.size k0_off17_inb, gk_0 i a2 h2 a3 h3 a4 h4 a5 h5 x0 x1 x2 x3
    (a7.view.readCov ks0 (Rect.unit (s := S256x512) k0_off17 S256x128.size k0_off17_inb).toLoadRect)⟩ :: ks0
def ks2 : List (View.Piece (Elt F) S256x512 .f32) :=
  ⟨Rect.unit (s := S256x512) k0_off18 S256x128.size k0_off18_inb, gk_1 i a2 h2 a3 h3 a4 h4 a5 h5 x0 x1 x2 x3
    (a7.view.readCov (ks1 i a2 h2 a3 h3 a4 h4 a5 h5 a7 x0 x1 x2 x3) (Rect.unit (s := S256x512) k0_off18 S256x128.size k0_off18_inb).toLoadRect)⟩ :: (ks1 i a2 h2 a3 h3 a4 h4 a5 h5 a7 x0 x1 x2 x3)
def ks3 : List (View.Piece (Elt F) S256x512 .f32) :=
  ⟨Rect.unit (s := S256x512) k0_off19 S256x128.size k0_off19_inb, gk_2 i a2 h2 a3 h3 a4 h4 a5 h5 x0 x1 x2 x3
    (a7.view.readCov (ks2 i a2 h2 a3 h3 a4 h4 a5 h5 a7 x0 x1 x2 x3) (Rect.unit (s := S256x512) k0_off19 S256x128.size k0_off19_inb).toLoadRect)⟩ :: (ks2 i a2 h2 a3 h3 a4 h4 a5 h5 a7 x0 x1 x2 x3)
def ks4 : List (View.Piece (Elt F) S256x512 .f32) :=
  ⟨Rect.unit (s := S256x512) k0_off20 S256x128.size k0_off20_inb, gk_3 i a2 h2 a3 h3 a4 h4 a5 h5 x0 x1 x2 x3
    (a7.view.readCov (ks3 i a2 h2 a3 h3 a4 h4 a5 h5 a7 x0 x1 x2 x3) (Rect.unit (s := S256x512) k0_off20 S256x128.size k0_off20_inb).toLoadRect)⟩ :: (ks3 i a2 h2 a3 h3 a4 h4 a5 h5 a7 x0 x1 x2 x3)
/-- and into the values'. -/
def vs0 : List (View.Piece (Elt F) S256x512 .f32) := [⟨Rect.unit (s := S256x512) ![0, 0] S256x512.size inb_S256x512_S256x512_0_0, k0_pay11⟩]
def vs1 : List (View.Piece (Elt F) S256x512 .f32) :=
  ⟨Rect.unit (s := S256x512) k0_off17 S256x128.size k0_off17_inb, gv_0 i a2 h2 a3 h3 a5 h5 x0 x1 x3
    (a8.view.readCov vs0 (Rect.unit (s := S256x512) k0_off17 S256x128.size k0_off17_inb).toLoadRect)⟩ :: vs0
def vs2 : List (View.Piece (Elt F) S256x512 .f32) :=
  ⟨Rect.unit (s := S256x512) k0_off18 S256x128.size k0_off18_inb, gv_1 i a2 h2 a3 h3 a5 h5 x0 x1 x3
    (a8.view.readCov (vs1 i a2 h2 a3 h3 a5 h5 a8 x0 x1 x3) (Rect.unit (s := S256x512) k0_off18 S256x128.size k0_off18_inb).toLoadRect)⟩ :: (vs1 i a2 h2 a3 h3 a5 h5 a8 x0 x1 x3)
def vs3 : List (View.Piece (Elt F) S256x512 .f32) :=
  ⟨Rect.unit (s := S256x512) k0_off19 S256x128.size k0_off19_inb, gv_2 i a2 h2 a3 h3 a5 h5 x0 x1 x3
    (a8.view.readCov (vs2 i a2 h2 a3 h3 a5 h5 a8 x0 x1 x3) (Rect.unit (s := S256x512) k0_off19 S256x128.size k0_off19_inb).toLoadRect)⟩ :: (vs2 i a2 h2 a3 h3 a5 h5 a8 x0 x1 x3)
def vs4 : List (View.Piece (Elt F) S256x512 .f32) :=
  ⟨Rect.unit (s := S256x512) k0_off20 S256x128.size k0_off20_inb, gv_3 i a2 h2 a3 h3 a5 h5 x0 x1 x3
    (a8.view.readCov (vs3 i a2 h2 a3 h3 a5 h5 a8 x0 x1 x3) (Rect.unit (s := S256x512) k0_off20 S256x128.size k0_off20_inb).toLoadRect)⟩ :: (vs3 i a2 h2 a3 h3 a5 h5 a8 x0 x1 x3)

/-- The stores into the result, last first. -/
def stores : List (View.Piece (Elt F) S3x256x512 .bf16) :=
  [⟨Rect.unit (s := S3x256x512) ![2, 0, 0] S1x256x512.size inb_S3x256x512_S1x256x512_2_0_0,
      k0_pay4 (a8.view.readCov (vs4 i a2 h2 a3 h3 a5 h5 a8 x0 x1 x3) (Rect.unit (s := S256x512) ![0, 0] S256x512.size inb_S256x512_S256x512_0_0).toLoadRect)⟩,
    ⟨Rect.unit (s := S3x256x512) ![1, 0, 0] S1x256x512.size inb_S3x256x512_S1x256x512_1_0_0,
      k0_pay3 (a7.view.readCov (ks4 i a2 h2 a3 h3 a4 h4 a5 h5 a7 x0 x1 x2 x3) (Rect.unit (s := S256x512) ![0, 0] S256x512.size inb_S256x512_S256x512_0_0).toLoadRect)⟩,
    ⟨Rect.unit (s := S3x256x512) k0_off10 S1x256x128.size k0_off10_inb, gq_3 i a2 h2 a3 h3 a4 h4 a5 h5 x0 x1 x2 x3⟩,
    ⟨Rect.unit (s := S3x256x512) k0_off7 S1x256x128.size k0_off7_inb, gq_2 i a2 h2 a3 h3 a4 h4 a5 h5 x0 x1 x2 x3⟩,
    ⟨Rect.unit (s := S3x256x512) k0_off4 S1x256x128.size k0_off4_inb, gq_1 i a2 h2 a3 h3 a4 h4 a5 h5 x0 x1 x2 x3⟩,
    ⟨Rect.unit (s := S3x256x512) k0_off1 S1x256x128.size k0_off1_inb, gq_0 i a2 h2 a3 h3 a4 h4 a5 h5 x0 x1 x2 x3⟩]

/-- They are what the run stores. -/
theorem run_stores (c : Dev nD) (a6 : Memref sig .tc .vmem S3x256x512 .bf16) (h6 : a6.IsWhole) (h7 : a7.IsWhole) (h8 : a8.IsWhole) :
    (bodyRun c i a2 h2 a3 h3 a4 h4 a5 h5 a6 h6 a7 h7 a8 h8 x0 x1 x2 x3).1 = stores i a2 h2 a3 h3 a4 h4 a5 h5 a7 a8 x0 x1 x2 x3 := by
  rfl

end pieces

/-! ## Their values -/

/-- The four blocks of residue class `r` hold the real numbers of `A`: lane `h * 128 + d` is head `h`'s lane `d`. -/
structure BlockHolds (A : Args) (r : Fin 16) (x0 : Vec Ideal S3x256x512 .bf16) (x1 x2 : Vec Ideal S256x512 .bf16)
    (x3 : Vec Ideal S256x512 .f32) : Prop where
  q : ∀ i (c : Fin 512), (x0 (ix3 0 i c) : EReal) = ((A.q (tok i r) ⟨c.val / 128, by omega⟩ ⟨c.val % 128, by omega⟩ : ℝ) : EReal)
  k : ∀ i (c : Fin 512), (x0 (ix3 1 i c) : EReal) = ((A.k (tok i r) ⟨c.val / 128, by omega⟩ ⟨c.val % 128, by omega⟩ : ℝ) : EReal)
  v : ∀ i (c : Fin 512), (x0 (ix3 2 i c) : EReal) = ((A.v (tok i r) ⟨c.val / 128, by omega⟩ ⟨c.val % 128, by omega⟩ : ℝ) : EReal)
  dy : ∀ i (c : Fin 512), (x1 (ix2 i c) : EReal) = ((A.dy (tok i r) ⟨c.val / 128, by omega⟩ ⟨c.val % 128, by omega⟩ : ℝ) : EReal)
  y : ∀ i (c : Fin 512), (x2 (ix2 i c) : EReal) = ((mixed A ⟨c.val / 128, by omega⟩ (tok i r) ⟨c.val % 128, by omega⟩ : ℝ) : EReal)
  lj : ∀ i (c : Fin 512), (x3 (ix2 i c) : EReal) = ((Cert.Attn.lj A ⟨c.val / 128, by omega⟩ (tok i r) : ℝ) : EReal)
  sc : Ideal.ofBits .f32 0x3DB504F3#32 = ((A.sc : ℝ) : EReal)

section values
variable {A : Args} {r : Fin 16} {x0 : Vec Ideal S3x256x512 .bf16} {x1 x2 : Vec Ideal S256x512 .bf16} {x3 : Vec Ideal S256x512 .f32}
variable (H : BlockHolds A r x0 x1 x2 x3)
    (a2 : Memref sig .tc .vmem S3x256x512 .bf16) (h2 : a2.IsWhole) (a3 : Memref sig .tc .vmem S256x512 .bf16) (h3 : a3.IsWhole)
    (a4 : Memref sig .tc .vmem S256x512 .bf16) (h4 : a4.IsWhole) (a5 : Memref sig .tc .vmem S256x512 .f32) (h5 : a5.IsWhole)
    (a7 a8 : Memref sig .tc .vmem S256x512 .f32) (g : grid0.Coords) (i : Fin 256) (d : Fin 128) (c : Fin 512)

theorem lane_div {h : ℕ} (h4 : h < 4) (d : Fin 128) (hb) : (⟨(h * 128 + d.val) / 128, hb⟩ : Fin 4) = ⟨h, h4⟩ := by
  apply Fin.ext; show (h * 128 + d.val) / 128 = h; omega
theorem lane_mod (h : ℕ) (d : Fin 128) (hb) : (⟨(h * 128 + d.val) % 128, hb⟩ : Fin 128) = d := by
  apply Fin.ext; show (h * 128 + d.val) % 128 = d.val; omega

include H in
/-- A head's loads hold its real numbers. -/
theorem head_holds {h : ℕ} (hh : h < 4) {cf : FVec Ideal S1x1 .f32} (hc : (cf (ix2 0 0) : EReal) = ((coef ⟨h, hh⟩ : ℝ) : EReal))
    {oq ok ov : Fin 3 → ℕ} {oy : Fin 2 → ℕ} (eq : oq = ![0, 0, h * 128]) (ek : ok = ![1, 0, h * 128]) (ev : ov = ![2, 0, h * 128])
    (ey : oy = ![0, h * 128]) (iq) (ik) (iv) (iy) :
    HeadHolds A ⟨h, hh⟩ r cf
      (View.readAt (Elt Ideal) a2.view (Rect.unit (s := S3x256x512) oq S1x256x128.size iq).toLoadRect (h2.unread x0))
      (View.readAt (Elt Ideal) a2.view (Rect.unit (s := S3x256x512) ok S1x256x128.size ik).toLoadRect (h2.unread x0))
      (View.readAt (Elt Ideal) a2.view (Rect.unit (s := S3x256x512) ov S1x256x128.size iv).toLoadRect (h2.unread x0))
      (View.readAt (Elt Ideal) a3.view (Rect.unit (s := S256x512) oy S256x128.size iy).toLoadRect (h3.unread x1))
      (View.readAt (Elt Ideal) a4.view (Rect.unit (s := S256x512) oy S256x128.size iy).toLoadRect (h4.unread x2))
      (View.readAt (Elt Ideal) a5.view (Rect.unit (s := S256x512) oy S256x128.size iy).toLoadRect (h5.unread x3)) where
  cf := hc
  q i d := by refine (load3_at h2 x0 eq (by omega) (by omega) iq i d).trans ((H.q _ _).trans ?_); simp only [lane_div hh, lane_mod]
  k i d := by refine (load3_at h2 x0 ek (by omega) (by omega) ik i d).trans ((H.k _ _).trans ?_); simp only [lane_div hh, lane_mod]
  v i d := by refine (load3_at h2 x0 ev (by omega) (by omega) iv i d).trans ((H.v _ _).trans ?_); simp only [lane_div hh, lane_mod]
  dy i d := by refine (load2_at h3 x1 ey (by omega) iy i d).trans ((H.dy _ _).trans ?_); simp only [lane_div hh, lane_mod]
  y i d := by refine (load2_at h4 x2 ey (by omega) iy i d).trans ((H.y _ _).trans ?_); simp only [lane_div hh, lane_mod]
  lj i d := by refine (load2_at h5 x3 ey (by omega) iy i d).trans ((H.lj _ _).trans ?_); simp only [lane_div hh]
  sc := H.sc

theorem lane_lt {h : ℕ} (hh : h < 4) (d : Fin 128) : h * 128 + d.val < 512 := by omega
theorem lane_split {h : ℕ} (hh : h < 4) (c : Fin 512) (lo : h * 128 ≤ c.val) (hi : c.val < (h + 1) * 128) :
    ∃ d : Fin 128, c = ⟨h * 128 + d.val, lane_lt hh d⟩ :=
  ⟨⟨c.val - h * 128, by omega⟩, Fin.ext (by simp only; omega)⟩

/-- The scratch buffer after `n` heads: their lanes hold `G`, the others are clear. -/
def Filled (G : Fin 256 → Fin 512 → ℝ) (n : ℕ) (L : List (View.Piece (Elt Ideal) S256x512 .f32)) : Prop :=
  ∀ i c, (c.val < n * 128 → (View.canon L (ix2 i c) : EReal) = ((G i c : ℝ) : EReal)) ∧ (n * 128 ≤ c.val → (View.canon L (ix2 i c) : EReal) = 0)

theorem filled_step {G : Fin 256 → Fin 512 → ℝ} {n : ℕ} {L : List (View.Piece (Elt Ideal) S256x512 .f32)} (hL : Filled G n L) (hn : n < 4)
    {a : Memref sig .tc .vmem S256x512 .f32} {off : Fin 2 → ℕ} (e : off = ![0, n * 128]) (inb)
    (w : Vec Ideal S256x128 .f32 → Vec Ideal S256x128 .f32)
    (hw : ∀ acc i (d : Fin 128), (acc (ix2 i d) : EReal) = 0 → (w acc (ix2 i d) : EReal) = ((G i ⟨n * 128 + d.val, by omega⟩ : ℝ) : EReal)) :
    Filled G (n + 1) (⟨Rect.unit (s := S256x512) off S256x128.size inb,
      w (a.view.readCov L (Rect.unit (s := S256x512) off S256x128.size inb).toLoadRect)⟩ :: L) := by
  intro i c
  constructor
  · intro hc
    by_cases h : c.val < n * 128
    · exact (lanes_skip e inb _ L i c (Or.inl h)).trans ((hL i c).1 h)
    · obtain ⟨d, rfl⟩ := lane_split hn c (by omega) hc
      exact (lanes_hit e (by omega) inb _ L i d).trans (hw _ i d ((loadCov_at e (by omega) inb L i d).trans ((hL i _).2 (by simp only; omega))))
  · intro hc
    exact (lanes_skip e inb _ L i c (Or.inr (by omega))).trans ((hL i c).2 (by omega))

theorem ks0_filled (G) : Filled G 0 (ks0 (F := Ideal)) := fun i c => ⟨fun h => absurd h (by omega), fun _ => by
  refine (congrFun (cleared _ _) _).trans ?_
  pointwise [k0_pay10]⟩
theorem vs0_filled (G) : Filled G 0 (vs0 (F := Ideal)) := fun i c => ⟨fun h => absurd h (by omega), fun _ => by
  refine (congrFun (cleared _ _) _).trans ?_
  pointwise [k0_pay11]⟩

/-- The keys' and the values' gradients of the block, by lane. -/
def laneK (A : Args) (r : Fin 16) (i : Fin 256) (c : Fin 512) : ℝ := kdk A ⟨c.val / 128, by omega⟩ r i ⟨c.val % 128, by omega⟩
def laneV (A : Args) (r : Fin 16) (i : Fin 256) (c : Fin 512) : ℝ := kdv A ⟨c.val / 128, by omega⟩ r i ⟨c.val % 128, by omega⟩
def laneQ (A : Args) (r : Fin 16) (i : Fin 256) (c : Fin 512) : ℝ := kdq A ⟨c.val / 128, by omega⟩ r i ⟨c.val % 128, by omega⟩

include H

theorem ks1_filled : Filled (laneK A r) 1 (ks1 g a2 h2 a3 h3 a4 h4 a5 h5 a7 x0 x1 x2 x3) :=
  filled_step (ks0_filled _) (by omega) (by rfl) _ (gk_0 g a2 h2 a3 h3 a4 h4 a5 h5 x0 x1 x2 x3) fun acc i d ha => by
    refine (gk_at (head_holds H a2 h2 a3 h3 a4 h4 a5 h5 (h := 0) (by omega) (pay6_at g) (by rfl) (by rfl) (by rfl) (by rfl) k0_off1_inb k0_off2_inb k0_off3_inb k0_off13_inb) i d ha).trans ?_
    simp only [laneK, lane_div (show 0 < 4 by omega), lane_mod]
theorem vs1_filled : Filled (laneV A r) 1 (vs1 g a2 h2 a3 h3 a5 h5 a8 x0 x1 x3) :=
  filled_step (vs0_filled _) (by omega) (by rfl) _ (gv_0 g a2 h2 a3 h3 a5 h5 x0 x1 x3) fun acc i d ha => by
    refine (gv_at (head_holds H a2 h2 a3 h3 a3 h3 a5 h5 (h := 0) (by omega) (pay6_at g) (by rfl) (by rfl) (by rfl) (by rfl) k0_off1_inb k0_off2_inb k0_off3_inb k0_off13_inb) i d ha).trans ?_
    simp only [laneV, lane_div (show 0 < 4 by omega), lane_mod]
theorem gq_0_at : (gq_0 g a2 h2 a3 h3 a4 h4 a5 h5 x0 x1 x2 x3 (ix3 0 i d) : EReal) = ((laneQ A r i ⟨0 * 128 + d.val, by omega⟩ : ℝ) : EReal) := by
  refine (gq_at (head_holds H a2 h2 a3 h3 a4 h4 a5 h5 (h := 0) (by omega) (pay6_at g) (by rfl) (by rfl) (by rfl) (by rfl) k0_off1_inb k0_off2_inb k0_off3_inb k0_off13_inb) i d).trans ?_
  simp only [laneQ, lane_div (show 0 < 4 by omega), lane_mod]
theorem ks2_filled : Filled (laneK A r) 2 (ks2 g a2 h2 a3 h3 a4 h4 a5 h5 a7 x0 x1 x2 x3) :=
  filled_step (ks1_filled H a2 h2 a3 h3 a4 h4 a5 h5 a7 g) (by omega) (by rfl) _ (gk_1 g a2 h2 a3 h3 a4 h4 a5 h5 x0 x1 x2 x3) fun acc i d ha => by
    refine (gk_at (head_holds H a2 h2 a3 h3 a4 h4 a5 h5 (h := 1) (by omega) (pay7_at g) (by rfl) (by rfl) (by rfl) (by rfl) k0_off4_inb k0_off5_inb k0_off6_inb k0_off14_inb) i d ha).trans ?_
    simp only [laneK, lane_div (show 1 < 4 by omega), lane_mod]
theorem vs2_filled : Filled (laneV A r) 2 (vs2 g a2 h2 a3 h3 a5 h5 a8 x0 x1 x3) :=
  filled_step (vs1_filled H a2 h2 a3 h3 a5 h5 a8 g) (by omega) (by rfl) _ (gv_1 g a2 h2 a3 h3 a5 h5 x0 x1 x3) fun acc i d ha => by
    refine (gv_at (head_holds H a2 h2 a3 h3 a3 h3 a5 h5 (h := 1) (by omega) (pay7_at g) (by rfl) (by rfl) (by rfl) (by rfl) k0_off4_inb k0_off5_inb k0_off6_inb k0_off14_inb) i d ha).trans ?_
    simp only [laneV, lane_div (show 1 < 4 by omega), lane_mod]
theorem gq_1_at : (gq_1 g a2 h2 a3 h3 a4 h4 a5 h5 x0 x1 x2 x3 (ix3 0 i d) : EReal) = ((laneQ A r i ⟨1 * 128 + d.val, by omega⟩ : ℝ) : EReal) := by
  refine (gq_at (head_holds H a2 h2 a3 h3 a4 h4 a5 h5 (h := 1) (by omega) (pay7_at g) (by rfl) (by rfl) (by rfl) (by rfl) k0_off4_inb k0_off5_inb k0_off6_inb k0_off14_inb) i d).trans ?_
  simp only [laneQ, lane_div (show 1 < 4 by omega), lane_mod]
theorem ks3_filled : Filled (laneK A r) 3 (ks3 g a2 h2 a3 h3 a4 h4 a5 h5 a7 x0 x1 x2 x3) :=
  filled_step (ks2_filled H a2 h2 a3 h3 a4 h4 a5 h5 a7 g) (by omega) (by rfl) _ (gk_2 g a2 h2 a3 h3 a4 h4 a5 h5 x0 x1 x2 x3) fun acc i d ha => by
    refine (gk_at (head_holds H a2 h2 a3 h3 a4 h4 a5 h5 (h := 2) (by omega) (pay8_at g) (by rfl) (by rfl) (by rfl) (by rfl) k0_off7_inb k0_off8_inb k0_off9_inb k0_off15_inb) i d ha).trans ?_
    simp only [laneK, lane_div (show 2 < 4 by omega), lane_mod]
theorem vs3_filled : Filled (laneV A r) 3 (vs3 g a2 h2 a3 h3 a5 h5 a8 x0 x1 x3) :=
  filled_step (vs2_filled H a2 h2 a3 h3 a5 h5 a8 g) (by omega) (by rfl) _ (gv_2 g a2 h2 a3 h3 a5 h5 x0 x1 x3) fun acc i d ha => by
    refine (gv_at (head_holds H a2 h2 a3 h3 a3 h3 a5 h5 (h := 2) (by omega) (pay8_at g) (by rfl) (by rfl) (by rfl) (by rfl) k0_off7_inb k0_off8_inb k0_off9_inb k0_off15_inb) i d ha).trans ?_
    simp only [laneV, lane_div (show 2 < 4 by omega), lane_mod]
theorem gq_2_at : (gq_2 g a2 h2 a3 h3 a4 h4 a5 h5 x0 x1 x2 x3 (ix3 0 i d) : EReal) = ((laneQ A r i ⟨2 * 128 + d.val, by omega⟩ : ℝ) : EReal) := by
  refine (gq_at (head_holds H a2 h2 a3 h3 a4 h4 a5 h5 (h := 2) (by omega) (pay8_at g) (by rfl) (by rfl) (by rfl) (by rfl) k0_off7_inb k0_off8_inb k0_off9_inb k0_off15_inb) i d).trans ?_
  simp only [laneQ, lane_div (show 2 < 4 by omega), lane_mod]
theorem ks4_filled : Filled (laneK A r) 4 (ks4 g a2 h2 a3 h3 a4 h4 a5 h5 a7 x0 x1 x2 x3) :=
  filled_step (ks3_filled H a2 h2 a3 h3 a4 h4 a5 h5 a7 g) (by omega) (by rfl) _ (gk_3 g a2 h2 a3 h3 a4 h4 a5 h5 x0 x1 x2 x3) fun acc i d ha => by
    refine (gk_at (head_holds H a2 h2 a3 h3 a4 h4 a5 h5 (h := 3) (by omega) (pay9_at g) (by rfl) (by rfl) (by rfl) (by rfl) k0_off10_inb k0_off11_inb k0_off12_inb k0_off16_inb) i d ha).trans ?_
    simp only [laneK, lane_div (show 3 < 4 by omega), lane_mod]
theorem vs4_filled : Filled (laneV A r) 4 (vs4 g a2 h2 a3 h3 a5 h5 a8 x0 x1 x3) :=
  filled_step (vs3_filled H a2 h2 a3 h3 a5 h5 a8 g) (by omega) (by rfl) _ (gv_3 g a2 h2 a3 h3 a5 h5 x0 x1 x3) fun acc i d ha => by
    refine (gv_at (head_holds H a2 h2 a3 h3 a3 h3 a5 h5 (h := 3) (by omega) (pay9_at g) (by rfl) (by rfl) (by rfl) (by rfl) k0_off10_inb k0_off11_inb k0_off12_inb k0_off16_inb) i d ha).trans ?_
    simp only [laneV, lane_div (show 3 < 4 by omega), lane_mod]
theorem gq_3_at : (gq_3 g a2 h2 a3 h3 a4 h4 a5 h5 x0 x1 x2 x3 (ix3 0 i d) : EReal) = ((laneQ A r i ⟨3 * 128 + d.val, by omega⟩ : ℝ) : EReal) := by
  refine (gq_at (head_holds H a2 h2 a3 h3 a4 h4 a5 h5 (h := 3) (by omega) (pay9_at g) (by rfl) (by rfl) (by rfl) (by rfl) k0_off10_inb k0_off11_inb k0_off12_inb k0_off16_inb) i d).trans ?_
  simp only [laneQ, lane_div (show 3 < 4 by omega), lane_mod]

/-- The result's buffer: plane by plane. -/
theorem stores_v : (View.canon (stores g a2 h2 a3 h3 a4 h4 a5 h5 a7 a8 x0 x1 x2 x3) (ix3 2 i c) : EReal) = ((laneV A r i c : ℝ) : EReal) := by
  unfold stores
  refine (plane_hit (p := 2) (by omega) _ _ _ i c).trans ?_
  rw [loadWhole_at]
  pointwise [k0_pay4]
  exact (vs4_filled H a2 h2 a3 h3 a5 h5 a8 g i c).1 (by omega)
theorem stores_k : (View.canon (stores g a2 h2 a3 h3 a4 h4 a5 h5 a7 a8 x0 x1 x2 x3) (ix3 1 i c) : EReal) = ((laneK A r i c : ℝ) : EReal) := by
  unfold stores
  refine (plane_skip (p := 2) _ _ _ 1 i c (by decide)).trans ?_
  refine (plane_hit (p := 1) (by omega) _ _ _ i c).trans ?_
  rw [loadWhole_at]
  pointwise [k0_pay3]
  exact (ks4_filled H a2 h2 a3 h3 a4 h4 a5 h5 a7 g i c).1 (by omega)
theorem stores_q : (View.canon (stores g a2 h2 a3 h3 a4 h4 a5 h5 a7 a8 x0 x1 x2 x3) (ix3 0 i c) : EReal) = ((laneQ A r i c : ℝ) : EReal) := by
  unfold stores
  refine (plane_skip (p := 2) _ _ _ 0 i c (by decide)).trans ?_
  refine (plane_skip (p := 1) _ _ _ 0 i c (by decide)).trans ?_
  by_cases e3 : 3 * 128 ≤ c.val
  · obtain ⟨d, rfl⟩ := lane_split (h := 3) (by decide) c (by omega) (by omega)
    exact (head_hit (l := 3 * 128) (by rfl) (by omega) _ _ _ i d).trans (gq_3_at H a2 h2 a3 h3 a4 h4 a5 h5 g i d)
  refine (head_skip (l := 3 * 128) (by rfl) _ _ _ 0 i c (Or.inl (by omega))).trans ?_
  by_cases e2 : 2 * 128 ≤ c.val
  · obtain ⟨d, rfl⟩ := lane_split (h := 2) (by decide) c (by omega) (by omega)
    exact (head_hit (l := 2 * 128) (by rfl) (by omega) _ _ _ i d).trans (gq_2_at H a2 h2 a3 h3 a4 h4 a5 h5 g i d)
  refine (head_skip (l := 2 * 128) (by rfl) _ _ _ 0 i c (Or.inl (by omega))).trans ?_
  by_cases e1 : 1 * 128 ≤ c.val
  · obtain ⟨d, rfl⟩ := lane_split (h := 1) (by decide) c (by omega) (by omega)
    exact (head_hit (l := 1 * 128) (by rfl) (by omega) _ _ _ i d).trans (gq_1_at H a2 h2 a3 h3 a4 h4 a5 h5 g i d)
  refine (head_skip (l := 1 * 128) (by rfl) _ _ _ 0 i c (Or.inl (by omega))).trans ?_
  obtain ⟨d, rfl⟩ := lane_split (h := 0) (by decide) c (by omega) (by omega)
  exact (head_hit (l := 0 * 128) (by rfl) (by omega) _ _ _ i d).trans (gq_0_at H a2 h2 a3 h3 a4 h4 a5 h5 g i d)

end values

end Cert.KernelIdeal.Hand
-- ==== Proof.RefScores.lean ====
/- The reference's forward values at finite arguments, read at explicit indices: the scores and the softmax of the windowed
   attention, its output and log-sum, the mixture's weights. -/
module

public import proofs.«01_k».proof.Proof.Coe
public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem Cert.Attn

/-- The argument arrays hold the real numbers of `A`. -/
structure Holds (A : Args) (x0 x1 x2 : (⟨S4096x4x128, .bf16⟩ : BufTy).Contents (Elt Ideal))
    (x3 x4 : (⟨S4096x4x128, .f32⟩ : BufTy).Contents (Elt Ideal)) (x5 x6 : (⟨S4096x4, .f32⟩ : BufTy).Contents (Elt Ideal))
    (x7 : (⟨S4096x4x128, .bf16⟩ : BufTy).Contents (Elt Ideal)) : Prop where
  q : ∀ t h d, (x0 (ix3 t h d) : EReal) = ((A.q t h d : ℝ) : EReal)
  k : ∀ t h d, (x1 (ix3 t h d) : EReal) = ((A.k t h d : ℝ) : EReal)
  v : ∀ t h d, (x2 (ix3 t h d) : EReal) = ((A.v t h d : ℝ) : EReal)
  o0 : ∀ t h d, (x3 (ix3 t h d) : EReal) = ((A.o0 t h d : ℝ) : EReal)
  o1 : ∀ t h d, (x4 (ix3 t h d) : EReal) = ((A.o1 t h d : ℝ) : EReal)
  l0 : ∀ t h, (x5 (ix2 t h) : EReal) = ((A.l0 t h : ℝ) : EReal)
  l1 : ∀ t h, (x6 (ix2 t h) : EReal) = ((A.l1 t h : ℝ) : EReal)
  dy : ∀ t h d, (x7 (ix3 t h d) : EReal) = ((A.dy t h d : ℝ) : EReal)
  sc : Ideal.ofBits .f32 0x3DB504F3#32 = ((A.sc : ℝ) : EReal)

variable {A : Args} {x0 x1 x2 : (⟨S4096x4x128, .bf16⟩ : BufTy).Contents (Elt Ideal)}
  {x3 x4 : (⟨S4096x4x128, .f32⟩ : BufTy).Contents (Elt Ideal)} {x5 x6 : (⟨S4096x4, .f32⟩ : BufTy).Contents (Elt Ideal)}
  {x7 : (⟨S4096x4x128, .bf16⟩ : BufTy).Contents (Elt Ideal)}
variable (H : Holds A x0 x1 x2 x3 x4 x5 x6 x7) (h : Fin 4) (r : Fin 16) (i j : Fin 256) (d : Fin 128) (t : Fin 4096)
include H

theorem r15 : (val_main_v15 (F := Ideal) x0 (ix4 h r i d) : EReal) = ((A.q (tok i r) h d : ℝ) : EReal) := by
  pointwise [val_main_v15, val_main_v14, val_main_v0]
  exact H.q (tok i r) h d
theorem r17 : (val_main_v17 (F := Ideal) x1 (ix4 h r i d) : EReal) = ((A.k (tok i r) h d : ℝ) : EReal) := by
  pointwise [val_main_v17, val_main_v16, val_main_v1]
  exact H.k (tok i r) h d
theorem r19 : (val_main_v19 (F := Ideal) x2 (ix4 h r i d) : EReal) = ((A.v (tok i r) h d : ℝ) : EReal) := by
  pointwise [val_main_v19, val_main_v18, val_main_v2]
  exact H.v (tok i r) h d

omit H in
/-- The slopes. -/
theorem r13 : (val_main_v13 (F := Ideal) (ix1 h) : EReal) * Ideal.ofBits .f32 0x41800000#32 = ((coef h : ℝ) : EReal) := by
  pointwise [val_main_v13, val_main_v12, val_main_v11, val_main_v10, val_main_v9, val_main_v8, val_main_v7, val_main_v6,
    val_main_v5, val_main_v4, val_main_c, val_main_cst, val_main_cst_0, val_main_cst_1]
  have hw : (IntOp.addi 9#32 (BitVec.ofNat 32 h.val)).toInt = ((9 + h.val : ℕ) : ℤ) := by fin_cases h <;> rfl
  rw [show (FloatOps.sitofp (F := Ideal) FTy.f32 (IntOp.addi 9#32 (BitVec.ofNat 32 h.val)) : EReal) = ((((9 + h.val : ℕ) : ℤ) : ℝ) : EReal) from
    congrArg (fun z : ℤ => ((z : ℝ) : EReal)) hw, word_neg_eight, word_two, word_twelve, word_sixteen]
  rw [← EReal.coe_mul, coe_div (by norm_num), Ideal.pow_coe_coe, ← EReal.coe_mul]
  congr 2

/-- The masked scores. -/
theorem r44 : (val_main_v44_0 (F := Ideal) x0 x1 (ix4 h r i j) : EReal)
    = if Band i j then ((score A h r i j : ℝ) : EReal) else ⊥ := by
  have e20 : (val_main_v20 (F := Ideal) x0 x1 (ix4 h r i j) : EReal) = ((qk A h r i j : ℝ) : EReal) := by
    pointwise [val_main_v20]
    exact coe_sum_of fun d => by rw [r15 H, r17 H, ← EReal.coe_mul]
  rw [val_main_v44_0_apply, val_main_v43_apply, val_main_v22_apply]
  pointwise [val_main_v44_1, val_main_v42, val_main_v39, val_main_v38, val_main_v41, val_main_v40, val_main_v36,
    val_main_v35, val_main_v30, val_main_v29, val_main_v28, val_main_v27, val_main_v26, val_main_v25, val_main_v24,
    val_main_v23, val_main_v37, val_main_v34, val_main_v33, val_main_v32, val_main_v31, val_main_cst_3, val_main_v21,
    val_main_cst_2, val_main_c_4, val_main_call0_v2, val_main_call0_v0, val_main_cst_5, id]
  rw [r13, e20, H.sc]
  refine (select_band i j _ _).trans ?_
  refine if_congr Iff.rfl ?_ word_bot
  refine (congrArg₂ (· + ·) (EReal.coe_mul _ _).symm
    (congrArg₂ (· * ·) (EReal.coe_neg _).symm (relWord_real i j))).trans ?_
  rw [← EReal.coe_mul, ← EReal.coe_add]; rfl

/-- Their greatest. -/
theorem r45 : (val_main_v45 (F := Ideal) x0 x1 (ix3 h r i) : EReal) = ((top A h r i : ℝ) : EReal) := by
  pointwise [val_main_v45]
  rw [show (val_main_cst_6 (F := Ideal) (Shape.Idx.first h_S_) : EReal) = ⊥ from word_bot]
  apply le_antisymm
  · rw [Finset.fold_max_le]
    refine ⟨bot_le, fun j _ => ?_⟩
    rw [r44 H]
    split
    · rename_i hb; exact EReal.coe_le_coe_iff.mpr (score_le_top A h r hb)
    · exact bot_le
  · obtain ⟨j, hb, e⟩ := top_attained A h r i
    rw [Finset.le_fold_max]
    right
    exact ⟨j, Finset.mem_univ j, by rw [r44 H, if_pos hb, e]⟩

/-- The weights before normalising, -/
theorem r54 : (val_main_v54 (F := Ideal) x0 x1 (ix4 h r i j) : EReal) = ((pr A h r i j : ℝ) : EReal) := by
  pointwise [val_main_v54, val_main_v53, val_main_v52, val_main_v51]
  rw [r44 H, r45 H, pr]
  split
  · rw [← EReal.coe_sub, Ideal.exp_coe]
  · rw [EReal.bot_sub]; rfl

theorem r55 : (val_main_v55 (F := Ideal) x0 x1 (ix3 h r i) : EReal) = ((den A h r i : ℝ) : EReal) := by
  pointwise [val_main_v55, val_main_cst_8]
  exact coe_sum_of fun j => r54 H h r i j

theorem r56 : (val_main_v56 (F := Ideal) x0 x1 (ix4 h r i 0) : EReal) = ((den A h r i : ℝ) : EReal) := by
  pointwise [val_main_v56]
  exact r55 H h r i

/-- the normalised ones, -/
theorem r58 : (val_main_v58 (F := Ideal) x0 x1 (ix4 h r i j) : EReal) = ((pr A h r i j / den A h r i : ℝ) : EReal) := by
  pointwise [val_main_v58, val_main_v57, val_main_v56]
  rw [r54 H, r55 H, coe_div (den_pos A h r i).ne']

theorem r61 : (val_main_v61 (F := Ideal) x0 x1 (ix4 h r i 0) : EReal)
    = ((1 / (den A h r i * den A h r i) : ℝ) : EReal) := by
  have hd := den_pos A h r i
  pointwise [val_main_v61, val_main_v60, val_main_v59, val_main_v56, val_main_cst_9]
  rw [r55 H, ← EReal.coe_mul, ← EReal.coe_one, coe_div (by positivity)]

/-- the output and the log-sum, -/
theorem r62 : (val_main_v62 (F := Ideal) x0 x1 x2 (ix4 h r i d) : EReal) = ((out A h r i d : ℝ) : EReal) := by
  pointwise [val_main_v62]
  exact coe_sum_of fun j => by rw [r58 H, r19 H, ← EReal.coe_mul]

theorem r51 : (val_main_v51 (F := Ideal) x0 x1 (ix4 h r i 0) : EReal) = ((top A h r i : ℝ) : EReal) := by
  pointwise [val_main_v51]
  exact r45 H h r i

theorem r64 : (val_main_v64 (F := Ideal) x0 x1 (ix4 h r i 0) : EReal) = ((lse A h r i : ℝ) : EReal) := by
  rw [val_main_v64_apply, val_main_v63_apply, r56 H, r51 H]
  refine (congrArg (_ + ·) (coe_log (den_pos A h r i))).trans ?_
  rw [lse, EReal.coe_add]

theorem r65 : (val_main_v65 (F := Ideal) x0 x1 (ix3 h r i) : EReal) = ((lse A h r i : ℝ) : EReal) := by
  pointwise [val_main_v65]
  exact r64 H h r i

/-- in token order. -/
theorem r67 : (val_main_v67 (F := Ideal) x0 x1 x2 (ix3 t h d) : EReal) = ((out A h (res t) (row t) d : ℝ) : EReal) := by
  pointwise [val_main_v67, val_main_v66]
  exact r62 H h (res t) (row t) d
theorem r69 : (val_main_v69 (F := Ideal) x0 x1 (ix2 t h) : EReal) = ((lse A h (res t) (row t) : ℝ) : EReal) := by
  pointwise [val_main_v69, val_main_v68]
  exact r65 H h (res t) (row t)

end Cert.ReferenceIdeal.Hand
-- ==== Proof.Host.lean ====
/- What the kernel's program computes before its region: the forward values the region takes, in stages, and their values
   at finite arguments read at explicit indices. -/
module

public import proofs.«01_k».proof.Proof.Gen.KernelIdeal.Frame
public import proofs.«01_k».proof.Proof.RefScores

@[expose] public section

set_option maxRecDepth 16384

noncomputable section

namespace Cert.KernelIdeal.Hand

open Cert.KernelIdeal Cert.KernelIdeal.Gen
open Idealize.ShloMosaic Idealize.ShloMosaic.TcCoe Idealize.SL.Sem Cert.Attn
open Cert.ReferenceIdeal.Hand (Holds)

/-- An array of real numbers, as the operations type it. -/
abbrev Arr (S : Shape) : Type := FVec Ideal S .f32
abbrev Brr (S : Shape) : Type := FVec Ideal S .bf16

variable (x0 x1 x2 x7 : Brr S4096x4x128) (x3 x4 : Arr S4096x4x128) (x5 x6 : Arr S4096x4)

/-- An argument by head, residue class, row and lane. -/
def split (x : Brr S4096x4x128) : Arr S4x16x256x128 :=
  transpose S4x16x256x128 [2, 1, 0, 3] (shapeCast S256x16x4x128 (extf .f32 x bitsLt_bf16_f32 : Arr S4096x4x128)
    shapeCasts_S4096x4x128_S256x16x4x128 : Arr S256x16x4x128) transposes_S256x16x4x128_S4x16x256x128_2_1_0_3

/-- The slopes, -/
def slopes : Arr S4 :=
  Host.powf (broadcastInDim S4 ![] bcast_S_S4 (constant S_ .f32 0x40000000#32 : Arr S_) : Arr S4)
    (Host.divf (mulf (broadcastInDim S4 ![] bcast_S_S4 (constant S_ .f32 0xC1000000#32 : Arr S_) : Arr S4)
      (sitofp .f32 (addi (broadcastInDim S4 ![] bcast_S_S4 (constantI S_ 32 9#32 : IVec S_ 32) :
        IVec S4 32) (iotaInDim S4 32 0)) : Arr S4))
      (broadcastInDim S4 ![] bcast_S_S4 (constant S_ .f32 0x41400000#32 : Arr S_) : Arr S4))

/-- the rows' distances, -/
def dist : IVec S256x256 32 :=
  absi (subi
    (broadcastInDim S256x256 ![0, 1] bcast_S1x256_S256x256_0_1 (broadcastInDim S1x256 ![1] bcast_S256_S1x256_1
      (iotaInDim S256 32 0 : IVec S256 32) : IVec S1x256 32))
    (broadcastInDim S256x256 ![0, 1] bcast_S256x1_S256x256_0_1 (broadcastInDim S256x1 ![0] bcast_S256_S256x1_0
      (iotaInDim S256 32 0 : IVec S256 32) : IVec S256x1 32)))

/-- the scores, -/
def scores : Arr S4x16x256x256 :=
  addf (mulf (Host.dotGeneral dot_S4x16x256x128_S4x16x256x128_S4x16x256x256_3_3_2_2_01_01 none (split x0) (split x1) : Arr S4x16x256x256)
      (broadcastInDim S4x16x256x256 ![] bcast_S_S4x16x256x256 (constant S_ .f32 0x3DB504F3#32 : Arr S_)))
    (broadcastInDim S4x16x256x256 ![0, 1, 2, 3] bcast_S4x1x256x256_S4x16x256x256_0_1_2_3
      (mulf
        (broadcastInDim S4x1x256x256 ![0, 1, 2, 3] bcast_S4x1x1x1_S4x1x256x256_0_1_2_3 (Host.negf
          (broadcastInDim S4x1x1x1 ![0] bcast_S4_S4x1x1x1_0
            (mulf slopes (broadcastInDim S4 ![] bcast_S_S4 (constant S_ .f32 0x41800000#32 : Arr S_)) : Arr S4) : Arr S4x1x1x1) : Arr S4x1x1x1))
        (broadcastInDim S4x1x256x256 ![0, 1, 2, 3] bcast_S1x1x256x256_S4x1x256x256_0_1_2_3
          (broadcastInDim S1x1x256x256 ![2, 3] bcast_S256x256_S1x1x256x256_2_3 (sitofp .f32 dist : Arr S256x256) : Arr S1x1x256x256)) :
        Arr S4x1x256x256))

/-- the masked scores, -/
def masked : Arr S4x16x256x256 :=
  select (broadcastInDim S4x16x256x256 ![2, 3] bcast_S256x256_S4x16x256x256_2_3
      (cmpi .sle dist (broadcastInDim S256x256 ![] bcast_S_S256x256 (constantI S_ 32 64#32 : IVec S_ 32)) :
        IVec S256x256 1) : IVec S4x16x256x256 1)
    (scores x0 x1)
    (broadcastInDim S4x16x256x256 ![] bcast_S_S4x16x256x256 (id (constant S_ .f32 0xFF800000#32 : Arr S_)))

/-- each row's greatest, -/
def tops : Arr S4x16x256x1 :=
  broadcastInDim S4x16x256x1 ![0, 1, 2] bcast_S4x16x256_S4x16x256x1_0_1_2
    (Host.reduce FloatOps.maximumf (masked x0 x1) (constant S_ .f32 0xFF800000#32 : Arr S_) reducesTo_S4x16x256x256_S4x16x256_d3 h_S_ : Arr S4x16x256)

/-- the weights before normalising, -/
def weights : Arr S4x16x256x256 :=
  Host.exp (subf (masked x0 x1)
    (broadcastInDim S4x16x256x256 ![0, 1, 2, 3] bcast_S4x16x256x1_S4x16x256x256_0_1_2_3 (tops x0 x1)) : Arr S4x16x256x256)

/-- their sums, -/
def sums : Arr S4x16x256x1 :=
  broadcastInDim S4x16x256x1 ![0, 1, 2] bcast_S4x16x256_S4x16x256x1_0_1_2
    (Host.reduceAdd (weights x0 x1) (constant S_ .f32 0x00000000#32 : Arr S_) reducesTo_S4x16x256x256_S4x16x256_d3 h_S_ : Arr S4x16x256)

/-- the attention's output -/
def outs : Arr S4096x4x128 :=
  shapeCast S4096x4x128 (transpose S256x16x4x128 [2, 1, 0, 3]
    (Host.dotGeneral dot_S4x16x256x256_S4x16x256x128_S4x16x256x128_3_2_2_3_01_01 none
      (Host.divf (weights x0 x1) (broadcastInDim S4x16x256x256 ![0, 1, 2, 3] bcast_S4x16x256x1_S4x16x256x256_0_1_2_3 (sums x0 x1)) :
        Arr S4x16x256x256) (split x2) : Arr S4x16x256x128)
    transposes_S4x16x256x128_S256x16x4x128_2_1_0_3 : Arr S256x16x4x128) shapeCasts_S256x16x4x128_S4096x4x128

/-- and log-sums, by head, residue class and row, -/
def rowsums : Arr S4x16x256x1 := addf (tops x0 x1) (Host.log (sums x0 x1) : Arr S4x16x256x1)

/-- and by token, -/
def logsums : Arr S4096x4 :=
  shapeCast S4096x4 (transpose S256x16x4 [2, 1, 0]
    (shapeCast S4x16x256 (rowsums x0 x1) shapeCasts_S4x16x256x1_S4x16x256 : Arr S4x16x256)
    transposes_S4x16x256_S256x16x4_2_1_0 : Arr S256x16x4) shapeCasts_S256x16x4_S4096x4

/-- the greatest log-sum of the three groups, -/
def best : Arr S4096x4 := maximumf (maximumf x5 x6 : Arr S4096x4) (logsums x0 x1)

/-- a group's weight before normalising, -/
def gate (x : Arr S4096x4) : Arr S4096x4 := Host.exp (subf x (best x0 x1 x5 x6) : Arr S4096x4)

/-- the sum of the three, -/
def gates : Arr S4096x4 :=
  addf (addf (gate x0 x1 x5 x6 x5) (gate x0 x1 x5 x6 x6) : Arr S4096x4) (gate x0 x1 x5 x6 (logsums x0 x1))

/-- a group's share of an output, -/
def share (x : Arr S4096x4) (o : Arr S4096x4x128) : Arr S4096x4x128 :=
  mulf (broadcastInDim S4096x4x128 ![0, 1, 2] bcast_S4096x4x1_S4096x4x128_0_1_2 (broadcastInDim S4096x4x1 ![0, 1] bcast_S4096x4_S4096x4x1_0_1
    (Host.divf (gate x0 x1 x5 x6 x) (gates x0 x1 x5 x6) : Arr S4096x4) : Arr S4096x4x1) : Arr S4096x4x128) o

/-- the mixture, -/
def mixture : Brr S256x8192 :=
  shapeCast S256x8192 (truncf .bf16 (addf (addf (share x0 x1 x5 x6 x5 x3) (share x0 x1 x5 x6 x6 x4) : Arr S4096x4x128)
    (share x0 x1 x5 x6 (logsums x0 x1) (outs x0 x1 x2)) : Arr S4096x4x128) bitsLt_bf16_f32 : Brr S4096x4x128) shapeCasts_S4096x4x128_S256x8192

/-- its log-sum, -/
def total : Arr S4096x4 := addf (best x0 x1 x5 x6) (Host.log (gates x0 x1 x5 x6) : Arr S4096x4)

/-- and that along the lanes. -/
def joint : Arr S256x8192 :=
  shapeCast S256x8192 (broadcastInDim S4096x4x128 ![0, 1, 2] bcast_S4096x4x1_S4096x4x128_0_1_2 (broadcastInDim S4096x4x1 ![0, 1] bcast_S4096x4_S4096x4x1_0_1
    (total x0 x1 x5 x6) : Arr S4096x4x1) : Arr S4096x4x128) shapeCasts_S4096x4x128_S256x8192

/-- An argument by row and column, with a leading unit axis, -/
def plane (x : Brr S4096x4x128) : Brr S1x256x8192 :=
  broadcastInDim S1x256x8192 ![1, 2] bcast_S256x8192_S1x256x8192_1_2 (shapeCast S256x8192 x shapeCasts_S4096x4x128_S256x8192 : Brr S256x8192)

/-- and three such, joined. -/
def stack : Brr S3x256x8192 :=
  concatenate S3x256x8192 0 [⟨S1x256x8192, plane x0⟩, ⟨S1x256x8192, plane x1⟩, ⟨S1x256x8192, plane x2⟩]
    concatenates_S1x256x8192_S1x256x8192_S1x256x8192_S3x256x8192_d0

/-! ## What the region finds -/

variable (m : (ℓ : Loc nD τ sig) → Buf (Elt Ideal) ℓ) (c : Dev nD)

set_option maxHeartbeats 4000000 in
theorem V_stack : (V m c main_v96 : Brr S3x256x8192)
    = stack (m (c.tc.loc main_arg0)) (m (c.tc.loc main_arg1)) (m (c.tc.loc main_arg2)) := by
  dsimp only [V, hostOps0, hostOps0_1, hostOps0_2, List.flatten_cons, List.flatten_nil, List.append_nil, List.cons_append, List.nil_append]
  after_results_simp
  rfl

set_option maxHeartbeats 4000000 in
theorem V_dy : (V m c main_v97 : Brr S256x8192) = shapeCast S256x8192 (m (c.tc.loc main_arg7)) shapeCasts_S4096x4x128_S256x8192 := by
  dsimp only [V, hostOps0, hostOps0_1, hostOps0_2, List.flatten_cons, List.flatten_nil, List.append_nil, List.cons_append, List.nil_append]
  after_results_simp
  rfl

set_option maxHeartbeats 4000000 in
theorem V_joint : (V m c main_v99 : Arr S256x8192)
    = joint (m (c.tc.loc main_arg0)) (m (c.tc.loc main_arg1)) (m (c.tc.loc main_arg5)) (m (c.tc.loc main_arg6)) := by
  dsimp only [V, hostOps0, hostOps0_1, hostOps0_2, List.flatten_cons, List.flatten_nil, List.append_nil, List.cons_append, List.nil_append]
  after_results_simp
  rfl

set_option maxHeartbeats 4000000 in
theorem V_mixture : (V m c main_v98 : Brr S256x8192)
    = mixture (m (c.tc.loc main_arg0)) (m (c.tc.loc main_arg1)) (m (c.tc.loc main_arg2)) (m (c.tc.loc main_arg3))
      (m (c.tc.loc main_arg4)) (m (c.tc.loc main_arg5)) (m (c.tc.loc main_arg6)) := by
  dsimp only [V, hostOps0, hostOps0_1, hostOps0_2, List.flatten_cons, List.flatten_nil, List.append_nil, List.cons_append, List.nil_append]
  after_results_simp
  rfl

end Cert.KernelIdeal.Hand
-- ==== Proof.HostAt.lean ====
/- The values, at finite arguments, of what the region finds, read at explicit indices. -/
module

public import proofs.«01_k».proof.Proof.Host

@[expose] public section

set_option maxRecDepth 16384

noncomputable section

namespace Cert.KernelIdeal.Hand

open Cert.KernelIdeal Cert.KernelIdeal.Gen
open Idealize.ShloMosaic Idealize.ShloMosaic.TcCoe Idealize.SL.Sem Cert.Attn
open Cert.ReferenceIdeal.Hand (Holds)

/-! ## Their values -/

/-- A sum with a logarithm, read at an index. -/
theorem add_log_apply {F : FTy → Type} [FloatOps F] {S : Shape} (a b : FVec F S .f32) (i : S.Idx) :
    addf a (Host.log b) i = FloatOps.addf (a i) (FloatOps.hostUnary .log (b i)) := rfl

variable {A : Args} {x0 x1 x2 x7 : Brr S4096x4x128} {x3 x4 : Arr S4096x4x128} {x5 x6 : Arr S4096x4}
variable (H : Holds A x0 x1 x2 x3 x4 x5 x6 x7) (h : Fin 4) (r : Fin 16) (i j : Fin 256) (d : Fin 128) (t : Fin 4096)

theorem split_at (x : Brr S4096x4x128) : (split x (ix4 h r i d) : EReal) = x (ix3 (tok i r) h d) := by
  pointwise [split]
  rfl

theorem slopes_at : (slopes (ix1 h) : EReal) * Ideal.ofBits .f32 0x41800000#32 = ((coef h : ℝ) : EReal) := by
  pointwise [slopes]
  have hw : (IntOp.addi 9#32 (BitVec.ofNat 32 h.val)).toInt = ((9 + h.val : ℕ) : ℤ) := by fin_cases h <;> rfl
  rw [show (FloatOps.sitofp (F := Ideal) FTy.f32 (IntOp.addi 9#32 (BitVec.ofNat 32 h.val)) : EReal) = ((((9 + h.val : ℕ) : ℤ) : ℝ) : EReal) from
    congrArg (fun z : ℤ => ((z : ℝ) : EReal)) hw, word_neg_eight, word_two, word_twelve, word_sixteen]
  rw [← EReal.coe_mul, coe_div (by norm_num), Ideal.pow_coe_coe, ← EReal.coe_mul]
  congr 2

include H

theorem scores_at : (scores x0 x1 (ix4 h r i j) : EReal) = ((score A h r i j : ℝ) : EReal) := by
  have e : (∑ d, split x0 (ix4 h r i d) * split x1 (ix4 h r j d) : EReal) = ((qk A h r i j : ℝ) : EReal) :=
    coe_sum_of fun d => by rw [split_at, split_at, H.q, H.k, ← EReal.coe_mul]
  pointwise [scores, dist]
  rw [slopes_at, e, H.sc]
  refine (congrArg₂ (· + ·) (EReal.coe_mul _ _).symm
    (congrArg₂ (· * ·) (EReal.coe_neg _).symm (relWord_real i j))).trans ?_
  rw [← EReal.coe_mul, ← EReal.coe_add]; rfl

theorem masked_at : (masked x0 x1 (ix4 h r i j) : EReal) = if Band i j then ((score A h r i j : ℝ) : EReal) else ⊥ := by
  pointwise [masked, dist, id]
  rw [scores_at H]
  refine (select_band i j _ _).trans ?_
  exact if_congr Iff.rfl rfl word_bot

theorem tops_at : (tops x0 x1 (ix4 h r i 0) : EReal) = ((top A h r i : ℝ) : EReal) := by
  pointwise [tops]
  rw [word_bot]
  apply le_antisymm
  · rw [Finset.fold_max_le]
    refine ⟨bot_le, fun j _ => ?_⟩
    rw [masked_at H]
    split
    · rename_i hb; exact EReal.coe_le_coe_iff.mpr (score_le_top A h r hb)
    · exact bot_le
  · obtain ⟨j, hb, e⟩ := top_attained A h r i
    rw [Finset.le_fold_max]
    right
    exact ⟨j, Finset.mem_univ j, by rw [masked_at H, if_pos hb, e]⟩

theorem weights_at : (weights x0 x1 (ix4 h r i j) : EReal) = ((pr A h r i j : ℝ) : EReal) := by
  pointwise [weights]
  rw [masked_at H, tops_at H, pr]
  split
  · rw [← EReal.coe_sub, Ideal.exp_coe]
  · rw [EReal.bot_sub]; rfl

theorem sums_at : (sums x0 x1 (ix4 h r i 0) : EReal) = ((den A h r i : ℝ) : EReal) := by
  pointwise [sums]
  exact coe_sum_of fun j => weights_at H h r i j

theorem outs_at : (outs x0 x1 x2 (ix3 t h d) : EReal) = ((out A h (res t) (row t) d : ℝ) : EReal) := by
  pointwise [outs]
  refine coe_sum_of fun j => ?_
  refine (congrArg₂ (· * ·) (congrArg₂ Ideal.div (weights_at H h (res t) (row t) j) (sums_at H h (res t) (row t)))
    ((split_at h (res t) j d x2).trans (H.v _ h d))).trans ?_
  rw [coe_div (den_pos A h (res t) (row t)).ne', ← EReal.coe_mul]

theorem rowsums_at : (rowsums x0 x1 (ix4 h r i 0) : EReal) = ((lse A h r i : ℝ) : EReal) := by
  rw [rowsums, add_log_apply, tops_at H, sums_at H]
  refine (congrArg (_ + ·) (coe_log (den_pos A h r i))).trans ?_
  rw [lse, EReal.coe_add]

theorem logsums_at : (logsums x0 x1 (ix2 t h) : EReal) = ((lse A h (res t) (row t) : ℝ) : EReal) := by
  pointwise [logsums]
  exact rowsums_at H h (res t) (row t)

theorem best_at : (best x0 x1 x5 x6 (ix2 t h) : EReal) = ((gm A h t : ℝ) : EReal) := by
  pointwise [best]
  rw [logsums_at H, H.l0, H.l1, coe_max, coe_max]; rfl

theorem gate_at (g : Fin 3) {x : Arr S4096x4} (e : (x (ix2 t h) : EReal) = ((lg A h t g : ℝ) : EReal)) :
    (gate x0 x1 x5 x6 x (ix2 t h) : EReal) = ((ge A h t g : ℝ) : EReal) := by
  pointwise [gate]
  rw [e, best_at H, ← EReal.coe_sub, Ideal.exp_coe]; rfl

theorem gates_at : (gates x0 x1 x5 x6 (ix2 t h) : EReal) = ((gd A h t : ℝ) : EReal) := by
  pointwise [gates]
  rw [gate_at H h t 0 (H.l0 t h), gate_at H h t 1 (H.l1 t h), gate_at H h t 2 (logsums_at H h t), gd, Fin.sum_univ_three,
    EReal.coe_add, EReal.coe_add]

theorem share_at (g : Fin 3) {x : Arr S4096x4} {o : Arr S4096x4x128} (e : (x (ix2 t h) : EReal) = ((lg A h t g : ℝ) : EReal))
    (eo : (o (ix3 t h d) : EReal) = ((og A h t g d : ℝ) : EReal)) :
    (share x0 x1 x5 x6 x o (ix3 t h d) : EReal) = ((al A h t g * og A h t g d : ℝ) : EReal) := by
  pointwise [share]
  rw [gate_at H h t g e, gates_at H, eo, coe_div (gd_pos A h t).ne', ← EReal.coe_mul]; rfl

theorem mixture_at (c : Fin 8192) : (mixture x0 x1 x2 x3 x4 x5 x6 (ix2 i c) : EReal)
    = ((mixed A ⟨c.val / 128 % 4, by omega⟩ (tok i ⟨c.val / 512, by omega⟩) ⟨c.val % 128, by omega⟩ : ℝ) : EReal) := by
  pointwise [mixture]
  refine (congrArg₂ (· + ·) (congrArg₂ (· + ·) (share_at H _ _ (tok i ⟨c.val / 512, by omega⟩) 0 (H.l0 _ _) (H.o0 _ _ _))
    (share_at H _ _ _ 1 (H.l1 _ _) (H.o1 _ _ _))) (share_at H _ _ _ 2 (logsums_at H _ _) (outs_at H _ _ _))).trans ?_
  rw [mixed, EReal.coe_add, EReal.coe_add]; rfl

theorem total_at : (total x0 x1 x5 x6 (ix2 t h) : EReal) = ((lj A h t : ℝ) : EReal) := by
  rw [total, add_log_apply, best_at H, gates_at H]
  refine (congrArg (_ + ·) (coe_log (gd_pos A h t))).trans ?_
  rw [lj, EReal.coe_add]

theorem joint_at (c : Fin 8192) : (joint x0 x1 x5 x6 (ix2 i c) : EReal)
    = ((lj A ⟨c.val / 128 % 4, by omega⟩ (tok i ⟨c.val / 512, by omega⟩) : ℝ) : EReal) := by
  pointwise [joint]
  exact total_at H _ (tok i ⟨c.val / 512, by omega⟩)

omit H in
theorem stack_at (a : Fin 3) (c : Fin 8192) : (stack x0 x1 x2 (ix3 a i c) : EReal)
    = (![x0, x1, x2] a) (ix3 (tok i ⟨c.val / 512, by omega⟩) ⟨c.val / 128 % 4, by omega⟩ ⟨c.val % 128, by omega⟩) := by
  pointwise [stack, plane]
  fin_vals a with ha
  all_goals simp only [ha, Nat.reduceSub, Nat.reduceLT, ↓reduceDIte]
  · rw [show a = 0 from Fin.ext ha]; rfl
  · rw [show a = 1 from Fin.ext ha]; rfl
  · rw [show a = 2 from Fin.ext ha]; rfl

end Cert.KernelIdeal.Hand
-- ==== Proof.Final.lean ====
/- The result's array after the run, at finite arguments: block `t` is residue class `t`'s gradient, and the sixteen blocks
   fill the array. -/
module

public import proofs.«01_k».proof.Proof.Run
public import proofs.«01_k».proof.Proof.BodyAt
public import proofs.«01_k».proof.Proof.HostAt
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.SL.Sem Cert.Attn
open Idealize.ShloMosaic.Pipeline (Dat Cfg Window)
open Cert.ReferenceIdeal.Hand (Holds)

variable (m : (ℓ : Loc nD τ sig) → Buf (Elt Ideal) ℓ)

/-- The gradient of the attention at a row and a column of the result's three planes. -/
def gradAt (A : Args) (a : Fin 3) (i : Fin 256) (c : Fin 8192) : ℝ :=
  ![kdq A ⟨c.val / 128 % 4, by omega⟩ ⟨c.val / 512, by omega⟩ i ⟨c.val % 128, by omega⟩,
    kdk A ⟨c.val / 128 % 4, by omega⟩ ⟨c.val / 512, by omega⟩ i ⟨c.val % 128, by omega⟩,
    kdv A ⟨c.val / 128 % 4, by omega⟩ ⟨c.val / 512, by omega⟩ i ⟨c.val % 128, by omega⟩] a

theorem gradAt_congr (A : Args) {a a' : Fin 3} {i i' : Fin 256} {c c' : Fin 8192} (ha : a = a') (hi : i = i') (hc : c = c') :
    ((gradAt A a i c : ℝ) : EReal) = ((gradAt A a' i' c' : ℝ) : EReal) := by rw [ha, hi, hc]

/-- The gradient of the attention, as the result's array. -/
def grad (A : Args) : Brr S3x256x8192 := fun j => ((gradAt A (j 0) (j 1) (j 2) : ℝ) : EReal)

/-- The windows' blocks: lanes from `512 t`. -/
theorem index0 : ∀ t : Fin cfg0.N, win0_0.index t = ![0, 0, t.val] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, 0, t.val] := (by decide +kernel : ∀ t : Fin grid0.N, _)

theorem point_lt (t : Fin cfg0.N) : t.val < 16 := by have := t.isLt; have e : cfg0.N = 16 := N_0; omega

/-- Block `t`'s lane `l`, as a column of the whole array. -/
def col (t : Fin cfg0.N) (l : Fin 512) : Fin 8192 := ⟨t.val * 512 + l.val, by have := point_lt t; omega⟩

theorem col_class (t : Fin cfg0.N) (l : Fin 512) (h : (col t l).val / 512 < 16) :
    (⟨(col t l).val / 512, h⟩ : Fin 16) = ⟨t.val, point_lt t⟩ := Fin.ext (by simp only [col]; omega)
theorem col_head (t : Fin cfg0.N) (l : Fin 512) (h : (col t l).val / 128 % 4 < 4) (h' : l.val / 128 < 4) :
    (⟨(col t l).val / 128 % 4, h⟩ : Fin 4) = ⟨l.val / 128, h'⟩ := Fin.ext (by simp only [col]; omega)
theorem col_dim (t : Fin cfg0.N) (l : Fin 512) (h : (col t l).val % 128 < 128) (h' : l.val % 128 < 128) :
    (⟨(col t l).val % 128, h⟩ : Fin 128) = ⟨l.val % 128, h'⟩ := Fin.ext (by simp only [col]; omega)

theorem blk0_at (c : Dev nD) (t : Fin cfg0.N) (a : Fin 3) (i : Fin 256) (l : Fin 512) :
    iblk m c 0 t (ix3 a i l) = V m c main_v96 (ix3 a i (col t l)) := by
  blk_simp [iblk]
  refine congrArg (V m c main_v96) (funext fun b => Fin.ext ?_)
  match b with
  | ⟨0, _⟩ => blk_simp [index0]
  | ⟨1, _⟩ => blk_simp [index0]
  | ⟨2, _⟩ => blk_simp [index0]; rfl

theorem blk1_at (c : Dev nD) (t : Fin cfg0.N) (i : Fin 256) (l : Fin 512) :
    iblk m c 1 t (ix2 i l) = V m c main_v97 (ix2 i (col t l)) := by
  blk_simp [iblk]
  refine congrArg (V m c main_v97) (funext fun b => Fin.ext ?_)
  match b with
  | ⟨0, _⟩ => blk_simp [index1]
  | ⟨1, _⟩ => blk_simp [index1]; rfl

theorem blk2_at (c : Dev nD) (t : Fin cfg0.N) (i : Fin 256) (l : Fin 512) :
    iblk m c 2 t (ix2 i l) = V m c main_v98 (ix2 i (col t l)) := by
  blk_simp [iblk]
  refine congrArg (V m c main_v98) (funext fun b => Fin.ext ?_)
  match b with
  | ⟨0, _⟩ => blk_simp [index2]
  | ⟨1, _⟩ => blk_simp [index2]; rfl

theorem blk3_at (c : Dev nD) (t : Fin cfg0.N) (i : Fin 256) (l : Fin 512) :
    iblk m c 3 t (ix2 i l) = V m c main_v99 (ix2 i (col t l)) := by
  blk_simp [iblk]
  refine congrArg (V m c main_v99) (funext fun b => Fin.ext ?_)
  match b with
  | ⟨0, _⟩ => blk_simp [index3]
  | ⟨1, _⟩ => blk_simp [index3]; rfl

theorem dy_at (x7 : Brr S4096x4x128) (i : Fin 256) (c : Fin 8192) :
    (shapeCast S256x8192 x7 shapeCasts_S4096x4x128_S256x8192 : Brr S256x8192) (ix2 i c)
      = x7 (ix3 (tok i ⟨c.val / 512, by omega⟩) ⟨c.val / 128 % 4, by omega⟩ ⟨c.val % 128, by omega⟩) := by
  pointwise []
  rfl

section blocks
variable {A : Args} {m} {c : Dev nD}
  (H : Holds A (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)))
include H

/-- Block `t` of the operands holds residue class `t`. -/
theorem blockHolds (t : Fin cfg0.N) :
    BlockHolds A ⟨t.val, point_lt t⟩ (iblk m c 0 t) (iblk m c 1 t) (iblk m c 2 t) (iblk m c 3 t) where
  q i l := by
    rw [blk0_at, V_stack, stack_at, col_class, col_head t l _ (by omega), col_dim t l _ (by omega)]
    exact H.q _ _ _
  k i l := by
    rw [blk0_at, V_stack, stack_at, col_class, col_head t l _ (by omega), col_dim t l _ (by omega)]
    exact H.k _ _ _
  v i l := by
    rw [blk0_at, V_stack, stack_at, col_class, col_head t l _ (by omega), col_dim t l _ (by omega)]
    exact H.v _ _ _
  dy i l := by
    rw [blk1_at, V_dy, dy_at, col_class, col_head t l _ (by omega), col_dim t l _ (by omega)]
    exact H.dy _ _ _
  y i l := by
    rw [blk2_at, V_mixture, mixture_at H, col_class, col_head t l _ (by omega), col_dim t l _ (by omega)]
  lj i l := by
    rw [blk3_at, V_joint, joint_at H, col_class, col_head t l _ (by omega)]
  sc := H.sc

/-- What the body leaves of block `t`. -/
theorem outAt_at (t : Fin cfg0.N) (a : Fin 3) (i : Fin 256) (l : Fin 512) :
    outAt m c t (ix3 a i l) = ((gradAt A a i (col t l) : ℝ) : EReal) := by
  have B := blockHolds H t
  unfold outAt piecesAt
  rw [run_stores]
  unfold gradAt
  rw [col_class, col_head t l _ (by omega), col_dim t l _ (by omega)]
  match a with
  | ⟨0, _⟩ => exact stores_q B _ _ _ _ _ _ _ _ _ _ _ i l
  | ⟨1, _⟩ => exact stores_k B _ _ _ _ _ _ _ _ _ _ _ i l
  | ⟨2, _⟩ => exact stores_v B _ _ _ _ _ _ _ _ _ _ _ i l

/-- The result's array after the run. -/
theorem final_grad : (dats m 0 c).arrAt 4 cfg0.N = grad A := by
  refine (dats m 0 c).arrAt_eq_of_covers 4 _ (by decide +kernel) fun t hf y => ?_
  rw [after_out]
  blk_simp
  have e : y = ix3 (y 0) (y 1) (y 2) := funext fun b => by match b with | ⟨0, _⟩ => rfl | ⟨1, _⟩ => rfl | ⟨2, _⟩ => rfl
  rw [e]
  refine (outAt_at H t _ _ _).trans ?_
  have e0 : ((win0_4.blk t).view.emb (ix3 (y 0) (y 1) (y 2))) 0 = y 0 := Fin.ext (by blk_simp [index4])
  have e1 : ((win0_4.blk t).view.emb (ix3 (y 0) (y 1) (y 2))) 1 = y 1 := Fin.ext (by blk_simp [index4])
  have e2 : ((win0_4.blk t).view.emb (ix3 (y 0) (y 1) (y 2))) 2 = col t (y 2) := Fin.ext (by blk_simp [index4]; rfl)
  exact gradAt_congr A e0.symm e1.symm e2.symm

end blocks

end Cert.KernelIdeal.Hand
-- ==== Proof.Finite.lean ====
/- Finite arguments are real numbers: the precondition's value at every element, and the arguments it gives. -/
module

public import proofs.«01_k».proof.Defs
public import proofs.«01_k».proof.Proof.RefScores
public import Idealize.ShloMosaic.Lib.ReduceAll
public import Idealize.ShloMosaic.Lib.Pointwise

@[expose] public section

noncomputable section

namespace Cert.Pre_finite.Hand

open Cert.Pre_finite Idealize.ShloMosaic Cert.Attn

/-- The side conditions of the precondition's operations. -/
theorem facts : Cert.Pre_finite.Facts where
  bitsLt_bf16_f32 := by decide
  bcast_S_S4096x4x128 := by decide
  reducesTo_S4096x4x128_S_d0_1_2 := by decide
  h_S_ := by decide
  bcast_S_S4096x4 := by decide
  reducesTo_S4096x4_S_d0_1 := by decide
  bcast_S_S1 := by decide
  concatenates_S1_S1_S1_S1_S1_S1_S1_S1_S8_d0 := by decide

/-- A value whose magnitude compares below infinity is a real number. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [word_top] at h
  refine (EReal.coe_toReal ?_ ?_).symm
  · rintro rfl; revert h; simp [FloatOps.cmpf, FloatOps.absf, Ideal.cmp]
  · rintro rfl; revert h; simp [FloatOps.cmpf, FloatOps.absf, Ideal.cmp]

instance : Subsingleton S_.Idx := ⟨fun a b => funext fun i => i.elim0⟩

section
variable [Cert.Pre_finite.Facts]

/-- The eight flags in one array. -/
def flags (a0 a1 a2 a3 a4 a5 a6 a7 : IVec S1 1) : IVec S8 1 :=
  concatenate S8 0 [⟨S1, a0⟩, ⟨S1, a1⟩, ⟨S1, a2⟩, ⟨S1, a3⟩, ⟨S1, a4⟩, ⟨S1, a5⟩, ⟨S1, a6⟩, ⟨S1, a7⟩]
    Facts.concatenates_S1_S1_S1_S1_S1_S1_S1_S1_S8_d0

variable (a0 a1 a2 a3 a4 a5 a6 a7 : IVec S1 1)
theorem flag0 : flags a0 a1 a2 a3 a4 a5 a6 a7 (ix1 (0 : Fin 8)) = a0 (ix1 0) := by unfold flags; pointwise []; try rfl
theorem flag1 : flags a0 a1 a2 a3 a4 a5 a6 a7 (ix1 (1 : Fin 8)) = a1 (ix1 0) := by unfold flags; pointwise []; try rfl
theorem flag2 : flags a0 a1 a2 a3 a4 a5 a6 a7 (ix1 (2 : Fin 8)) = a2 (ix1 0) := by unfold flags; pointwise []; try rfl
theorem flag3 : flags a0 a1 a2 a3 a4 a5 a6 a7 (ix1 (3 : Fin 8)) = a3 (ix1 0) := by unfold flags; pointwise []; try rfl
theorem flag4 : flags a0 a1 a2 a3 a4 a5 a6 a7 (ix1 (4 : Fin 8)) = a4 (ix1 0) := by unfold flags; pointwise []; try rfl
theorem flag5 : flags a0 a1 a2 a3 a4 a5 a6 a7 (ix1 (5 : Fin 8)) = a5 (ix1 0) := by unfold flags; pointwise []; try rfl
theorem flag6 : flags a0 a1 a2 a3 a4 a5 a6 a7 (ix1 (6 : Fin 8)) = a6 (ix1 0) := by unfold flags; pointwise []; try rfl
theorem flag7 : flags a0 a1 a2 a3 a4 a5 a6 a7 (ix1 (7 : Fin 8)) = a7 (ix1 0) := by unfold flags; pointwise []; try rfl

variable {x0 x1 x2 x7 : FVec Ideal S4096x4x128 .bf16} {x3 x4 : FVec Ideal S4096x4x128 .f32}
  {x5 x6 : FVec Ideal S4096x4 .f32} (h : Cert.Pre_finite.fn (F := Ideal) x0 x1 x2 x3 x4 x5 x6 x7 = fun _ => 1#1)
include h

theorem real_q (i : S4096x4x128.Idx) : (x0 i : EReal) = (((x0 i : EReal).toReal : ℝ) : EReal) := by
  have e := (flag0 _ _ _ _ _ _ _ _).symm.trans (congrFun h (ix1 (0 : Fin 8)))
  have f : cmpf .olt (Host.absf (extf .f32 x0 Facts.bitsLt_bf16_f32 : FVec Ideal S4096x4x128 .f32)) (broadcastInDim S4096x4x128 ![] Facts.bcast_S_S4096x4x128 (constant S_ .f32 0x7F800000#32)) i = 1#1 :=
    Host.reduce_andi_all _ _ _ _ _ e i
  exact real_of_lt _ f
theorem real_k (i : S4096x4x128.Idx) : (x1 i : EReal) = (((x1 i : EReal).toReal : ℝ) : EReal) := by
  have e := (flag1 _ _ _ _ _ _ _ _).symm.trans (congrFun h (ix1 (1 : Fin 8)))
  have f : cmpf .olt (Host.absf (extf .f32 x1 Facts.bitsLt_bf16_f32 : FVec Ideal S4096x4x128 .f32)) (broadcastInDim S4096x4x128 ![] Facts.bcast_S_S4096x4x128 (constant S_ .f32 0x7F800000#32)) i = 1#1 :=
    Host.reduce_andi_all _ _ _ _ _ e i
  exact real_of_lt _ f
theorem real_v (i : S4096x4x128.Idx) : (x2 i : EReal) = (((x2 i : EReal).toReal : ℝ) : EReal) := by
  have e := (flag2 _ _ _ _ _ _ _ _).symm.trans (congrFun h (ix1 (2 : Fin 8)))
  have f : cmpf .olt (Host.absf (extf .f32 x2 Facts.bitsLt_bf16_f32 : FVec Ideal S4096x4x128 .f32)) (broadcastInDim S4096x4x128 ![] Facts.bcast_S_S4096x4x128 (constant S_ .f32 0x7F800000#32)) i = 1#1 :=
    Host.reduce_andi_all _ _ _ _ _ e i
  exact real_of_lt _ f
theorem real_o0 (i : S4096x4x128.Idx) : (x3 i : EReal) = (((x3 i : EReal).toReal : ℝ) : EReal) := by
  have e := (flag3 _ _ _ _ _ _ _ _).symm.trans (congrFun h (ix1 (3 : Fin 8)))
  have f : cmpf .olt (Host.absf x3) (broadcastInDim S4096x4x128 ![] Facts.bcast_S_S4096x4x128 (constant S_ .f32 0x7F800000#32)) i = 1#1 :=
    Host.reduce_andi_all _ _ _ _ _ e i
  exact real_of_lt _ f
theorem real_o1 (i : S4096x4x128.Idx) : (x4 i : EReal) = (((x4 i : EReal).toReal : ℝ) : EReal) := by
  have e := (flag4 _ _ _ _ _ _ _ _).symm.trans (congrFun h (ix1 (4 : Fin 8)))
  have f : cmpf .olt (Host.absf x4) (broadcastInDim S4096x4x128 ![] Facts.bcast_S_S4096x4x128 (constant S_ .f32 0x7F800000#32)) i = 1#1 :=
    Host.reduce_andi_all _ _ _ _ _ e i
  exact real_of_lt _ f
theorem real_l0 (i : S4096x4.Idx) : (x5 i : EReal) = (((x5 i : EReal).toReal : ℝ) : EReal) := by
  have e := (flag5 _ _ _ _ _ _ _ _).symm.trans (congrFun h (ix1 (5 : Fin 8)))
  have f : cmpf .olt (Host.absf x5) (broadcastInDim S4096x4 ![] Facts.bcast_S_S4096x4 (constant S_ .f32 0x7F800000#32)) i = 1#1 :=
    Host.reduce_andi_all _ _ _ _ _ e i
  exact real_of_lt _ f
theorem real_l1 (i : S4096x4.Idx) : (x6 i : EReal) = (((x6 i : EReal).toReal : ℝ) : EReal) := by
  have e := (flag6 _ _ _ _ _ _ _ _).symm.trans (congrFun h (ix1 (6 : Fin 8)))
  have f : cmpf .olt (Host.absf x6) (broadcastInDim S4096x4 ![] Facts.bcast_S_S4096x4 (constant S_ .f32 0x7F800000#32)) i = 1#1 :=
    Host.reduce_andi_all _ _ _ _ _ e i
  exact real_of_lt _ f
theorem real_dy (i : S4096x4x128.Idx) : (x7 i : EReal) = (((x7 i : EReal).toReal : ℝ) : EReal) := by
  have e := (flag7 _ _ _ _ _ _ _ _).symm.trans (congrFun h (ix1 (7 : Fin 8)))
  have f : cmpf .olt (Host.absf (extf .f32 x7 Facts.bitsLt_bf16_f32 : FVec Ideal S4096x4x128 .f32)) (broadcastInDim S4096x4x128 ![] Facts.bcast_S_S4096x4x128 (constant S_ .f32 0x7F800000#32)) i = 1#1 :=
    Host.reduce_andi_all _ _ _ _ _ e i
  exact real_of_lt _ f

/-- Finite arguments, as real numbers. -/
theorem holds : ∃ A : Args, Cert.ReferenceIdeal.Hand.Holds A x0 x1 x2 x3 x4 x5 x6 x7 := by
  obtain ⟨s, hs⟩ := word_scale
  exact ⟨{ q := fun t a d => (x0 (ix3 t a d) : EReal).toReal
           k := fun t a d => (x1 (ix3 t a d) : EReal).toReal
           v := fun t a d => (x2 (ix3 t a d) : EReal).toReal
           o0 := fun t a d => (x3 (ix3 t a d) : EReal).toReal
           o1 := fun t a d => (x4 (ix3 t a d) : EReal).toReal
           l0 := fun t a => (x5 (ix2 t a) : EReal).toReal
           l1 := fun t a => (x6 (ix2 t a) : EReal).toReal
           dy := fun t a d => (x7 (ix3 t a d) : EReal).toReal
           sc := s },
    { q := fun _ _ _ => real_q h _, k := fun _ _ _ => real_k h _, v := fun _ _ _ => real_v h _
      o0 := fun _ _ _ => real_o0 h _, o1 := fun _ _ _ => real_o1 h _
      l0 := fun _ _ => real_l0 h _, l1 := fun _ _ => real_l1 h _, dy := fun _ _ _ => real_dy h _, sc := hs }⟩

end

end Cert.Pre_finite.Hand
-- ==== Proof.RefGrad.lean ====
/- The reference's backward values at finite arguments, read at explicit indices: the mixture's weights and their
   derivative, the scores' derivative, and the gradients of queries, keys and values. -/
module

public import proofs.«01_k».proof.Proof.RefScores

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem Cert.Attn

variable {A : Args} {x0 x1 x2 : (⟨S4096x4x128, .bf16⟩ : BufTy).Contents (Elt Ideal)}
  {x3 x4 : (⟨S4096x4x128, .f32⟩ : BufTy).Contents (Elt Ideal)} {x5 x6 : (⟨S4096x4, .f32⟩ : BufTy).Contents (Elt Ideal)}
  {x7 : (⟨S4096x4x128, .bf16⟩ : BufTy).Contents (Elt Ideal)}
variable (H : Holds A x0 x1 x2 x3 x4 x5 x6 x7) (h : Fin 4) (r : Fin 16) (i j : Fin 256) (d : Fin 128) (t : Fin 4096)
  (g : Fin 3)
include H

/-! ## The mixture's weights -/

/-- The three log-sums, joined. -/
theorem r73 : (val_main_v73 (F := Ideal) x0 x1 x5 x6 (ix3 g t h) : EReal) = ((lg A h t g : ℝ) : EReal) := by
  pointwise [val_main_v73, val_main_v72, val_main_v71, val_main_v70]
  fin_vals g with hg
  all_goals simp only [hg, Nat.reduceSub, Nat.reduceLT, ↓reduceDIte]
  · rw [show g = 0 from Fin.ext hg]; exact H.l0 t h
  · rw [show g = 1 from Fin.ext hg]; exact H.l1 t h
  · rw [show g = 2 from Fin.ext hg]; exact r69 H h t

/-- The three outputs, joined. -/
theorem r108 : (val_main_v108 (F := Ideal) x0 x1 x2 x3 x4 (ix4 g t h d) : EReal) = ((og A h t g d : ℝ) : EReal) := by
  pointwise [val_main_v108, val_main_v107, val_main_v106, val_main_v105]
  fin_vals g with hg
  all_goals simp only [hg, Nat.reduceSub, Nat.reduceLT, ↓reduceDIte]
  · rw [show g = 0 from Fin.ext hg]; exact H.o0 t h d
  · rw [show g = 1 from Fin.ext hg]; exact H.o1 t h d
  · rw [show g = 2 from Fin.ext hg]; exact r67 H h d t

/-- The greatest of the log-sums, -/
theorem r83 : (val_main_v83 (F := Ideal) x0 x1 x5 x6 (ix2 t h) : EReal) = ((gm A h t : ℝ) : EReal) := by
  pointwise [val_main_v83, val_main_v82, val_main_cst_14, val_main_v76]
  rw [show (val_main_cst_12 (F := Ideal) (Shape.Idx.first h_S_) : EReal) = ⊥ from word_bot, word_bot]
  have e : (fun x => (val_main_v73 (F := Ideal) x0 x1 x5 x6 (ix3 x t h) : EReal)) = fun x => ((lg A h t x : ℝ) : EReal) :=
    funext fun x => r73 H h t x
  have e3 : (Finset.univ : Finset (Fin 3)) = {0, 1, 2} := rfl
  rw [e, e3, Finset.fold_insert (by decide), Finset.fold_insert (by decide), Finset.fold_singleton,
    max_eq_left bot_le, max_eq_right bot_le, coe_max, coe_max, gm, max_assoc]

/-- the weights before normalising, their sum, -/
theorem r96 : (val_main_v96 (F := Ideal) x0 x1 x5 x6 (ix3 g t h) : EReal) = ((ge A h t g : ℝ) : EReal) := by
  pointwise [val_main_v96, val_main_v95, val_main_v94, val_main_v93]
  rw [r73 H, r83 H, ← EReal.coe_sub, Ideal.exp_coe]; rfl
theorem r97 : (val_main_v97 (F := Ideal) x0 x1 x5 x6 (ix2 t h) : EReal) = ((gd A h t : ℝ) : EReal) := by
  pointwise [val_main_v97, val_main_cst_20]
  exact coe_sum_of fun g => r96 H h t g
theorem r100 : (val_main_v100 (F := Ideal) x0 x1 x5 x6 (ix3 g t h) : EReal) = ((al A h t g : ℝ) : EReal) := by
  pointwise [val_main_v100, val_main_v99, val_main_v98]
  rw [r96 H, r97 H, coe_div (gd_pos A h t).ne']; rfl
theorem r103 : (val_main_v103 (F := Ideal) x0 x1 x5 x6 (ix3 0 t h) : EReal)
    = ((1 / (gd A h t * gd A h t) : ℝ) : EReal) := by
  have hd := gd_pos A h t
  pointwise [val_main_v103, val_main_v102, val_main_v101, val_main_v98, val_main_cst_21]
  rw [r97 H, ← EReal.coe_mul, ← EReal.coe_one, coe_div (by positivity)]

/-! ## Their derivative -/

theorem r126 : (val_main_v126 (F := Ideal) x0 x1 x2 x3 x4 x7 (ix3 g t h) : EReal) = ((dal A h t g : ℝ) : EReal) := by
  pointwise [val_main_v126, val_main_v119, val_main_v118, val_main_cst_25, val_main_cst_26]
  rw [Fin.sum_univ_one]
  refine coe_sum_of fun d => ?_
  pointwise [val_main_v117, val_main_v114, val_main_v3]
  rw [r108 H, H.dy, ← EReal.coe_mul]

theorem r130 : (val_main_v130 (F := Ideal) x0 x1 x2 x3 x4 x5 x6 x7 (ix2 t h) : EReal)
    = ((∑ g, dal A h t g * (1 / (gd A h t * gd A h t)) * ge A h t g : ℝ) : EReal) := by
  pointwise [val_main_v130, val_main_cst_27]
  refine coe_sum_of fun g => ?_
  pointwise [val_main_v129, val_main_v128, val_main_v127]
  rw [r126 H, r103 H, r96 H, ← EReal.coe_mul, ← EReal.coe_mul]

theorem r138 : (val_main_v138 (F := Ideal) x0 x1 x2 x3 x4 x5 x6 x7 (ix3 2 t h) : EReal) = ((dl A h t : ℝ) : EReal) := by
  pointwise [val_main_v138, val_main_v137, val_main_v136, val_main_v135, val_main_v134, val_main_v133, val_main_v132,
    val_main_v131, val_main_v98]
  rw [Fin.sum_univ_one, show (val_main_cst_28 (F := Ideal) (Shape.Idx.first h_S_) : EReal) = 0 from Ideal.ofBits_zero_f32,
    zero_add, r126 H, r97 H, r130 H, r96 H, coe_div (gd_pos A h t).ne', ← EReal.coe_neg, ← EReal.coe_add, ← EReal.coe_mul]
  rfl

theorem r148 : (val_main_v148 (F := Ideal) x0 x1 x5 x6 x7 (ix4 h r i d) : EReal) = ((dO A h (tok i r) d : ℝ) : EReal) := by
  pointwise [val_main_v148, val_main_v147, val_main_v125, val_main_v124, val_main_v116, val_main_v115, val_main_v114,
    val_main_v3, val_main_v104]
  refine (congrArg₂ (· * ·) (r100 H h (tok i r) 2) (H.dy (tok i r) h d)).trans ?_
  rw [← EReal.coe_mul]; rfl

theorem r149 : (val_main_v149 (F := Ideal) x0 x1 x2 x3 x4 x5 x6 x7 (ix4 h r i 0) : EReal)
    = ((dl A h (tok i r) : ℝ) : EReal) := by
  pointwise [val_main_v149, val_main_v146, val_main_v145, val_main_v144, val_main_v143]
  exact r138 H h (tok i r)

/-! ## The scores' derivative -/

theorem r153 : (val_main_v153 (F := Ideal) x0 x1 x2 x5 x6 x7 (ix4 h r i j) : EReal) = ((dP A h r i j : ℝ) : EReal) := by
  pointwise [val_main_v153]
  exact coe_sum_of fun d => by rw [r148 H, r19 H, ← EReal.coe_mul]

theorem r157 : (val_main_v157 (F := Ideal) x0 x1 x2 x5 x6 x7 (ix3 h r i) : EReal)
    = ((∑ j, dP A h r i j * (1 / (den A h r i * den A h r i)) * pr A h r i j : ℝ) : EReal) := by
  pointwise [val_main_v157, val_main_cst_29]
  refine coe_sum_of fun j => ?_
  pointwise [val_main_v156, val_main_v155, val_main_v154]
  rw [r153 H, r61 H, r54 H, ← EReal.coe_mul, ← EReal.coe_mul]

theorem r160 : (val_main_v160 (F := Ideal) x0 x1 x2 x3 x4 x5 x6 x7 (ix4 h r i 0) : EReal)
    = ((dl A h (tok i r) / den A h r i
      + -(∑ j, dP A h r i j * (1 / (den A h r i * den A h r i)) * pr A h r i j) : ℝ) : EReal) := by
  have e150 : (val_main_v150 (F := Ideal) x0 x1 x2 x3 x4 x5 x6 x7 (ix4 h r i 0) : EReal)
      = ((dl A h (tok i r) / den A h r i : ℝ) : EReal) := by
    rw [val_main_v150_apply, r149 H, r56 H]
    exact coe_div (den_pos A h r i).ne'
  have e159 : (val_main_v159 (F := Ideal) x0 x1 x2 x5 x6 x7 (ix4 h r i 0) : EReal)
      = ((-(∑ j, dP A h r i j * (1 / (den A h r i * den A h r i)) * pr A h r i j) : ℝ) : EReal) := by
    pointwise [val_main_v159, val_main_v158]
    rw [r157 H, ← EReal.coe_neg]
  rw [val_main_v160_apply, e150, e159]
  exact (EReal.coe_add _ _).symm

theorem r166 : (val_main_v166 (F := Ideal) x0 x1 x2 x3 x4 x5 x6 x7 (ix4 h r i j) : EReal)
    = ((G A h r i j : ℝ) : EReal) := by
  have e162 : (val_main_v162 (F := Ideal) x0 x1 x2 x5 x6 x7 (ix4 h r i j) : EReal)
      = ((dP A h r i j / den A h r i : ℝ) : EReal) := by
    pointwise [val_main_v162, val_main_v161]
    rw [r153 H, r56 H, coe_div (den_pos A h r i).ne']
  have e164 : (val_main_v164 (F := Ideal) x0 x1 x2 x3 x4 x5 x6 x7 (ix4 h r i j) : EReal)
      = ((dl A h (tok i r) / den A h r i
        + -(∑ j, dP A h r i j * (1 / (den A h r i * den A h r i)) * pr A h r i j) : ℝ) : EReal) := by
    pointwise [val_main_v164, val_main_v163, val_main_cst_30]
    rw [Fin.sum_univ_one]; exact r160 H h r i
  rw [val_main_v166_apply, val_main_v165_apply, e162, e164, r54 H]
  refine (congrArg (· * _) (EReal.coe_add _ _).symm).trans ?_
  rw [← EReal.coe_mul]; rfl

/-- What goes back through the greatest score is zero: the weights' derivatives cancel it. -/
theorem G_sum : dl A h (tok i r) + -(∑ j, G A h r i j) = 0 := by
  have hd := (den_pos A h r i).ne'
  have hs : (∑ j, pr A h r i j) = den A h r i := rfl
  have hp : (∑ j, kp A h r i j) = al A h (tok i r) 2 := by
    simp only [kp_eq, ← Finset.mul_sum, ← Finset.sum_div, hs, div_self hd, mul_one]
  have hk : (∑ j, kp A h r i j * kdp A h r i j) = al A h (tok i r) 2 * dal A h (tok i r) 2 := by
    rw [dal_two, Finset.mul_sum]
    exact Finset.sum_congr rfl fun j _ => by rw [kp_eq]; ring
  have hG : (∑ j, G A h r i j) = al A h (tok i r) 2 * dal A h (tok i r) 2 - al A h (tok i r) 2 * kdelta A h r i := by
    simp only [G_eq, kds, mul_sub, Finset.sum_sub_distrib, ← Finset.sum_mul, hk, hp]
  rw [hG, dl_eq]; ring

theorem r170 : (val_main_v170 (F := Ideal) x0 x1 x2 x3 x4 x5 x6 x7 (ix4 h r i 0) : EReal) = ((0 : ℝ) : EReal) := by
  have e168 : (val_main_v168 (F := Ideal) x0 x1 x2 x3 x4 x5 x6 x7 (ix3 h r i) : EReal)
      = ((∑ j, -G A h r i j : ℝ) : EReal) := by
    pointwise [val_main_v168, val_main_cst_31]
    refine coe_sum_of fun j => ?_
    pointwise [val_main_v167]
    rw [r166 H, ← EReal.coe_neg]
  have e169 : (val_main_v169 (F := Ideal) x0 x1 x2 x3 x4 x5 x6 x7 (ix4 h r i 0) : EReal)
      = ((∑ j, -G A h r i j : ℝ) : EReal) := by
    pointwise [val_main_v169]
    exact e168
  rw [val_main_v170_apply, r149 H, e169]
  refine (EReal.coe_add _ _).symm.trans ?_
  rw [Finset.sum_neg_distrib, G_sum H h r i]

/-- The number of greatest scores is a positive real. -/
theorem r50 : ∃ n : ℝ, 0 < n ∧ (val_main_v50 (F := Ideal) x0 x1 (ix3 h r i) : EReal) = ((n : ℝ) : EReal) := by
  pointwise [val_main_v50, val_main_v49, val_main_v48, val_main_v47, val_main_v46, val_main_cst_7]
  refine ⟨∑ j, ((BitVec.ofBool (decide (val_main_v44_0 (F := Ideal) x0 x1 (ix4 h r i j)
    = val_main_v45 (F := Ideal) x0 x1 (ix3 h r i)))).toNat : ℝ), ?_, coe_sum_of fun j => rfl⟩
  obtain ⟨j, hb, e⟩ := top_attained A h r i
  refine Finset.sum_pos' (fun j _ => Nat.cast_nonneg _) ⟨j, Finset.mem_univ j, ?_⟩
  rw [decide_eq_true (by rw [r44 H, r45 H, if_pos hb, e]), show (BitVec.ofBool true).toNat = 1 from rfl, Nat.cast_one]
  exact one_pos

theorem r175 : (val_main_v175 (F := Ideal) x0 x1 x2 x3 x4 x5 x6 x7 (ix4 h r i j) : EReal)
    = ((G A h r i j : ℝ) : EReal) := by
  have e173 : (val_main_v173 (F := Ideal) x0 x1 x2 x3 x4 x5 x6 x7 (ix4 h r i j) : EReal) = ((0 : ℝ) : EReal) := by
    obtain ⟨n, hn, e⟩ := r50 H h r i
    pointwise [val_main_v173, val_main_v172, val_main_v171, val_main_cst_32]
    rw [Fin.sum_univ_one, r170 H, e, coe_div hn.ne', zero_div]
  rw [val_main_v175_apply, val_main_v174_apply, e173, r166 H]
  refine (congrArg (_ + ·) (show ((0 : ℝ) : EReal) * (val_main_v49 (F := Ideal) x0 x1 (ix4 h r i j) : EReal) = 0 by
    rw [EReal.coe_zero, zero_mul])).trans ?_
  exact add_zero _

theorem r178 : (val_main_v178 (F := Ideal) x0 x1 x2 x3 x4 x5 x6 x7 (ix4 h r i j) : EReal)
    = ((dS A h r i j : ℝ) : EReal) := by
  rw [val_main_v178_apply, val_main_v176_apply, r175 H]
  pointwise [val_main_v44_1, val_main_v41, val_main_v40, val_main_v30, val_main_v29, val_main_v28, val_main_v27,
    val_main_v26, val_main_v25, val_main_v24, val_main_v23, val_main_c_4, val_main_v177, val_main_cst_33,
    val_main_call1_v0, val_main_call1_cst]
  rw [H.sc]
  refine (select_band i j _ _).trans ?_
  rw [dS]
  split
  · rw [EReal.coe_mul]
  · rw [zero_mul, EReal.coe_zero]

/-! ## The gradients -/

theorem r180 : (val_main_v180 (F := Ideal) x0 x1 x2 x3 x4 x5 x6 x7 (ix4 h r i d) : EReal)
    = ((kdq A h r i d : ℝ) : EReal) := by
  rw [← dq_eq]
  pointwise [val_main_v180]
  refine coe_sum_of fun j => ?_
  rw [r178 H, r17 H, ← EReal.coe_mul]
theorem r179 : (val_main_v179 (F := Ideal) x0 x1 x2 x3 x4 x5 x6 x7 (ix4 h r j d) : EReal)
    = ((kdk A h r j d : ℝ) : EReal) := by
  rw [← dk_eq]
  pointwise [val_main_v179]
  refine coe_sum_of fun i => ?_
  rw [r178 H, r15 H, ← EReal.coe_mul]
theorem r152 : (val_main_v152 (F := Ideal) x0 x1 x5 x6 x7 (ix4 h r j d) : EReal)
    = ((kdv A h r j d : ℝ) : EReal) := by
  rw [← dv_eq]
  pointwise [val_main_v152, val_main_v151]
  refine coe_sum_of fun i => ?_
  rw [r148 H, r58 H, ← EReal.coe_mul]

/-- The reference's result: gradient `a` (queries, keys, values) at row `i` and column `c`, whose residue class, head and
    lane are the column's digits. -/
theorem r194 (a : Fin 3) (c : Fin 8192) :
    (val_main_v194 (F := Ideal) x0 x1 x2 x3 x4 x5 x6 x7 (ix3 a i c) : EReal)
      = ((![kdq A ⟨c.val / 128 % 4, by omega⟩ ⟨c.val / 512, by omega⟩ i ⟨c.val % 128, by omega⟩,
            kdk A ⟨c.val / 128 % 4, by omega⟩ ⟨c.val / 512, by omega⟩ i ⟨c.val % 128, by omega⟩,
            kdv A ⟨c.val / 128 % 4, by omega⟩ ⟨c.val / 512, by omega⟩ i ⟨c.val % 128, by omega⟩] a : ℝ) : EReal) := by
  pointwise [val_main_v194, val_main_v193, val_main_v192, val_main_v191, val_main_v190, val_main_v189, val_main_v188,
    val_main_v187, val_main_v186, val_main_v185, val_main_v184, val_main_v183, val_main_v182, val_main_v181]
  fin_vals a with ha
  all_goals simp only [ha, Nat.reduceSub, Nat.reduceLT, ↓reduceDIte]
  · rw [show a = 0 from Fin.ext ha]; exact r180 H _ _ i _
  · rw [show a = 1 from Fin.ext ha]; exact r179 H _ _ i _
  · rw [show a = 2 from Fin.ext ha]; exact r152 H _ _ i _

end Cert.ReferenceIdeal.Hand
-- ==== Proof.MlpUp.lean ====
/- The gradient of the MLP's hidden layer: the kernel's sixteen blocks hold the reference's product of `dy` and the
   transposed weight, times the derivative of the squared positive part, twice the positive part. -/
module

public import proofs.«01_k».proof.Proof.Gen.UpIdeal.Value
public import proofs.«01_k».proof.Proof.Gen.UpRefIdeal.Read
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.UpRefIdeal.Hand

open Cert.UpRefIdeal Cert.UpRefIdeal.Gen Cert.UpRefIdeal.Read
open Idealize.ShloMosaic

/-- The reference's element in row `a`, column `b`: where `u` is not positive both the chosen zero and the factor are zero. -/
theorem at_index (u : FVec Ideal S4096x8192 .f32) (w : FVec Ideal S8192x2048 .bf16) (dy : FVec Ideal S4096x2048 .bf16)
    (a : Fin 4096) (b : Fin 8192) :
    val_main_v14 (F := Ideal) u w dy (ix2 a b)
      = (∑ k : Fin 2048, dy (ix2 a k) * w (ix2 b k)) * (Ideal.ofBits .f32 0x40000000#32 * max (u (ix2 a b)) 0) := by
  pointwise [val_main_v14, val_main_v13, val_main_v12, val_main_cst_2, val_main_v11, val_main_v10, val_main_v8, val_main_v7,
    val_main_cst_1, val_main_v4, val_main_v3, val_main_cst, val_main_v2, val_main_call0_v0, val_main_call0_cst, val_main_v1, val_main_v0]
  by_cases h : 0 < u (ix2 a b)
  · rw [if_pos h]
  · rw [if_neg h, max_eq_right (not_lt.mp h), mul_zero, mul_zero]

end Cert.UpRefIdeal.Hand

namespace Cert.UpIdeal.Hand

open Cert.UpIdeal Cert.UpIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

theorem point_lt (t : Fin cfg0.N) : t.val < 16 := by have := t.isLt; have e : cfg0.N = 16 := N_0; omega

/-- Block `t`'s row. -/
def row (t : Fin cfg0.N) (r : Fin 1024) : Fin 4096 := ⟨t.val / 4 * 1024 + r.val, by have := point_lt t; omega⟩
/-- Block `t`'s column. -/
def col (t : Fin cfg0.N) (l : Fin 2048) : Fin 8192 := ⟨t.val % 4 * 2048 + l.val, by omega⟩

/-- The positive part, as the launch is given it. -/
def pos (u : FVec Ideal S4096x8192 .f32) : FVec Ideal S4096x8192 .bf16 :=
  truncf .bf16 (maximumf u (broadcastInDim S4096x8192 ![] bcast_S_S4096x8192 (constant S_ .f32 0x00000000#32))) bitsLt_bf16_f32

theorem pos_at (u : FVec Ideal S4096x8192 .f32) (k : Fin 4096) (a : Fin 8192) : pos u (ix2 k a) = max (u (ix2 k a)) 0 := by
  pointwise [pos]

theorem V_pos (c : Dev nD) : V m c main_v1 = pos (m (c.tc.loc main_arg0)) := by
  dsimp only [V, hostOps0, hostOps0_1, List.flatten_cons, List.flatten_nil, List.append_nil, List.cons_append, List.nil_append]
  after_results_simp
  rfl

theorem blk0_at (c : Dev nD) (t : Fin cfg0.N) (r : Fin 1024) (k : Fin 2048) :
    iblk m c 0 t (ix2 r k) = V m c main_arg2 (ix2 (row t r) k) := by
  blk_simp [iblk]
  refine congrArg (V m c main_arg2) (funext fun b => Fin.ext ?_)
  match b with
  | ⟨0, _⟩ => blk_simp [index0]; rfl
  | ⟨1, _⟩ => blk_simp [index0]

theorem blk1_at (c : Dev nD) (t : Fin cfg0.N) (l k : Fin 2048) :
    iblk m c 1 t (ix2 l k) = V m c main_arg1 (ix2 (col t l) k) := by
  blk_simp [iblk]
  refine congrArg (V m c main_arg1) (funext fun b => Fin.ext ?_)
  match b with
  | ⟨0, _⟩ => blk_simp [index1]; rfl
  | ⟨1, _⟩ => blk_simp [index1]

theorem blk2_at (c : Dev nD) (t : Fin cfg0.N) (r : Fin 1024) (l : Fin 2048) :
    iblk m c 2 t (ix2 r l) = V m c main_v1 (ix2 (row t r) (col t l)) := by
  blk_simp [iblk]
  refine congrArg (V m c main_v1) (funext fun b => Fin.ext ?_)
  match b with
  | ⟨0, _⟩ => blk_simp [index2]; rfl
  | ⟨1, _⟩ => blk_simp [index2]; rfl

theorem pay_at (x : FVec Ideal S1024x2048 .bf16) (y : FVec Ideal S2048x2048 .bf16) (z : FVec Ideal S1024x2048 .bf16)
    (r : Fin 1024) (l : Fin 2048) :
    k0_pay1 (F := Ideal) x y z (ix2 r l)
      = (∑ k : Fin 2048, x (ix2 r k) * y (ix2 l k)) * (Ideal.ofBits .f32 0x40000000#32 * z (ix2 r l)) := by
  pointwise [k0_pay1]

theorem out_eq (x : FVec Ideal S1024x2048 .bf16) (y : FVec Ideal S2048x2048 .bf16) (z : FVec Ideal S1024x2048 .bf16) :
    out0_3 (F := Ideal) x y z = k0_pay1 (F := Ideal) x y z := by
  unfold out0_3 r0_1 r0_0
  rw [View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl)]

/-- What point `t` writes back. -/
theorem out_at (c : Dev nD) (t : Fin cfg0.N) (r : Fin 1024) (l : Fin 2048) :
    out0_3 (F := Ideal) (iblk m c 0 t) (iblk m c 1 t) (iblk m c 2 t) (ix2 r l)
      = Cert.UpRefIdeal.Read.val_main_v14 (F := Ideal) (m (c.tc.loc main_arg0)) (m (c.tc.loc main_arg1)) (m (c.tc.loc main_arg2))
          (ix2 (row t r) (col t l)) := by
  rw [out_eq]
  refine (pay_at _ _ _ r l).trans ?_
  refine Eq.trans ?_ (Cert.UpRefIdeal.Hand.at_index _ _ _ _ _).symm
  refine congrArg₂ (fun x y : EReal => x * y) (Finset.sum_congr rfl fun k _ => ?_) (congrArg (fun x : EReal => _ * x) ?_)
  · rw [blk0_at, blk1_at, V_main_arg1, V_main_arg2]
  · rw [blk2_at, V_pos]
    exact pos_at _ _ _

/-- The result's array after the run. -/
theorem final (c : Dev nD) : (dats m 0 c).arrAt 3 cfg0.N
    = Cert.UpRefIdeal.Read.val_main_v14 (F := Ideal) (m (c.tc.loc main_arg0)) (m (c.tc.loc main_arg1)) (m (c.tc.loc main_arg2)) := by
  refine (dats m 0 c).arrAt_eq_of_covers 3 _ (by decide +kernel) fun t hf y => ?_
  rw [after0_3]
  blk_simp
  have e : y = ix2 (y 0) (y 1) := funext fun b => by match b with | ⟨0, _⟩ => rfl | ⟨1, _⟩ => rfl
  rw [e]
  refine (out_at m c t (y 0) (y 1)).trans (congrArg _ (Eq.symm ?_))
  funext b
  refine Fin.ext ?_
  match b with
  | ⟨0, _⟩ => blk_simp [index3]; rfl
  | ⟨1, _⟩ => blk_simp [index3]; rfl

end Cert.UpIdeal.Hand
-- ==== Proof.MlpDownW.lean ====
/- The gradient of the MLP's second weight: the kernel's sixteen blocks hold the reference's product of the transposed
   activation, the square of `u`'s positive part, and `dy`. -/
module

public import proofs.«01_k».proof.Proof.Gen.DownWIdeal.Value
public import proofs.«01_k».proof.Proof.Gen.DownWRefIdeal.Read
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.DownWRefIdeal.Hand

open Cert.DownWRefIdeal Cert.DownWRefIdeal.Gen Cert.DownWRefIdeal.Read
open Idealize.ShloMosaic

/-- The reference's element in row `a`, column `b`. -/
theorem at_index (u : FVec Ideal S4096x8192 .f32) (dy : FVec Ideal S4096x2048 .bf16) (a : Fin 8192) (b : Fin 2048) :
    val_main_v7 (F := Ideal) u dy (ix2 a b)
      = ∑ k : Fin 4096, max (u (ix2 k a)) 0 * max (u (ix2 k a)) 0 * dy (ix2 k b) := by
  pointwise [val_main_v7, val_main_v6, val_main_v5, val_main_v3, val_main_v2, val_main_call0_v0, val_main_call0_cst, val_main_v0]
  refine Finset.sum_congr rfl fun k _ => ?_
  rw [mul_comm]

end Cert.DownWRefIdeal.Hand

namespace Cert.DownWIdeal.Hand

open Cert.DownWIdeal Cert.DownWIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

theorem point_lt (t : Fin cfg0.N) : t.val < 16 := by have := t.isLt; have e : cfg0.N = 16 := N_0; omega

/-- Block `t`'s row of the weight. -/
def row (t : Fin cfg0.N) (r : Fin 1024) : Fin 8192 := ⟨t.val / 2 * 1024 + r.val, by have := point_lt t; omega⟩
/-- Block `t`'s column of the weight. -/
def col (t : Fin cfg0.N) (l : Fin 1024) : Fin 2048 := ⟨t.val % 2 * 1024 + l.val, by omega⟩

/-- The activation the launch is given: the square of the positive part. -/
def act (u : FVec Ideal S4096x8192 .f32) : FVec Ideal S4096x8192 .bf16 :=
  truncf .bf16 (mulf (maximumf u (broadcastInDim S4096x8192 ![] bcast_S_S4096x8192 (constant S_ .f32 0x00000000#32)))
    (maximumf u (broadcastInDim S4096x8192 ![] bcast_S_S4096x8192 (constant S_ .f32 0x00000000#32)))) bitsLt_bf16_f32

theorem act_at (u : FVec Ideal S4096x8192 .f32) (k : Fin 4096) (a : Fin 8192) :
    act u (ix2 k a) = max (u (ix2 k a)) 0 * max (u (ix2 k a)) 0 := by
  pointwise [act]

theorem V_act (c : Dev nD) : V m c main_v2 = act (m (c.tc.loc main_arg0)) := by
  dsimp only [V, hostOps0, hostOps0_1, List.flatten_cons, List.flatten_nil, List.append_nil, List.cons_append, List.nil_append]
  after_results_simp
  rfl

theorem blk0_at (c : Dev nD) (t : Fin cfg0.N) (k : Fin 4096) (r : Fin 1024) :
    iblk m c 0 t (ix2 k r) = V m c main_v2 (ix2 k (row t r)) := by
  blk_simp [iblk]
  refine congrArg (V m c main_v2) (funext fun b => Fin.ext ?_)
  match b with
  | ⟨0, _⟩ => blk_simp [index0]
  | ⟨1, _⟩ => blk_simp [index0]; rfl

theorem blk1_at (c : Dev nD) (t : Fin cfg0.N) (k : Fin 4096) (l : Fin 1024) :
    iblk m c 1 t (ix2 k l) = V m c main_arg1 (ix2 k (col t l)) := by
  blk_simp [iblk]
  refine congrArg (V m c main_arg1) (funext fun b => Fin.ext ?_)
  match b with
  | ⟨0, _⟩ => blk_simp [index1]
  | ⟨1, _⟩ => blk_simp [index1]; rfl

theorem pay_at (x y : FVec Ideal S4096x1024 .bf16) (r l : Fin 1024) :
    k0_pay1 (F := Ideal) x y (ix2 r l) = ∑ k : Fin 4096, x (ix2 k r) * y (ix2 k l) := by
  pointwise [k0_pay1]

theorem out_eq (x y : FVec Ideal S4096x1024 .bf16) : out0_2 (F := Ideal) x y = k0_pay1 (F := Ideal) x y := by
  unfold out0_2 r0_1 r0_0
  rw [View.canon_unit_zero (funext fun a => by fin_cases a <;> rfl), View.ld_unit_zero (funext fun a => by fin_cases a <;> rfl),
    View.ld_unit_zero (funext fun a => by fin_cases a <;> rfl)]

/-- What point `t` writes back. -/
theorem out_at (c : Dev nD) (t : Fin cfg0.N) (r l : Fin 1024) :
    out0_2 (F := Ideal) (iblk m c 0 t) (iblk m c 1 t) (ix2 r l)
      = Cert.DownWRefIdeal.Read.val_main_v7 (F := Ideal) (m (c.tc.loc main_arg0)) (m (c.tc.loc main_arg1))
          (ix2 (row t r) (col t l)) := by
  rw [out_eq]
  refine (pay_at _ _ r l).trans ?_
  refine Eq.trans ?_ (Cert.DownWRefIdeal.Hand.at_index _ _ _ _).symm
  refine Finset.sum_congr rfl fun k _ => ?_
  rw [blk0_at, blk1_at, V_act, V_main_arg1]
  exact congrArg (· * (m (c.tc.loc main_arg1) (ix2 k (col t l)) : EReal)) (act_at _ _ _)

/-- The result's array after the run. -/
theorem final (c : Dev nD) : (dats m 0 c).arrAt 2 cfg0.N
    = Cert.DownWRefIdeal.Read.val_main_v7 (F := Ideal) (m (c.tc.loc main_arg0)) (m (c.tc.loc main_arg1)) := by
  refine (dats m 0 c).arrAt_eq_of_covers 2 _ (by decide +kernel) fun t hf y => ?_
  rw [after0_2]
  blk_simp
  have e : y = ix2 (y 0) (y 1) := funext fun b => by match b with | ⟨0, _⟩ => rfl | ⟨1, _⟩ => rfl
  rw [e]
  refine (out_at m c t (y 0) (y 1)).trans (congrArg _ (Eq.symm ?_))
  funext b
  refine Fin.ext ?_
  match b with
  | ⟨0, _⟩ => blk_simp [index2]; rfl
  | ⟨1, _⟩ => blk_simp [index2]; rfl

end Cert.DownWIdeal.Hand
-- ==== Proof.MlpUpW.lean ====
/- The gradient of the MLP's first weight: the kernel's sixteen blocks hold the reference's product `hᵀ · du`, cut into
   four stacks of 2048 columns. -/
module

public import proofs.«01_k».proof.Proof.Gen.UpWIdeal.Value
public import proofs.«01_k».proof.Proof.Gen.UpWRefIdeal.Read
public import Idealize.ShloMosaic.Lib.Pipeline.ValueKit.Geometry
public import Idealize.ShloMosaic.Lib.Pointwise

@[expose] public section

set_option maxRecDepth 16384

noncomputable section

namespace Cert.UpWRefIdeal.Hand

open Cert.UpWRefIdeal Cert.UpWRefIdeal.Gen Cert.UpWRefIdeal.Read
open Idealize.ShloMosaic

/-- The reference's element in stack `s`, row `a`, column `b`. -/
theorem at_index (h : FVec Ideal S4096x2048 .bf16) (du : FVec Ideal S4096x8192 .bf16) (s : Fin 4) (a b : Fin 2048) :
    val_main_v8 (F := Ideal) h du (ix3 s a b)
      = ∑ k : Fin 4096, h (ix2 k a) * du (ix2 k ⟨s.val * 2048 + b.val, by omega⟩) := by
  pointwise [val_main_v8, val_main_v7, val_main_v6, val_main_v5, val_main_v4, val_main_v1, val_main_v0]
  refine Finset.sum_congr rfl fun k _ => ?_
  rw [mul_comm]

end Cert.UpWRefIdeal.Hand

namespace Cert.UpWIdeal.Hand

open Cert.UpWIdeal Cert.UpWIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![0, t.val / 8] := (by decide +kernel : ∀ t : Fin grid0.N, _)
theorem index1 : ∀ t : Fin cfg0.N, win0_1.index t = ![0, t.val % 8] := (by decide +kernel : ∀ t : Fin grid0.N, _)
theorem index2 : ∀ t : Fin cfg0.N, win0_2.index t = ![t.val % 8 / 2, t.val / 8, t.val % 2] :=
  (by decide +kernel : ∀ t : Fin grid0.N, _)

theorem point_lt (t : Fin cfg0.N) : t.val < 16 := by have := t.isLt; have e : cfg0.N = 16 := N_0; omega

/-- Block `t`'s row of the weight. -/
def row (t : Fin cfg0.N) (r : Fin 1024) : Fin 2048 := ⟨t.val / 8 * 1024 + r.val, by have := point_lt t; omega⟩
/-- Block `t`'s column among the 8192. -/
def col (t : Fin cfg0.N) (l : Fin 1024) : Fin 8192 := ⟨t.val % 8 * 1024 + l.val, by omega⟩

theorem blk0_at (c : Dev nD) (t : Fin cfg0.N) (k : Fin 4096) (r : Fin 1024) :
    iblk m c 0 t (ix2 k r) = V m c main_arg0 (ix2 k (row t r)) := by
  blk_simp [iblk]
  refine congrArg (V m c main_arg0) (funext fun b => Fin.ext ?_)
  match b with
  | ⟨0, _⟩ => blk_simp [index0]
  | ⟨1, _⟩ => blk_simp [index0]; rfl

theorem blk1_at (c : Dev nD) (t : Fin cfg0.N) (k : Fin 4096) (l : Fin 1024) :
    iblk m c 1 t (ix2 k l) = V m c main_arg1 (ix2 k (col t l)) := by
  blk_simp [iblk]
  refine congrArg (V m c main_arg1) (funext fun b => Fin.ext ?_)
  match b with
  | ⟨0, _⟩ => blk_simp [index1]
  | ⟨1, _⟩ => blk_simp [index1]; rfl

theorem pay_at (x y : FVec Ideal S4096x1024 .bf16) (r l : Fin 1024) :
    k0_pay1 (F := Ideal) x y (ix3 (0 : Fin 1) r l) = ∑ k : Fin 4096, x (ix2 k r) * y (ix2 k l) := by
  pointwise [k0_pay1]

theorem out_eq (x y : FVec Ideal S4096x1024 .bf16) : out0_2 (F := Ideal) x y = k0_pay1 (F := Ideal) x y := by
  unfold out0_2 r0_1 r0_0
  rw [View.canon_unit_zero (funext fun a => by fin_cases a <;> rfl), View.ld_unit_zero (funext fun a => by fin_cases a <;> rfl),
    View.ld_unit_zero (funext fun a => by fin_cases a <;> rfl)]

/-- What point `t` writes back: the reference's elements of stack `t % 8 / 2`. -/
theorem out_at (c : Dev nD) (t : Fin cfg0.N) (r l : Fin 1024) :
    out0_2 (F := Ideal) (iblk m c 0 t) (iblk m c 1 t) (ix3 (0 : Fin 1) r l)
      = Cert.UpWRefIdeal.Read.val_main_v8 (F := Ideal) (m (c.tc.loc main_arg0)) (m (c.tc.loc main_arg1))
          (ix3 (⟨t.val % 8 / 2, by omega⟩ : Fin 4) (row t r) (⟨t.val % 2 * 1024 + l.val, by omega⟩ : Fin 2048)) := by
  rw [out_eq]
  refine (pay_at _ _ r l).trans ?_
  refine Eq.trans ?_ (Cert.UpWRefIdeal.Hand.at_index _ _ _ _ _).symm
  refine Finset.sum_congr rfl fun k _ => ?_
  rw [blk0_at, blk1_at, V_main_arg0, V_main_arg1]
  congr 3
  exact Fin.ext (by simp only [col]; omega)

/-- The result's array after the run. -/
theorem final (c : Dev nD) : (dats m 0 c).arrAt 2 cfg0.N
    = Cert.UpWRefIdeal.Read.val_main_v8 (F := Ideal) (m (c.tc.loc main_arg0)) (m (c.tc.loc main_arg1)) := by
  refine (dats m 0 c).arrAt_eq_of_covers 2 _ (by decide +kernel) fun t hf y => ?_
  rw [after0_2]
  blk_simp
  have e : y = ix3 (0 : Fin 1) (y 1) (y 2) := funext fun b => by
    match b with | ⟨0, _⟩ => exact Subsingleton.elim (α := Fin 1) _ _ | ⟨1, _⟩ => rfl | ⟨2, _⟩ => rfl
  rw [e]
  refine (out_at m c t (y 1) (y 2)).trans (congrArg _ (Eq.symm ?_))
  funext b
  refine Fin.ext ?_
  match b with
  | ⟨0, _⟩ => blk_simp [index2]; rfl
  | ⟨1, _⟩ => blk_simp [index2]; rfl
  | ⟨2, _⟩ => blk_simp [index2]

end Cert.UpWIdeal.Hand
-- ==== Proof.MlpUpX.lean ====
/- The gradient of the MLP's input: the eight partial products the kernel adds up in its accumulator are the reference's
   product of `du` and the transposed weight, its 8192 terms taken 1024 at a time. -/
module

public import proofs.«01_k».proof.Proof.Gen.UpXIdeal.Value
public import proofs.«01_k».proof.Proof.Gen.UpXRefIdeal.Read
public import Idealize.ShloMosaic.Lib.Pipeline.ValueKit.Geometry
public import Idealize.ShloMosaic.Lib.Pipeline.ValueKit.Acc
public import Idealize.ShloMosaic.Lib.Pointwise
public import Idealize.ShloMosaic.Lib.StableHlo.Run

@[expose] public section

set_option maxRecDepth 16384

noncomputable section

namespace Cert.UpXRefIdeal.Hand

open Cert.UpXRefIdeal Cert.UpXRefIdeal.Gen Cert.UpXRefIdeal.Read
open Idealize.ShloMosaic

/-- The reference's element in row `a`, column `b`. -/
theorem at_index (w : FVec Ideal S2048x8192 .bf16) (du : FVec Ideal S4096x8192 .bf16) (a : Fin 4096) (b : Fin 2048) :
    val_main_v4 (F := Ideal) w du (ix2 a b) = ∑ k : Fin 8192, du (ix2 a k) * w (ix2 b k) := by
  pointwise [val_main_v4, val_main_v1, val_main_v0]

end Cert.UpXRefIdeal.Hand

namespace Cert.UpXIdeal.Hand

open Cert.UpXIdeal Cert.UpXIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 8, t.val % 8] := (by decide +kernel : ∀ t : Fin grid0.N, _)
theorem index1 : ∀ t : Fin cfg0.N, win0_1.index t = ![t.val % 8 / 2, 0, t.val % 8 % 2] := (by decide +kernel : ∀ t : Fin grid0.N, _)
theorem index2 : ∀ t : Fin cfg0.N, win0_2.index t = ![t.val / 8, 0] := (by decide +kernel : ∀ t : Fin grid0.N, _)

theorem point_lt (t : Fin cfg0.N) : t.val < 32 := by have := t.isLt; have e : cfg0.N = 32 := N_0; omega

/-- Block `t`'s row. -/
def row (t : Fin cfg0.N) (r : Fin 1024) : Fin 4096 := ⟨t.val / 8 * 1024 + r.val, by have := point_lt t; omega⟩
/-- Block `t`'s place among the 8192 terms. -/
def place (t : Fin cfg0.N) (k : Fin 1024) : Fin 8192 := ⟨t.val % 8 * 1024 + k.val, by omega⟩

/-- The weight cut into four stacks of 2048 columns, as the launch is given it. -/
def cutw (w : FVec Ideal S2048x8192 .bf16) : FVec Ideal S4x2048x2048 .bf16 :=
  transpose S4x2048x2048 [1, 0, 2] (shapeCast S2048x4x2048 w shapeCasts_S2048x8192_S2048x4x2048) transposes_S2048x4x2048_S4x2048x2048_1_0_2

theorem cut_at (w : FVec Ideal S2048x8192 .bf16) (s : Fin 4) (a b : Fin 2048) :
    cutw w (ix3 s a b) = w (ix2 a ⟨s.val * 2048 + b.val, by omega⟩) := by
  pointwise [cutw]

theorem V_cut (c : Dev nD) : V m c main_v1 = cutw (m (c.tc.loc main_arg0)) := by
  dsimp only [V, hostOps0]
  after_results_simp
  rfl

theorem blk0_at (c : Dev nD) (t : Fin cfg0.N) (r k : Fin 1024) :
    iblk m c 0 t (ix2 r k) = V m c main_arg1 (ix2 (row t r) (place t k)) := by
  blk_simp [iblk]
  refine congrArg (V m c main_arg1) (funext fun b => Fin.ext ?_)
  match b with
  | ⟨0, _⟩ => blk_simp [index0]; rfl
  | ⟨1, _⟩ => blk_simp [index0]; rfl

theorem blk1_at (c : Dev nD) (t : Fin cfg0.N) (l : Fin 2048) (k : Fin 1024) :
    iblk m c 1 t (ix3 (0 : Fin 1) l k)
      = V m c main_v1 (ix3 (⟨t.val % 8 / 2, by omega⟩ : Fin 4) l (⟨t.val % 8 % 2 * 1024 + k.val, by omega⟩ : Fin 2048)) := by
  blk_simp [iblk]
  refine congrArg (V m c main_v1) (funext fun b => Fin.ext ?_)
  match b with
  | ⟨0, _⟩ => blk_simp [index1]; rfl
  | ⟨1, _⟩ => blk_simp [index1]
  | ⟨2, _⟩ => blk_simp [index1]

/-- The partial product of a pair of blocks. -/
def part (x : FVec Ideal S1024x1024 .bf16) (y : FVec Ideal S1x2048x1024 .bf16) (j : S1024x2048.Idx) : EReal :=
  ∑ k : Fin 1024, x (ix2 (j 0) k) * y (ix3 (0 : Fin 1) (j 1) k)

theorem pay1_at (x : FVec Ideal S1024x1024 .bf16) (y : FVec Ideal S1x2048x1024 .bf16) (j : S1024x2048.Idx) :
    k0_pay1 (F := Ideal) x y j = (0 : EReal) + part x y j := by
  rw [zero_add]
  pointwise [k0_pay1, part]

theorem pay2_at (s : FVec Ideal S1024x2048 .f32) (x : FVec Ideal S1024x1024 .bf16) (y : FVec Ideal S1x2048x1024 .bf16)
    (j : S1024x2048.Idx) : k0_pay2 (F := Ideal) s x y j = (s j + part x y j : EReal) := by
  pointwise [k0_pay2, part]

theorem pay3_at (s : FVec Ideal S1024x2048 .f32) (x : FVec Ideal S1024x1024 .bf16) (y : FVec Ideal S1x2048x1024 .bf16)
    (j : S1024x2048.Idx) : k0_pay3 (F := Ideal) s x y j = (s j + part x y j : EReal) := by
  pointwise [k0_pay3, part]

/-- The running sum after a point: in the accumulator, at a run's last point in the output's block. -/
def total (c : Dev nD) (n : ℕ) (h : n < cfg0.N) (j : S1024x2048.Idx) : EReal :=
  if n % 8 = 7 then (outsAt0 (F := Ideal) m c n h).1 j else (outsAt0 (F := Ideal) m c n h).2 j

theorem total_first (c : Dev nD) (t : Fin cfg0.N) (h : t.val % 8 = 0) (j : S1024x2048.Idx) :
    total m c t.val t.isLt j = 0 + part (iblk m c 0 t) (iblk m c 1 t) j := by
  unfold total
  rw [if_neg (by omega), outsAt0_A m c t h (by omega) (by omega)]
  frame_out
  exact pay1_at _ _ _

theorem total_next (c : Dev nD) (t : Fin cfg0.N) (h : ¬t.val % 8 = 0) (j : S1024x2048.Idx) :
    total m c t.val t.isLt j
      = total m c (t.val - 1) (Nat.lt_of_le_of_lt (Nat.sub_le _ _) t.isLt) j + part (iblk m c 0 t) (iblk m c 1 t) j := by
  unfold total
  by_cases h7 : t.val % 8 = 7
  · rw [if_pos h7, if_neg (by omega), outsAt0_C m c t h (by omega) h7]
    frame_out
    refine (pay3_at _ _ _ _).trans (congrArg (fun x : EReal => x + _) (congrFun ?_ j))
    exact Memref.IsWhole.read_unread (Memref.isWhole_whole _) _
  · rw [if_neg h7, if_neg (by omega), outsAt0_B m c t h (by omega) h7]
    frame_out
    refine (pay2_at _ _ _ _).trans (congrArg (fun x : EReal => x + _) (congrFun ?_ j))
    exact Memref.IsWhole.read_unread (Memref.isWhole_whole _) _

/-- What a run's last point writes back. -/
theorem out_at (c : Dev nD) (t : Fin cfg0.N) (h7 : t.val % 8 = 7) (r : Fin 1024) (l : Fin 2048) :
    (outsAt0 (F := Ideal) m c t.val t.isLt).1 (ix2 r l)
      = Cert.UpXRefIdeal.Read.val_main_v4 (F := Ideal) (m (c.tc.loc main_arg0)) (m (c.tc.loc main_arg1)) (ix2 (row t r) l) := by
  have e : (outsAt0 (F := Ideal) m c t.val t.isLt).1 (ix2 r l) = total m c t.val t.isLt (ix2 r l) := by
    unfold total
    rw [if_pos h7]
  rw [e, Pipeline.eq_sum_fin_of_reset_step_apply_of_flush (fun n h => total m c n h) 8 (fun _ => 0)
    (fun t => part (iblk m c 0 t) (iblk m c 1 t)) (total_first m c) (total_next m c) t h7 (ix2 r l), zero_add]
  refine Eq.trans ?_ (Cert.UpXRefIdeal.Hand.at_index _ _ _ _).symm
  unfold part
  refine Fin.sum_mul_add_congr fun s k hl => ?_
  have hs := s.isLt
  have ht := point_lt t
  refine congrArg₂ (fun x y : EReal => x * y) ((blk0_at m c _ r k).trans ?_) ((blk1_at m c _ l k).trans ?_)
  · rw [V_main_arg1]
    exact congrArg (m (c.tc.loc main_arg1)) (congrArg₂ ix2 (Fin.ext (by simp only [row]; omega)) (Fin.ext (by simp only [place]; omega)))
  · rw [V_cut]
    exact (cut_at _ _ _ _).trans (congrArg (m (c.tc.loc main_arg0)) (congrArg₂ ix2 rfl (Fin.ext (by dsimp only; omega))))

/-- The result's array after the run. -/
theorem final (c : Dev nD) : (dats m 0 c).arrAt 2 cfg0.N
    = Cert.UpXRefIdeal.Read.val_main_v4 (F := Ideal) (m (c.tc.loc main_arg0)) (m (c.tc.loc main_arg1)) := by
  refine (dats m 0 c).arrAt_eq_of_covers 2 _ (by decide +kernel) fun t hf y => ?_
  rw [after0_2]
  blk_simp
  have e : y = ix2 (y 0) (y 1) := funext fun b => by match b with | ⟨0, _⟩ => rfl | ⟨1, _⟩ => rfl
  rw [e]
  refine (out_at m c t ((flush0_2 t).mp hf) (y 0) (y 1)).trans (congrArg _ (Eq.symm ?_))
  funext b
  refine Fin.ext ?_
  match b with
  | ⟨0, _⟩ => blk_simp [index2]; rfl
  | ⟨1, _⟩ => blk_simp [index2]

end Cert.UpXIdeal.Hand
-- ==== Proof.MlpSame.lean ====
/- The four backward products of the MLP: each program runs, leaves its arguments unchanged and every semaphore at zero, and
   each kernel's result is its reference's. -/
module

public import proofs.«01_k».proof.Defs
public import proofs.«01_k».proof.Proof.Gen.Up
public import proofs.«01_k».proof.Proof.Gen.Up.Frame
public import proofs.«01_k».proof.Proof.MlpUp
public import proofs.«01_k».proof.Proof.Gen.UpRefIdeal.Run
public import proofs.«01_k».proof.Proof.Gen.DownW
public import proofs.«01_k».proof.Proof.Gen.DownW.Frame
public import proofs.«01_k».proof.Proof.MlpDownW
public import proofs.«01_k».proof.Proof.Gen.DownWRefIdeal.Run
public import proofs.«01_k».proof.Proof.Gen.UpW
public import proofs.«01_k».proof.Proof.Gen.UpW.Frame
public import proofs.«01_k».proof.Proof.MlpUpW
public import proofs.«01_k».proof.Proof.Gen.UpWRefIdeal.Run
public import proofs.«01_k».proof.Proof.Gen.UpX
public import proofs.«01_k».proof.Proof.Gen.UpX.Frame
public import proofs.«01_k».proof.Proof.MlpUpX
public import proofs.«01_k».proof.Proof.Gen.UpXRefIdeal.Run
public import Idealize.ShloMosaic.Adequacy
public import Idealize.ShloMosaic.Init

@[expose] public section

noncomputable section

namespace Cert.Proof

open Idealize.ShloMosaic Idealize.ShloMosaic.TcCoe Idealize.SL.Sem

theorem quiet_up_reference : Cert.quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)

theorem same_up : Cert.algebraic_UpIdeal_UpRefIdeal := by
  intro m g m' g' _ hagree
  refine ⟨fun c => Cert.UpRefIdeal.Read.val_main_v14 (F := Ideal) (m (c.tc.loc UpIdeal.main_arg0)) (m (c.tc.loc UpIdeal.main_arg1)) (m (c.tc.loc UpIdeal.main_arg2)),
    (θ_run Cert.UpIdeal.defs _ _).mono (fun r h c => ⟨(h c).1.trans (UpIdeal.Hand.final m c), (h c).2⟩)
      (Cert.UpIdeal.Value.run_blocks m g),
    (θ_run Cert.UpRefIdeal.defs _ _).mono (fun r h c => ⟨?_, (h c).2⟩) (Cert.UpRefIdeal.Value.run (F := Ideal) m' g')⟩
  obtain ⟨e0, e1, e2⟩ := hagree c
  exact ((h c).1.trans (Cert.UpRefIdeal.Read.val_main_v14_eq _ _ _)).trans
    (congr (congrArg₂ (fun a b c => Cert.UpRefIdeal.Read.val_main_v14 (F := Ideal) a b c) e0 e1) e2)

theorem quiet_down_weight_reference : Cert.quiescent_DownWRefIdeal := fun m g _ =>
  (θ_run Cert.DownWRefIdeal.defs _ _).mono (fun r h => ⟨fun c => (h c).2, sem_eq_zero_of_no_sems (by decide) r.2⟩)
    (Cert.DownWRefIdeal.Value.run (F := Ideal) m g)

theorem same_down_weight : Cert.algebraic_DownWIdeal_DownWRefIdeal := by
  intro m g m' g' _ hagree
  refine ⟨fun c => Cert.DownWRefIdeal.Read.val_main_v7 (F := Ideal) (m (c.tc.loc DownWIdeal.main_arg0)) (m (c.tc.loc DownWIdeal.main_arg1)),
    (θ_run Cert.DownWIdeal.defs _ _).mono (fun r h c => ⟨(h c).1.trans (DownWIdeal.Hand.final m c), (h c).2⟩)
      (Cert.DownWIdeal.Value.run_blocks m g),
    (θ_run Cert.DownWRefIdeal.defs _ _).mono (fun r h c => ⟨?_, (h c).2⟩) (Cert.DownWRefIdeal.Value.run (F := Ideal) m' g')⟩
  obtain ⟨e0, e1⟩ := hagree c
  exact ((h c).1.trans (Cert.DownWRefIdeal.Read.val_main_v7_eq _ _)).trans
    (congrArg₂ (fun a b => Cert.DownWRefIdeal.Read.val_main_v7 (F := Ideal) a b) e0 e1)

theorem quiet_up_weight_reference : Cert.quiescent_UpWRefIdeal := fun m g _ =>
  (θ_run Cert.UpWRefIdeal.defs _ _).mono (fun r h => ⟨fun c => (h c).2, sem_eq_zero_of_no_sems (by decide) r.2⟩)
    (Cert.UpWRefIdeal.Value.run (F := Ideal) m g)

theorem same_up_weight : Cert.algebraic_UpWIdeal_UpWRefIdeal := by
  intro m g m' g' _ hagree
  refine ⟨fun c => Cert.UpWRefIdeal.Read.val_main_v8 (F := Ideal) (m (c.tc.loc UpWIdeal.main_arg0)) (m (c.tc.loc UpWIdeal.main_arg1)),
    (θ_run Cert.UpWIdeal.defs _ _).mono (fun r h c => ⟨(h c).1.trans (UpWIdeal.Hand.final m c), (h c).2⟩)
      (Cert.UpWIdeal.Value.run_blocks m g),
    (θ_run Cert.UpWRefIdeal.defs _ _).mono (fun r h c => ⟨?_, (h c).2⟩) (Cert.UpWRefIdeal.Value.run (F := Ideal) m' g')⟩
  obtain ⟨e0, e1⟩ := hagree c
  exact ((h c).1.trans (Cert.UpWRefIdeal.Read.val_main_v8_eq _ _)).trans
    (congrArg₂ (fun a b => Cert.UpWRefIdeal.Read.val_main_v8 (F := Ideal) a b) e0 e1)

theorem quiet_up_input_reference : Cert.quiescent_UpXRefIdeal := fun m g _ =>
  (θ_run Cert.UpXRefIdeal.defs _ _).mono (fun r h => ⟨fun c => (h c).2, sem_eq_zero_of_no_sems (by decide) r.2⟩)
    (Cert.UpXRefIdeal.Value.run (F := Ideal) m g)

theorem same_up_input : Cert.algebraic_UpXIdeal_UpXRefIdeal := by
  intro m g m' g' _ hagree
  refine ⟨fun c => Cert.UpXRefIdeal.Read.val_main_v4 (F := Ideal) (m (c.tc.loc UpXIdeal.main_arg0)) (m (c.tc.loc UpXIdeal.main_arg1)),
    (θ_run Cert.UpXIdeal.defs _ _).mono (fun r h c => ⟨(h c).1.trans (UpXIdeal.Hand.final m c), (h c).2⟩)
      (Cert.UpXIdeal.Value.run_blocks m g),
    (θ_run Cert.UpXRefIdeal.defs _ _).mono (fun r h c => ⟨?_, (h c).2⟩) (Cert.UpXRefIdeal.Value.run (F := Ideal) m' g')⟩
  obtain ⟨e0, e1⟩ := hagree c
  exact ((h c).1.trans (Cert.UpXRefIdeal.Read.val_main_v4_eq _ _)).trans
    (congrArg₂ (fun a b => Cert.UpXRefIdeal.Read.val_main_v4 (F := Ideal) a b) e0 e1)

end Cert.Proof

end
-- ==== Proof.MixQkvW.lean ====
/- The gradient of the projection to queries, keys and values: the kernel's twenty-four blocks hold the reference's product
   `hᵀ · dqkv`, cut into four stacks of 1536 columns; `dqkv` itself comes in three stacks of 2048. -/
module

public import proofs.«01_k».proof.Proof.Gen.QkvWIdeal.Value
public import proofs.«01_k».proof.Proof.Gen.QkvWRefIdeal.Read
public import Idealize.ShloMosaic.Lib.Pipeline.ValueKit.Geometry
public import Idealize.ShloMosaic.Lib.Pointwise

@[expose] public section

set_option maxRecDepth 16384

noncomputable section

namespace Cert.QkvWRefIdeal.Hand

open Cert.QkvWRefIdeal Cert.QkvWRefIdeal.Gen Cert.QkvWRefIdeal.Read
open Idealize.ShloMosaic

/-- The reference's element in stack `s`, row `a`, column `b`. -/
theorem at_index (h : FVec Ideal S4096x2048 .bf16) (g : FVec Ideal S3x4096x2048 .bf16) (s : Fin 4) (a : Fin 2048) (b : Fin 1536) :
    val_main_v10 (F := Ideal) h g (ix3 s a b)
      = ∑ k : Fin 4096, h (ix2 k a) * g (ix3 (⟨(s.val * 1536 + b.val) / 2048, by omega⟩ : Fin 3) k
          (⟨(s.val * 1536 + b.val) % 2048, by omega⟩ : Fin 2048)) := by
  pointwise [val_main_v10, val_main_v9, val_main_v8, val_main_v7, val_main_v6, val_main_v5, val_main_v4, val_main_v1, val_main_v0]
  refine Finset.sum_congr rfl fun k _ => ?_
  rw [mul_comm]

end Cert.QkvWRefIdeal.Hand

namespace Cert.QkvWIdeal.Hand

open Cert.QkvWIdeal Cert.QkvWIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![0, t.val / 12] := (by decide +kernel : ∀ t : Fin grid0.N, _)
theorem index1 : ∀ t : Fin cfg0.N, win0_1.index t = ![t.val % 12 / 4, 0, t.val % 12 % 4] :=
  (by decide +kernel : ∀ t : Fin grid0.N, _)
theorem index2 : ∀ t : Fin cfg0.N, win0_2.index t = ![t.val % 12 / 3, t.val / 12, t.val % 12 % 3] :=
  (by decide +kernel : ∀ t : Fin grid0.N, _)

theorem point_lt (t : Fin cfg0.N) : t.val < 24 := by have := t.isLt; have e : cfg0.N = 24 := N_0; omega

/-- Block `t`'s row of the weight. -/
def row (t : Fin cfg0.N) (r : Fin 1024) : Fin 2048 := ⟨t.val / 12 * 1024 + r.val, by have := point_lt t; omega⟩

theorem blk0_at (c : Dev nD) (t : Fin cfg0.N) (k : Fin 4096) (r : Fin 1024) :
    iblk m c 0 t (ix2 k r) = V m c main_arg0 (ix2 k (row t r)) := by
  blk_simp [iblk]
  refine congrArg (V m c main_arg0) (funext fun b => Fin.ext ?_)
  match b with
  | ⟨0, _⟩ => blk_simp [index0]
  | ⟨1, _⟩ => blk_simp [index0]; rfl

theorem blk1_at (c : Dev nD) (t : Fin cfg0.N) (k : Fin 4096) (l : Fin 512) :
    iblk m c 1 t (ix3 (0 : Fin 1) k l) = V m c main_arg1 (ix3 (⟨t.val % 12 / 4, by omega⟩ : Fin 3) k
      (⟨t.val % 12 % 4 * 512 + l.val, by omega⟩ : Fin 2048)) := by
  blk_simp [iblk]
  refine congrArg (V m c main_arg1) (funext fun b => Fin.ext ?_)
  match b with
  | ⟨0, _⟩ => blk_simp [index1]; rfl
  | ⟨1, _⟩ => blk_simp [index1]
  | ⟨2, _⟩ => blk_simp [index1]

theorem pay_at (x : FVec Ideal S4096x1024 .bf16) (y : FVec Ideal S1x4096x512 .bf16) (r : Fin 1024) (l : Fin 512) :
    k0_pay1 (F := Ideal) x y (ix3 (0 : Fin 1) r l) = ∑ k : Fin 4096, x (ix2 k r) * y (ix3 (0 : Fin 1) k l) := by
  pointwise [k0_pay1]

theorem out_eq (x : FVec Ideal S4096x1024 .bf16) (y : FVec Ideal S1x4096x512 .bf16) :
    out0_2 (F := Ideal) x y = k0_pay1 (F := Ideal) x y := by
  unfold out0_2 r0_2 r0_1 r0_0
  rw [View.canon_unit_zero (funext fun a => by fin_cases a <;> rfl), View.ld_unit_zero (funext fun a => by fin_cases a <;> rfl),
    View.ld_unit_zero (funext fun a => by fin_cases a <;> rfl)]

/-- What point `t` writes back. -/
theorem out_at (c : Dev nD) (t : Fin cfg0.N) (r : Fin 1024) (l : Fin 512) :
    out0_2 (F := Ideal) (iblk m c 0 t) (iblk m c 1 t) (ix3 (0 : Fin 1) r l)
      = Cert.QkvWRefIdeal.Read.val_main_v10 (F := Ideal) (m (c.tc.loc main_arg0)) (m (c.tc.loc main_arg1))
          (ix3 (⟨t.val % 12 / 3, by omega⟩ : Fin 4) (row t r) (⟨t.val % 12 % 3 * 512 + l.val, by omega⟩ : Fin 1536)) := by
  rw [out_eq]
  refine (pay_at _ _ r l).trans ?_
  refine Eq.trans ?_ (Cert.QkvWRefIdeal.Hand.at_index _ _ _ _ _).symm
  refine Finset.sum_congr rfl fun k _ => ?_
  rw [blk0_at, blk1_at, V_main_arg0, V_main_arg1]
  have hl := l.isLt
  have ht := point_lt t
  refine congrArg (fun x : EReal => _ * x) (congrArg (m (c.tc.loc main_arg1)) (congr (congrArg₂ ix3 (Fin.ext ?_) rfl) (Fin.ext ?_)))
  · dsimp only; omega
  · dsimp only; omega

/-- The result's array after the run. -/
theorem final (c : Dev nD) : (dats m 0 c).arrAt 2 cfg0.N
    = Cert.QkvWRefIdeal.Read.val_main_v10 (F := Ideal) (m (c.tc.loc main_arg0)) (m (c.tc.loc main_arg1)) := by
  refine (dats m 0 c).arrAt_eq_of_covers 2 _ (by decide +kernel) fun t hf y => ?_
  rw [after0_2]
  blk_simp
  have e : y = ix3 (0 : Fin 1) (y 1) (y 2) := funext fun b => by
    match b with | ⟨0, _⟩ => exact Subsingleton.elim (α := Fin 1) _ _ | ⟨1, _⟩ => rfl | ⟨2, _⟩ => rfl
  rw [e]
  refine (out_at m c t (y 1) (y 2)).trans (congrArg _ (Eq.symm ?_))
  funext b
  refine Fin.ext ?_
  match b with
  | ⟨0, _⟩ => blk_simp [index2]; rfl
  | ⟨1, _⟩ => blk_simp [index2]; rfl
  | ⟨2, _⟩ => blk_simp [index2]

end Cert.QkvWIdeal.Hand
-- ==== Proof.MixGateW.lean ====
/- The gradient of the gate's weight: the kernel's eight blocks hold the reference's product `hᵀ · dg`, cut into four stacks
   of 1024 columns; `dg` itself comes in two stacks of 2048. -/
module

public import proofs.«01_k».proof.Proof.Gen.GateWIdeal.Value
public import proofs.«01_k».proof.Proof.Gen.GateWRefIdeal.Read
public import Idealize.ShloMosaic.Lib.Pipeline.ValueKit.Geometry
public import Idealize.ShloMosaic.Lib.Pointwise

@[expose] public section

set_option maxRecDepth 16384

noncomputable section

namespace Cert.GateWRefIdeal.Hand

open Cert.GateWRefIdeal Cert.GateWRefIdeal.Gen Cert.GateWRefIdeal.Read
open Idealize.ShloMosaic

/-- The reference's element in stack `s`, row `a`, column `b`. -/
theorem at_index (h : FVec Ideal S4096x2048 .bf16) (g : FVec Ideal S2x4096x2048 .bf16) (s : Fin 4) (a : Fin 2048) (b : Fin 1024) :
    val_main_v10 (F := Ideal) h g (ix3 s a b)
      = ∑ k : Fin 4096, h (ix2 k a) * g (ix3 (⟨(s.val * 1024 + b.val) / 2048, by omega⟩ : Fin 2) k
          (⟨(s.val * 1024 + b.val) % 2048, by omega⟩ : Fin 2048)) := by
  pointwise [val_main_v10, val_main_v9, val_main_v8, val_main_v7, val_main_v6, val_main_v5, val_main_v4, val_main_v1, val_main_v0]
  refine Finset.sum_congr rfl fun k _ => ?_
  rw [mul_comm]

end Cert.GateWRefIdeal.Hand

namespace Cert.GateWIdeal.Hand

open Cert.GateWIdeal Cert.GateWIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![0, t.val / 4] := (by decide +kernel : ∀ t : Fin grid0.N, _)
theorem index1 : ∀ t : Fin cfg0.N, win0_1.index t = ![t.val % 4 / 2, 0, t.val % 4 % 2] :=
  (by decide +kernel : ∀ t : Fin grid0.N, _)
theorem index2 : ∀ t : Fin cfg0.N, win0_2.index t = ![t.val % 4, t.val / 4, 0] :=
  (by decide +kernel : ∀ t : Fin grid0.N, _)

theorem point_lt (t : Fin cfg0.N) : t.val < 8 := by have := t.isLt; have e : cfg0.N = 8 := N_0; omega

/-- Block `t`'s row of the weight. -/
def row (t : Fin cfg0.N) (r : Fin 1024) : Fin 2048 := ⟨t.val / 4 * 1024 + r.val, by have := point_lt t; omega⟩

theorem blk0_at (c : Dev nD) (t : Fin cfg0.N) (k : Fin 4096) (r : Fin 1024) :
    iblk m c 0 t (ix2 k r) = V m c main_arg0 (ix2 k (row t r)) := by
  blk_simp [iblk]
  refine congrArg (V m c main_arg0) (funext fun b => Fin.ext ?_)
  match b with
  | ⟨0, _⟩ => blk_simp [index0]
  | ⟨1, _⟩ => blk_simp [index0]; rfl

theorem blk1_at (c : Dev nD) (t : Fin cfg0.N) (k : Fin 4096) (l : Fin 1024) :
    iblk m c 1 t (ix3 (0 : Fin 1) k l) = V m c main_arg1 (ix3 (⟨t.val % 4 / 2, by omega⟩ : Fin 2) k
      (⟨t.val % 4 % 2 * 1024 + l.val, by omega⟩ : Fin 2048)) := by
  blk_simp [iblk]
  refine congrArg (V m c main_arg1) (funext fun b => Fin.ext ?_)
  match b with
  | ⟨0, _⟩ => blk_simp [index1]; rfl
  | ⟨1, _⟩ => blk_simp [index1]
  | ⟨2, _⟩ => blk_simp [index1]

theorem pay_at (x : FVec Ideal S4096x1024 .bf16) (y : FVec Ideal S1x4096x1024 .bf16) (r : Fin 1024) (l : Fin 1024) :
    k0_pay1 (F := Ideal) x y (ix3 (0 : Fin 1) r l) = ∑ k : Fin 4096, x (ix2 k r) * y (ix3 (0 : Fin 1) k l) := by
  pointwise [k0_pay1]

theorem out_eq (x : FVec Ideal S4096x1024 .bf16) (y : FVec Ideal S1x4096x1024 .bf16) :
    out0_2 (F := Ideal) x y = k0_pay1 (F := Ideal) x y := by
  unfold out0_2 r0_2 r0_1 r0_0
  rw [View.canon_unit_zero (funext fun a => by fin_cases a <;> rfl), View.ld_unit_zero (funext fun a => by fin_cases a <;> rfl),
    View.ld_unit_zero (funext fun a => by fin_cases a <;> rfl)]

/-- What point `t` writes back. -/
theorem out_at (c : Dev nD) (t : Fin cfg0.N) (r : Fin 1024) (l : Fin 1024) :
    out0_2 (F := Ideal) (iblk m c 0 t) (iblk m c 1 t) (ix3 (0 : Fin 1) r l)
      = Cert.GateWRefIdeal.Read.val_main_v10 (F := Ideal) (m (c.tc.loc main_arg0)) (m (c.tc.loc main_arg1))
          (ix3 (⟨t.val % 4, by omega⟩ : Fin 4) (row t r) l) := by
  rw [out_eq]
  refine (pay_at _ _ r l).trans ?_
  refine Eq.trans ?_ (Cert.GateWRefIdeal.Hand.at_index _ _ _ _ _).symm
  refine Finset.sum_congr rfl fun k _ => ?_
  rw [blk0_at, blk1_at, V_main_arg0, V_main_arg1]
  have hl := l.isLt
  have ht := point_lt t
  refine congrArg (fun x : EReal => _ * x) (congrArg (m (c.tc.loc main_arg1)) (congr (congrArg₂ ix3 (Fin.ext ?_) rfl) (Fin.ext ?_)))
  · dsimp only; omega
  · dsimp only; omega

/-- The result's array after the run. -/
theorem final (c : Dev nD) : (dats m 0 c).arrAt 2 cfg0.N
    = Cert.GateWRefIdeal.Read.val_main_v10 (F := Ideal) (m (c.tc.loc main_arg0)) (m (c.tc.loc main_arg1)) := by
  refine (dats m 0 c).arrAt_eq_of_covers 2 _ (by decide +kernel) fun t hf y => ?_
  rw [after0_2]
  blk_simp
  have e : y = ix3 (0 : Fin 1) (y 1) (y 2) := funext fun b => by
    match b with | ⟨0, _⟩ => exact Subsingleton.elim (α := Fin 1) _ _ | ⟨1, _⟩ => rfl | ⟨2, _⟩ => rfl
  rw [e]
  refine (out_at m c t (y 1) (y 2)).trans (congrArg _ (Eq.symm ?_))
  funext b
  refine Fin.ext ?_
  match b with
  | ⟨0, _⟩ => blk_simp [index2]; rfl
  | ⟨1, _⟩ => blk_simp [index2]; rfl
  | ⟨2, _⟩ => blk_simp [index2]

end Cert.GateWIdeal.Hand
-- ==== Proof.MixOutW.lean ====
/- The gradient of the mixer's output weight: the kernel's four blocks hold the reference's product of the transposed merged
   branches and the gradient of the output. -/
module

public import proofs.«01_k».proof.Proof.Gen.OutWIdeal.Value
public import proofs.«01_k».proof.Proof.Gen.OutWRefIdeal.Read
public import Idealize.ShloMosaic.Lib.Pipeline.ValueKit.Geometry
public import Idealize.ShloMosaic.Lib.Pointwise

@[expose] public section

set_option maxRecDepth 16384

noncomputable section

namespace Cert.OutWRefIdeal.Hand

open Cert.OutWRefIdeal Cert.OutWRefIdeal.Gen Cert.OutWRefIdeal.Read
open Idealize.ShloMosaic

/-- The reference's element in row `a`, column `b`. -/
theorem at_index (y : FVec Ideal S4096x2048 .bf16) (g : FVec Ideal S4096x2048 .bf16) (a b : Fin 2048) :
    val_main_v6 (F := Ideal) y g (ix2 a b) = ∑ k : Fin 4096, y (ix2 k a) * g (ix2 k b) := by
  pointwise [val_main_v6, val_main_v5, val_main_v4, val_main_v1, val_main_v0]
  refine Finset.sum_congr rfl fun k _ => ?_
  rw [mul_comm]

end Cert.OutWRefIdeal.Hand

namespace Cert.OutWIdeal.Hand

open Cert.OutWIdeal Cert.OutWIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

theorem point_lt (t : Fin cfg0.N) : t.val < 4 := by have := t.isLt; have e : cfg0.N = 4 := N_0; omega

/-- Block `t`'s row of the weight. -/
def row (t : Fin cfg0.N) (r : Fin 1024) : Fin 2048 := ⟨t.val / 2 * 1024 + r.val, by have := point_lt t; omega⟩
/-- Block `t`'s column of the weight. -/
def col (t : Fin cfg0.N) (l : Fin 1024) : Fin 2048 := ⟨t.val % 2 * 1024 + l.val, by omega⟩

theorem blk0_at (c : Dev nD) (t : Fin cfg0.N) (k : Fin 4096) (r : Fin 1024) :
    iblk m c 0 t (ix2 k r) = V m c main_arg0 (ix2 k (row t r)) := by
  blk_simp [iblk]
  refine congrArg (V m c main_arg0) (funext fun b => Fin.ext ?_)
  match b with
  | ⟨0, _⟩ => blk_simp [index0]
  | ⟨1, _⟩ => blk_simp [index0]; rfl

theorem blk1_at (c : Dev nD) (t : Fin cfg0.N) (k : Fin 4096) (l : Fin 1024) :
    iblk m c 1 t (ix2 k l) = V m c main_arg1 (ix2 k (col t l)) := by
  blk_simp [iblk]
  refine congrArg (V m c main_arg1) (funext fun b => Fin.ext ?_)
  match b with
  | ⟨0, _⟩ => blk_simp [index1]
  | ⟨1, _⟩ => blk_simp [index1]; rfl

theorem pay_at (x y : FVec Ideal S4096x1024 .bf16) (r l : Fin 1024) :
    k0_pay1 (F := Ideal) x y (ix2 r l) = ∑ k : Fin 4096, x (ix2 k r) * y (ix2 k l) := by
  pointwise [k0_pay1]

theorem out_eq (x y : FVec Ideal S4096x1024 .bf16) : out0_2 (F := Ideal) x y = k0_pay1 (F := Ideal) x y := by
  unfold out0_2 r0_1 r0_0
  rw [View.canon_unit_zero (funext fun a => by fin_cases a <;> rfl), View.ld_unit_zero (funext fun a => by fin_cases a <;> rfl),
    View.ld_unit_zero (funext fun a => by fin_cases a <;> rfl)]

/-- What point `t` writes back. -/
theorem out_at (c : Dev nD) (t : Fin cfg0.N) (r l : Fin 1024) :
    out0_2 (F := Ideal) (iblk m c 0 t) (iblk m c 1 t) (ix2 r l)
      = Cert.OutWRefIdeal.Read.val_main_v6 (F := Ideal) (m (c.tc.loc main_arg0)) (m (c.tc.loc main_arg1))
          (ix2 (row t r) (col t l)) := by
  rw [out_eq]
  refine (pay_at _ _ r l).trans ?_
  refine Eq.trans ?_ (Cert.OutWRefIdeal.Hand.at_index _ _ _ _).symm
  refine Finset.sum_congr rfl fun k _ => ?_
  rw [blk0_at, blk1_at, V_main_arg0, V_main_arg1]

/-- The result's array after the run. -/
theorem final (c : Dev nD) : (dats m 0 c).arrAt 2 cfg0.N
    = Cert.OutWRefIdeal.Read.val_main_v6 (F := Ideal) (m (c.tc.loc main_arg0)) (m (c.tc.loc main_arg1)) := by
  refine (dats m 0 c).arrAt_eq_of_covers 2 _ (by decide +kernel) fun t hf y => ?_
  rw [after0_2]
  blk_simp
  have e : y = ix2 (y 0) (y 1) := funext fun b => by match b with | ⟨0, _⟩ => rfl | ⟨1, _⟩ => rfl
  rw [e]
  refine (out_at m c t (y 0) (y 1)).trans (congrArg _ (Eq.symm ?_))
  funext b
  refine Fin.ext ?_
  match b with
  | ⟨0, _⟩ => blk_simp [index2]; rfl
  | ⟨1, _⟩ => blk_simp [index2]; rfl

end Cert.OutWIdeal.Hand
-- ==== Proof.MixProjW.lean ====
/- The gradient of a branch's projection: the kernel's four blocks hold the reference's product of the transposed branch and
   the gradient of its projection, cut into four stacks of 512 columns. -/
module

public import proofs.«01_k».proof.Proof.Gen.ProjWIdeal.Value
public import proofs.«01_k».proof.Proof.Gen.ProjWRefIdeal.Read
public import Idealize.ShloMosaic.Lib.Pipeline.ValueKit.Geometry
public import Idealize.ShloMosaic.Lib.Pointwise

@[expose] public section

set_option maxRecDepth 16384

noncomputable section

namespace Cert.ProjWRefIdeal.Hand

open Cert.ProjWRefIdeal Cert.ProjWRefIdeal.Gen Cert.ProjWRefIdeal.Read
open Idealize.ShloMosaic

/-- The reference's element in stack `s`, row `a`, column `b`. -/
theorem at_index (y : FVec Ideal S4096x512 .bf16) (g : FVec Ideal S4096x2048 .bf16) (s : Fin 4) (a b : Fin 512) :
    val_main_v8 (F := Ideal) y g (ix3 s a b) = ∑ k : Fin 4096, y (ix2 k a) * g (ix2 k ⟨s.val * 512 + b.val, by omega⟩) := by
  pointwise [val_main_v8, val_main_v7, val_main_v6, val_main_v5, val_main_v4, val_main_v1, val_main_v0]
  refine Finset.sum_congr rfl fun k _ => ?_
  rw [mul_comm]

end Cert.ProjWRefIdeal.Hand

namespace Cert.ProjWIdeal.Hand

open Cert.ProjWIdeal Cert.ProjWIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0, 0] := (by decide +kernel : ∀ t : Fin grid0.N, _)

theorem point_lt (t : Fin cfg0.N) : t.val < 4 := by have := t.isLt; have e : cfg0.N = 4 := N_0; omega

/-- Block `t`'s column of the weight. -/
def col (t : Fin cfg0.N) (l : Fin 512) : Fin 2048 := ⟨t.val * 512 + l.val, by have := point_lt t; omega⟩

theorem blk0_at (c : Dev nD) (t : Fin cfg0.N) (k : Fin 4096) (r : Fin 512) :
    iblk m c 0 t (ix2 k r) = V m c main_arg0 (ix2 k r) := by
  blk_simp [iblk]
  refine congrArg (V m c main_arg0) (funext fun b => Fin.ext ?_)
  match b with
  | ⟨0, _⟩ => blk_simp [index0]
  | ⟨1, _⟩ => blk_simp [index0]

theorem blk1_at (c : Dev nD) (t : Fin cfg0.N) (k : Fin 4096) (l : Fin 512) :
    iblk m c 1 t (ix2 k l) = V m c main_arg1 (ix2 k (col t l)) := by
  blk_simp [iblk]
  refine congrArg (V m c main_arg1) (funext fun b => Fin.ext ?_)
  match b with
  | ⟨0, _⟩ => blk_simp [index1]
  | ⟨1, _⟩ => blk_simp [index1]; rfl

theorem pay_at (x y : FVec Ideal S4096x512 .bf16) (r l : Fin 512) :
    k0_pay1 (F := Ideal) x y (ix3 (0 : Fin 1) r l) = ∑ k : Fin 4096, x (ix2 k r) * y (ix2 k l) := by
  pointwise [k0_pay1]

theorem out_eq (x y : FVec Ideal S4096x512 .bf16) : out0_2 (F := Ideal) x y = k0_pay1 (F := Ideal) x y := by
  unfold out0_2 r0_1 r0_0
  rw [View.canon_unit_zero (funext fun a => by fin_cases a <;> rfl), View.ld_unit_zero (funext fun a => by fin_cases a <;> rfl),
    View.ld_unit_zero (funext fun a => by fin_cases a <;> rfl)]

/-- What point `t` writes back: stack `t`. -/
theorem out_at (c : Dev nD) (t : Fin cfg0.N) (r l : Fin 512) :
    out0_2 (F := Ideal) (iblk m c 0 t) (iblk m c 1 t) (ix3 (0 : Fin 1) r l)
      = Cert.ProjWRefIdeal.Read.val_main_v8 (F := Ideal) (m (c.tc.loc main_arg0)) (m (c.tc.loc main_arg1))
          (ix3 (⟨t.val, point_lt t⟩ : Fin 4) r l) := by
  rw [out_eq]
  refine (pay_at _ _ r l).trans ?_
  refine Eq.trans ?_ (Cert.ProjWRefIdeal.Hand.at_index _ _ _ _ _).symm
  refine Finset.sum_congr rfl fun k _ => ?_
  rw [blk0_at, blk1_at, V_main_arg0, V_main_arg1]
  rfl

/-- The result's array after the run. -/
theorem final (c : Dev nD) : (dats m 0 c).arrAt 2 cfg0.N
    = Cert.ProjWRefIdeal.Read.val_main_v8 (F := Ideal) (m (c.tc.loc main_arg0)) (m (c.tc.loc main_arg1)) := by
  refine (dats m 0 c).arrAt_eq_of_covers 2 _ (by decide +kernel) fun t hf y => ?_
  rw [after0_2]
  blk_simp
  have e : y = ix3 (0 : Fin 1) (y 1) (y 2) := funext fun b => by
    match b with | ⟨0, _⟩ => exact Subsingleton.elim (α := Fin 1) _ _ | ⟨1, _⟩ => rfl | ⟨2, _⟩ => rfl
  rw [e]
  refine (out_at m c t (y 1) (y 2)).trans (congrArg _ (Eq.symm ?_))
  funext b
  refine Fin.ext ?_
  match b with
  | ⟨0, _⟩ => blk_simp [index2]; rfl
  | ⟨1, _⟩ => blk_simp [index2]
  | ⟨2, _⟩ => blk_simp [index2]

end Cert.ProjWIdeal.Hand
-- ==== Proof.MixUpF.lean ====
/- The MLP's first product: the kernel's sixteen blocks hold the reference's `h · w`, its positive part and the square of that. -/
module

public import proofs.«01_k».proof.Proof.Gen.UpFIdeal.Value
public import proofs.«01_k».proof.Proof.Gen.UpFRefIdeal.Read
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.UpFRefIdeal.Hand

open Cert.UpFRefIdeal Cert.UpFRefIdeal.Gen Cert.UpFRefIdeal.Read
open Idealize.ShloMosaic

/-- The product's element in row `a`, column `b`. -/
def prod (h : FVec Ideal S4096x2048 .bf16) (w : FVec Ideal S2048x8192 .bf16) (a : Fin 4096) (b : Fin 8192) : EReal :=
  ∑ k : Fin 2048, h (ix2 a k) * w (ix2 k b)

/-- The reference's activation in row `a`, column `b`. -/
theorem act_at (h : FVec Ideal S4096x2048 .bf16) (w : FVec Ideal S2048x8192 .bf16) (a : Fin 4096) (b : Fin 8192) :
    val_main_v5 (F := Ideal) h w (ix2 a b) = max (prod h w a b) 0 * max (prod h w a b) 0 := by
  pointwise [prod, val_main_v5, val_main_v4, val_main_v3, val_main_v2, val_main_call0_v0, val_main_call0_cst, val_main_v1, val_main_v0]

/-- The reference's positive part in row `a`, column `b`. -/
theorem pos_at (h : FVec Ideal S4096x2048 .bf16) (w : FVec Ideal S2048x8192 .bf16) (a : Fin 4096) (b : Fin 8192) :
    val_main_v7 (F := Ideal) h w (ix2 a b) = max (prod h w a b) 0 := by
  pointwise [prod, val_main_v7, val_main_v6, val_main_v2, val_main_call1_v0, val_main_call1_cst, val_main_v1, val_main_v0]

end Cert.UpFRefIdeal.Hand

namespace Cert.UpFIdeal.Hand

open Cert.UpFIdeal Cert.UpFIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

theorem point_lt (t : Fin cfg0.N) : t.val < 16 := by have := t.isLt; have e : cfg0.N = 16 := N_0; omega

/-- Block `t`'s row. -/
def row (t : Fin cfg0.N) (r : Fin 1024) : Fin 4096 := ⟨t.val / 4 * 1024 + r.val, by have := point_lt t; omega⟩
/-- Block `t`'s column. -/
def col (t : Fin cfg0.N) (l : Fin 2048) : Fin 8192 := ⟨t.val % 4 * 2048 + l.val, by omega⟩

/-- The weight cut into four stacks of 2048 columns, as the launch is given it. -/
def cutw (w : FVec Ideal S2048x8192 .bf16) : FVec Ideal S4x2048x2048 .bf16 :=
  transpose S4x2048x2048 [1, 0, 2] (shapeCast S2048x4x2048 w shapeCasts_S2048x8192_S2048x4x2048) transposes_S2048x4x2048_S4x2048x2048_1_0_2

theorem cut_at (w : FVec Ideal S2048x8192 .bf16) (s : Fin 4) (a b : Fin 2048) :
    cutw w (ix3 s a b) = w (ix2 a ⟨s.val * 2048 + b.val, by omega⟩) := by
  pointwise [cutw]

theorem V_cut (c : Dev nD) : V m c main_v1 = cutw (m (c.tc.loc main_arg1)) := by
  dsimp only [V, hostOps0]
  after_results_simp
  rfl

theorem blk0_at (c : Dev nD) (t : Fin cfg0.N) (r : Fin 1024) (k : Fin 2048) :
    iblk m c 0 t (ix2 r k) = V m c main_arg0 (ix2 (row t r) k) := by
  blk_simp [iblk]
  refine congrArg (V m c main_arg0) (funext fun b => Fin.ext ?_)
  match b with
  | ⟨0, _⟩ => blk_simp [index0]; rfl
  | ⟨1, _⟩ => blk_simp [index0]

theorem blk1_at (c : Dev nD) (t : Fin cfg0.N) (k l : Fin 2048) :
    iblk m c 1 t (ix3 (0 : Fin 1) k l) = V m c main_v1 (ix3 (⟨t.val % 4, by omega⟩ : Fin 4) k l) := by
  blk_simp [iblk]
  refine congrArg (V m c main_v1) (funext fun b => Fin.ext ?_)
  match b with
  | ⟨0, _⟩ => blk_simp [index1]; rfl
  | ⟨1, _⟩ => blk_simp [index1]
  | ⟨2, _⟩ => blk_simp [index1]

/-- The product of a pair of blocks. -/
def part (x : FVec Ideal S1024x2048 .bf16) (y : FVec Ideal S1x2048x2048 .bf16) (r : Fin 1024) (l : Fin 2048) : EReal :=
  ∑ k : Fin 2048, x (ix2 r k) * y (ix3 (0 : Fin 1) k l)

theorem pay2_at (x : FVec Ideal S1024x2048 .bf16) (y : FVec Ideal S1x2048x2048 .bf16) (r : Fin 1024) (l : Fin 2048) :
    k0_pay2 (F := Ideal) x y (ix2 r l) = max (part x y r l) 0 * max (part x y r l) 0 := by
  pointwise [k0_pay2, k0_pay1, part]

theorem pay3_at (x : FVec Ideal S1024x2048 .bf16) (y : FVec Ideal S1x2048x2048 .bf16) (r : Fin 1024) (l : Fin 2048) :
    k0_pay3 (F := Ideal) x y (ix2 r l) = max (part x y r l) 0 := by
  pointwise [k0_pay3, k0_pay1, part]

theorem prod_at (c : Dev nD) (t : Fin cfg0.N) (r : Fin 1024) (l : Fin 2048) :
    part (iblk m c 0 t) (iblk m c 1 t) r l
      = Cert.UpFRefIdeal.Hand.prod (m (c.tc.loc main_arg0)) (m (c.tc.loc main_arg1)) (row t r) (col t l) := by
  unfold part Cert.UpFRefIdeal.Hand.prod
  refine Finset.sum_congr rfl fun k _ => ?_
  refine congrArg₂ (fun x y : EReal => x * y) ((blk0_at m c t r k).trans ?_) ((blk1_at m c t k l).trans ?_)
  · rw [V_main_arg0]
  · rw [V_cut]
    exact cut_at _ _ _ _

theorem out2_eq (x : FVec Ideal S1024x2048 .bf16) (y : FVec Ideal S1x2048x2048 .bf16) : out0_2 (F := Ideal) x y = k0_pay2 (F := Ideal) x y := by
  unfold out0_2 r0_1 r0_0
  rw [View.canon_unit_zero (funext fun a => by fin_cases a <;> rfl), View.ld_unit_zero (funext fun a => by fin_cases a <;> rfl),
    View.ld_unit_zero (funext fun a => by fin_cases a <;> rfl)]

theorem out3_eq (x : FVec Ideal S1024x2048 .bf16) (y : FVec Ideal S1x2048x2048 .bf16) : out0_3 (F := Ideal) x y = k0_pay3 (F := Ideal) x y := by
  unfold out0_3 r0_1 r0_0
  rw [View.canon_unit_zero (funext fun a => by fin_cases a <;> rfl), View.ld_unit_zero (funext fun a => by fin_cases a <;> rfl),
    View.ld_unit_zero (funext fun a => by fin_cases a <;> rfl)]

/-- What point `t` writes back of the activation. -/
theorem out2_at (c : Dev nD) (t : Fin cfg0.N) (r : Fin 1024) (l : Fin 2048) :
    out0_2 (F := Ideal) (iblk m c 0 t) (iblk m c 1 t) (ix2 r l)
      = Cert.UpFRefIdeal.Read.val_main_v5 (F := Ideal) (m (c.tc.loc main_arg0)) (m (c.tc.loc main_arg1)) (ix2 (row t r) (col t l)) := by
  rw [out2_eq, pay2_at, prod_at, Cert.UpFRefIdeal.Hand.act_at]

/-- The activation after the run. -/
theorem final2 (c : Dev nD) : (dats m 0 c).arrAt 2 cfg0.N
    = Cert.UpFRefIdeal.Read.val_main_v5 (F := Ideal) (m (c.tc.loc main_arg0)) (m (c.tc.loc main_arg1)) := by
  refine (dats m 0 c).arrAt_eq_of_covers 2 _ (by decide +kernel) fun t hf y => ?_
  rw [after0_2]
  blk_simp
  have e : y = ix2 (y 0) (y 1) := funext fun b => by match b with | ⟨0, _⟩ => rfl | ⟨1, _⟩ => rfl
  rw [e]
  refine (out2_at m c t (y 0) (y 1)).trans (congrArg _ (Eq.symm ?_))
  funext b
  refine Fin.ext ?_
  match b with
  | ⟨0, _⟩ => blk_simp [index2]; rfl
  | ⟨1, _⟩ => blk_simp [index2]; rfl

/-- What point `t` writes back of the positive part. -/
theorem out3_at (c : Dev nD) (t : Fin cfg0.N) (r : Fin 1024) (l : Fin 2048) :
    out0_3 (F := Ideal) (iblk m c 0 t) (iblk m c 1 t) (ix2 r l)
      = Cert.UpFRefIdeal.Read.val_main_v7 (F := Ideal) (m (c.tc.loc main_arg0)) (m (c.tc.loc main_arg1)) (ix2 (row t r) (col t l)) := by
  rw [out3_eq, pay3_at, prod_at, Cert.UpFRefIdeal.Hand.pos_at]

/-- The positive part after the run. -/
theorem final3 (c : Dev nD) : (dats m 0 c).arrAt 3 cfg0.N
    = Cert.UpFRefIdeal.Read.val_main_v7 (F := Ideal) (m (c.tc.loc main_arg0)) (m (c.tc.loc main_arg1)) := by
  refine (dats m 0 c).arrAt_eq_of_covers 3 _ (by decide +kernel) fun t hf y => ?_
  rw [after0_3]
  blk_simp
  have e : y = ix2 (y 0) (y 1) := funext fun b => by match b with | ⟨0, _⟩ => rfl | ⟨1, _⟩ => rfl
  rw [e]
  refine (out3_at m c t (y 0) (y 1)).trans (congrArg _ (Eq.symm ?_))
  funext b
  refine Fin.ext ?_
  match b with
  | ⟨0, _⟩ => blk_simp [index3]; rfl
  | ⟨1, _⟩ => blk_simp [index3]; rfl

end Cert.UpFIdeal.Hand
-- ==== Proof.MixDownF.lean ====
/- The MLP's second product: the four partial products the kernel adds up in its accumulator are the reference's product of
   the activation and the weight, its 8192 terms taken 2048 at a time; the last point adds the residual. -/
module

public import proofs.«01_k».proof.Proof.Gen.DownFIdeal.Value
public import proofs.«01_k».proof.Proof.Gen.DownFRefIdeal.Read
public import Idealize.ShloMosaic.Lib.Pipeline.ValueKit.Geometry
public import Idealize.ShloMosaic.Lib.Pipeline.ValueKit.Acc
public import Idealize.ShloMosaic.Lib.Pointwise
public import Idealize.ShloMosaic.Lib.StableHlo.Run

@[expose] public section

set_option maxRecDepth 16384

noncomputable section

namespace Cert.DownFRefIdeal.Hand

open Cert.DownFRefIdeal Cert.DownFRefIdeal.Gen Cert.DownFRefIdeal.Read
open Idealize.ShloMosaic

/-- The reference's element in row `a`, column `b`. -/
theorem at_index (u : FVec Ideal S4096x8192 .f32) (w : FVec Ideal S8192x2048 .bf16) (x : FVec Ideal S4096x2048 .f32)
    (a : Fin 4096) (b : Fin 2048) :
    val_main_v4 (F := Ideal) u w x (ix2 a b)
      = x (ix2 a b) + ∑ k : Fin 8192, max (u (ix2 a k)) 0 * max (u (ix2 a k)) 0 * w (ix2 k b) := by
  pointwise [val_main_v4, val_main_v3, val_main_v2, val_main_v1, val_main_v0, val_main_call0_v0, val_main_call0_cst]

end Cert.DownFRefIdeal.Hand

namespace Cert.DownFIdeal.Hand

open Cert.DownFIdeal Cert.DownFIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 8, t.val % 4] := (by decide +kernel : ∀ t : Fin grid0.N, _)
theorem index1 : ∀ t : Fin cfg0.N, win0_1.index t = ![t.val % 4, t.val % 8 / 4] := (by decide +kernel : ∀ t : Fin grid0.N, _)
theorem index2 : ∀ t : Fin cfg0.N, win0_2.index t = ![t.val / 8, t.val % 8 / 4] := (by decide +kernel : ∀ t : Fin grid0.N, _)
theorem index3 : ∀ t : Fin cfg0.N, win0_3.index t = ![t.val / 8, t.val % 8 / 4] := (by decide +kernel : ∀ t : Fin grid0.N, _)

theorem point_lt (t : Fin cfg0.N) : t.val < 32 := by have := t.isLt; have e : cfg0.N = 32 := N_0; omega

/-- Block `t`'s row. -/
def row (t : Fin cfg0.N) (r : Fin 1024) : Fin 4096 := ⟨t.val / 8 * 1024 + r.val, by have := point_lt t; omega⟩
/-- Block `t`'s column. -/
def col (t : Fin cfg0.N) (l : Fin 1024) : Fin 2048 := ⟨t.val % 8 / 4 * 1024 + l.val, by omega⟩
/-- Block `t`'s place among the 8192 terms. -/
def place (t : Fin cfg0.N) (k : Fin 2048) : Fin 8192 := ⟨t.val % 4 * 2048 + k.val, by omega⟩

/-- The activation the launch is given: the square of the positive part. -/
def act (u : FVec Ideal S4096x8192 .f32) : FVec Ideal S4096x8192 .bf16 :=
  truncf .bf16 (mulf (maximumf u (broadcastInDim S4096x8192 ![] bcast_S_S4096x8192 (constant S_ .f32 0x00000000#32)))
    (maximumf u (broadcastInDim S4096x8192 ![] bcast_S_S4096x8192 (constant S_ .f32 0x00000000#32)))) bitsLt_bf16_f32

theorem act_at (u : FVec Ideal S4096x8192 .f32) (k : Fin 4096) (a : Fin 8192) :
    act u (ix2 k a) = max (u (ix2 k a)) 0 * max (u (ix2 k a)) 0 := by
  pointwise [act]

theorem V_act (c : Dev nD) : V m c main_v2 = act (m (c.tc.loc main_arg0)) := by
  dsimp only [V, hostOps0, hostOps0_1, List.flatten_cons, List.flatten_nil, List.append_nil, List.cons_append, List.nil_append]
  after_results_simp
  rfl

theorem blk0_at (c : Dev nD) (t : Fin cfg0.N) (r : Fin 1024) (k : Fin 2048) :
    iblk m c 0 t (ix2 r k) = V m c main_v2 (ix2 (row t r) (place t k)) := by
  blk_simp [iblk]
  refine congrArg (V m c main_v2) (funext fun b => Fin.ext ?_)
  match b with
  | ⟨0, _⟩ => blk_simp [index0]; rfl
  | ⟨1, _⟩ => blk_simp [index0]; rfl

theorem blk1_at (c : Dev nD) (t : Fin cfg0.N) (k : Fin 2048) (l : Fin 1024) :
    iblk m c 1 t (ix2 k l) = V m c main_arg1 (ix2 (place t k) (col t l)) := by
  blk_simp [iblk]
  refine congrArg (V m c main_arg1) (funext fun b => Fin.ext ?_)
  match b with
  | ⟨0, _⟩ => blk_simp [index1]; rfl
  | ⟨1, _⟩ => blk_simp [index1]; rfl

theorem blk2_at (c : Dev nD) (t : Fin cfg0.N) (r l : Fin 1024) :
    iblk m c 2 t (ix2 r l) = V m c main_arg2 (ix2 (row t r) (col t l)) := by
  blk_simp [iblk]
  refine congrArg (V m c main_arg2) (funext fun b => Fin.ext ?_)
  match b with
  | ⟨0, _⟩ => blk_simp [index2]; rfl
  | ⟨1, _⟩ => blk_simp [index2]; rfl

/-- The partial product of a pair of blocks. -/
def part (x : FVec Ideal S1024x2048 .bf16) (y : FVec Ideal S2048x1024 .bf16) (j : S1024x1024.Idx) : EReal :=
  ∑ k : Fin 2048, x (ix2 (j 0) k) * y (ix2 k (j 1))

theorem pay1_at (x : FVec Ideal S1024x2048 .bf16) (y : FVec Ideal S2048x1024 .bf16) (j : S1024x1024.Idx) :
    k0_pay1 (F := Ideal) x y j = (0 : EReal) + part x y j := by
  rw [zero_add]
  pointwise [k0_pay1, part]

theorem pay2_at (s : FVec Ideal S1024x1024 .f32) (x : FVec Ideal S1024x2048 .bf16) (y : FVec Ideal S2048x1024 .bf16)
    (j : S1024x1024.Idx) : k0_pay2 (F := Ideal) s x y j = (s j + part x y j : EReal) := by
  pointwise [k0_pay2, part]

theorem pay3_at (s : FVec Ideal S1024x1024 .f32) (x : FVec Ideal S1024x2048 .bf16) (y : FVec Ideal S2048x1024 .bf16)
    (z : FVec Ideal S1024x1024 .f32) (j : S1024x1024.Idx) : k0_pay3 (F := Ideal) s x y z j = (s j + part x y j + z j : EReal) := by
  pointwise [k0_pay3, part]

/-- The running sum with a point's own product: the accumulator, and at a run's last point, which leaves it, its sum. -/
def total (c : Dev nD) (n : ℕ) (h : n < cfg0.N) (j : S1024x1024.Idx) : EReal :=
  if n % 4 = 3 then (outsAt0 (F := Ideal) m c (n - 1) (Nat.lt_of_le_of_lt (Nat.sub_le _ _) h)).2 j
    + part (iblk m c 0 ⟨n, h⟩) (iblk m c 1 ⟨n, h⟩) j
  else (outsAt0 (F := Ideal) m c n h).2 j

theorem total_first (c : Dev nD) (t : Fin cfg0.N) (h : t.val % 4 = 0) (j : S1024x1024.Idx) :
    total m c t.val t.isLt j = 0 + part (iblk m c 0 t) (iblk m c 1 t) j := by
  unfold total
  rw [if_neg (by omega), outsAt0_A m c t h (by omega) (by omega)]
  frame_out
  exact pay1_at _ _ _

theorem total_next (c : Dev nD) (t : Fin cfg0.N) (h : ¬t.val % 4 = 0) (j : S1024x1024.Idx) :
    total m c t.val t.isLt j
      = total m c (t.val - 1) (Nat.lt_of_le_of_lt (Nat.sub_le _ _) t.isLt) j + part (iblk m c 0 t) (iblk m c 1 t) j := by
  unfold total
  by_cases h3 : t.val % 4 = 3
  · rw [if_pos h3, if_neg (by omega)]
  · rw [if_neg h3, if_neg (by omega), outsAt0_B m c t h (by omega) h3]
    frame_out
    refine (pay2_at _ _ _ _).trans (congrArg (fun x : EReal => x + _) (congrFun ?_ j))
    exact Memref.IsWhole.read_unread (Memref.isWhole_whole _) _

/-- A run's last point adds the residual's block to the running sum. -/
theorem last_eq (c : Dev nD) (t : Fin cfg0.N) (h3 : t.val % 4 = 3) (j : S1024x1024.Idx) :
    (outsAt0 (F := Ideal) m c t.val t.isLt).1 j = (total m c t.val t.isLt j + iblk m c 2 t j : EReal) := by
  unfold total
  rw [if_pos h3, outsAt0_C m c t (by omega) (by omega) h3]
  frame_out
  refine (pay3_at _ _ _ _ _).trans (congrArg (fun x : EReal => x + _ + _) (congrFun ?_ j))
  exact Memref.IsWhole.read_unread (Memref.isWhole_whole _) _

/-- What a run's last point writes back. -/
theorem out_at (c : Dev nD) (t : Fin cfg0.N) (h3 : t.val % 4 = 3) (r l : Fin 1024) :
    (outsAt0 (F := Ideal) m c t.val t.isLt).1 (ix2 r l)
      = Cert.DownFRefIdeal.Read.val_main_v4 (F := Ideal) (m (c.tc.loc main_arg0)) (m (c.tc.loc main_arg1)) (m (c.tc.loc main_arg2))
          (ix2 (row t r) (col t l)) := by
  rw [last_eq m c t h3, Pipeline.eq_sum_fin_of_reset_step_apply_of_flush (fun n h => total m c n h) 4 (fun _ => 0)
    (fun t => part (iblk m c 0 t) (iblk m c 1 t)) (total_first m c) (total_next m c) t h3 (ix2 r l), zero_add]
  refine Eq.trans ?_ (Cert.DownFRefIdeal.Hand.at_index _ _ _ _ _).symm
  refine Eq.trans (add_comm _ _) ?_
  refine congrArg₂ (fun x y : EReal => x + y) ?_ ?_
  · rw [blk2_at, V_main_arg2]
  unfold part
  refine Fin.sum_mul_add_congr fun s k hl => ?_
  have hs := s.isLt
  have ht := point_lt t
  refine congrArg₂ (fun x y : EReal => x * y) ((blk0_at m c _ r k).trans ?_) ((blk1_at m c _ k l).trans ?_)
  · rw [V_act]
    refine (act_at _ _ _).trans ?_
    refine congrArg (fun x : EReal => max x 0 * max x 0) ?_
    exact congrArg (m (c.tc.loc main_arg0)) (congrArg₂ ix2 (Fin.ext (by simp only [row]; omega)) (Fin.ext (by simp only [place]; omega)))
  · rw [V_main_arg1]
    exact congrArg (m (c.tc.loc main_arg1)) (congrArg₂ ix2 (Fin.ext (by simp only [place]; omega)) (Fin.ext (by simp only [col]; omega)))

/-- The result's array after the run. -/
theorem final (c : Dev nD) : (dats m 0 c).arrAt 3 cfg0.N
    = Cert.DownFRefIdeal.Read.val_main_v4 (F := Ideal) (m (c.tc.loc main_arg0)) (m (c.tc.loc main_arg1)) (m (c.tc.loc main_arg2)) := by
  refine (dats m 0 c).arrAt_eq_of_covers 3 _ (by decide +kernel) fun t hf y => ?_
  rw [after0_3]
  blk_simp
  have e : y = ix2 (y 0) (y 1) := funext fun b => by match b with | ⟨0, _⟩ => rfl | ⟨1, _⟩ => rfl
  rw [e]
  refine (out_at m c t ((flush0_3 t).mp hf) (y 0) (y 1)).trans (congrArg _ (Eq.symm ?_))
  funext b
  refine Fin.ext ?_
  match b with
  | ⟨0, _⟩ => blk_simp [index3]; rfl
  | ⟨1, _⟩ => blk_simp [index3]; rfl

end Cert.DownFIdeal.Hand
-- ==== Proof.MixOutF.lean ====
/- The output projection: the kernel's eight blocks hold the reference's residual stream and its norm. -/
module

public import proofs.«01_k».proof.Proof.Gen.OutFIdeal.Value
public import proofs.«01_k».proof.Proof.Gen.OutFRefIdeal.Read
public import Idealize.ShloMosaic.Lib.Pipeline.ValueKit.Geometry
public import Idealize.ShloMosaic.Lib.Pointwise

@[expose] public section

set_option maxRecDepth 16384

noncomputable section

namespace Cert.OutFRefIdeal.Hand

open Cert.OutFRefIdeal Cert.OutFRefIdeal.Gen Cert.OutFRefIdeal.Read
open Idealize.ShloMosaic

/-- The residual and the product in row `a`, column `b`. -/
def sum1 (h : FVec Ideal S4096x2048 .bf16) (w : FVec Ideal S2048x2048 .bf16) (x : FVec Ideal S4096x2048 .f32) (a : Fin 4096) (b : Fin 2048) : EReal :=
  x (ix2 a b) + ∑ k : Fin 2048, h (ix2 a k) * w (ix2 k b)

/-- The reference's residual stream in row `a`, column `b`. -/
theorem sum_at (h : FVec Ideal S4096x2048 .bf16) (w : FVec Ideal S2048x2048 .bf16) (x : FVec Ideal S4096x2048 .f32) (a : Fin 4096) (b : Fin 2048) :
    val_main_v3 (F := Ideal) h w x (ix2 a b) = sum1 h w x a b := by
  pointwise [sum1, val_main_v3, val_main_v2, val_main_v1, val_main_v0]

/-- An element of a row divided by the root of the mean of the row's squares, times its weight. -/
def normed (f : Fin 2048 → EReal) (l : Fin 2048) (g : EReal) : EReal :=
  f l * FloatOps.rsqrt (F := Ideal) (φ := .f32) (FloatOps.addf (F := Ideal) (φ := .f32)
    (FloatOps.divf (F := Ideal) (φ := .f32) (∑ k : Fin 2048, f k * f k : EReal) (Scalar.ofBits .f32 0x45000000#32)) (Scalar.ofBits .f32 0x358637BD#32)) * g

/-- The reference's norm in row `a`, column `b`. -/
theorem norm_at (h : FVec Ideal S4096x2048 .bf16) (w : FVec Ideal S2048x2048 .bf16) (x : FVec Ideal S4096x2048 .f32)
    (g : FVec Ideal S1x2048 .f32) (a : Fin 4096) (b : Fin 2048) :
    val_main_v16 (F := Ideal) h w x g (ix2 a b) = normed (sum1 h w x a) b (g (ix2 (0 : Fin 1) b)) := by
  pointwise [normed, sum1, val_main_v16, val_main_v15, val_main_v14, val_main_v13, val_main_v12, val_main_v11, val_main_v10, val_main_v9, val_main_v8, val_main_v7, val_main_v6, val_main_v5, val_main_v4, val_main_cst, val_main_cst_0, val_main_cst_1, val_main_v3, val_main_v2, val_main_v1, val_main_v0]

end Cert.OutFRefIdeal.Hand

namespace Cert.OutFIdeal.Hand

open Cert.OutFIdeal Cert.OutFIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem point_lt (t : Fin cfg0.N) : t.val < 8 := by have := t.isLt; have e : cfg0.N = 8 := N_0; omega

/-- Block `t`'s row. -/
def row (t : Fin cfg0.N) (r : Fin 512) : Fin 4096 := ⟨t.val * 512 + r.val, by have := point_lt t; omega⟩

theorem blk0_at (c : Dev nD) (t : Fin cfg0.N) (r : Fin 512) (k : Fin 2048) :
    iblk m c 0 t (ix2 r k) = m (c.tc.loc main_arg0) (ix2 (row t r) k) := by
  rw [← V_main_arg0 m c]
  blk_simp [iblk]
  refine congrArg (V m c main_arg0) (funext fun b => Fin.ext ?_)
  match b with
  | ⟨0, _⟩ => blk_simp [index0]; rfl
  | ⟨1, _⟩ => blk_simp [index0]

theorem blk1_at (c : Dev nD) (t : Fin cfg0.N) (k l : Fin 2048) :
    iblk m c 1 t (ix2 k l) = m (c.tc.loc main_arg1) (ix2 k l) := by
  rw [← V_main_arg1 m c]
  blk_simp [iblk]
  refine congrArg (V m c main_arg1) (funext fun b => Fin.ext ?_)
  match b with
  | ⟨0, _⟩ => blk_simp [index1]
  | ⟨1, _⟩ => blk_simp [index1]

theorem blk2_at (c : Dev nD) (t : Fin cfg0.N) (r : Fin 512) (k : Fin 2048) :
    iblk m c 2 t (ix2 r k) = m (c.tc.loc main_arg2) (ix2 (row t r) k) := by
  rw [← V_main_arg2 m c]
  blk_simp [iblk]
  refine congrArg (V m c main_arg2) (funext fun b => Fin.ext ?_)
  match b with
  | ⟨0, _⟩ => blk_simp [index2]; rfl
  | ⟨1, _⟩ => blk_simp [index2]

theorem blk3_at (c : Dev nD) (t : Fin cfg0.N) (l : Fin 2048) :
    iblk m c 3 t (ix2 (0 : Fin 1) l) = m (c.tc.loc main_arg3) (ix2 (0 : Fin 1) l) := by
  rw [← V_main_arg3 m c]
  blk_simp [iblk]
  refine congrArg (V m c main_arg3) (funext fun b => Fin.ext ?_)
  match b with
  | ⟨0, _⟩ => blk_simp [index3]
  | ⟨1, _⟩ => blk_simp [index3]

theorem pay1_at (x : FVec Ideal S512x2048 .bf16) (y : FVec Ideal S2048x2048 .bf16) (z : FVec Ideal S512x2048 .f32) (r : Fin 512) (l : Fin 2048) :
    k0_pay1 (F := Ideal) x y z (ix2 r l) = ((∑ k : Fin 2048, x (ix2 r k) * y (ix2 k l)) + z (ix2 r l) : EReal) := by
  pointwise [k0_pay1]

/-- The kernel's norm of the rows it has just summed. -/
theorem pay2_at (x : FVec Ideal S512x2048 .bf16) (y : FVec Ideal S2048x2048 .bf16) (z : FVec Ideal S512x2048 .f32) (g : FVec Ideal S1x2048 .f32)
    (r : Fin 512) (l : Fin 2048) : k0_pay2 (F := Ideal) x y z g (ix2 r l)
      = Cert.OutFRefIdeal.Hand.normed (fun k => k0_pay1 (F := Ideal) x y z (ix2 r k)) l (g (ix2 (0 : Fin 1) l)) := by
  pointwise [k0_pay2, Cert.OutFRefIdeal.Hand.normed]

/-- The sums of a block's rows. -/
theorem sums_at (c : Dev nD) (t : Fin cfg0.N) (r : Fin 512) (l : Fin 2048) :
    k0_pay1 (F := Ideal) (iblk m c 0 t) (iblk m c 1 t) (iblk m c 2 t) (ix2 r l)
      = Cert.OutFRefIdeal.Hand.sum1 (m (c.tc.loc main_arg0)) (m (c.tc.loc main_arg1)) (m (c.tc.loc main_arg2)) (row t r) l := by
  refine (pay1_at _ _ _ _ _).trans ((add_comm _ _).trans ?_)
  refine congrArg₂ (fun x y : EReal => x + y) (blk2_at m c t r l) (Finset.sum_congr rfl fun k _ => ?_)
  exact congrArg₂ (fun x y : EReal => x * y) (blk0_at m c t r k) (blk1_at m c t k l)

theorem out4_eq (x : FVec Ideal S512x2048 .bf16) (y : FVec Ideal S2048x2048 .bf16) (z : FVec Ideal S512x2048 .f32) (g : FVec Ideal S1x2048 .f32) :
    out0_4 (F := Ideal) x y z g = k0_pay1 (F := Ideal) x y z := by
  unfold out0_4 r0_1 r0_0
  rw [View.canon_unit_zero (funext fun a => by fin_cases a <;> rfl), View.ld_unit_zero (funext fun a => by fin_cases a <;> rfl), View.ld_unit_zero (funext fun a => by fin_cases a <;> rfl), View.ld_unit_zero (funext fun a => by fin_cases a <;> rfl)]

theorem out5_eq (x : FVec Ideal S512x2048 .bf16) (y : FVec Ideal S2048x2048 .bf16) (z : FVec Ideal S512x2048 .f32) (g : FVec Ideal S1x2048 .f32) :
    out0_5 (F := Ideal) x y z g = k0_pay2 (F := Ideal) x y z g := by
  unfold out0_5 r0_2 r0_1 r0_0
  rw [View.canon_unit_zero (funext fun a => by fin_cases a <;> rfl), View.ld_unit_zero (funext fun a => by fin_cases a <;> rfl), View.ld_unit_zero (funext fun a => by fin_cases a <;> rfl), View.ld_unit_zero (funext fun a => by fin_cases a <;> rfl), View.ld_unit_zero (funext fun a => by fin_cases a <;> rfl)]

/-- What point `t` writes back of the residual stream. -/
theorem out4_at (c : Dev nD) (t : Fin cfg0.N) (r : Fin 512) (l : Fin 2048) :
    out0_4 (F := Ideal) (iblk m c 0 t) (iblk m c 1 t) (iblk m c 2 t) (iblk m c 3 t) (ix2 r l)
      = Cert.OutFRefIdeal.Read.val_main_v3 (F := Ideal) (m (c.tc.loc main_arg0)) (m (c.tc.loc main_arg1)) (m (c.tc.loc main_arg2)) (ix2 (row t r) l) := by
  rw [out4_eq, sums_at, Cert.OutFRefIdeal.Hand.sum_at]

/-- The residual stream after the run. -/
theorem final4 (c : Dev nD) : (dats m 0 c).arrAt 4 cfg0.N
    = Cert.OutFRefIdeal.Read.val_main_v3 (F := Ideal) (m (c.tc.loc main_arg0)) (m (c.tc.loc main_arg1)) (m (c.tc.loc main_arg2)) := by
  refine (dats m 0 c).arrAt_eq_of_covers 4 _ (by decide +kernel) fun t hf y => ?_
  rw [after0_4]
  blk_simp
  have e : y = ix2 (y 0) (y 1) := funext fun b => by match b with | ⟨0, _⟩ => rfl | ⟨1, _⟩ => rfl
  rw [e]
  refine (out4_at m c t (y 0) (y 1)).trans (congrArg _ (Eq.symm ?_))
  funext b
  refine Fin.ext ?_
  match b with
  | ⟨0, _⟩ => blk_simp [index4]; rfl
  | ⟨1, _⟩ => blk_simp [index4]

/-- What point `t` writes back of the norm. -/
theorem out5_at (c : Dev nD) (t : Fin cfg0.N) (r : Fin 512) (l : Fin 2048) :
    out0_5 (F := Ideal) (iblk m c 0 t) (iblk m c 1 t) (iblk m c 2 t) (iblk m c 3 t) (ix2 r l)
      = Cert.OutFRefIdeal.Read.val_main_v16 (F := Ideal) (m (c.tc.loc main_arg0)) (m (c.tc.loc main_arg1)) (m (c.tc.loc main_arg2)) (m (c.tc.loc main_arg3)) (ix2 (row t r) l) := by
  rw [out5_eq, pay2_at, Cert.OutFRefIdeal.Hand.norm_at]
  exact congrArg₂ (fun f g => Cert.OutFRefIdeal.Hand.normed f l g) (funext fun k => sums_at m c t r k) (blk3_at m c t l)

/-- The norm after the run. -/
theorem final5 (c : Dev nD) : (dats m 0 c).arrAt 5 cfg0.N
    = Cert.OutFRefIdeal.Read.val_main_v16 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  rw [after0_5]
  blk_simp
  have e : y = ix2 (y 0) (y 1) := funext fun b => by match b with | ⟨0, _⟩ => rfl | ⟨1, _⟩ => rfl
  rw [e]
  refine (out5_at m c t (y 0) (y 1)).trans (congrArg _ (Eq.symm ?_))
  funext b
  refine Fin.ext ?_
  match b with
  | ⟨0, _⟩ => blk_simp [index5]; rfl
  | ⟨1, _⟩ => blk_simp [index5]

end Cert.OutFIdeal.Hand
-- ==== Proof.MixGateX.lean ====
/- The gradient of the gate's input: the four partial products the kernel adds up in its accumulator are the reference's
   product, its 4096 terms taken 1024 at a time, and the last point adds the other gradient; beside it each point updates
   64 rows of a weight shard. -/
module

public import proofs.«01_k».proof.Proof.Gen.GateXIdeal.Frame
public import Idealize.ShloMosaic.Lib.Pipeline.Value
public import proofs.«01_k».proof.Proof.Gen.GateXRefIdeal.Read
public import Idealize.ShloMosaic.Lib.Pipeline.ValueKit.Geometry
public import Idealize.ShloMosaic.Lib.Pipeline.ValueKit.Acc
public import Idealize.ShloMosaic.Lib.Pointwise
public import Idealize.ShloMosaic.Lib.StableHlo.Run

@[expose] public section

set_option maxRecDepth 16384

noncomputable section

namespace Cert.GateXRefIdeal.Hand

open Cert.GateXRefIdeal Cert.GateXRefIdeal.Gen Cert.GateXRefIdeal.Read
open Idealize.ShloMosaic

/-- The reference's gradient of the norm's output in row `a`, column `b`. -/
theorem at_index (w : FVec Ideal S2048x4096 .bf16) (dg : FVec Ideal S2x4096x2048 .bf16) (dh : FVec Ideal S4096x2048 .f32)
    (a : Fin 4096) (b : Fin 2048) : val_main_v7 (F := Ideal) w dg dh (ix2 a b)
      = ((∑ k : Fin 4096, dg (ix3 (⟨k.val / 2048, by omega⟩ : Fin 2) a (⟨k.val % 2048, by omega⟩ : Fin 2048)) * w (ix2 b k))
        + dh (ix2 a b) : EReal) := by
  pointwise [val_main_v7, val_main_v6, val_main_v5, val_main_v4, val_main_v1, val_main_v0]

/-- The first moment of one element. -/
def mean (g p : EReal) : EReal := Scalar.ofBits (F := Ideal) .f32 0x3F666666#32 * p + Scalar.ofBits (F := Ideal) .f32 0x3DCCCCCD#32 * g

/-- The second moment of one element. -/
def square (g p : EReal) : EReal := Scalar.ofBits (F := Ideal) .f32 0x3F7FBE77#32 * p + Scalar.ofBits (F := Ideal) .f32 0x3A83126F#32 * (g * g)

/-- The update of one element. -/
def change (w g p q : EReal) : EReal :=
  Scalar.ofBits (F := Ideal) .f32 0xBA83126F#32 * (FloatOps.divf (F := Ideal) (φ := .f32)
    (FloatOps.divf (F := Ideal) (φ := .f32) (mean g p) (Scalar.ofBits .f32 0x3F26BD02#32))
    (FloatOps.addf (F := Ideal) (φ := .f32) (FloatOps.sqrt (F := Ideal) (φ := .f32) (FloatOps.divf (F := Ideal) (φ := .f32) (square g q) (Scalar.ofBits .f32 0x3C231ACC#32)))
      (Scalar.ofBits .f32 0x322BCC77#32)) + Scalar.ofBits (F := Ideal) .f32 0x3C23D70A#32 * w)

theorem mean_at (g p : FVec Ideal S2048x2048 .f32) (a b : Fin 2048) : val_main_v12 (F := Ideal) g p (ix2 a b) = mean (g (ix2 a b)) (p (ix2 a b)) := by
  pointwise [mean, val_main_v12, val_main_v11, val_main_v10, val_main_v9, val_main_v8, val_main_cst_0, val_main_cst_1]

theorem square_at (g q : FVec Ideal S2048x2048 .f32) (a b : Fin 2048) : val_main_v18 (F := Ideal) g q (ix2 a b) = square (g (ix2 a b)) (q (ix2 a b)) := by
  pointwise [square, val_main_v18, val_main_v17, val_main_v16, val_main_v15, val_main_v14, val_main_v13, val_main_cst_2, val_main_cst_3]

theorem change_at (w g p q : FVec Ideal S2048x2048 .f32) (a b : Fin 2048) : val_main_v31 (F := Ideal) w g p q (ix2 a b)
    = change (w (ix2 a b)) (g (ix2 a b)) (p (ix2 a b)) (q (ix2 a b)) := by
  pointwise [change, mean, square, val_main_v31, val_main_v30, val_main_v29, val_main_v28, val_main_v27, val_main_v26, val_main_v25, val_main_v24, val_main_v23,
    val_main_v22, val_main_v21, val_main_v20, val_main_v19, val_main_cst_4, val_main_cst_5, val_main_cst_6, val_main_cst_7, val_main_cst_8,
    val_main_v18, val_main_v17, val_main_v16, val_main_v15, val_main_v14, val_main_v13, val_main_cst_2, val_main_cst_3,
    val_main_v12, val_main_v11, val_main_v10, val_main_v9, val_main_v8, val_main_cst_0, val_main_cst_1]

end Cert.GateXRefIdeal.Hand

namespace Cert.GateXIdeal.Hand

open Cert.GateXIdeal Cert.GateXIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val % 4 / 2, t.val / 8, t.val % 4 % 2] := (by decide +kernel : ∀ t : Fin grid0.N, _)
theorem index1 : ∀ t : Fin cfg0.N, win0_1.index t = ![t.val % 4, t.val % 8 / 4, 0] := (by decide +kernel : ∀ t : Fin grid0.N, _)
theorem index2 : ∀ t : Fin cfg0.N, win0_2.index t = ![t.val / 8, t.val % 8 / 4] := (by decide +kernel : ∀ t : Fin grid0.N, _)
theorem index7 : ∀ t : Fin cfg0.N, win0_7.index t = ![t.val / 8, t.val % 8 / 4] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)

theorem point_lt (t : Fin cfg0.N) : t.val < 32 := by have := t.isLt; have e : cfg0.N = 32 := N_0; omega

/-- Block `t`'s row. -/
def row (t : Fin cfg0.N) (r : Fin 1024) : Fin 4096 := ⟨t.val / 8 * 1024 + r.val, by have := point_lt t; omega⟩
/-- Block `t`'s column. -/
def col (t : Fin cfg0.N) (l : Fin 1024) : Fin 2048 := ⟨t.val % 8 / 4 * 1024 + l.val, by omega⟩
/-- The row of the shard that block `t` of the update holds. -/
def line (t : Fin cfg0.N) (r : Fin 64) : Fin 2048 := ⟨t.val * 64 + r.val, by have := point_lt t; omega⟩

/-- The weight cut into four stacks of 1024 columns, as the launch is given it. -/
def cutw (w : FVec Ideal S2048x4096 .bf16) : FVec Ideal S4x2048x1024 .bf16 :=
  transpose S4x2048x1024 [1, 0, 2] (shapeCast S2048x4x1024 w shapeCasts_S2048x4096_S2048x4x1024) transposes_S2048x4x1024_S4x2048x1024_1_0_2

theorem cut_at (w : FVec Ideal S2048x4096 .bf16) (s : Fin 4) (a : Fin 2048) (b : Fin 1024) :
    cutw w (ix3 s a b) = w (ix2 a ⟨s.val * 1024 + b.val, by omega⟩) := by
  pointwise [cutw]

theorem V_cut (c : Dev nD) : V m c main_v1 = cutw (m (c.tc.loc main_arg0)) := by
  dsimp only [V, hostOps0]
  after_results_simp
  rfl

theorem blk0_at (c : Dev nD) (t : Fin cfg0.N) (r k : Fin 1024) :
    iblk m c 0 t (ix3 (0 : Fin 1) r k)
      = V m c main_arg1 (ix3 (⟨t.val % 4 / 2, by omega⟩ : Fin 2) (row t r) (⟨t.val % 4 % 2 * 1024 + k.val, by omega⟩ : Fin 2048)) := by
  blk_simp [iblk]
  refine congrArg (V m c main_arg1) (funext fun b => Fin.ext ?_)
  match b with
  | ⟨0, _⟩ => blk_simp [index0]; rfl
  | ⟨1, _⟩ => blk_simp [index0]; rfl
  | ⟨2, _⟩ => blk_simp [index0]

theorem blk1_at (c : Dev nD) (t : Fin cfg0.N) (l k : Fin 1024) :
    iblk m c 1 t (ix3 (0 : Fin 1) l k) = V m c main_v1 (ix3 (⟨t.val % 4, by omega⟩ : Fin 4) (col t l) k) := by
  blk_simp [iblk]
  refine congrArg (V m c main_v1) (funext fun b => Fin.ext ?_)
  match b with
  | ⟨0, _⟩ => blk_simp [index1]; rfl
  | ⟨1, _⟩ => blk_simp [index1]; rfl
  | ⟨2, _⟩ => blk_simp [index1]

theorem blk2_at (c : Dev nD) (t : Fin cfg0.N) (r l : Fin 1024) :
    iblk m c 2 t (ix2 r l) = V m c main_arg2 (ix2 (row t r) (col t l)) := by
  blk_simp [iblk]
  refine congrArg (V m c main_arg2) (funext fun b => Fin.ext ?_)
  match b with
  | ⟨0, _⟩ => blk_simp [index2]; rfl
  | ⟨1, _⟩ => blk_simp [index2]; rfl

theorem blk3_at (c : Dev nD) (t : Fin cfg0.N) (r : Fin 64) (l : Fin 2048) :
    iblk m c 3 t (ix2 r l) = m (c.tc.loc main_arg3) (ix2 (line t r) l) := by
  rw [← V_main_arg3 m c]
  blk_simp [iblk]
  refine congrArg (V m c main_arg3) (funext fun b => Fin.ext ?_)
  match b with
  | ⟨0, _⟩ => blk_simp [index3]; rfl
  | ⟨1, _⟩ => blk_simp [index3]

theorem blk4_at (c : Dev nD) (t : Fin cfg0.N) (r : Fin 64) (l : Fin 2048) :
    iblk m c 4 t (ix2 r l) = m (c.tc.loc main_arg4) (ix2 (line t r) l) := by
  rw [← V_main_arg4 m c]
  blk_simp [iblk]
  refine congrArg (V m c main_arg4) (funext fun b => Fin.ext ?_)
  match b with
  | ⟨0, _⟩ => blk_simp [index4]; rfl
  | ⟨1, _⟩ => blk_simp [index4]

theorem blk5_at (c : Dev nD) (t : Fin cfg0.N) (r : Fin 64) (l : Fin 2048) :
    iblk m c 5 t (ix2 r l) = m (c.tc.loc main_arg5) (ix2 (line t r) l) := by
  rw [← V_main_arg5 m c]
  blk_simp [iblk]
  refine congrArg (V m c main_arg5) (funext fun b => Fin.ext ?_)
  match b with
  | ⟨0, _⟩ => blk_simp [index5]; rfl
  | ⟨1, _⟩ => blk_simp [index5]

theorem blk6_at (c : Dev nD) (t : Fin cfg0.N) (r : Fin 64) (l : Fin 2048) :
    iblk m c 6 t (ix2 r l) = m (c.tc.loc main_arg6) (ix2 (line t r) l) := by
  rw [← V_main_arg6 m c]
  blk_simp [iblk]
  refine congrArg (V m c main_arg6) (funext fun b => Fin.ext ?_)
  match b with
  | ⟨0, _⟩ => blk_simp [index6]; rfl
  | ⟨1, _⟩ => blk_simp [index6]

/-- The partial product of a pair of blocks. -/
def part (x y : FVec Ideal S1x1024x1024 .bf16) (j : S1024x1024.Idx) : EReal :=
  ∑ k : Fin 1024, x (ix3 (0 : Fin 1) (j 0) k) * y (ix3 (0 : Fin 1) (j 1) k)

theorem pay1_at (x y : FVec Ideal S1x1024x1024 .bf16) (j : S1024x1024.Idx) : k0_pay1 (F := Ideal) x y j = (0 : EReal) + part x y j := by
  rw [zero_add]
  pointwise [k0_pay1, part]

theorem pay2_at (s : FVec Ideal S1024x1024 .f32) (x y : FVec Ideal S1x1024x1024 .bf16) (j : S1024x1024.Idx) :
    k0_pay2 (F := Ideal) s x y j = (s j + part x y j : EReal) := by
  pointwise [k0_pay2, part]

theorem pay3_at (s : FVec Ideal S1024x1024 .f32) (x y : FVec Ideal S1x1024x1024 .bf16) (z : FVec Ideal S1024x1024 .f32) (j : S1024x1024.Idx) :
    k0_pay3 (F := Ideal) s x y z j = (s j + part x y j + z j : EReal) := by
  pointwise [k0_pay3, part]

theorem pay4_at (g p : FVec Ideal S64x2048 .f32) (r : Fin 64) (l : Fin 2048) : k0_pay4 (F := Ideal) g p (ix2 r l) = Cert.GateXRefIdeal.Hand.mean (g (ix2 r l)) (p (ix2 r l)) := by
  pointwise [k0_pay4, Cert.GateXRefIdeal.Hand.mean]

theorem pay5_at (g q : FVec Ideal S64x2048 .f32) (r : Fin 64) (l : Fin 2048) : k0_pay5 (F := Ideal) g q (ix2 r l) = Cert.GateXRefIdeal.Hand.square (g (ix2 r l)) (q (ix2 r l)) := by
  pointwise [k0_pay5, Cert.GateXRefIdeal.Hand.square]

theorem pay6_at (w g p q : FVec Ideal S64x2048 .f32) (r : Fin 64) (l : Fin 2048) : k0_pay6 (F := Ideal) w g p q (ix2 r l)
    = Cert.GateXRefIdeal.Hand.change (w (ix2 r l)) (g (ix2 r l)) (p (ix2 r l)) (q (ix2 r l)) := by
  pointwise [k0_pay6, k0_pay4, k0_pay5, Cert.GateXRefIdeal.Hand.change, Cert.GateXRefIdeal.Hand.mean, Cert.GateXRefIdeal.Hand.square]

/-- The running sum with a point's own product: the accumulator, and at a run's last point, which leaves it, its sum. -/
def total (c : Dev nD) (n : ℕ) (h : n < cfg0.N) (j : S1024x1024.Idx) : EReal :=
  if n % 4 = 3 then (outsAt0 (F := Ideal) m c (n - 1) (Nat.lt_of_le_of_lt (Nat.sub_le _ _) h)).2.2.2.2.2 j
    + part (iblk m c 0 ⟨n, h⟩) (iblk m c 1 ⟨n, h⟩) j
  else (outsAt0 (F := Ideal) m c n h).2.2.2.2.2 j

theorem total_first (c : Dev nD) (t : Fin cfg0.N) (h : t.val % 4 = 0) (j : S1024x1024.Idx) :
    total m c t.val t.isLt j = 0 + part (iblk m c 0 t) (iblk m c 1 t) j := by
  unfold total
  rw [if_neg (by omega), outsAt0_A m c t h (by omega) (by omega)]
  frame_out
  exact pay1_at _ _ _

theorem total_next (c : Dev nD) (t : Fin cfg0.N) (h : ¬t.val % 4 = 0) (j : S1024x1024.Idx) :
    total m c t.val t.isLt j
      = total m c (t.val - 1) (Nat.lt_of_le_of_lt (Nat.sub_le _ _) t.isLt) j + part (iblk m c 0 t) (iblk m c 1 t) j := by
  unfold total
  by_cases h3 : t.val % 4 = 3
  · rw [if_pos h3, if_neg (by omega)]
  · rw [if_neg h3, if_neg (by omega), outsAt0_B m c t h (by omega) h3]
    frame_out
    refine (pay2_at _ _ _ _).trans (congrArg (fun x : EReal => x + _) (congrFun ?_ j))
    exact Memref.IsWhole.read_unread (Memref.isWhole_whole _) _

/-- A run's last point adds the block of the gradient that came the other way. -/
theorem last_eq (c : Dev nD) (t : Fin cfg0.N) (h3 : t.val % 4 = 3) (j : S1024x1024.Idx) :
    (outsAt0 (F := Ideal) m c t.val t.isLt).1 j = (total m c t.val t.isLt j + iblk m c 2 t j : EReal) := by
  unfold total
  rw [if_pos h3, outsAt0_C m c t (by omega) (by omega) h3]
  frame_out
  refine (pay3_at _ _ _ _ _).trans (congrArg (fun x : EReal => x + _ + _) (congrFun ?_ j))
  exact Memref.IsWhole.read_unread (Memref.isWhole_whole _) _

/-- What a run's last point writes back. -/
theorem out_at (c : Dev nD) (t : Fin cfg0.N) (h3 : t.val % 4 = 3) (r l : Fin 1024) :
    (outsAt0 (F := Ideal) m c t.val t.isLt).1 (ix2 r l) = Cert.GateXRefIdeal.Read.val_main_v7 (F := Ideal) (m (c.tc.loc main_arg0)) (m (c.tc.loc main_arg1)) (m (c.tc.loc main_arg2)) (ix2 (row t r) (col t l)) := by
  rw [last_eq m c t h3, Pipeline.eq_sum_fin_of_reset_step_apply_of_flush (fun n h => total m c n h) 4 (fun _ => 0)
    (fun t => part (iblk m c 0 t) (iblk m c 1 t)) (total_first m c) (total_next m c) t h3 (ix2 r l), zero_add]
  refine Eq.trans ?_ (Cert.GateXRefIdeal.Hand.at_index _ _ _ _ _).symm
  refine congrArg₂ (fun x y : EReal => x + y) ?_ ?_
  · unfold part
    refine Fin.sum_mul_add_congr fun s k hl => ?_
    have hs := s.isLt
    have ht := point_lt t
    refine congrArg₂ (fun x y : EReal => x * y) ((blk0_at m c _ r k).trans ?_) ((blk1_at m c _ l k).trans ?_)
    · rw [V_main_arg1]
      refine congrArg (m (c.tc.loc main_arg1)) (congr (congrArg₂ ix3 (Fin.ext ?_) (Fin.ext ?_)) (Fin.ext ?_))
      · dsimp only; omega
      · simp only [row]; omega
      · dsimp only; omega
    · rw [V_cut]
      refine (cut_at _ _ _ _).trans (congrArg (m (c.tc.loc main_arg0)) (congrArg₂ ix2 (Fin.ext ?_) (Fin.ext ?_)))
      · simp only [col]; omega
      · dsimp only; omega
  · rw [blk2_at, V_main_arg2]

/-- The gradient of the norm's output after the run. -/
theorem final7 (c : Dev nD) : (dats m 0 c).arrAt 7 cfg0.N = Cert.GateXRefIdeal.Read.val_main_v7 (F := Ideal) (m (c.tc.loc main_arg0)) (m (c.tc.loc main_arg1)) (m (c.tc.loc main_arg2)) := by
  refine (dats m 0 c).arrAt_eq_of_covers 7 _ (by decide +kernel) fun t hf y => ?_
  rw [after0_7]
  blk_simp
  have e : y = ix2 (y 0) (y 1) := funext fun b => by match b with | ⟨0, _⟩ => rfl | ⟨1, _⟩ => rfl
  rw [e]
  refine (out_at m c t ((flush0_7 t).mp hf) (y 0) (y 1)).trans (congrArg _ (Eq.symm ?_))
  funext b
  refine Fin.ext ?_
  match b with
  | ⟨0, _⟩ => blk_simp [index7]; rfl
  | ⟨1, _⟩ => blk_simp [index7]; rfl

theorem side8_eq (c : Dev nD) (t : Fin cfg0.N) : (outsAt0 (F := Ideal) m c t.val t.isLt).2.1 = iblk m c 4 t := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the gradient the update is given. -/
theorem side8_at (c : Dev nD) (t : Fin cfg0.N) (r : Fin 64) (l : Fin 2048) :
    (outsAt0 (F := Ideal) m c t.val t.isLt).2.1 (ix2 r l) = (m (c.tc.loc main_arg4) : FVec Ideal S2048x2048 .f32) (ix2 (line t r) l) := by
  rw [side8_eq]
  exact blk4_at m c t r l

/-- The gradient the update is given after the run. -/
theorem final8 (c : Dev nD) : (dats m 0 c).arrAt 8 cfg0.N = m (c.tc.loc main_arg4) := by
  refine (dats m 0 c).arrAt_eq_of_covers 8 _ (by decide +kernel) fun t hf y => ?_
  rw [after0_8]
  blk_simp
  have e : y = ix2 (y 0) (y 1) := funext fun b => by match b with | ⟨0, _⟩ => rfl | ⟨1, _⟩ => rfl
  rw [e]
  refine (side8_at m c t (y 0) (y 1)).trans (congrArg _ (Eq.symm ?_))
  funext b
  refine Fin.ext ?_
  match b with
  | ⟨0, _⟩ => blk_simp [index8]; rfl
  | ⟨1, _⟩ => blk_simp [index8]

theorem side9_eq (c : Dev nD) (t : Fin cfg0.N) : (outsAt0 (F := Ideal) m c t.val t.isLt).2.2.1 = k0_pay6 (F := Ideal) (iblk m c 3 t) (iblk m c 4 t) (iblk m c 5 t) (iblk m c 6 t) := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the update. -/
theorem side9_at (c : Dev nD) (t : Fin cfg0.N) (r : Fin 64) (l : Fin 2048) :
    (outsAt0 (F := Ideal) m c t.val t.isLt).2.2.1 (ix2 r l) = (Cert.GateXRefIdeal.Read.val_main_v31 (F := Ideal) (m (c.tc.loc main_arg3)) (m (c.tc.loc main_arg4)) (m (c.tc.loc main_arg5)) (m (c.tc.loc main_arg6)) : FVec Ideal S2048x2048 .f32) (ix2 (line t r) l) := by
  rw [side9_eq]
  rw [Cert.GateXRefIdeal.Hand.change_at, pay6_at, blk3_at, blk4_at, blk5_at, blk6_at]

/-- The update after the run. -/
theorem final9 (c : Dev nD) : (dats m 0 c).arrAt 9 cfg0.N = Cert.GateXRefIdeal.Read.val_main_v31 (F := Ideal) (m (c.tc.loc main_arg3)) (m (c.tc.loc main_arg4)) (m (c.tc.loc main_arg5)) (m (c.tc.loc main_arg6)) := by
  refine (dats m 0 c).arrAt_eq_of_covers 9 _ (by decide +kernel) fun t hf y => ?_
  rw [after0_9]
  blk_simp
  have e : y = ix2 (y 0) (y 1) := funext fun b => by match b with | ⟨0, _⟩ => rfl | ⟨1, _⟩ => rfl
  rw [e]
  refine (side9_at m c t (y 0) (y 1)).trans (congrArg _ (Eq.symm ?_))
  funext b
  refine Fin.ext ?_
  match b with
  | ⟨0, _⟩ => blk_simp [index9]; rfl
  | ⟨1, _⟩ => blk_simp [index9]

theorem side10_eq (c : Dev nD) (t : Fin cfg0.N) : (outsAt0 (F := Ideal) m c t.val t.isLt).2.2.2.1 = k0_pay4 (F := Ideal) (iblk m c 4 t) (iblk m c 5 t) := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the first moment. -/
theorem side10_at (c : Dev nD) (t : Fin cfg0.N) (r : Fin 64) (l : Fin 2048) :
    (outsAt0 (F := Ideal) m c t.val t.isLt).2.2.2.1 (ix2 r l) = (Cert.GateXRefIdeal.Read.val_main_v12 (F := Ideal) (m (c.tc.loc main_arg4)) (m (c.tc.loc main_arg5)) : FVec Ideal S2048x2048 .f32) (ix2 (line t r) l) := by
  rw [side10_eq]
  rw [Cert.GateXRefIdeal.Hand.mean_at, pay4_at, blk4_at, blk5_at]

/-- The first moment after the run. -/
theorem final10 (c : Dev nD) : (dats m 0 c).arrAt 10 cfg0.N = Cert.GateXRefIdeal.Read.val_main_v12 (F := Ideal) (m (c.tc.loc main_arg4)) (m (c.tc.loc main_arg5)) := by
  refine (dats m 0 c).arrAt_eq_of_covers 10 _ (by decide +kernel) fun t hf y => ?_
  rw [after0_10]
  blk_simp
  have e : y = ix2 (y 0) (y 1) := funext fun b => by match b with | ⟨0, _⟩ => rfl | ⟨1, _⟩ => rfl
  rw [e]
  refine (side10_at m c t (y 0) (y 1)).trans (congrArg _ (Eq.symm ?_))
  funext b
  refine Fin.ext ?_
  match b with
  | ⟨0, _⟩ => blk_simp [index10]; rfl
  | ⟨1, _⟩ => blk_simp [index10]

theorem side11_eq (c : Dev nD) (t : Fin cfg0.N) : (outsAt0 (F := Ideal) m c t.val t.isLt).2.2.2.2.1 = k0_pay5 (F := Ideal) (iblk m c 4 t) (iblk m c 6 t) := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the second moment. -/
theorem side11_at (c : Dev nD) (t : Fin cfg0.N) (r : Fin 64) (l : Fin 2048) :
    (outsAt0 (F := Ideal) m c t.val t.isLt).2.2.2.2.1 (ix2 r l) = (Cert.GateXRefIdeal.Read.val_main_v18 (F := Ideal) (m (c.tc.loc main_arg4)) (m (c.tc.loc main_arg6)) : FVec Ideal S2048x2048 .f32) (ix2 (line t r) l) := by
  rw [side11_eq]
  rw [Cert.GateXRefIdeal.Hand.square_at, pay5_at, blk4_at, blk6_at]

/-- The second moment after the run. -/
theorem final11 (c : Dev nD) : (dats m 0 c).arrAt 11 cfg0.N = Cert.GateXRefIdeal.Read.val_main_v18 (F := Ideal) (m (c.tc.loc main_arg4)) (m (c.tc.loc main_arg6)) := by
  refine (dats m 0 c).arrAt_eq_of_covers 11 _ (by decide +kernel) fun t hf y => ?_
  rw [after0_11]
  blk_simp
  have e : y = ix2 (y 0) (y 1) := funext fun b => by match b with | ⟨0, _⟩ => rfl | ⟨1, _⟩ => rfl
  rw [e]
  refine (side11_at m c t (y 0) (y 1)).trans (congrArg _ (Eq.symm ?_))
  funext b
  refine Fin.ext ?_
  match b with
  | ⟨0, _⟩ => blk_simp [index11]; rfl
  | ⟨1, _⟩ => blk_simp [index11]

/-- The whole run: each result is what the launch's points have written back, each argument unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 7 cfg0.N
      ∧ r.2.mem ((c.tc : Thread nD τ).loc main_v2_1) = (dats m 0 c).arrAt 8 cfg0.N
      ∧ r.2.mem ((c.tc : Thread nD τ).loc main_v2_2) = (dats m 0 c).arrAt 9 cfg0.N
      ∧ r.2.mem ((c.tc : Thread nD τ).loc main_v2_3) = (dats m 0 c).arrAt 10 cfg0.N
      ∧ r.2.mem ((c.tc : Thread nD τ).loc main_v2_4) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7, (h.1 c).1 8, (h.1 c).1 9, (h.1 c).1 10, (h.1 c).1 11, h.2 c⟩)
    (θ_run_and (run_main m ρ) (unchanged m ρ))

end Cert.GateXIdeal.Hand
-- ==== Proof.MixPlanes.lean ====
/- A block of two planes that a kernel stores one after the other, read back. -/
module

public import Idealize.ShloMosaic.Lib.Pipeline.Value
public import Idealize.ShloMosaic.Lib.Pipeline.ValueKit.Geometry
public import Idealize.ShloMosaic.Lib.Pointwise

@[expose] public section

noncomputable section

namespace Cert.Planes

open Idealize.ShloMosaic

/-- A block of two planes. -/
abbrev Pair : Shape := ⟨3, ![2, 1024, 512]⟩
/-- One of them. -/
abbrev Plane : Shape := ⟨3, ![1, 1024, 512]⟩

variable {F : FTy → Type} [FloatOps F]

/-- The place of each in the block. -/
abbrev second (h : ∀ a, (![1, 0, 0] : Fin 3 → ℕ) a + Plane.size a ≤ Pair.size a) : Rect Pair := Rect.unit (s := Pair) ![1, 0, 0] Plane.size h
abbrev first (h : ∀ a, (![0, 0, 0] : Fin 3 → ℕ) a + Plane.size a ≤ Pair.size a) : Rect Pair := Rect.unit (s := Pair) ![0, 0, 0] Plane.size h

theorem second_idx (h) (r : Fin 1024) (l : Fin 512) :
    (second h).emb (ix3 (0 : Fin 1) r l) = ix3 (1 : Fin 2) r l := by
  funext b
  apply Fin.ext
  match b with
  | ⟨0, _⟩ => rfl
  | ⟨1, _⟩ => show 0 + 1 * r.val = r.val; omega
  | ⟨2, _⟩ => show 0 + 1 * l.val = l.val; omega

theorem first_idx (h) (r : Fin 1024) (l : Fin 512) :
    (first h).emb (ix3 (0 : Fin 1) r l) = ix3 (0 : Fin 2) r l := by
  funext b
  apply Fin.ext
  match b with
  | ⟨0, _⟩ => rfl
  | ⟨1, _⟩ => show 0 + 1 * r.val = r.val; omega
  | ⟨2, _⟩ => show 0 + 1 * l.val = l.val; omega

/-- The second plane holds what was stored last, -/
theorem second_at (i0 i1) (w1 w0 : Vec F Plane .bf16) (r : Fin 1024) (l : Fin 512) :
    View.canon (Val := Elt F) (s := Pair) (e := .bf16) [⟨second i1, w1⟩, ⟨first i0, w0⟩] (ix3 (1 : Fin 2) r l) = w1 (ix3 (0 : Fin 1) r l) :=
  (congrArg _ (second_idx i1 r l).symm).trans (View.canon_cons_emb (second i1) w1 _ _)

/-- and the first plane what was stored before it. -/
theorem first_at (i0 i1) (w1 w0 : Vec F Plane .bf16) (r : Fin 1024) (l : Fin 512) :
    View.canon (Val := Elt F) (s := Pair) (e := .bf16) [⟨second i1, w1⟩, ⟨first i0, w0⟩] (ix3 (0 : Fin 2) r l) = w0 (ix3 (0 : Fin 1) r l) := by
  refine (View.canon_cons_of_not_mem _ _ fun hm => ?_).trans
    ((congrArg _ (first_idx i0 r l).symm).trans (View.canon_cons_emb (first i0) w0 _ _))
  have h1 := ((Rect.mem_set_unit (inb := i1)).mp hm) 0
  have h2 : 1 ≤ 0 ∧ 0 < 1 + 1 := h1
  omega

end Cert.Planes
-- ==== Proof.MixMerge.lean ====
/- The merging of the two branches: each block of the kernel holds the reference's gated sum of two projections, and the
   derivatives by the gates' arguments. -/
module

public import proofs.«01_k».proof.Proof.Gen.MergeIdeal.Value
public import proofs.«01_k».proof.Proof.Gen.MergeRefIdeal.Read
public import proofs.«01_k».proof.Proof.MixPlanes
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.MergeRefIdeal.Hand

open Cert.MergeRefIdeal Cert.MergeRefIdeal.Gen Cert.MergeRefIdeal.Read
open Idealize.ShloMosaic

/-- A branch's gate. -/
abbrev gate (z : FVec Ideal S2x4096x2048 .f32) (s : Fin 2) (a : Fin 4096) (b : Fin 2048) : EReal := val_main_v9 (F := Ideal) z (ix3 s a b)

/-- A branch's projection in row `a`, column `b`. -/
def proj (y : FVec Ideal S4096x512 .bf16) (w : FVec Ideal S512x2048 .bf16) (a : Fin 4096) (b : Fin 2048) : EReal :=
  ∑ k : Fin 512, y (ix2 a k) * w (ix2 k b)

/-- The reference's merged branches. -/
theorem merged_at (ya yb : FVec Ideal S4096x512 .bf16) (wa wb : FVec Ideal S512x2048 .bf16) (z : FVec Ideal S2x4096x2048 .f32)
    (a : Fin 4096) (b : Fin 2048) : val_main_v22 (F := Ideal) ya yb wa wb z (ix2 a b)
      = gate z 0 a b * proj ya wa a b + gate z 1 a b * proj yb wb a b := by
  pointwise [proj, val_main_v22, val_main_v21, val_main_v20, val_main_v19, val_main_v18, val_main_v17, val_main_v16, val_main_v15,
    val_main_v14, val_main_v13, val_main_v3, val_main_v2, val_main_v1, val_main_v0]

/-- The reference's derivative by the first gate's argument, -/
theorem slope0_at (ya yb : FVec Ideal S4096x512 .bf16) (wa wb : FVec Ideal S512x2048 .bf16) (z : FVec Ideal S2x4096x2048 .f32)
    (a : Fin 4096) (b : Fin 2048) : val_main_v32 (F := Ideal) ya yb wa wb z (ix3 (0 : Fin 2) a b)
      = proj ya wa a b * (gate z 0 a b * (1 - gate z 0 a b)) := by
  pointwise [proj, val_main_v32, val_main_v31, val_main_v30, val_main_v29, val_main_v28, val_main_v27, val_main_v26, val_main_v25, val_main_v24,
    val_main_v23, val_main_cst_2, val_main_cst_3, val_main_cst_4, val_main_cst_1, val_main_v12, val_main_v11, val_main_v10,
    val_main_v19, val_main_v15, val_main_v3, val_main_v2, val_main_v1, val_main_v0]

/-- and by the second's. -/
theorem slope1_at (ya yb : FVec Ideal S4096x512 .bf16) (wa wb : FVec Ideal S512x2048 .bf16) (z : FVec Ideal S2x4096x2048 .f32)
    (a : Fin 4096) (b : Fin 2048) : val_main_v32 (F := Ideal) ya yb wa wb z (ix3 (1 : Fin 2) a b)
      = proj yb wb a b * (gate z 1 a b * (1 - gate z 1 a b)) := by
  pointwise [proj, val_main_v32, val_main_v31, val_main_v30, val_main_v29, val_main_v28, val_main_v27, val_main_v26, val_main_v25, val_main_v24,
    val_main_v23, val_main_cst_2, val_main_cst_3, val_main_cst_4, val_main_cst_1, val_main_v12, val_main_v11, val_main_v10,
    val_main_v19, val_main_v15, val_main_v3, val_main_v2, val_main_v1, val_main_v0]

end Cert.MergeRefIdeal.Hand

namespace Cert.MergeIdeal.Hand

open Cert.MergeIdeal Cert.MergeIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val / 4, 0] := (by decide +kernel : ∀ t : Fin grid0.N, _)
theorem index2 : ∀ t : Fin cfg0.N, win0_2.index t = ![t.val % 4, 0, 0] := (by decide +kernel : ∀ t : Fin grid0.N, _)
theorem index3 : ∀ t : Fin cfg0.N, win0_3.index t = ![t.val % 4, 0, 0] := (by decide +kernel : ∀ t : Fin grid0.N, _)
theorem index4 : ∀ t : Fin cfg0.N, win0_4.index t = ![0, t.val / 4, t.val % 4] := (by decide +kernel : ∀ t : Fin grid0.N, _)
theorem index5 : ∀ t : Fin cfg0.N, win0_5.index t = ![t.val / 4, t.val % 4] := (by decide +kernel : ∀ t : Fin grid0.N, _)
theorem index6 : ∀ t : Fin cfg0.N, win0_6.index t = ![0, t.val / 4, t.val % 4] := (by decide +kernel : ∀ t : Fin grid0.N, _)

theorem point_lt (t : Fin cfg0.N) : t.val < 16 := by have := t.isLt; have e : cfg0.N = 16 := N_0; omega

/-- Block `t`'s row. -/
def row (t : Fin cfg0.N) (r : Fin 1024) : Fin 4096 := ⟨t.val / 4 * 1024 + r.val, by have := point_lt t; omega⟩
/-- Block `t`'s column. -/
def col (t : Fin cfg0.N) (l : Fin 512) : Fin 2048 := ⟨t.val % 4 * 512 + l.val, by omega⟩

/-- A weight cut into four stacks of 512 columns, as the launch is given it. -/
def cutw (w : FVec Ideal S512x2048 .bf16) : FVec Ideal S4x512x512 .bf16 :=
  transpose S4x512x512 [1, 0, 2] (shapeCast S512x4x512 w shapeCasts_S512x2048_S512x4x512) transposes_S512x4x512_S4x512x512_1_0_2

theorem cut_at (w : FVec Ideal S512x2048 .bf16) (s : Fin 4) (a b : Fin 512) :
    cutw w (ix3 s a b) = w (ix2 a ⟨s.val * 512 + b.val, by omega⟩) := by
  pointwise [cutw]

/-- The gates the launch is given. -/
def gates (z : FVec Ideal S2x4096x2048 .f32) : FVec Ideal S2x4096x2048 .bf16 :=
  truncf .bf16 (Host.divf (broadcastInDim S2x4096x2048 ![] bcast_S_S2x4096x2048 (constant S_ .f32 0x3F800000#32))
    (addf (broadcastInDim S2x4096x2048 ![] bcast_S_S2x4096x2048 (constant S_ .f32 0x3F800000#32)) (Host.exp (Host.negf z)))) bitsLt_bf16_f32

theorem gates_at (z : FVec Ideal S2x4096x2048 .f32) (s : Fin 2) (a : Fin 4096) (b : Fin 2048) :
    gates z (ix3 s a b) = Cert.MergeRefIdeal.Hand.gate z s a b := by
  pointwise [gates, Cert.MergeRefIdeal.Hand.gate, Cert.MergeRefIdeal.Read.val_main_v9, Cert.MergeRefIdeal.Read.val_main_v8, Cert.MergeRefIdeal.Read.val_main_v7, Cert.MergeRefIdeal.Read.val_main_v6, Cert.MergeRefIdeal.Read.val_main_v5, Cert.MergeRefIdeal.Read.val_main_v4, Cert.MergeRefIdeal.Read.val_main_cst, Cert.MergeRefIdeal.Read.val_main_cst_0]

theorem V_cut2 (c : Dev nD) : V m c main_v1 = cutw (m (c.tc.loc main_arg2)) := by
  dsimp only [V, hostOps0]
  after_results_simp
  rfl

theorem V_cut3 (c : Dev nD) : V m c main_v3 = cutw (m (c.tc.loc main_arg3)) := by
  dsimp only [V, hostOps0]
  after_results_simp
  rfl

theorem V_gates (c : Dev nD) : V m c main_v10 = gates (m (c.tc.loc main_arg4)) := by
  dsimp only [V, hostOps0]
  after_results_simp
  rfl

theorem blk0_at (c : Dev nD) (t : Fin cfg0.N) (r : Fin 1024) (k : Fin 512) :
    iblk m c 0 t (ix2 r k) = m (c.tc.loc main_arg0) (ix2 (row t r) k) := by
  rw [← V_main_arg0 m c]
  blk_simp [iblk]
  refine congrArg (V m c main_arg0) (funext fun b => Fin.ext ?_)
  match b with
  | ⟨0, _⟩ => blk_simp [index0]; rfl
  | ⟨1, _⟩ => blk_simp [index0]

theorem blk1_at (c : Dev nD) (t : Fin cfg0.N) (r : Fin 1024) (k : Fin 512) :
    iblk m c 1 t (ix2 r k) = m (c.tc.loc main_arg1) (ix2 (row t r) k) := by
  rw [← V_main_arg1 m c]
  blk_simp [iblk]
  refine congrArg (V m c main_arg1) (funext fun b => Fin.ext ?_)
  match b with
  | ⟨0, _⟩ => blk_simp [index1]; rfl
  | ⟨1, _⟩ => blk_simp [index1]

theorem blk2_at (c : Dev nD) (t : Fin cfg0.N) (k l : Fin 512) :
    iblk m c 2 t (ix3 (0 : Fin 1) k l) = m (c.tc.loc main_arg2) (ix2 k (col t l)) := by
  refine Eq.trans (b := V m c main_v1 (ix3 (⟨t.val % 4, by omega⟩ : Fin 4) k l)) ?_ ?_
  · blk_simp [iblk]
    refine congrArg (V m c main_v1) (funext fun b => Fin.ext ?_)
    match b with
    | ⟨0, _⟩ => blk_simp [index2]; rfl
    | ⟨1, _⟩ => blk_simp [index2]
    | ⟨2, _⟩ => blk_simp [index2]
  · rw [V_cut2]
    exact cut_at _ _ _ _

theorem blk3_at (c : Dev nD) (t : Fin cfg0.N) (k l : Fin 512) :
    iblk m c 3 t (ix3 (0 : Fin 1) k l) = m (c.tc.loc main_arg3) (ix2 k (col t l)) := by
  refine Eq.trans (b := V m c main_v3 (ix3 (⟨t.val % 4, by omega⟩ : Fin 4) k l)) ?_ ?_
  · blk_simp [iblk]
    refine congrArg (V m c main_v3) (funext fun b => Fin.ext ?_)
    match b with
    | ⟨0, _⟩ => blk_simp [index3]; rfl
    | ⟨1, _⟩ => blk_simp [index3]
    | ⟨2, _⟩ => blk_simp [index3]
  · rw [V_cut3]
    exact cut_at _ _ _ _

theorem blk4_at (c : Dev nD) (t : Fin cfg0.N) (s : Fin 2) (r : Fin 1024) (l : Fin 512) :
    iblk m c 4 t (ix3 s r l) = Cert.MergeRefIdeal.Hand.gate (m (c.tc.loc main_arg4)) s (row t r) (col t l) := by
  refine Eq.trans (b := V m c main_v10 (ix3 s (row t r) (col t l))) ?_ ?_
  · blk_simp [iblk]
    refine congrArg (V m c main_v10) (funext fun b => Fin.ext ?_)
    match b with
    | ⟨0, _⟩ => blk_simp [index4]
    | ⟨1, _⟩ => blk_simp [index4]; rfl
    | ⟨2, _⟩ => blk_simp [index4]; rfl
  · rw [V_gates]
    exact gates_at _ _ _ _

/-- The product of a pair of blocks. -/
def part (x : FVec Ideal S1024x512 .bf16) (y : FVec Ideal S1x512x512 .bf16) (r : Fin 1024) (l : Fin 512) : EReal :=
  ∑ k : Fin 512, x (ix2 r k) * y (ix3 (0 : Fin 1) k l)

theorem pay5_at (x : FVec Ideal S1024x512 .bf16) (y : FVec Ideal S1x512x512 .bf16) (x' : FVec Ideal S1024x512 .bf16) (y' : FVec Ideal S1x512x512 .bf16)
    (g : FVec Ideal S2x1024x512 .bf16) (r : Fin 1024) (l : Fin 512) : k0_pay5 (F := Ideal) x y x' y' g (ix2 r l)
      = (g (ix3 (0 : Fin 2) r l) * part x y r l + g (ix3 (1 : Fin 2) r l) * part x' y' r l : EReal) := by
  pointwise [k0_pay5, k0_pay4, k0_pay3, k0_pay2, part]

theorem pay6_at (x : FVec Ideal S1024x512 .bf16) (y : FVec Ideal S1x512x512 .bf16)
    (g : FVec Ideal S2x1024x512 .bf16) (r : Fin 1024) (l : Fin 512) : k0_pay6 (F := Ideal) x y g (ix3 (0 : Fin 1) r l)
      = (part x y r l * g (ix3 (0 : Fin 2) r l) * (1 - g (ix3 (0 : Fin 2) r l)) : EReal) := by
  pointwise [k0_pay6, k0_pay4, k0_pay2, part]

theorem pay1_at (x : FVec Ideal S1024x512 .bf16) (y : FVec Ideal S1x512x512 .bf16)
    (g : FVec Ideal S2x1024x512 .bf16) (r : Fin 1024) (l : Fin 512) :
    k0_pay1 (F := Ideal) (k0_pay4 (F := Ideal) g) (k0_pay7 (F := Ideal) x y g) (ix3 (0 : Fin 1) r l)
      = (part x y r l * g (ix3 (1 : Fin 2) r l) * (1 - g (ix3 (1 : Fin 2) r l)) : EReal) := by
  pointwise [k0_pay1, k0_pay7, k0_pay4, k0_pay3, part]

theorem parta_at (c : Dev nD) (t : Fin cfg0.N) (r : Fin 1024) (l : Fin 512) : part (iblk m c 0 t) (iblk m c 2 t) r l
    = Cert.MergeRefIdeal.Hand.proj (m (c.tc.loc main_arg0)) (m (c.tc.loc main_arg2)) (row t r) (col t l) := by
  unfold part Cert.MergeRefIdeal.Hand.proj
  exact Finset.sum_congr rfl fun k _ => congrArg₂ (fun x y : EReal => x * y) (blk0_at m c t r k) (blk2_at m c t k l)

theorem partb_at (c : Dev nD) (t : Fin cfg0.N) (r : Fin 1024) (l : Fin 512) : part (iblk m c 1 t) (iblk m c 3 t) r l
    = Cert.MergeRefIdeal.Hand.proj (m (c.tc.loc main_arg1)) (m (c.tc.loc main_arg3)) (row t r) (col t l) := by
  unfold part Cert.MergeRefIdeal.Hand.proj
  exact Finset.sum_congr rfl fun k _ => congrArg₂ (fun x y : EReal => x * y) (blk1_at m c t r k) (blk3_at m c t k l)

theorem out5_eq (x0 x1 : FVec Ideal S1024x512 .bf16) (x2 x3 : FVec Ideal S1x512x512 .bf16) (x4 : FVec Ideal S2x1024x512 .bf16) : out0_5 (F := Ideal) x0 x1 x2 x3 x4 = k0_pay5 (F := Ideal) x0 x2 x1 x3 x4 := by
  unfold out0_5 r0_2 r0_1 r0_0
  rw [View.canon_unit_zero (funext fun a => by fin_cases a <;> rfl), View.ld_unit_zero (funext fun a => by fin_cases a <;> rfl), View.ld_unit_zero (funext fun a => by fin_cases a <;> rfl), View.ld_unit_zero (funext fun a => by fin_cases a <;> rfl), View.ld_unit_zero (funext fun a => by fin_cases a <;> rfl), View.ld_unit_zero (funext fun a => by fin_cases a <;> rfl)]

theorem out6_first (x0 x1 : FVec Ideal S1024x512 .bf16) (x2 x3 : FVec Ideal S1x512x512 .bf16) (x4 : FVec Ideal S2x1024x512 .bf16) (r : Fin 1024) (l : Fin 512) :
    out0_6 (F := Ideal) x0 x1 x2 x3 x4 (ix3 (0 : Fin 2) r l) = k0_pay6 (F := Ideal) x0 x2 x4 (ix3 (0 : Fin 1) r l) := by
  unfold out0_6 r0_4 r0_3 r0_2 r0_1 r0_0
  rw [View.ld_unit_zero (funext fun a => by fin_cases a <;> rfl), View.ld_unit_zero (funext fun a => by fin_cases a <;> rfl), View.ld_unit_zero (funext fun a => by fin_cases a <;> rfl), View.ld_unit_zero (funext fun a => by fin_cases a <;> rfl), View.ld_unit_zero (funext fun a => by fin_cases a <;> rfl)]
  exact Cert.Planes.first_at _ _ _ _ _ _

theorem out6_second (x0 x1 : FVec Ideal S1024x512 .bf16) (x2 x3 : FVec Ideal S1x512x512 .bf16) (x4 : FVec Ideal S2x1024x512 .bf16) (r : Fin 1024) (l : Fin 512) :
    out0_6 (F := Ideal) x0 x1 x2 x3 x4 (ix3 (1 : Fin 2) r l)
      = k0_pay1 (F := Ideal) (k0_pay4 (F := Ideal) x4) (k0_pay7 (F := Ideal) x1 x3 x4) (ix3 (0 : Fin 1) r l) := by
  unfold out0_6 r0_4 r0_3 r0_2 r0_1 r0_0
  rw [View.ld_unit_zero (funext fun a => by fin_cases a <;> rfl), View.ld_unit_zero (funext fun a => by fin_cases a <;> rfl), View.ld_unit_zero (funext fun a => by fin_cases a <;> rfl), View.ld_unit_zero (funext fun a => by fin_cases a <;> rfl), View.ld_unit_zero (funext fun a => by fin_cases a <;> rfl)]
  exact Cert.Planes.second_at _ _ _ _ _ _

/-- What point `t` writes back of the merged branches. -/
theorem merged_at (c : Dev nD) (t : Fin cfg0.N) (r : Fin 1024) (l : Fin 512) :
    out0_5 (F := Ideal) (iblk m c 0 t) (iblk m c 1 t) (iblk m c 2 t) (iblk m c 3 t) (iblk m c 4 t) (ix2 r l)
      = Cert.MergeRefIdeal.Read.val_main_v22 (F := Ideal) (m (c.tc.loc main_arg0)) (m (c.tc.loc main_arg1)) (m (c.tc.loc main_arg2)) (m (c.tc.loc main_arg3)) (m (c.tc.loc main_arg4)) (ix2 (row t r) (col t l)) := by
  rw [out5_eq, pay5_at, Cert.MergeRefIdeal.Hand.merged_at, blk4_at, blk4_at, parta_at, partb_at]

/-- What point `t` writes back of the derivatives. -/
theorem slope_at (c : Dev nD) (t : Fin cfg0.N) (s : Fin 2) (r : Fin 1024) (l : Fin 512) :
    out0_6 (F := Ideal) (iblk m c 0 t) (iblk m c 1 t) (iblk m c 2 t) (iblk m c 3 t) (iblk m c 4 t) (ix3 s r l)
      = Cert.MergeRefIdeal.Read.val_main_v32 (F := Ideal) (m (c.tc.loc main_arg0)) (m (c.tc.loc main_arg1)) (m (c.tc.loc main_arg2)) (m (c.tc.loc main_arg3)) (m (c.tc.loc main_arg4)) (ix3 s (row t r) (col t l)) := by
  match s with
  | ⟨0, _⟩ =>
    refine (out6_first _ _ _ _ _ r l).trans ?_
    refine Eq.trans ?_ (Cert.MergeRefIdeal.Hand.slope0_at _ _ _ _ _ _ _).symm
    rw [pay6_at, blk4_at, parta_at, mul_assoc]
  | ⟨1, _⟩ =>
    refine (out6_second _ _ _ _ _ r l).trans ?_
    refine Eq.trans ?_ (Cert.MergeRefIdeal.Hand.slope1_at _ _ _ _ _ _ _).symm
    rw [pay1_at, blk4_at, partb_at, mul_assoc]

/-- The merged branches after the run. -/
theorem final5 (c : Dev nD) : (dats m 0 c).arrAt 5 cfg0.N = Cert.MergeRefIdeal.Read.val_main_v22 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  rw [after0_5]
  blk_simp
  have e : y = ix2 (y 0) (y 1) := funext fun b => by match b with | ⟨0, _⟩ => rfl | ⟨1, _⟩ => rfl
  rw [e]
  refine (merged_at m c t (y 0) (y 1)).trans (congrArg _ (Eq.symm ?_))
  funext b
  refine Fin.ext ?_
  match b with
  | ⟨0, _⟩ => blk_simp [index5]; rfl
  | ⟨1, _⟩ => blk_simp [index5]; rfl

/-- The derivatives by the gates' arguments after the run. -/
theorem final6 (c : Dev nD) : (dats m 0 c).arrAt 6 cfg0.N = Cert.MergeRefIdeal.Read.val_main_v32 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  rw [after0_6]
  blk_simp
  have e : y = ix3 (y 0) (y 1) (y 2) := funext fun b => by match b with | ⟨0, _⟩ => rfl | ⟨1, _⟩ => rfl | ⟨2, _⟩ => rfl
  rw [e]
  refine (slope_at m c t (y 0) (y 1) (y 2)).trans (congrArg _ (Eq.symm ?_))
  funext b
  refine Fin.ext ?_
  match b with
  | ⟨0, _⟩ => blk_simp [index6]
  | ⟨1, _⟩ => blk_simp [index6]; rfl
  | ⟨2, _⟩ => blk_simp [index6]; rfl

end Cert.MergeIdeal.Hand
-- ==== Proof.MixOutX.lean ====
/- The gradients of the merging and the output projection: each block of the kernel holds the reference's gradients of the
   two projections, of the gates' arguments and of their bias, and the four partial products that the kernel adds up in two
   accumulators are the gradients of the two branches, their 2048 terms taken 512 at a time. -/
module

public import proofs.«01_k».proof.Proof.Gen.OutXIdeal.Value
public import proofs.«01_k».proof.Proof.Gen.OutXRefIdeal.Read
public import proofs.«01_k».proof.Proof.MixPlanes
public import Idealize.ShloMosaic.Lib.Pipeline.ValueKit.Geometry
public import Idealize.ShloMosaic.Lib.Pipeline.ValueKit.Acc
public import Idealize.ShloMosaic.Lib.Pointwise
public import Idealize.ShloMosaic.Lib.StableHlo.Run

@[expose] public section

set_option maxRecDepth 16384

noncomputable section

namespace Cert.OutXRefIdeal.Hand

open Cert.OutXRefIdeal Cert.OutXRefIdeal.Gen Cert.OutXRefIdeal.Read
open Idealize.ShloMosaic

/-- A branch's gate. -/
abbrev gate (z : FVec Ideal S2x4096x2048 .f32) (s : Fin 2) (a : Fin 4096) (b : Fin 2048) : EReal := val_main_v9 (F := Ideal) z (ix3 s a b)

/-- The gradient of the merged branches in row `a`, column `b`. -/
def back (w : FVec Ideal S2048x2048 .bf16) (dy : FVec Ideal S4096x2048 .bf16) (a : Fin 4096) (b : Fin 2048) : EReal := ∑ k : Fin 2048, dy (ix2 a k) * w (ix2 b k)

/-- The gradient of the first projection, -/
theorem first_at (z : FVec Ideal S2x4096x2048 .f32) (w : FVec Ideal S2048x2048 .bf16) (dy : FVec Ideal S4096x2048 .bf16) (a : Fin 4096) (b : Fin 2048) :
    val_main_v26 (F := Ideal) z w dy (ix2 a b) = gate z 0 a b * back w dy a b := by
  pointwise [back, val_main_v26, val_main_v21, val_main_v14, val_main_v13, val_main_v3, val_main_v0]

theorem first_out_at (z : FVec Ideal S2x4096x2048 .f32) (w : FVec Ideal S2048x2048 .bf16) (dy : FVec Ideal S4096x2048 .bf16) (a : Fin 4096) (b : Fin 2048) :
    val_main_v41 (F := Ideal) z w dy (ix2 a b) = gate z 0 a b * back w dy a b := by
  pointwise [back, val_main_v41, val_main_v26, val_main_v21, val_main_v14, val_main_v13, val_main_v3, val_main_v0]

/-- and of the second. -/
theorem second_at (z : FVec Ideal S2x4096x2048 .f32) (w : FVec Ideal S2048x2048 .bf16) (dy : FVec Ideal S4096x2048 .bf16) (a : Fin 4096) (b : Fin 2048) :
    val_main_v22 (F := Ideal) z w dy (ix2 a b) = gate z 1 a b * back w dy a b := by
  pointwise [back, val_main_v22, val_main_v21, val_main_v17, val_main_v16, val_main_v3, val_main_v0]

theorem second_out_at (z : FVec Ideal S2x4096x2048 .f32) (w : FVec Ideal S2048x2048 .bf16) (dy : FVec Ideal S4096x2048 .bf16) (a : Fin 4096) (b : Fin 2048) :
    val_main_v42 (F := Ideal) z w dy (ix2 a b) = gate z 1 a b * back w dy a b := by
  pointwise [back, val_main_v42, val_main_v22, val_main_v21, val_main_v17, val_main_v16, val_main_v3, val_main_v0]

/-- One gate's derivative times its projection. -/
def slope (pa pb : FVec Ideal S4096x2048 .f32) (z : FVec Ideal S2x4096x2048 .f32) (s : Fin 2) (a : Fin 4096) (b : Fin 2048) : EReal :=
  (if s = 0 then pa (ix2 a b) else pb (ix2 a b)) * gate z s a b * (1 - gate z s a b)

/-- The gradient of the gates' arguments. -/
theorem slope_at (pa pb : FVec Ideal S4096x2048 .f32) (z : FVec Ideal S2x4096x2048 .f32) (w : FVec Ideal S2048x2048 .bf16) (dy : FVec Ideal S4096x2048 .bf16) (s : Fin 2) (a : Fin 4096) (b : Fin 2048) :
    val_main_v31 (F := Ideal) pa pb z w dy (ix3 s a b) = back w dy a b * slope pa pb z s a b := by
  match s with
  | ⟨0, _⟩ =>
    refine Eq.trans (b := back w dy a b * pa (ix2 a b) * (gate z 0 a b * (1 - gate z 0 a b))) ?_ ?_
    · pointwise [back, val_main_v31, val_main_v30, val_main_v29, val_main_v28, val_main_v27, val_main_v25, val_main_v24, val_main_v23,
        val_main_cst_3, val_main_cst_2, val_main_cst_1, val_main_v12, val_main_v11, val_main_v10, val_main_v21, val_main_v3, val_main_v0]
    · exact (mul_assoc _ _ _).trans (congrArg (fun x : EReal => back w dy a b * x) (mul_assoc _ _ _).symm)
  | ⟨1, _⟩ =>
    refine Eq.trans (b := back w dy a b * pb (ix2 a b) * (gate z 1 a b * (1 - gate z 1 a b))) ?_ ?_
    · pointwise [back, val_main_v31, val_main_v30, val_main_v29, val_main_v28, val_main_v27, val_main_v25, val_main_v24, val_main_v23,
        val_main_cst_3, val_main_cst_2, val_main_cst_1, val_main_v12, val_main_v11, val_main_v10, val_main_v21, val_main_v3, val_main_v0]
    · exact (mul_assoc _ _ _).trans (congrArg (fun x : EReal => back w dy a b * x) (mul_assoc _ _ _).symm)

theorem slope_out_at (pa pb : FVec Ideal S4096x2048 .f32) (z : FVec Ideal S2x4096x2048 .f32) (w : FVec Ideal S2048x2048 .bf16) (dy : FVec Ideal S4096x2048 .bf16) (s : Fin 2) (a : Fin 4096) (b : Fin 2048) :
    val_main_v43 (F := Ideal) pa pb z w dy (ix3 s a b) = back w dy a b * slope pa pb z s a b := by
  rw [← slope_at]
  pointwise [val_main_v43]

/-- The gradient of the gates' bias from one tile of rows. -/
theorem bias_at (pa pb : FVec Ideal S4096x2048 .f32) (z : FVec Ideal S2x4096x2048 .f32) (w : FVec Ideal S2048x2048 .bf16) (dy : FVec Ideal S4096x2048 .bf16) (i : Fin 4) (s : Fin 2) (b : Fin 2048) :
    val_main_v40 (F := Ideal) pa pb z w dy (ix3 i s b)
      = ∑ r : Fin 1024, back w dy ⟨i.val * 1024 + r.val, by omega⟩ b * slope pa pb z s ⟨i.val * 1024 + r.val, by omega⟩ b := by
  refine Eq.trans (b := ∑ r : Fin 1024, val_main_v31 (F := Ideal) pa pb z w dy (ix3 s ⟨i.val * 1024 + r.val, by omega⟩ b)) ?_
    (Finset.sum_congr rfl fun r _ => slope_at pa pb z w dy s _ b)
  pointwise [val_main_v40, val_main_v39, val_main_v38, val_main_cst_6]

/-- The gradient of the first branch, -/
theorem input_first_at (z : FVec Ideal S2x4096x2048 .f32) (w : FVec Ideal S2048x2048 .bf16) (wa : FVec Ideal S512x2048 .bf16) (dy : FVec Ideal S4096x2048 .bf16) (a : Fin 4096) (k : Fin 512) :
    val_main_v44 (F := Ideal) z w wa dy (ix2 a k) = ∑ n : Fin 2048, gate z 0 a n * back w dy a n * wa (ix2 k n) := by
  refine Eq.trans (b := ∑ n : Fin 2048, val_main_v26 (F := Ideal) z w dy (ix2 a n) * wa (ix2 k n)) ?_
    (Finset.sum_congr rfl fun n _ => congrArg (fun x : EReal => x * wa (ix2 k n)) (first_at z w dy a n))
  pointwise [val_main_v44, val_main_v34, val_main_v1]

/-- and of the second. -/
theorem input_second_at (z : FVec Ideal S2x4096x2048 .f32) (w : FVec Ideal S2048x2048 .bf16) (wb : FVec Ideal S512x2048 .bf16) (dy : FVec Ideal S4096x2048 .bf16) (a : Fin 4096) (k : Fin 512) :
    val_main_v45 (F := Ideal) z w wb dy (ix2 a k) = ∑ n : Fin 2048, gate z 1 a n * back w dy a n * wb (ix2 k n) := by
  refine Eq.trans (b := ∑ n : Fin 2048, val_main_v22 (F := Ideal) z w dy (ix2 a n) * wb (ix2 k n)) ?_
    (Finset.sum_congr rfl fun n _ => congrArg (fun x : EReal => x * wb (ix2 k n)) (second_at z w dy a n))
  pointwise [val_main_v45, val_main_v37, val_main_v2]

end Cert.OutXRefIdeal.Hand

namespace Cert.OutXIdeal.Hand

open Cert.OutXIdeal Cert.OutXIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, t.val / 4, t.val % 4] := (by decide +kernel : ∀ t : Fin grid0.N, _)
theorem index3 : ∀ t : Fin cfg0.N, win0_3.index t = ![0, t.val / 4, t.val % 4] := (by decide +kernel : ∀ t : Fin grid0.N, _)
theorem index4 : ∀ t : Fin cfg0.N, win0_4.index t = ![t.val % 4, 0, 0] := (by decide +kernel : ∀ t : Fin grid0.N, _)
theorem index5 : ∀ t : Fin cfg0.N, win0_5.index t = ![t.val % 4, 0, 0] := (by decide +kernel : ∀ t : Fin grid0.N, _)
theorem index6 : ∀ t : Fin cfg0.N, win0_6.index t = ![t.val / 4, t.val % 4] := (by decide +kernel : ∀ t : Fin grid0.N, _)
theorem index7 : ∀ t : Fin cfg0.N, win0_7.index t = ![t.val / 4, t.val % 4] := (by decide +kernel : ∀ t : Fin grid0.N, _)
theorem index8 : ∀ t : Fin cfg0.N, win0_8.index t = ![0, t.val / 4, t.val % 4] := (by decide +kernel : ∀ t : Fin grid0.N, _)
theorem index9 : ∀ t : Fin cfg0.N, win0_9.index t = ![t.val / 4, 0, t.val % 4] := (by decide +kernel : ∀ t : Fin grid0.N, _)
theorem index10 : ∀ t : Fin cfg0.N, win0_10.index t = ![t.val / 4, 0] := (by decide +kernel : ∀ t : Fin grid0.N, _)
theorem index11 : ∀ t : Fin cfg0.N, win0_11.index t = ![t.val / 4, 0] := (by decide +kernel : ∀ t : Fin grid0.N, _)

theorem point_lt (t : Fin cfg0.N) : t.val < 16 := by have := t.isLt; have e : cfg0.N = 16 := N_0; omega

/-- Block `t`'s row. -/
def row (t : Fin cfg0.N) (r : Fin 1024) : Fin 4096 := ⟨t.val / 4 * 1024 + r.val, by have := point_lt t; omega⟩
/-- Block `t`'s column. -/
def col (t : Fin cfg0.N) (l : Fin 512) : Fin 2048 := ⟨t.val % 4 * 512 + l.val, by omega⟩
/-- Block `t`'s tile of rows. -/
def tile (t : Fin cfg0.N) : Fin 4 := ⟨t.val / 4, by have := point_lt t; omega⟩

/-- A weight cut into four stacks of 512 columns, as the launch is given it. -/
def cutw (w : FVec Ideal S512x2048 .bf16) : FVec Ideal S4x512x512 .bf16 :=
  transpose S4x512x512 [1, 0, 2] (shapeCast S512x4x512 w shapeCasts_S512x2048_S512x4x512) transposes_S512x4x512_S4x512x512_1_0_2

theorem cut_at (w : FVec Ideal S512x2048 .bf16) (s : Fin 4) (a b : Fin 512) :
    cutw w (ix3 s a b) = w (ix2 a ⟨s.val * 512 + b.val, by omega⟩) := by
  pointwise [cutw]

/-- One everywhere. -/
abbrev ones : FVec Ideal S2x4096x2048 .f32 := broadcastInDim S2x4096x2048 ![] bcast_S_S2x4096x2048 (constant S_ .f32 0x3F800000#32)

/-- The gates. -/
def open1 (z : FVec Ideal S2x4096x2048 .f32) : FVec Ideal S2x4096x2048 .f32 := Host.divf ones (addf ones (Host.exp (Host.negf z)))

/-- The gates the launch is given. -/
def gates (z : FVec Ideal S2x4096x2048 .f32) : FVec Ideal S2x4096x2048 .bf16 := truncf .bf16 (open1 z) bitsLt_bf16_f32

/-- The derivatives the launch is given. -/
def slopes (pa pb : FVec Ideal S4096x2048 .f32) (z : FVec Ideal S2x4096x2048 .f32) : FVec Ideal S2x4096x2048 .bf16 :=
  truncf .bf16 (mulf (mulf (concatenate S2x4096x2048 0 [⟨S1x4096x2048, broadcastInDim S1x4096x2048 ![1, 2] bcast_S4096x2048_S1x4096x2048_1_2 pa⟩,
      ⟨S1x4096x2048, broadcastInDim S1x4096x2048 ![1, 2] bcast_S4096x2048_S1x4096x2048_1_2 pb⟩] concatenates_S1x4096x2048_S1x4096x2048_S2x4096x2048_d0) (open1 z))
    (subf ones (open1 z))) bitsLt_bf16_f32

theorem open1_at (z : FVec Ideal S2x4096x2048 .f32) (s : Fin 2) (a : Fin 4096) (b : Fin 2048) :
    open1 z (ix3 s a b) = Cert.OutXRefIdeal.Hand.gate z s a b := by
  pointwise [open1, ones, Cert.OutXRefIdeal.Hand.gate, Cert.OutXRefIdeal.Read.val_main_v9, Cert.OutXRefIdeal.Read.val_main_v8, Cert.OutXRefIdeal.Read.val_main_v7, Cert.OutXRefIdeal.Read.val_main_v6, Cert.OutXRefIdeal.Read.val_main_v5, Cert.OutXRefIdeal.Read.val_main_v4, Cert.OutXRefIdeal.Read.val_main_cst, Cert.OutXRefIdeal.Read.val_main_cst_0]

theorem gates_at (z : FVec Ideal S2x4096x2048 .f32) (s : Fin 2) (a : Fin 4096) (b : Fin 2048) :
    gates z (ix3 s a b) = Cert.OutXRefIdeal.Hand.gate z s a b := by
  rw [← open1_at]
  pointwise [gates]

theorem slopes_at (pa pb : FVec Ideal S4096x2048 .f32) (z : FVec Ideal S2x4096x2048 .f32) (s : Fin 2) (a : Fin 4096) (b : Fin 2048) :
    slopes pa pb z (ix3 s a b) = Cert.OutXRefIdeal.Hand.slope pa pb z s a b := by
  unfold Cert.OutXRefIdeal.Hand.slope
  rw [← open1_at]
  match s with
  | ⟨0, _⟩ => pointwise [slopes, ones]
  | ⟨1, _⟩ => pointwise [slopes, ones]

theorem V_cut4 (c : Dev nD) : V m c main_v16 = cutw (m (c.tc.loc main_arg4)) := by
  dsimp only [V, hostOps0]
  after_results_simp
  rfl

theorem V_cut5 (c : Dev nD) : V m c main_v18 = cutw (m (c.tc.loc main_arg5)) := by
  dsimp only [V, hostOps0]
  after_results_simp
  rfl

theorem V_gates (c : Dev nD) : V m c main_v13 = gates (m (c.tc.loc main_arg2)) := by
  dsimp only [V, hostOps0]
  after_results_simp
  rfl

theorem V_slopes (c : Dev nD) : V m c main_v14 = slopes (m (c.tc.loc main_arg0)) (m (c.tc.loc main_arg1)) (m (c.tc.loc main_arg2)) := by
  dsimp only [V, hostOps0]
  after_results_simp
  rfl

theorem blk0_at (c : Dev nD) (t : Fin cfg0.N) (r : Fin 1024) (k : Fin 2048) :
    iblk m c 0 t (ix2 r k) = m (c.tc.loc main_arg6) (ix2 (row t r) k) := by
  rw [← V_main_arg6 m c]
  blk_simp [iblk]
  refine congrArg (V m c main_arg6) (funext fun b => Fin.ext ?_)
  match b with
  | ⟨0, _⟩ => blk_simp [index0]; rfl
  | ⟨1, _⟩ => blk_simp [index0]

theorem blk1_at (c : Dev nD) (t : Fin cfg0.N) (l : Fin 512) (k : Fin 2048) :
    iblk m c 1 t (ix2 l k) = m (c.tc.loc main_arg3) (ix2 (col t l) k) := by
  rw [← V_main_arg3 m c]
  blk_simp [iblk]
  refine congrArg (V m c main_arg3) (funext fun b => Fin.ext ?_)
  match b with
  | ⟨0, _⟩ => blk_simp [index1]; rfl
  | ⟨1, _⟩ => blk_simp [index1]

theorem blk2_at (c : Dev nD) (t : Fin cfg0.N) (s : Fin 2) (r : Fin 1024) (l : Fin 512) :
    iblk m c 2 t (ix3 s r l) = Cert.OutXRefIdeal.Hand.gate (m (c.tc.loc main_arg2)) s (row t r) (col t l) := by
  refine Eq.trans (b := V m c main_v13 (ix3 s (row t r) (col t l))) ?_ ?_
  · blk_simp [iblk]
    refine congrArg (V m c main_v13) (funext fun b => Fin.ext ?_)
    match b with
    | ⟨0, _⟩ => blk_simp [index2]
    | ⟨1, _⟩ => blk_simp [index2]; rfl
    | ⟨2, _⟩ => blk_simp [index2]; rfl
  · rw [V_gates]
    exact gates_at _ _ _ _

theorem blk3_at (c : Dev nD) (t : Fin cfg0.N) (s : Fin 2) (r : Fin 1024) (l : Fin 512) :
    iblk m c 3 t (ix3 s r l) = Cert.OutXRefIdeal.Hand.slope (m (c.tc.loc main_arg0)) (m (c.tc.loc main_arg1)) (m (c.tc.loc main_arg2)) s (row t r) (col t l) := by
  refine Eq.trans (b := V m c main_v14 (ix3 s (row t r) (col t l))) ?_ ?_
  · blk_simp [iblk]
    refine congrArg (V m c main_v14) (funext fun b => Fin.ext ?_)
    match b with
    | ⟨0, _⟩ => blk_simp [index3]
    | ⟨1, _⟩ => blk_simp [index3]; rfl
    | ⟨2, _⟩ => blk_simp [index3]; rfl
  · rw [V_slopes]
    exact slopes_at _ _ _ _ _ _

theorem blk4_at (c : Dev nD) (t : Fin cfg0.N) (k l : Fin 512) :
    iblk m c 4 t (ix3 (0 : Fin 1) k l) = m (c.tc.loc main_arg4) (ix2 k (col t l)) := by
  refine Eq.trans (b := V m c main_v16 (ix3 (⟨t.val % 4, by omega⟩ : Fin 4) k l)) ?_ ?_
  · blk_simp [iblk]
    refine congrArg (V m c main_v16) (funext fun b => Fin.ext ?_)
    match b with
    | ⟨0, _⟩ => blk_simp [index4]; rfl
    | ⟨1, _⟩ => blk_simp [index4]
    | ⟨2, _⟩ => blk_simp [index4]
  · rw [V_cut4]
    exact cut_at _ _ _ _

theorem blk5_at (c : Dev nD) (t : Fin cfg0.N) (k l : Fin 512) :
    iblk m c 5 t (ix3 (0 : Fin 1) k l) = m (c.tc.loc main_arg5) (ix2 k (col t l)) := by
  refine Eq.trans (b := V m c main_v18 (ix3 (⟨t.val % 4, by omega⟩ : Fin 4) k l)) ?_ ?_
  · blk_simp [iblk]
    refine congrArg (V m c main_v18) (funext fun b => Fin.ext ?_)
    match b with
    | ⟨0, _⟩ => blk_simp [index5]; rfl
    | ⟨1, _⟩ => blk_simp [index5]
    | ⟨2, _⟩ => blk_simp [index5]
  · rw [V_cut5]
    exact cut_at _ _ _ _

/-- The product of a pair of blocks. -/
def part (x : FVec Ideal S1024x2048 .bf16) (y : FVec Ideal S512x2048 .bf16) (r : Fin 1024) (l : Fin 512) : EReal :=
  ∑ k : Fin 2048, x (ix2 r k) * y (ix2 l k)

theorem part_at (c : Dev nD) (t : Fin cfg0.N) (r : Fin 1024) (l : Fin 512) :
    part (iblk m c 0 t) (iblk m c 1 t) r l = Cert.OutXRefIdeal.Hand.back (m (c.tc.loc main_arg3)) (m (c.tc.loc main_arg6)) (row t r) (col t l) := by
  unfold part Cert.OutXRefIdeal.Hand.back
  exact Finset.sum_congr rfl fun k _ => congrArg₂ (fun x y : EReal => x * y) (blk0_at m c t r k) (blk1_at m c t l k)

section payloads

variable (x : FVec Ideal S1024x2048 .bf16) (y : FVec Ideal S512x2048 .bf16) (g : FVec Ideal S2x1024x512 .bf16) (r : Fin 1024) (l : Fin 512)

theorem pay13_at : k0_pay13 (F := Ideal) x y g (ix2 r l) = (part x y r l * g (ix3 (0 : Fin 2) r l) : EReal) := by
  pointwise [k0_pay13, k0_pay11, k0_pay10, part]

theorem pay14_at : k0_pay14 (F := Ideal) x y g (ix2 r l) = (part x y r l * g (ix3 (1 : Fin 2) r l) : EReal) := by
  pointwise [k0_pay14, k0_pay11, k0_pay10, part]

theorem pay15_at : k0_pay15 (F := Ideal) x y g (ix2 r l) = (part x y r l * g (ix3 (0 : Fin 2) r l) : EReal) := by
  pointwise [k0_pay15, k0_pay12, k0_pay10, part]

theorem pay16_at : k0_pay16 (F := Ideal) x y g (ix2 r l) = (part x y r l * g (ix3 (1 : Fin 2) r l) : EReal) := by
  pointwise [k0_pay16, k0_pay12, k0_pay10, part]

theorem pay17_at : k0_pay17 (F := Ideal) x y g (ix3 (0 : Fin 1) r l) = (part x y r l * g (ix3 (0 : Fin 2) r l) : EReal) := by
  rw [← pay15_at]
  pointwise [k0_pay17]

theorem pay18_at : k0_pay18 (F := Ideal) x y g (ix3 (0 : Fin 1) r l) = (part x y r l * g (ix3 (1 : Fin 2) r l) : EReal) := by
  rw [← pay16_at]
  pointwise [k0_pay18]

theorem pay1_first (u v : FVec Ideal S1024x512 .f32) : k0_pay1 (F := Ideal) u v (ix3 (0 : Fin 1) (0 : Fin 2) l) = (∑ r : Fin 1024, u (ix2 r l) : EReal) := by
  pointwise [k0_pay1]

theorem pay1_second (u v : FVec Ideal S1024x512 .f32) : k0_pay1 (F := Ideal) u v (ix3 (0 : Fin 1) (1 : Fin 2) l) = (∑ r : Fin 1024, v (ix2 r l) : EReal) := by
  pointwise [k0_pay1]

end payloads

theorem grad0_at (c : Dev nD) (t : Fin cfg0.N) (r : Fin 1024) (l : Fin 512) : k0_pay13 (F := Ideal) (iblk m c 0 t) (iblk m c 1 t) (iblk m c 2 t) (ix2 r l)
    = (Cert.OutXRefIdeal.Hand.gate (m (c.tc.loc main_arg2)) 0 (row t r) (col t l) * Cert.OutXRefIdeal.Hand.back (m (c.tc.loc main_arg3)) (m (c.tc.loc main_arg6)) (row t r) (col t l) : EReal) := by
  rw [pay13_at, blk2_at, part_at, mul_comm]

theorem grad1_at (c : Dev nD) (t : Fin cfg0.N) (r : Fin 1024) (l : Fin 512) : k0_pay14 (F := Ideal) (iblk m c 0 t) (iblk m c 1 t) (iblk m c 2 t) (ix2 r l)
    = (Cert.OutXRefIdeal.Hand.gate (m (c.tc.loc main_arg2)) 1 (row t r) (col t l) * Cert.OutXRefIdeal.Hand.back (m (c.tc.loc main_arg3)) (m (c.tc.loc main_arg6)) (row t r) (col t l) : EReal) := by
  rw [pay14_at, blk2_at, part_at, mul_comm]

theorem out6_eq (c : Dev nD) (t : Fin cfg0.N) : (outsAt0 (F := Ideal) m c t.val t.isLt).1 = k0_pay13 (F := Ideal) (iblk m c 0 t) (iblk m c 1 t) (iblk m c 2 t) := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the first projection's gradient. -/
theorem out6_at (c : Dev nD) (t : Fin cfg0.N) (r : Fin 1024) (l : Fin 512) :
    (outsAt0 (F := Ideal) m c t.val t.isLt).1 (ix2 r l) = Cert.OutXRefIdeal.Read.val_main_v41 (F := Ideal) (m (c.tc.loc main_arg2)) (m (c.tc.loc main_arg3)) (m (c.tc.loc main_arg6)) (ix2 (row t r) (col t l)) := by
  rw [out6_eq, Cert.OutXRefIdeal.Hand.first_out_at]
  exact grad0_at m c t r l

/-- The first projection's gradient after the run. -/
theorem final6 (c : Dev nD) : (dats m 0 c).arrAt 6 cfg0.N = Cert.OutXRefIdeal.Read.val_main_v41 (F := Ideal) (m (c.tc.loc main_arg2)) (m (c.tc.loc main_arg3)) (m (c.tc.loc main_arg6)) := by
  refine (dats m 0 c).arrAt_eq_of_covers 6 _ (by decide +kernel) fun t hf y => ?_
  rw [after0_6]
  blk_simp
  have e : y = ix2 (y 0) (y 1) := funext fun b => by match b with | ⟨0, _⟩ => rfl | ⟨1, _⟩ => rfl
  rw [e]
  refine (out6_at m c t (y 0) (y 1)).trans (congrArg _ (Eq.symm ?_))
  funext b
  refine Fin.ext ?_
  match b with
  | ⟨0, _⟩ => blk_simp [index6]; rfl
  | ⟨1, _⟩ => blk_simp [index6]; rfl

theorem out7_eq (c : Dev nD) (t : Fin cfg0.N) : (outsAt0 (F := Ideal) m c t.val t.isLt).2.1 = k0_pay14 (F := Ideal) (iblk m c 0 t) (iblk m c 1 t) (iblk m c 2 t) := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the second projection's gradient. -/
theorem out7_at (c : Dev nD) (t : Fin cfg0.N) (r : Fin 1024) (l : Fin 512) :
    (outsAt0 (F := Ideal) m c t.val t.isLt).2.1 (ix2 r l) = Cert.OutXRefIdeal.Read.val_main_v42 (F := Ideal) (m (c.tc.loc main_arg2)) (m (c.tc.loc main_arg3)) (m (c.tc.loc main_arg6)) (ix2 (row t r) (col t l)) := by
  rw [out7_eq, Cert.OutXRefIdeal.Hand.second_out_at]
  exact grad1_at m c t r l

/-- The second projection's gradient after the run. -/
theorem final7 (c : Dev nD) : (dats m 0 c).arrAt 7 cfg0.N = Cert.OutXRefIdeal.Read.val_main_v42 (F := Ideal) (m (c.tc.loc main_arg2)) (m (c.tc.loc main_arg3)) (m (c.tc.loc main_arg6)) := by
  refine (dats m 0 c).arrAt_eq_of_covers 7 _ (by decide +kernel) fun t hf y => ?_
  rw [after0_7]
  blk_simp
  have e : y = ix2 (y 0) (y 1) := funext fun b => by match b with | ⟨0, _⟩ => rfl | ⟨1, _⟩ => rfl
  rw [e]
  refine (out7_at m c t (y 0) (y 1)).trans (congrArg _ (Eq.symm ?_))
  funext b
  refine Fin.ext ?_
  match b with
  | ⟨0, _⟩ => blk_simp [index7]; rfl
  | ⟨1, _⟩ => blk_simp [index7]; rfl

theorem out8_first (c : Dev nD) (t : Fin cfg0.N) (r : Fin 1024) (l : Fin 512) :
    (outsAt0 (F := Ideal) m c t.val t.isLt).2.2.1 (ix3 (0 : Fin 2) r l) = k0_pay17 (F := Ideal) (iblk m c 0 t) (iblk m c 1 t) (iblk m c 3 t) (ix3 (0 : Fin 1) r l) := by
  by_cases h0 : t.val % 4 = 0
  · rw [outsAt0_A m c t h0 (by omega) (by omega)]
    frame_out
    exact Cert.Planes.first_at _ _ _ _ _ _
  by_cases h3 : t.val % 4 = 3
  · rw [outsAt0_C m c t h0 (by omega) h3]
    frame_out
    exact Cert.Planes.first_at _ _ _ _ _ _
  rw [outsAt0_B m c t h0 (by omega) h3]
  frame_out
  exact Cert.Planes.first_at _ _ _ _ _ _

theorem out8_second (c : Dev nD) (t : Fin cfg0.N) (r : Fin 1024) (l : Fin 512) :
    (outsAt0 (F := Ideal) m c t.val t.isLt).2.2.1 (ix3 (1 : Fin 2) r l) = k0_pay18 (F := Ideal) (iblk m c 0 t) (iblk m c 1 t) (iblk m c 3 t) (ix3 (0 : Fin 1) r l) := by
  by_cases h0 : t.val % 4 = 0
  · rw [outsAt0_A m c t h0 (by omega) (by omega)]
    frame_out
    exact Cert.Planes.second_at _ _ _ _ _ _
  by_cases h3 : t.val % 4 = 3
  · rw [outsAt0_C m c t h0 (by omega) h3]
    frame_out
    exact Cert.Planes.second_at _ _ _ _ _ _
  rw [outsAt0_B m c t h0 (by omega) h3]
  frame_out
  exact Cert.Planes.second_at _ _ _ _ _ _

/-- What point `t` writes back of the gates' gradient. -/
theorem out8_at (c : Dev nD) (t : Fin cfg0.N) (s : Fin 2) (r : Fin 1024) (l : Fin 512) :
    (outsAt0 (F := Ideal) m c t.val t.isLt).2.2.1 (ix3 s r l) = Cert.OutXRefIdeal.Read.val_main_v43 (F := Ideal) (m (c.tc.loc main_arg0)) (m (c.tc.loc main_arg1)) (m (c.tc.loc main_arg2)) (m (c.tc.loc main_arg3)) (m (c.tc.loc main_arg6)) (ix3 s (row t r) (col t l)) := by
  refine Eq.trans ?_ (Cert.OutXRefIdeal.Hand.slope_out_at _ _ _ _ _ _ _ _).symm
  match s with
  | ⟨0, _⟩ =>
    refine (out8_first m c t r l).trans ?_
    rw [pay17_at, blk3_at, part_at]
    rfl
  | ⟨1, _⟩ =>
    refine (out8_second m c t r l).trans ?_
    rw [pay18_at, blk3_at, part_at]
    rfl

/-- The gates' gradient after the run. -/
theorem final8 (c : Dev nD) : (dats m 0 c).arrAt 8 cfg0.N = Cert.OutXRefIdeal.Read.val_main_v43 (F := Ideal) (m (c.tc.loc main_arg0)) (m (c.tc.loc main_arg1)) (m (c.tc.loc main_arg2)) (m (c.tc.loc main_arg3)) (m (c.tc.loc main_arg6)) := by
  refine (dats m 0 c).arrAt_eq_of_covers 8 _ (by decide +kernel) fun t hf y => ?_
  rw [after0_8]
  blk_simp
  have e : y = ix3 (y 0) (y 1) (y 2) := funext fun b => by match b with | ⟨0, _⟩ => rfl | ⟨1, _⟩ => rfl | ⟨2, _⟩ => rfl
  rw [e]
  refine (out8_at m c t (y 0) (y 1) (y 2)).trans (congrArg _ (Eq.symm ?_))
  funext b
  refine Fin.ext ?_
  match b with
  | ⟨0, _⟩ => blk_simp [index8]
  | ⟨1, _⟩ => blk_simp [index8]; rfl
  | ⟨2, _⟩ => blk_simp [index8]; rfl

theorem out9_eq (c : Dev nD) (t : Fin cfg0.N) : (outsAt0 (F := Ideal) m c t.val t.isLt).2.2.2.1
    = k0_pay1 (F := Ideal) (k0_pay15 (F := Ideal) (iblk m c 0 t) (iblk m c 1 t) (iblk m c 3 t)) (k0_pay16 (F := Ideal) (iblk m c 0 t) (iblk m c 1 t) (iblk m c 3 t)) := by
  by_cases h0 : t.val % 4 = 0
  · rw [outsAt0_A m c t h0 (by omega) (by omega)]
    frame_out
  by_cases h3 : t.val % 4 = 3
  · rw [outsAt0_C m c t h0 (by omega) h3]
    frame_out
  rw [outsAt0_B m c t h0 (by omega) h3]
  frame_out

/-- What point `t` writes back of the bias's gradient. -/
theorem out9_at (c : Dev nD) (t : Fin cfg0.N) (i : Fin 1) (s : Fin 2) (l : Fin 512) :
    (outsAt0 (F := Ideal) m c t.val t.isLt).2.2.2.1 (ix3 i s l) = Cert.OutXRefIdeal.Read.val_main_v40 (F := Ideal) (m (c.tc.loc main_arg0)) (m (c.tc.loc main_arg1)) (m (c.tc.loc main_arg2)) (m (c.tc.loc main_arg3)) (m (c.tc.loc main_arg6)) (ix3 (tile t) s (col t l)) := by
  refine Eq.trans ?_ (Cert.OutXRefIdeal.Hand.bias_at _ _ _ _ _ _ _ _).symm
  rw [out9_eq, Subsingleton.elim i 0]
  match s with
  | ⟨0, _⟩ =>
    refine (pay1_first l _ _).trans (Finset.sum_congr rfl fun r _ => ?_)
    rw [pay15_at, blk3_at, part_at]
    rfl
  | ⟨1, _⟩ =>
    refine (pay1_second l _ _).trans (Finset.sum_congr rfl fun r _ => ?_)
    rw [pay16_at, blk3_at, part_at]
    rfl

/-- The bias's gradient after the run. -/
theorem final9 (c : Dev nD) : (dats m 0 c).arrAt 9 cfg0.N = Cert.OutXRefIdeal.Read.val_main_v40 (F := Ideal) (m (c.tc.loc main_arg0)) (m (c.tc.loc main_arg1)) (m (c.tc.loc main_arg2)) (m (c.tc.loc main_arg3)) (m (c.tc.loc main_arg6)) := by
  refine (dats m 0 c).arrAt_eq_of_covers 9 _ (by decide +kernel) fun t hf y => ?_
  rw [after0_9]
  blk_simp
  have e : y = ix3 (y 0) (y 1) (y 2) := funext fun b => by match b with | ⟨0, _⟩ => rfl | ⟨1, _⟩ => rfl | ⟨2, _⟩ => rfl
  rw [e]
  refine (out9_at m c t (y 0) (y 1) (y 2)).trans (congrArg _ (Eq.symm ?_))
  funext b
  refine Fin.ext ?_
  match b with
  | ⟨0, _⟩ => blk_simp [index9]; rfl
  | ⟨1, _⟩ => blk_simp [index9]
  | ⟨2, _⟩ => blk_simp [index9]; rfl

/-- The product of a block of a projection's gradient and a block of its weight. -/
def term (d : FVec Ideal S1024x512 .bf16) (w : FVec Ideal S1x512x512 .bf16) (j : S1024x512.Idx) : EReal :=
  ∑ l : Fin 512, d (ix2 (j 0) l) * w (ix3 (0 : Fin 1) (j 1) l)

section payloads

variable (d : FVec Ideal S1024x512 .bf16) (w : FVec Ideal S1x512x512 .bf16) (s : FVec Ideal S1024x512 .f32) (j : S1024x512.Idx)

theorem pay4_at : k0_pay4 (F := Ideal) d w j = (0 : EReal) + term d w j := by
  rw [zero_add]
  pointwise [k0_pay4, k0_pay2, term]

theorem pay5_at : k0_pay5 (F := Ideal) d w j = (0 : EReal) + term d w j := by
  rw [zero_add]
  pointwise [k0_pay5, k0_pay3, term]

theorem pay6_at : k0_pay6 (F := Ideal) d w s j = (s j + term d w j : EReal) := by
  pointwise [k0_pay6, k0_pay2, term]

theorem pay7_at : k0_pay7 (F := Ideal) d w s j = (s j + term d w j : EReal) := by
  pointwise [k0_pay7, k0_pay3, term]

theorem pay8_at : k0_pay8 (F := Ideal) s j = (s j : EReal) := by
  pointwise [k0_pay8]

theorem pay9_at : k0_pay9 (F := Ideal) s j = (s j : EReal) := by
  pointwise [k0_pay9]

end payloads

/-- The first accumulator after a point. -/
def total10 (c : Dev nD) (n : ℕ) (h : n < cfg0.N) (j : S1024x512.Idx) : EReal := (outsAt0 (F := Ideal) m c n h).2.2.2.2.2.2.1 j

theorem total10_first (c : Dev nD) (t : Fin cfg0.N) (h : t.val % 4 = 0) (j : S1024x512.Idx) :
    total10 m c t.val t.isLt j = 0 + term (k0_pay13 (F := Ideal) (iblk m c 0 t) (iblk m c 1 t) (iblk m c 2 t)) (iblk m c 4 t) j := by
  unfold total10
  rw [outsAt0_A m c t h (by omega) (by omega)]
  frame_out
  exact pay4_at _ _ _

theorem total10_next (c : Dev nD) (t : Fin cfg0.N) (h : ¬t.val % 4 = 0) (j : S1024x512.Idx) :
    total10 m c t.val t.isLt j
      = total10 m c (t.val - 1) (Nat.lt_of_le_of_lt (Nat.sub_le _ _) t.isLt) j + term (k0_pay13 (F := Ideal) (iblk m c 0 t) (iblk m c 1 t) (iblk m c 2 t)) (iblk m c 4 t) j := by
  unfold total10
  by_cases h3 : t.val % 4 = 3
  · rw [outsAt0_C m c t h (by omega) h3]
    frame_out
    refine (pay6_at _ _ _ _).trans (congrArg (fun x : EReal => x + _) (congrFun ?_ j))
    exact Memref.IsWhole.read_unread (Memref.isWhole_whole _) _
  · rw [outsAt0_B m c t h (by omega) h3]
    frame_out
    refine (pay6_at _ _ _ _).trans (congrArg (fun x : EReal => x + _) (congrFun ?_ j))
    exact Memref.IsWhole.read_unread (Memref.isWhole_whole _) _

/-- A run's last point writes its accumulator back. -/
theorem out10_eq (c : Dev nD) (t : Fin cfg0.N) (h3 : t.val % 4 = 3) (j : S1024x512.Idx) :
    (outsAt0 (F := Ideal) m c t.val t.isLt).2.2.2.2.1 j = (total10 m c t.val t.isLt j : EReal) := by
  unfold total10
  rw [outsAt0_C m c t (by omega) (by omega) h3]
  frame_out
  exact pay8_at _ _

/-- What a run's last point writes back of the first branch's gradient. -/
theorem out10_at (c : Dev nD) (t : Fin cfg0.N) (h3 : t.val % 4 = 3) (r : Fin 1024) (k : Fin 512) :
    (outsAt0 (F := Ideal) m c t.val t.isLt).2.2.2.2.1 (ix2 r k) = Cert.OutXRefIdeal.Read.val_main_v44 (F := Ideal) (m (c.tc.loc main_arg2)) (m (c.tc.loc main_arg3)) (m (c.tc.loc main_arg4)) (m (c.tc.loc main_arg6)) (ix2 (row t r) k) := by
  rw [out10_eq m c t h3, Pipeline.eq_sum_fin_of_reset_step_apply_of_flush (fun n h => total10 m c n h) 4 (fun _ => 0)
    (fun t => term (k0_pay13 (F := Ideal) (iblk m c 0 t) (iblk m c 1 t) (iblk m c 2 t)) (iblk m c 4 t)) (total10_first m c) (total10_next m c) t h3 (ix2 r k), zero_add]
  refine Eq.trans ?_ (Cert.OutXRefIdeal.Hand.input_first_at _ _ _ _ _ _).symm
  unfold term
  refine Fin.sum_mul_add_congr fun s l hl => ?_
  have hs := s.isLt
  have ht := point_lt t
  refine congrArg₂ (fun x y : EReal => x * y) ((grad0_at m c _ r l).trans ?_) ((blk4_at m c _ k l).trans ?_)
  · refine congrArg₂ (fun a b => ((Cert.OutXRefIdeal.Hand.gate (m (c.tc.loc main_arg2)) 0 a b * Cert.OutXRefIdeal.Hand.back (m (c.tc.loc main_arg3)) (m (c.tc.loc main_arg6)) a b : EReal))) (Fin.ext ?_) (Fin.ext ?_)
    · simp only [row]; omega
    · simp only [col]; omega
  · exact congrArg (m (c.tc.loc main_arg4)) (congrArg₂ ix2 rfl (Fin.ext (by simp only [col]; omega)))

/-- The first branch's gradient after the run. -/
theorem final10 (c : Dev nD) : (dats m 0 c).arrAt 10 cfg0.N = Cert.OutXRefIdeal.Read.val_main_v44 (F := Ideal) (m (c.tc.loc main_arg2)) (m (c.tc.loc main_arg3)) (m (c.tc.loc main_arg4)) (m (c.tc.loc main_arg6)) := by
  refine (dats m 0 c).arrAt_eq_of_covers 10 _ (by decide +kernel) fun t hf y => ?_
  rw [after0_10]
  blk_simp
  have e : y = ix2 (y 0) (y 1) := funext fun b => by match b with | ⟨0, _⟩ => rfl | ⟨1, _⟩ => rfl
  rw [e]
  refine (out10_at m c t ((flush0_10 t).mp hf) (y 0) (y 1)).trans (congrArg _ (Eq.symm ?_))
  funext b
  refine Fin.ext ?_
  match b with
  | ⟨0, _⟩ => blk_simp [index10]; rfl
  | ⟨1, _⟩ => blk_simp [index10]

/-- The second accumulator after a point. -/
def total11 (c : Dev nD) (n : ℕ) (h : n < cfg0.N) (j : S1024x512.Idx) : EReal := (outsAt0 (F := Ideal) m c n h).2.2.2.2.2.2.2 j

theorem total11_first (c : Dev nD) (t : Fin cfg0.N) (h : t.val % 4 = 0) (j : S1024x512.Idx) :
    total11 m c t.val t.isLt j = 0 + term (k0_pay14 (F := Ideal) (iblk m c 0 t) (iblk m c 1 t) (iblk m c 2 t)) (iblk m c 5 t) j := by
  unfold total11
  rw [outsAt0_A m c t h (by omega) (by omega)]
  frame_out
  exact pay5_at _ _ _

theorem total11_next (c : Dev nD) (t : Fin cfg0.N) (h : ¬t.val % 4 = 0) (j : S1024x512.Idx) :
    total11 m c t.val t.isLt j
      = total11 m c (t.val - 1) (Nat.lt_of_le_of_lt (Nat.sub_le _ _) t.isLt) j + term (k0_pay14 (F := Ideal) (iblk m c 0 t) (iblk m c 1 t) (iblk m c 2 t)) (iblk m c 5 t) j := by
  unfold total11
  by_cases h3 : t.val % 4 = 3
  · rw [outsAt0_C m c t h (by omega) h3]
    frame_out
    refine (pay7_at _ _ _ _).trans (congrArg (fun x : EReal => x + _) (congrFun ?_ j))
    exact Memref.IsWhole.read_unread (Memref.isWhole_whole _) _
  · rw [outsAt0_B m c t h (by omega) h3]
    frame_out
    refine (pay7_at _ _ _ _).trans (congrArg (fun x : EReal => x + _) (congrFun ?_ j))
    exact Memref.IsWhole.read_unread (Memref.isWhole_whole _) _

/-- A run's last point writes its accumulator back. -/
theorem out11_eq (c : Dev nD) (t : Fin cfg0.N) (h3 : t.val % 4 = 3) (j : S1024x512.Idx) :
    (outsAt0 (F := Ideal) m c t.val t.isLt).2.2.2.2.2.1 j = (total11 m c t.val t.isLt j : EReal) := by
  unfold total11
  rw [outsAt0_C m c t (by omega) (by omega) h3]
  frame_out
  exact pay9_at _ _

/-- What a run's last point writes back of the second branch's gradient. -/
theorem out11_at (c : Dev nD) (t : Fin cfg0.N) (h3 : t.val % 4 = 3) (r : Fin 1024) (k : Fin 512) :
    (outsAt0 (F := Ideal) m c t.val t.isLt).2.2.2.2.2.1 (ix2 r k) = Cert.OutXRefIdeal.Read.val_main_v45 (F := Ideal) (m (c.tc.loc main_arg2)) (m (c.tc.loc main_arg3)) (m (c.tc.loc main_arg5)) (m (c.tc.loc main_arg6)) (ix2 (row t r) k) := by
  rw [out11_eq m c t h3, Pipeline.eq_sum_fin_of_reset_step_apply_of_flush (fun n h => total11 m c n h) 4 (fun _ => 0)
    (fun t => term (k0_pay14 (F := Ideal) (iblk m c 0 t) (iblk m c 1 t) (iblk m c 2 t)) (iblk m c 5 t)) (total11_first m c) (total11_next m c) t h3 (ix2 r k), zero_add]
  refine Eq.trans ?_ (Cert.OutXRefIdeal.Hand.input_second_at _ _ _ _ _ _).symm
  unfold term
  refine Fin.sum_mul_add_congr fun s l hl => ?_
  have hs := s.isLt
  have ht := point_lt t
  refine congrArg₂ (fun x y : EReal => x * y) ((grad1_at m c _ r l).trans ?_) ((blk5_at m c _ k l).trans ?_)
  · refine congrArg₂ (fun a b => ((Cert.OutXRefIdeal.Hand.gate (m (c.tc.loc main_arg2)) 1 a b * Cert.OutXRefIdeal.Hand.back (m (c.tc.loc main_arg3)) (m (c.tc.loc main_arg6)) a b : EReal))) (Fin.ext ?_) (Fin.ext ?_)
    · simp only [row]; omega
    · simp only [col]; omega
  · exact congrArg (m (c.tc.loc main_arg5)) (congrArg₂ ix2 rfl (Fin.ext (by simp only [col]; omega)))

/-- The second branch's gradient after the run. -/
theorem final11 (c : Dev nD) : (dats m 0 c).arrAt 11 cfg0.N = Cert.OutXRefIdeal.Read.val_main_v45 (F := Ideal) (m (c.tc.loc main_arg2)) (m (c.tc.loc main_arg3)) (m (c.tc.loc main_arg5)) (m (c.tc.loc main_arg6)) := by
  refine (dats m 0 c).arrAt_eq_of_covers 11 _ (by decide +kernel) fun t hf y => ?_
  rw [after0_11]
  blk_simp
  have e : y = ix2 (y 0) (y 1) := funext fun b => by match b with | ⟨0, _⟩ => rfl | ⟨1, _⟩ => rfl
  rw [e]
  refine (out11_at m c t ((flush0_11 t).mp hf) (y 0) (y 1)).trans (congrArg _ (Eq.symm ?_))
  funext b
  refine Fin.ext ?_
  match b with
  | ⟨0, _⟩ => blk_simp [index11]; rfl
  | ⟨1, _⟩ => blk_simp [index11]

end Cert.OutXIdeal.Hand
-- ==== Proof.QkvXBody.lean ====
/- What one grid point of the call does (over ideal values), as triples: a partial product of 512 columns, started, added to the
   running sum or stored with it; beside it, at the first thirty-two points, a block of the optimizer's update. -/
module

public import proofs.«01_k».proof.Proof.Gen.QkvXIdeal.Frame
public import proofs.«01_k».proof.Proof.Gen.QkvXIdeal.Skeleton
public import Idealize.ShloMosaic.Lib.VecWindow

@[expose] public section

set_option maxRecDepth 16384

noncomputable section

namespace Cert.QkvXIdeal.Hand

open Cert.QkvXIdeal Cert.QkvXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first of its row block. -/
abbrev atFirst (i : grid0.Coords) : Prop :=
  (Scalar.cmpi .ne (Scalar.extui (Scalar.cmpi .eq (BitVec.ofNat 32 (i 2).val) 0#32)) 0#32) = 1#1

/-- The point is neither the first nor the last of its row block. -/
abbrev atMid (i : grid0.Coords) : Prop :=
  (Scalar.cmpi .ne (Scalar.extui (Scalar.andi (Scalar.cmpi .sgt (BitVec.ofNat 32 (i 2).val) 0#32)
    (Scalar.cmpi .slt (BitVec.ofNat 32 (i 2).val) 11#32))) 0#32) = 1#1

/-- Loading a whole block reads it. -/
theorem ld_dqkv (v : View sig .tc .vmem S1x1024x512 .bf16) (f : v.ty.Contents (Elt F)) (inb) :
    v.readAt (Elt F) (Rect.unit (s := S1x1024x512) ![0, 0, 0] ![1, 1024, 512] inb).toLoadRect f = v.read (Elt F) f := View.readAt_full v f inb

/-- Loading a whole block reads it. -/
theorem ld_w (v : View sig .tc .vmem S1x2048x512 .bf16) (f : v.ty.Contents (Elt F)) (inb) :
    v.readAt (Elt F) (Rect.unit (s := S1x2048x512) ![0, 0, 0] ![1, 2048, 512] inb).toLoadRect f = v.read (Elt F) f := View.readAt_full v f inb

/-- Loading a whole block reads it. -/
theorem ld_side (v : View sig .tc .vmem S64x2048 .f32) (f : v.ty.Contents (Elt F)) (inb) :
    v.readAt (Elt F) (Rect.unit (s := S64x2048) ![0, 0] ![64, 2048] inb).toLoadRect f = v.read (Elt F) f := View.readAt_full v f inb

/-- Loading a whole block reads it. -/
theorem ld_acc (v : View sig .tc .vmem S1024x2048 .f32) (f : v.ty.Contents (Elt F)) (inb) :
    v.readAt (Elt F) (Rect.unit (s := S1024x2048) ![0, 0] ![1024, 2048] inb).toLoadRect f = v.read (Elt F) f := View.readAt_full v f inb

set_option maxHeartbeats 1000000 in
/-- The first product of a row block: the sum starts, and a block of the optimizer's update is made. -/
theorem sideFirst (c : Dev nD) (i : grid0.Coords) (arg3 : Memref sig .tc .vmem S1x1024x512 .bf16) (harg3 : arg3.IsWhole) (arg4 : Memref sig .tc .vmem S1x2048x512 .bf16) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S1024x2048 .f32) (harg9 : arg9.IsWhole) (arg10 : Memref sig .tc .vmem S64x2048 .f32) (harg10 : arg10.IsWhole) (arg11 : Memref sig .tc .vmem S64x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S1024x2048 .f32) (harg14 : arg14.IsWhole)
    (h1 : k0_cond1 i = 1#1) (hA : atFirst i) (hB : ¬atMid i) (h4 : ¬k0_cond4 i = 1#1)
    (x0 : Vec F S1x1024x512 .bf16) (x1 : Vec F S1x2048x512 .bf16) (w : Vec F S64x2048 .f32) (g : Vec F S64x2048 .f32) (mu : Vec F S64x2048 .f32) (nu : Vec F S64x2048 .f32) (y6 : Vec F S1024x2048 .f32) (y7 : Vec F S64x2048 .f32) (y8 : Vec F S64x2048 .f32) (y9 : Vec F S64x2048 .f32) (y10 : Vec F S64x2048 .f32) (s : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s
        ∗ (iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare g ∗ owns (c : Thread nD τ) arg11 fullShare (k0_pay6 w g mu nu) ∗ owns (c : Thread nD τ) arg12 fullShare (k0_pay4 g mu) ∗ owns (c : Thread nD τ) arg13 fullShare (k0_pay5 g nu) ∗ owns (c : Thread nD τ) arg14 fullShare (k0_pay1 x0 x1)) -∗ K ⟨⟩))
      ⊢ wp frame (wpE (defs₀ (F := F)) Variants.none c none) E (cc0_qkv_dx i arg3 harg3 arg4 harg4 arg5 harg5 arg6 harg6 arg7 harg7 arg8 harg8 arg9 harg9 arg10 harg10 arg11 harg11 arg12 harg12 arg13 harg13 arg14 harg14) K := by
  simp only [cc0_qkv_dx_eq_skeleton]; unfold cc0_qkv_dx_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := e0; obtain rfl := e1; obtain rfl := e2; obtain rfl := e3; obtain rfl := e4; obtain rfl := e5; obtain rfl := e6; obtain rfl := e7; obtain rfl := e8; obtain rfl := e9; obtain rfl := e10; obtain rfl := e11
  sl_exec (disch := first | sl_exact h1 | sl_exact hA | sl_exact hB | sl_exact h4)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; refine (View.read_writes_full _ _ _ _ _).trans ?_; simp only [ld_dqkv, ld_w, ld_side, ld_acc]
  isplitl [H8]
  · iexists _; isplitr
    swap; · iexact H8
    ipureintro; refine (View.read_writes_full _ _ _ _ _).trans ?_; simp only [ld_dqkv, ld_w, ld_side, ld_acc]
  isplitl [H9]
  · iexists _; isplitr
    swap; · iexact H9
    ipureintro; refine (View.read_writes_full _ _ _ _ _).trans ?_; simp only [ld_dqkv, ld_w, ld_side, ld_acc]
  isplitl [H10]
  · iexists _; isplitr
    swap; · iexact H10
    ipureintro; refine (View.read_writes_full _ _ _ _ _).trans ?_; simp only [ld_dqkv, ld_w, ld_side, ld_acc]
  iexists _; isplitr
  swap; · iexact H11
  ipureintro; refine (View.read_writes_full _ _ _ _ _).trans ?_; simp only [ld_dqkv, ld_w, ld_side, ld_acc]

set_option maxHeartbeats 1000000 in
/-- A middle product: it is added to the sum, and a block of the optimizer's update is made. -/
theorem sideMid (c : Dev nD) (i : grid0.Coords) (arg3 : Memref sig .tc .vmem S1x1024x512 .bf16) (harg3 : arg3.IsWhole) (arg4 : Memref sig .tc .vmem S1x2048x512 .bf16) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S1024x2048 .f32) (harg9 : arg9.IsWhole) (arg10 : Memref sig .tc .vmem S64x2048 .f32) (harg10 : arg10.IsWhole) (arg11 : Memref sig .tc .vmem S64x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S1024x2048 .f32) (harg14 : arg14.IsWhole)
    (h1 : k0_cond1 i = 1#1) (hA : ¬atFirst i) (hB : atMid i) (h4 : ¬k0_cond4 i = 1#1)
    (x0 : Vec F S1x1024x512 .bf16) (x1 : Vec F S1x2048x512 .bf16) (w : Vec F S64x2048 .f32) (g : Vec F S64x2048 .f32) (mu : Vec F S64x2048 .f32) (nu : Vec F S64x2048 .f32) (y6 : Vec F S1024x2048 .f32) (y7 : Vec F S64x2048 .f32) (y8 : Vec F S64x2048 .f32) (y9 : Vec F S64x2048 .f32) (y10 : Vec F S64x2048 .f32) (s : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s
        ∗ (iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare g ∗ owns (c : Thread nD τ) arg11 fullShare (k0_pay6 w g mu nu) ∗ owns (c : Thread nD τ) arg12 fullShare (k0_pay4 g mu) ∗ owns (c : Thread nD τ) arg13 fullShare (k0_pay5 g nu) ∗ owns (c : Thread nD τ) arg14 fullShare (k0_pay2 s x0 x1)) -∗ K ⟨⟩))
      ⊢ wp frame (wpE (defs₀ (F := F)) Variants.none c none) E (cc0_qkv_dx i arg3 harg3 arg4 harg4 arg5 harg5 arg6 harg6 arg7 harg7 arg8 harg8 arg9 harg9 arg10 harg10 arg11 harg11 arg12 harg12 arg13 harg13 arg14 harg14) K := by
  simp only [cc0_qkv_dx_eq_skeleton]; unfold cc0_qkv_dx_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := e0; obtain rfl := e1; obtain rfl := e2; obtain rfl := e3; obtain rfl := e4; obtain rfl := e5; obtain rfl := e6; obtain rfl := e7; obtain rfl := e8; obtain rfl := e9; obtain rfl := e10; obtain rfl := e11
  sl_exec (disch := first | sl_exact h1 | sl_exact hA | sl_exact hB | sl_exact h4)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; refine (View.read_writes_full _ _ _ _ _).trans ?_; simp only [ld_dqkv, ld_w, ld_side, ld_acc]
  isplitl [H8]
  · iexists _; isplitr
    swap; · iexact H8
    ipureintro; refine (View.read_writes_full _ _ _ _ _).trans ?_; simp only [ld_dqkv, ld_w, ld_side, ld_acc]
  isplitl [H9]
  · iexists _; isplitr
    swap; · iexact H9
    ipureintro; refine (View.read_writes_full _ _ _ _ _).trans ?_; simp only [ld_dqkv, ld_w, ld_side, ld_acc]
  isplitl [H10]
  · iexists _; isplitr
    swap; · iexact H10
    ipureintro; refine (View.read_writes_full _ _ _ _ _).trans ?_; simp only [ld_dqkv, ld_w, ld_side, ld_acc]
  iexists _; isplitr
  swap; · iexact H11
  ipureintro; refine (View.read_writes_full _ _ _ _ _).trans ?_; simp only [ld_dqkv, ld_w, ld_side, ld_acc]

set_option maxHeartbeats 1000000 in
/-- The last product: the result's block is stored, and a block of the optimizer's update is made. -/
theorem sideLast (c : Dev nD) (i : grid0.Coords) (arg3 : Memref sig .tc .vmem S1x1024x512 .bf16) (harg3 : arg3.IsWhole) (arg4 : Memref sig .tc .vmem S1x2048x512 .bf16) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S1024x2048 .f32) (harg9 : arg9.IsWhole) (arg10 : Memref sig .tc .vmem S64x2048 .f32) (harg10 : arg10.IsWhole) (arg11 : Memref sig .tc .vmem S64x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S1024x2048 .f32) (harg14 : arg14.IsWhole)
    (h1 : k0_cond1 i = 1#1) (hA : ¬atFirst i) (hB : ¬atMid i) (h4 : k0_cond4 i = 1#1)
    (x0 : Vec F S1x1024x512 .bf16) (x1 : Vec F S1x2048x512 .bf16) (w : Vec F S64x2048 .f32) (g : Vec F S64x2048 .f32) (mu : Vec F S64x2048 .f32) (nu : Vec F S64x2048 .f32) (y6 : Vec F S1024x2048 .f32) (y7 : Vec F S64x2048 .f32) (y8 : Vec F S64x2048 .f32) (y9 : Vec F S64x2048 .f32) (y10 : Vec F S64x2048 .f32) (s : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s
        ∗ (iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare (k0_pay3 s x0 x1) ∗ owns (c : Thread nD τ) arg10 fullShare g ∗ owns (c : Thread nD τ) arg11 fullShare (k0_pay6 w g mu nu) ∗ owns (c : Thread nD τ) arg12 fullShare (k0_pay4 g mu) ∗ owns (c : Thread nD τ) arg13 fullShare (k0_pay5 g nu) ∗ owns (c : Thread nD τ) arg14 fullShare s) -∗ K ⟨⟩))
      ⊢ wp frame (wpE (defs₀ (F := F)) Variants.none c none) E (cc0_qkv_dx i arg3 harg3 arg4 harg4 arg5 harg5 arg6 harg6 arg7 harg7 arg8 harg8 arg9 harg9 arg10 harg10 arg11 harg11 arg12 harg12 arg13 harg13 arg14 harg14) K := by
  simp only [cc0_qkv_dx_eq_skeleton]; unfold cc0_qkv_dx_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := e0; obtain rfl := e1; obtain rfl := e2; obtain rfl := e3; obtain rfl := e4; obtain rfl := e5; obtain rfl := e6; obtain rfl := e7; obtain rfl := e8; obtain rfl := e9; obtain rfl := e10; obtain rfl := e11
  sl_exec (disch := first | sl_exact h1 | sl_exact hA | sl_exact hB | sl_exact h4)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; refine (View.read_writes_full _ _ _ _ _).trans ?_; simp only [ld_dqkv, ld_w, ld_side, ld_acc]
  isplitl [H7]
  · iexists _; isplitr
    swap; · iexact H7
    ipureintro; refine (View.read_writes_full _ _ _ _ _).trans ?_; simp only [ld_dqkv, ld_w, ld_side, ld_acc]
  isplitl [H8]
  · iexists _; isplitr
    swap; · iexact H8
    ipureintro; refine (View.read_writes_full _ _ _ _ _).trans ?_; simp only [ld_dqkv, ld_w, ld_side, ld_acc]
  isplitl [H9]
  · iexists _; isplitr
    swap; · iexact H9
    ipureintro; refine (View.read_writes_full _ _ _ _ _).trans ?_; simp only [ld_dqkv, ld_w, ld_side, ld_acc]
  isplitl [H10]
  · iexists _; isplitr
    swap; · iexact H10
    ipureintro; refine (View.read_writes_full _ _ _ _ _).trans ?_; simp only [ld_dqkv, ld_w, ld_side, ld_acc]
  iexists _; isplitr
  swap; · iexact H11
  ipureintro; rfl

set_option maxHeartbeats 1000000 in
/-- The first product of a row block: the sum starts. -/
theorem plainFirst (c : Dev nD) (i : grid0.Coords) (arg3 : Memref sig .tc .vmem S1x1024x512 .bf16) (harg3 : arg3.IsWhole) (arg4 : Memref sig .tc .vmem S1x2048x512 .bf16) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S1024x2048 .f32) (harg9 : arg9.IsWhole) (arg10 : Memref sig .tc .vmem S64x2048 .f32) (harg10 : arg10.IsWhole) (arg11 : Memref sig .tc .vmem S64x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S1024x2048 .f32) (harg14 : arg14.IsWhole)
    (h1 : ¬k0_cond1 i = 1#1) (hA : atFirst i) (hB : ¬atMid i) (h4 : ¬k0_cond4 i = 1#1)
    (x0 : Vec F S1x1024x512 .bf16) (x1 : Vec F S1x2048x512 .bf16) (w : Vec F S64x2048 .f32) (g : Vec F S64x2048 .f32) (mu : Vec F S64x2048 .f32) (nu : Vec F S64x2048 .f32) (y6 : Vec F S1024x2048 .f32) (y7 : Vec F S64x2048 .f32) (y8 : Vec F S64x2048 .f32) (y9 : Vec F S64x2048 .f32) (y10 : Vec F S64x2048 .f32) (s : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s
        ∗ (iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare (k0_pay1 x0 x1)) -∗ K ⟨⟩))
      ⊢ wp frame (wpE (defs₀ (F := F)) Variants.none c none) E (cc0_qkv_dx i arg3 harg3 arg4 harg4 arg5 harg5 arg6 harg6 arg7 harg7 arg8 harg8 arg9 harg9 arg10 harg10 arg11 harg11 arg12 harg12 arg13 harg13 arg14 harg14) K := by
  simp only [cc0_qkv_dx_eq_skeleton]; unfold cc0_qkv_dx_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := e0; obtain rfl := e1; obtain rfl := e2; obtain rfl := e3; obtain rfl := e4; obtain rfl := e5; obtain rfl := e6; obtain rfl := e7; obtain rfl := e8; obtain rfl := e9; obtain rfl := e10; obtain rfl := e11
  sl_exec (disch := first | sl_exact h1 | sl_exact hA | sl_exact hB | sl_exact h4)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  iexists _; isplitr
  swap; · iexact H11
  ipureintro; refine (View.read_writes_full _ _ _ _ _).trans ?_; simp only [ld_dqkv, ld_w, ld_side, ld_acc]

set_option maxHeartbeats 1000000 in
/-- A middle product: it is added to the sum. -/
theorem plainMid (c : Dev nD) (i : grid0.Coords) (arg3 : Memref sig .tc .vmem S1x1024x512 .bf16) (harg3 : arg3.IsWhole) (arg4 : Memref sig .tc .vmem S1x2048x512 .bf16) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S1024x2048 .f32) (harg9 : arg9.IsWhole) (arg10 : Memref sig .tc .vmem S64x2048 .f32) (harg10 : arg10.IsWhole) (arg11 : Memref sig .tc .vmem S64x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S1024x2048 .f32) (harg14 : arg14.IsWhole)
    (h1 : ¬k0_cond1 i = 1#1) (hA : ¬atFirst i) (hB : atMid i) (h4 : ¬k0_cond4 i = 1#1)
    (x0 : Vec F S1x1024x512 .bf16) (x1 : Vec F S1x2048x512 .bf16) (w : Vec F S64x2048 .f32) (g : Vec F S64x2048 .f32) (mu : Vec F S64x2048 .f32) (nu : Vec F S64x2048 .f32) (y6 : Vec F S1024x2048 .f32) (y7 : Vec F S64x2048 .f32) (y8 : Vec F S64x2048 .f32) (y9 : Vec F S64x2048 .f32) (y10 : Vec F S64x2048 .f32) (s : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s
        ∗ (iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare (k0_pay2 s x0 x1)) -∗ K ⟨⟩))
      ⊢ wp frame (wpE (defs₀ (F := F)) Variants.none c none) E (cc0_qkv_dx i arg3 harg3 arg4 harg4 arg5 harg5 arg6 harg6 arg7 harg7 arg8 harg8 arg9 harg9 arg10 harg10 arg11 harg11 arg12 harg12 arg13 harg13 arg14 harg14) K := by
  simp only [cc0_qkv_dx_eq_skeleton]; unfold cc0_qkv_dx_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := e0; obtain rfl := e1; obtain rfl := e2; obtain rfl := e3; obtain rfl := e4; obtain rfl := e5; obtain rfl := e6; obtain rfl := e7; obtain rfl := e8; obtain rfl := e9; obtain rfl := e10; obtain rfl := e11
  sl_exec (disch := first | sl_exact h1 | sl_exact hA | sl_exact hB | sl_exact h4)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  iexists _; isplitr
  swap; · iexact H11
  ipureintro; refine (View.read_writes_full _ _ _ _ _).trans ?_; simp only [ld_dqkv, ld_w, ld_side, ld_acc]

set_option maxHeartbeats 1000000 in
/-- The last product: the result's block is stored. -/
theorem plainLast (c : Dev nD) (i : grid0.Coords) (arg3 : Memref sig .tc .vmem S1x1024x512 .bf16) (harg3 : arg3.IsWhole) (arg4 : Memref sig .tc .vmem S1x2048x512 .bf16) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S1024x2048 .f32) (harg9 : arg9.IsWhole) (arg10 : Memref sig .tc .vmem S64x2048 .f32) (harg10 : arg10.IsWhole) (arg11 : Memref sig .tc .vmem S64x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S1024x2048 .f32) (harg14 : arg14.IsWhole)
    (h1 : ¬k0_cond1 i = 1#1) (hA : ¬atFirst i) (hB : ¬atMid i) (h4 : k0_cond4 i = 1#1)
    (x0 : Vec F S1x1024x512 .bf16) (x1 : Vec F S1x2048x512 .bf16) (w : Vec F S64x2048 .f32) (g : Vec F S64x2048 .f32) (mu : Vec F S64x2048 .f32) (nu : Vec F S64x2048 .f32) (y6 : Vec F S1024x2048 .f32) (y7 : Vec F S64x2048 .f32) (y8 : Vec F S64x2048 .f32) (y9 : Vec F S64x2048 .f32) (y10 : Vec F S64x2048 .f32) (s : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s
        ∗ (iprop(owns (c : Thread nD τ) arg3 fullShare x0 ∗ owns (c : Thread nD τ) arg4 fullShare x1 ∗ owns (c : Thread nD τ) arg5 fullShare w ∗ owns (c : Thread nD τ) arg6 fullShare g ∗ owns (c : Thread nD τ) arg7 fullShare mu ∗ owns (c : Thread nD τ) arg8 fullShare nu ∗ owns (c : Thread nD τ) arg9 fullShare (k0_pay3 s x0 x1) ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare s) -∗ K ⟨⟩))
      ⊢ wp frame (wpE (defs₀ (F := F)) Variants.none c none) E (cc0_qkv_dx i arg3 harg3 arg4 harg4 arg5 harg5 arg6 harg6 arg7 harg7 arg8 harg8 arg9 harg9 arg10 harg10 arg11 harg11 arg12 harg12 arg13 harg13 arg14 harg14) K := by
  simp only [cc0_qkv_dx_eq_skeleton]; unfold cc0_qkv_dx_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  obtain rfl := e0; obtain rfl := e1; obtain rfl := e2; obtain rfl := e3; obtain rfl := e4; obtain rfl := e5; obtain rfl := e6; obtain rfl := e7; obtain rfl := e8; obtain rfl := e9; obtain rfl := e10; obtain rfl := e11
  sl_exec (disch := first | sl_exact h1 | sl_exact hA | sl_exact hB | sl_exact h4)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; refine (View.read_writes_full _ _ _ _ _).trans ?_; simp only [ld_dqkv, ld_w, ld_side, ld_acc]
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  iexists _; isplitr
  swap; · iexact H11
  ipureintro; rfl

end Cert.QkvXIdeal.Hand

end
-- ==== Proof.QkvXRun.lean ====
/- The run of the call (over ideal values): what the running sum and every result's buffer hold after each grid point, the body's
   obligation at every point, and the launch. -/
module

public import proofs.«01_k».proof.Proof.QkvXBody
public import Idealize.ShloMosaic.Lib.Pipeline.TableIdle

@[expose] public section

set_option maxRecDepth 16384

noncomputable section

namespace Cert.QkvXIdeal.Hand

open Cert.QkvXIdeal Cert.QkvXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of the running sum. -/
abbrev accM : Memref sig .tc .vmem S1024x2048 .f32 := Memref.whole cc0_scratch0

theorem inv_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

/-! ## The grid's points -/

theorem first_iff : ∀ t : Fin cfg0.N, atFirst (grid0.coords t) ↔ t.val % 12 = 0 :=
  (by decide +kernel : ∀ t : Fin grid0.N, atFirst (grid0.coords t) ↔ t.val % 12 = 0)
theorem mid_iff : ∀ t : Fin cfg0.N, atMid (grid0.coords t) ↔ (t.val % 12 ≠ 0 ∧ t.val % 12 ≠ 11) :=
  (by decide +kernel : ∀ t : Fin grid0.N, atMid (grid0.coords t) ↔ (t.val % 12 ≠ 0 ∧ t.val % 12 ≠ 11))
theorem last_iff : ∀ t : Fin cfg0.N, k0_cond4 (grid0.coords t) = 1#1 ↔ t.val % 12 = 11 :=
  (by decide +kernel : ∀ t : Fin grid0.N, k0_cond4 (grid0.coords t) = 1#1 ↔ t.val % 12 = 11)
theorem side_iff : ∀ t : Fin cfg0.N, k0_cond1 (grid0.coords t) = 1#1 ↔ t.val < 32 :=
  (by decide +kernel : ∀ t : Fin grid0.N, k0_cond1 (grid0.coords t) = 1#1 ↔ t.val < 32)

theorem idle6 : ∀ t : Fin cfg0.N, cfg0.idle 6 (grid0.coords t) = decide (t.val % 12 ≠ 11) := by decide +kernel
theorem noflush6 : ∀ t : Fin cfg0.N, t.val % 12 ≠ 11 → (cfg0.win 6).flush t = false := by decide +kernel
theorem idle7 : ∀ t : Fin cfg0.N, cfg0.idle 7 (grid0.coords t) = decide (32 ≤ t.val) := by decide +kernel
theorem flush7 : ∀ t : Fin cfg0.N, 31 ≤ t.val → (cfg0.win 7).flush t = decide (t.val = 47) := by decide +kernel
theorem kept7 : cfg0.fresh 7 47 = false := by decide +kernel
theorem idle8 : ∀ t : Fin cfg0.N, cfg0.idle 8 (grid0.coords t) = decide (32 ≤ t.val) := by decide +kernel
theorem flush8 : ∀ t : Fin cfg0.N, 31 ≤ t.val → (cfg0.win 8).flush t = decide (t.val = 47) := by decide +kernel
theorem kept8 : cfg0.fresh 8 47 = false := by decide +kernel
theorem idle9 : ∀ t : Fin cfg0.N, cfg0.idle 9 (grid0.coords t) = decide (32 ≤ t.val) := by decide +kernel
theorem flush9 : ∀ t : Fin cfg0.N, 31 ≤ t.val → (cfg0.win 9).flush t = decide (t.val = 47) := by decide +kernel
theorem kept9 : cfg0.fresh 9 47 = false := by decide +kernel
theorem idle10 : ∀ t : Fin cfg0.N, cfg0.idle 10 (grid0.coords t) = decide (32 ≤ t.val) := by decide +kernel
theorem flush10 : ∀ t : Fin cfg0.N, 31 ≤ t.val → (cfg0.win 10).flush t = decide (t.val = 47) := by decide +kernel
theorem kept10 : cfg0.fresh 10 47 = false := by decide +kernel

/-- The point at which the block of the optimizer's update last seen at `t` is made. -/
def sidePt (t : Fin cfg0.N) : Fin cfg0.N := ⟨min t.val 31, Nat.lt_of_le_of_lt (Nat.min_le_left _ _) t.isLt⟩

theorem sidePt_eq (t : Fin cfg0.N) (h : t.val < 32) : sidePt t = t := Fin.ext (by show min t.val 31 = t.val; omega)

/-! ## What the buffers hold -/

/-- The running sum after point `n`: started at the first point of a row block, left alone at the last. -/
def accAt (c : Dev nD) : (n : ℕ) → n < cfg0.N → Vec F S1024x2048 .f32
  | 0, h => k0_pay1 (iblk m c 0 ⟨0, h⟩) (iblk m c 1 ⟨0, h⟩)
  | n + 1, h =>
    if (n + 1) % 12 = 0 then k0_pay1 (iblk m c 0 ⟨n + 1, h⟩) (iblk m c 1 ⟨n + 1, h⟩)
    else if (n + 1) % 12 = 11 then accAt c n (Nat.lt_of_succ_lt h)
    else k0_pay2 (accAt c n (Nat.lt_of_succ_lt h)) (iblk m c 0 ⟨n + 1, h⟩) (iblk m c 1 ⟨n + 1, h⟩)

theorem before_lt (t : Fin cfg0.N) : t.val - 1 < cfg0.N := Nat.lt_of_le_of_lt (Nat.sub_le _ _) t.isLt

theorem accAt_first (c : Dev nD) (t : Fin cfg0.N) (h : t.val % 12 = 0) :
    accAt m c t.val t.isLt = k0_pay1 (iblk m c 0 t) (iblk m c 1 t) := by
  obtain ⟨n, hn⟩ := t
  cases n with
  | zero => rfl
  | succ n => exact if_pos h

theorem accAt_mid (c : Dev nD) (t : Fin cfg0.N) (h : t.val % 12 ≠ 0) (h' : t.val % 12 ≠ 11) :
    accAt m c t.val t.isLt = k0_pay2 (accAt m c (t.val - 1) (before_lt t)) (iblk m c 0 t) (iblk m c 1 t) := by
  obtain ⟨n, hn⟩ := t
  cases n with
  | zero => exact absurd rfl h
  | succ n => exact (if_neg h).trans (if_neg h')

theorem accAt_last (c : Dev nD) (t : Fin cfg0.N) (h' : t.val % 12 = 11) :
    accAt m c t.val t.isLt = accAt m c (t.val - 1) (before_lt t) := by
  obtain ⟨n, hn⟩ := t
  cases n with
  | zero => exact absurd h' (by decide : ¬ 0 % 12 = 11)
  | succ n => exact (if_neg (by simp only at h'; omega)).trans (if_pos h')

/-- The invariant before point `n`: the sum's buffer at anything before the first point, then at the sum so far. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-- The arrays as the region finds them; after the body each input's buffer at its block, the product's at the whole sum,
    the four of the update at the block last made. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (accAt m c (t.val - 1) (before_lt t)) (iblk m c 0 t) (iblk m c 1 t)
    | ⟨7, _⟩ => iblk m c 3 (sidePt t)
    | ⟨8, _⟩ => k0_pay6 (iblk m c 2 (sidePt t)) (iblk m c 3 (sidePt t)) (iblk m c 4 (sidePt t)) (iblk m c 5 (sidePt t))
    | ⟨9, _⟩ => k0_pay4 (iblk m c 3 (sidePt t)) (iblk m c 4 (sidePt t))
    | ⟨10, _⟩ => k0_pay5 (iblk m c 3 (sidePt t)) (iblk m c 5 (sidePt t))
  Φ t := PhiS m c t.val (Nat.le_of_lt_succ t.isLt)
  q _ := fullShare
  owed _ := 0

theorem dats_A (c : Dev nD) (w : Fin cfg0.W) : (dats m 0 c).A w = V m c (Pipeline.arrRef spec0 w) := by dsimp only [dats]

theorem Phi_cast (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = k0_pay3 (accAt m c (t.val - 1) (before_lt t)) (iblk m c 0 t) (iblk m c 1 t) := by dsimp only [dats]
theorem after7 (c : Dev nD) (t : Fin cfg0.N) : (dats m 0 c).after 7 t
    = iblk m c 3 (sidePt t) := by dsimp only [dats]
theorem after8 (c : Dev nD) (t : Fin cfg0.N) : (dats m 0 c).after 8 t
    = k0_pay6 (iblk m c 2 (sidePt t)) (iblk m c 3 (sidePt t)) (iblk m c 4 (sidePt t)) (iblk m c 5 (sidePt t)) := by dsimp only [dats]
theorem after9 (c : Dev nD) (t : Fin cfg0.N) : (dats m 0 c).after 9 t
    = k0_pay4 (iblk m c 3 (sidePt t)) (iblk m c 4 (sidePt t)) := by dsimp only [dats]
theorem after10 (c : Dev nD) (t : Fin cfg0.N) : (dats m 0 c).after 10 t
    = k0_pay5 (iblk m c 3 (sidePt t)) (iblk m c 5 (sidePt t)) := by dsimp only [dats]

theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d
theorem before4 (c : Dev nD) (t : Fin cfg0.N) (d) : (dats m 0 c).before 4 t d = iblk m c 4 t :=
  before0_4_of m (dats m 0 c) (dats_A m c 4) (after4 m c) t d
theorem before5 (c : Dev nD) (t : Fin cfg0.N) (d) : (dats m 0 c).before 5 t d = iblk m c 5 t :=
  before0_5_of m (dats m 0 c) (dats_A m c 5) (after5 m c) t d

/-! ## What the body leaves in each buffer -/

theorem leaves0 (c : Dev nD) (t : Fin cfg0.N) : ((dats m 0 c).leavesExact 0 t : sProp 𝕄) = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) : ((dats m 0 c).leavesExact 1 t : sProp 𝕄) = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) : ((dats m 0 c).leavesExact 2 t : sProp 𝕄) = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) : ((dats m 0 c).leavesExact 3 t : sProp 𝕄) = owns (c : Thread nD τ) (win0_3.stage (cfg0.slots t 3)) fullShare (iblk m c 3 t) := by
  unfold Dat.leavesExact; rw [show cfg0.idle 3 (cfg0.grid.coords t) = false from rfl, after3]
theorem leaves4 (c : Dev nD) (t : Fin cfg0.N) : ((dats m 0 c).leavesExact 4 t : sProp 𝕄) = owns (c : Thread nD τ) (win0_4.stage (cfg0.slots t 4)) fullShare (iblk m c 4 t) := by
  unfold Dat.leavesExact; rw [show cfg0.idle 4 (cfg0.grid.coords t) = false from rfl, after4]
theorem leaves5 (c : Dev nD) (t : Fin cfg0.N) : ((dats m 0 c).leavesExact 5 t : sProp 𝕄) = owns (c : Thread nD τ) (win0_5.stage (cfg0.slots t 5)) fullShare (iblk m c 5 t) := by
  unfold Dat.leavesExact; rw [show cfg0.idle 5 (cfg0.grid.coords t) = false from rfl, after5]

theorem leaves6_last (c : Dev nD) (t : Fin cfg0.N) (h : t.val % 12 = 11) : ((dats m 0 c).leavesExact 6 t : sProp 𝕄)
    = owns (c : Thread nD τ) (win0_6.stage (cfg0.slots t 6)) fullShare (k0_pay3 (accAt m c (t.val - 1) (before_lt t)) (iblk m c 0 t) (iblk m c 1 t)) := by
  unfold Dat.leavesExact; rw [show cfg0.idle 6 (cfg0.grid.coords t) = false from (idle6 t).trans (decide_eq_false (fun h' => h' h)), after6]

theorem leaves6_idle (c : Dev nD) (t : Fin cfg0.N) (h : t.val % 12 ≠ 11) : ((dats m 0 c).leavesExact 6 t : sProp 𝕄)
    = iprop(∃ d, owns (c : Thread nD τ) (win0_6.stage (cfg0.slots t 6)) fullShare ((dats m 0 c).before 6 t d)) :=
  Dat.leavesExact_idle (dats m 0 c) 6 t ((idle6 t).trans (decide_eq_true h)) (noflush6 t h)

theorem leaves7_side (c : Dev nD) (t : Fin cfg0.N) (h : t.val < 32) : ((dats m 0 c).leavesExact 7 t : sProp 𝕄)
    = owns (c : Thread nD τ) (win0_7.stage (cfg0.slots t 7)) fullShare (iblk m c 3 t) := by
  unfold Dat.leavesExact
  rw [show cfg0.idle 7 (cfg0.grid.coords t) = false from (idle7 t).trans (decide_eq_false (by omega)), after7, sidePt_eq t h]

/-- Past the update's blocks the buffer is left alone; at the last point, which writes it back, it still holds the last block. -/
theorem leaves7_rest (c : Dev nD) (t : Fin cfg0.N) (h : 32 ≤ t.val) (d) :
    owns (c : Thread nD τ) (win0_7.stage (cfg0.slots t 7)) fullShare ((dats m 0 c).before 7 t d) ⊢ ((dats m 0 c).leavesExact 7 t : sProp 𝕄) := by
  have hi : cfg0.idle 7 (cfg0.grid.coords t) = true := (idle7 t).trans (decide_eq_true h)
  by_cases h47 : t.val = 47
  · have hb : (dats m 0 c).before 7 t d = (dats m 0 c).after 7 t := by
      rw [(dats m 0 c).before_out_traj 7 rfl (fun _ _ => rfl) (fun t' ht' hidle _ => by
        have h32 : 32 ≤ t'.val := of_decide_eq_true ((idle7 t').symm.trans hidle)
        have hs : sidePt t' = sidePt ⟨t'.val - 1, before_lt t'⟩ := Fin.ext (by show min t'.val 31 = min (t'.val - 1) 31; omega)
        rw [after7, after7, hs]) t.val t rfl d]
      rw [if_neg (by rw [h47, kept7]; exact Bool.false_ne_true), after7, after7,
        show sidePt t = sidePt ⟨t.val - 1, before_lt t⟩ from Fin.ext (by show min t.val 31 = min (t.val - 1) 31; omega)]
    unfold Dat.leavesExact
    rw [hi, flush7 t (by omega), decide_eq_true h47, hb]
  · rw [Dat.leavesExact_idle (dats m 0 c) 7 t hi ((flush7 t (by omega)).trans (decide_eq_false h47))]
    iintro H; iexists d; iexact H

theorem leaves8_side (c : Dev nD) (t : Fin cfg0.N) (h : t.val < 32) : ((dats m 0 c).leavesExact 8 t : sProp 𝕄)
    = owns (c : Thread nD τ) (win0_8.stage (cfg0.slots t 8)) fullShare (k0_pay6 (iblk m c 2 t) (iblk m c 3 t) (iblk m c 4 t) (iblk m c 5 t)) := by
  unfold Dat.leavesExact
  rw [show cfg0.idle 8 (cfg0.grid.coords t) = false from (idle8 t).trans (decide_eq_false (by omega)), after8, sidePt_eq t h]

/-- Past the update's blocks the buffer is left alone; at the last point, which writes it back, it still holds the last block. -/
theorem leaves8_rest (c : Dev nD) (t : Fin cfg0.N) (h : 32 ≤ t.val) (d) :
    owns (c : Thread nD τ) (win0_8.stage (cfg0.slots t 8)) fullShare ((dats m 0 c).before 8 t d) ⊢ ((dats m 0 c).leavesExact 8 t : sProp 𝕄) := by
  have hi : cfg0.idle 8 (cfg0.grid.coords t) = true := (idle8 t).trans (decide_eq_true h)
  by_cases h47 : t.val = 47
  · have hb : (dats m 0 c).before 8 t d = (dats m 0 c).after 8 t := by
      rw [(dats m 0 c).before_out_traj 8 rfl (fun _ _ => rfl) (fun t' ht' hidle _ => by
        have h32 : 32 ≤ t'.val := of_decide_eq_true ((idle8 t').symm.trans hidle)
        have hs : sidePt t' = sidePt ⟨t'.val - 1, before_lt t'⟩ := Fin.ext (by show min t'.val 31 = min (t'.val - 1) 31; omega)
        rw [after8, after8, hs]) t.val t rfl d]
      rw [if_neg (by rw [h47, kept8]; exact Bool.false_ne_true), after8, after8,
        show sidePt t = sidePt ⟨t.val - 1, before_lt t⟩ from Fin.ext (by show min t.val 31 = min (t.val - 1) 31; omega)]
    unfold Dat.leavesExact
    rw [hi, flush8 t (by omega), decide_eq_true h47, hb]
  · rw [Dat.leavesExact_idle (dats m 0 c) 8 t hi ((flush8 t (by omega)).trans (decide_eq_false h47))]
    iintro H; iexists d; iexact H

theorem leaves9_side (c : Dev nD) (t : Fin cfg0.N) (h : t.val < 32) : ((dats m 0 c).leavesExact 9 t : sProp 𝕄)
    = owns (c : Thread nD τ) (win0_9.stage (cfg0.slots t 9)) fullShare (k0_pay4 (iblk m c 3 t) (iblk m c 4 t)) := by
  unfold Dat.leavesExact
  rw [show cfg0.idle 9 (cfg0.grid.coords t) = false from (idle9 t).trans (decide_eq_false (by omega)), after9, sidePt_eq t h]

/-- Past the update's blocks the buffer is left alone; at the last point, which writes it back, it still holds the last block. -/
theorem leaves9_rest (c : Dev nD) (t : Fin cfg0.N) (h : 32 ≤ t.val) (d) :
    owns (c : Thread nD τ) (win0_9.stage (cfg0.slots t 9)) fullShare ((dats m 0 c).before 9 t d) ⊢ ((dats m 0 c).leavesExact 9 t : sProp 𝕄) := by
  have hi : cfg0.idle 9 (cfg0.grid.coords t) = true := (idle9 t).trans (decide_eq_true h)
  by_cases h47 : t.val = 47
  · have hb : (dats m 0 c).before 9 t d = (dats m 0 c).after 9 t := by
      rw [(dats m 0 c).before_out_traj 9 rfl (fun _ _ => rfl) (fun t' ht' hidle _ => by
        have h32 : 32 ≤ t'.val := of_decide_eq_true ((idle9 t').symm.trans hidle)
        have hs : sidePt t' = sidePt ⟨t'.val - 1, before_lt t'⟩ := Fin.ext (by show min t'.val 31 = min (t'.val - 1) 31; omega)
        rw [after9, after9, hs]) t.val t rfl d]
      rw [if_neg (by rw [h47, kept9]; exact Bool.false_ne_true), after9, after9,
        show sidePt t = sidePt ⟨t.val - 1, before_lt t⟩ from Fin.ext (by show min t.val 31 = min (t.val - 1) 31; omega)]
    unfold Dat.leavesExact
    rw [hi, flush9 t (by omega), decide_eq_true h47, hb]
  · rw [Dat.leavesExact_idle (dats m 0 c) 9 t hi ((flush9 t (by omega)).trans (decide_eq_false h47))]
    iintro H; iexists d; iexact H

theorem leaves10_side (c : Dev nD) (t : Fin cfg0.N) (h : t.val < 32) : ((dats m 0 c).leavesExact 10 t : sProp 𝕄)
    = owns (c : Thread nD τ) (win0_10.stage (cfg0.slots t 10)) fullShare (k0_pay5 (iblk m c 3 t) (iblk m c 5 t)) := by
  unfold Dat.leavesExact
  rw [show cfg0.idle 10 (cfg0.grid.coords t) = false from (idle10 t).trans (decide_eq_false (by omega)), after10, sidePt_eq t h]

/-- Past the update's blocks the buffer is left alone; at the last point, which writes it back, it still holds the last block. -/
theorem leaves10_rest (c : Dev nD) (t : Fin cfg0.N) (h : 32 ≤ t.val) (d) :
    owns (c : Thread nD τ) (win0_10.stage (cfg0.slots t 10)) fullShare ((dats m 0 c).before 10 t d) ⊢ ((dats m 0 c).leavesExact 10 t : sProp 𝕄) := by
  have hi : cfg0.idle 10 (cfg0.grid.coords t) = true := (idle10 t).trans (decide_eq_true h)
  by_cases h47 : t.val = 47
  · have hb : (dats m 0 c).before 10 t d = (dats m 0 c).after 10 t := by
      rw [(dats m 0 c).before_out_traj 10 rfl (fun _ _ => rfl) (fun t' ht' hidle _ => by
        have h32 : 32 ≤ t'.val := of_decide_eq_true ((idle10 t').symm.trans hidle)
        have hs : sidePt t' = sidePt ⟨t'.val - 1, before_lt t'⟩ := Fin.ext (by show min t'.val 31 = min (t'.val - 1) 31; omega)
        rw [after10, after10, hs]) t.val t rfl d]
      rw [if_neg (by rw [h47, kept10]; exact Bool.false_ne_true), after10, after10,
        show sidePt t = sidePt ⟨t.val - 1, before_lt t⟩ from Fin.ext (by show min t.val 31 = min (t.val - 1) 31; omega)]
    unfold Dat.leavesExact
    rw [hi, flush10 t (by omega), decide_eq_true h47, hb]
  · rw [Dat.leavesExact_idle (dats m 0 c) 10 t hi ((flush10 t (by omega)).trans (decide_eq_false h47))]
    iintro H; iexists d; iexact H

/-! ## The body's obligation -/

/-- What the body is called with at point `t`, -/
def atCall (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def atReturn (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2000000 in
theorem at_sideFirst (c : Dev nD) (t : Fin cfg0.N) (hs : t.val < 32) (hk : t.val % 12 = 0) :
    atCall m c t ⊢ wp frame (wpE (defs₀ (F := F)) Variants.none c none) Set.univ (bodyAt0 t) (fun _ => atReturn m c t) := by
  unfold atCall atReturn bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ, Phi_cast m c t,
    leaves0, leaves1, leaves2, leaves3, leaves4, leaves5, leaves6_idle m c t (by omega), accAt_first m c t hk]
  rw [leaves7_side m c t hs, leaves8_side m c t hs, leaves9_side m c t hs, leaves10_side m c t hs]
  by_cases hz : t.val = 0
  · rw [PhiS_zero m c _ _ hz, inv_eq]
    iintro ⟨⟨⟨%s0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sideFirst c (grid0.coords t) _ _ _ _ _ _ _ _ _ _ _ _ _ _ _ _ _ _ _ _ _ _ _ _ ((side_iff t).mpr hs) ((first_iff t).mpr hk) (fun h => ((mid_iff t).mp h).1 hk) (fun h => by have := (last_iff t).mp h; omega) (iblk m c 0 t) (iblk m c 1 t) (iblk m c 2 t) (iblk m c 3 t) (iblk m c 4 t) (iblk m c 5 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iexact H10
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sideFirst c (grid0.coords t) _ _ _ _ _ _ _ _ _ _ _ _ _ _ _ _ _ _ _ _ _ _ _ _ ((side_iff t).mpr hs) ((first_iff t).mpr hk) (fun h => ((mid_iff t).mp h).1 hk) (fun h => by have := (last_iff t).mp h; omega) (iblk m c 0 t) (iblk m c 1 t) (iblk m c 2 t) (iblk m c 3 t) (iblk m c 4 t) (iblk m c 5 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iexact H10

set_option maxHeartbeats 2000000 in
theorem at_sideMid (c : Dev nD) (t : Fin cfg0.N) (hs : t.val < 32) (hk : t.val % 12 ≠ 0 ∧ t.val % 12 ≠ 11) :
    atCall m c t ⊢ wp frame (wpE (defs₀ (F := F)) Variants.none c none) Set.univ (bodyAt0 t) (fun _ => atReturn m c t) := by
  unfold atCall atReturn bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ, Phi_cast m c t,
    leaves0, leaves1, leaves2, leaves3, leaves4, leaves5, leaves6_idle m c t hk.2, accAt_mid m c t hk.1 hk.2]
  rw [leaves7_side m c t hs, leaves8_side m c t hs, leaves9_side m c t hs, leaves10_side m c t hs]
  rw [PhiS_pos m c _ _ (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sideMid c (grid0.coords t) _ _ _ _ _ _ _ _ _ _ _ _ _ _ _ _ _ _ _ _ _ _ _ _ ((side_iff t).mpr hs) (fun h => hk.1 ((first_iff t).mp h)) ((mid_iff t).mpr hk) (fun h => hk.2 ((last_iff t).mp h)) (iblk m c 0 t) (iblk m c 1 t) (iblk m c 2 t) (iblk m c 3 t) (iblk m c 4 t) (iblk m c 5 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  iexact H10

set_option maxHeartbeats 2000000 in
theorem at_sideLast (c : Dev nD) (t : Fin cfg0.N) (hs : t.val < 32) (hk : t.val % 12 = 11) :
    atCall m c t ⊢ wp frame (wpE (defs₀ (F := F)) Variants.none c none) Set.univ (bodyAt0 t) (fun _ => atReturn m c t) := by
  unfold atCall atReturn bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ, Phi_cast m c t,
    leaves0, leaves1, leaves2, leaves3, leaves4, leaves5, leaves6_last m c t hk, accAt_last m c t hk]
  rw [leaves7_side m c t hs, leaves8_side m c t hs, leaves9_side m c t hs, leaves10_side m c t hs]
  rw [PhiS_pos m c _ _ (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sideLast c (grid0.coords t) _ _ _ _ _ _ _ _ _ _ _ _ _ _ _ _ _ _ _ _ _ _ _ _ ((side_iff t).mpr hs) (fun h => by have := (first_iff t).mp h; omega) (fun h => ((mid_iff t).mp h).2 hk) ((last_iff t).mpr hk) (iblk m c 0 t) (iblk m c 1 t) (iblk m c 2 t) (iblk m c 3 t) (iblk m c 4 t) (iblk m c 5 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem at_plainFirst (c : Dev nD) (t : Fin cfg0.N) (hs : 32 ≤ t.val) (hk : t.val % 12 = 0) :
    atCall m c t ⊢ wp frame (wpE (defs₀ (F := F)) Variants.none c none) Set.univ (bodyAt0 t) (fun _ => atReturn m c t) := by
  unfold atCall atReturn bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ, Phi_cast m c t,
    leaves0, leaves1, leaves2, leaves3, leaves4, leaves5, leaves6_idle m c t (by omega), accAt_first m c t hk]
  rw [PhiS_pos m c _ _ (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (plainFirst c (grid0.coords t) _ _ _ _ _ _ _ _ _ _ _ _ _ _ _ _ _ _ _ _ _ _ _ _ (fun h => by have := (side_iff t).mp h; omega) ((first_iff t).mpr hk) (fun h => ((mid_iff t).mp h).1 hk) (fun h => by have := (last_iff t).mp h; omega) (iblk m c 0 t) (iblk m c 1 t) (iblk m c 2 t) (iblk m c 3 t) (iblk m c 4 t) (iblk m c 5 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iapply (leaves7_rest m c t hs _); iexact H7
  isplitl [H8]; · iapply (leaves8_rest m c t hs _); iexact H8
  isplitl [H9]; · iapply (leaves9_rest m c t hs _); iexact H9
  iapply (leaves10_rest m c t hs _); iexact H10

set_option maxHeartbeats 2000000 in
theorem at_plainMid (c : Dev nD) (t : Fin cfg0.N) (hs : 32 ≤ t.val) (hk : t.val % 12 ≠ 0 ∧ t.val % 12 ≠ 11) :
    atCall m c t ⊢ wp frame (wpE (defs₀ (F := F)) Variants.none c none) Set.univ (bodyAt0 t) (fun _ => atReturn m c t) := by
  unfold atCall atReturn bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ, Phi_cast m c t,
    leaves0, leaves1, leaves2, leaves3, leaves4, leaves5, leaves6_idle m c t hk.2, accAt_mid m c t hk.1 hk.2]
  rw [PhiS_pos m c _ _ (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (plainMid c (grid0.coords t) _ _ _ _ _ _ _ _ _ _ _ _ _ _ _ _ _ _ _ _ _ _ _ _ (fun h => by have := (side_iff t).mp h; omega) (fun h => hk.1 ((first_iff t).mp h)) ((mid_iff t).mpr hk) (fun h => hk.2 ((last_iff t).mp h)) (iblk m c 0 t) (iblk m c 1 t) (iblk m c 2 t) (iblk m c 3 t) (iblk m c 4 t) (iblk m c 5 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iapply (leaves7_rest m c t hs _); iexact H7
  isplitl [H8]; · iapply (leaves8_rest m c t hs _); iexact H8
  isplitl [H9]; · iapply (leaves9_rest m c t hs _); iexact H9
  iapply (leaves10_rest m c t hs _); iexact H10

set_option maxHeartbeats 2000000 in
theorem at_plainLast (c : Dev nD) (t : Fin cfg0.N) (hs : 32 ≤ t.val) (hk : t.val % 12 = 11) :
    atCall m c t ⊢ wp frame (wpE (defs₀ (F := F)) Variants.none c none) Set.univ (bodyAt0 t) (fun _ => atReturn m c t) := by
  unfold atCall atReturn bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ, Phi_cast m c t,
    leaves0, leaves1, leaves2, leaves3, leaves4, leaves5, leaves6_last m c t hk, accAt_last m c t hk]
  rw [PhiS_pos m c _ _ (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (plainLast c (grid0.coords t) _ _ _ _ _ _ _ _ _ _ _ _ _ _ _ _ _ _ _ _ _ _ _ _ (fun h => by have := (side_iff t).mp h; omega) (fun h => by have := (first_iff t).mp h; omega) (fun h => ((mid_iff t).mp h).2 hk) ((last_iff t).mpr hk) (iblk m c 0 t) (iblk m c 1 t) (iblk m c 2 t) (iblk m c 3 t) (iblk m c 4 t) (iblk m c 5 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_rest m c t hs _); iexact H7
  isplitl [H8]; · iapply (leaves8_rest m c t hs _); iexact H8
  isplitl [H9]; · iapply (leaves9_rest m c t hs _); iexact H9
  iapply (leaves10_rest m c t hs _); iexact H10

/-- The body's triple at any point. -/
theorem body_triple (c : Dev nD) (t : Fin cfg0.N) :
    atCall m c t ⊢ wp frame (wpE (defs₀ (F := F)) Variants.none c none) Set.univ (bodyAt0 t) (fun _ => atReturn m c t) := by
  by_cases hs : t.val < 32
  · by_cases h0 : t.val % 12 = 0
    · exact at_sideFirst m c t hs h0
    · by_cases h11 : t.val % 12 = 11
      · exact at_sideLast m c t hs h11
      · exact at_sideMid m c t hs ⟨h0, h11⟩
  · by_cases h0 : t.val % 12 = 0
    · exact at_plainFirst m c t (by omega) h0
    · by_cases h11 : t.val % 12 = 11
      · exact at_plainLast m c t (by omega) h11
      · exact at_plainMid m c t (by omega) ⟨h0, h11⟩

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_triple m c t) rfl .rfl fun _ => .rfl

theorem inv_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 48 := N_0; omega), inv_eq]
  iintro ⟨HS, Hg⟩
  isplitl [HS]
  · iexists _; iexact HS
  iexact Hg

set_option backward.isDefEq.respectTransparency.types false in
/-- From any memory with zero counters every weakly fair execution of @main terminates, with every array of the
    pipeline at what the proof data says, every other buffer as the region found it and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := inv_in m) (hout := inv_out m)

end Cert.QkvXIdeal.Hand

end
-- ==== Proof.MixQkvX.lean ====
/- The gradient of the norm's output through the queries', keys' and values' matrix: the twelve partial products the kernel adds up
   in its accumulator are the reference's product, its 6144 terms taken 512 at a time; beside it each of the first 32 points
   updates 64 rows of a weight shard. -/
module

public import proofs.«01_k».proof.Proof.QkvXRun
public import Idealize.ShloMosaic.Lib.Pipeline.Value
public import proofs.«01_k».proof.Proof.Gen.QkvXRefIdeal.Read
public import Idealize.ShloMosaic.Lib.Pipeline.ValueKit.Geometry
public import Idealize.ShloMosaic.Lib.Pipeline.ValueKit.Acc
public import Idealize.ShloMosaic.Lib.Pointwise
public import Idealize.ShloMosaic.Lib.StableHlo.Run
public import Idealize.ShloMosaic.Lib.Claim

@[expose] public section

set_option maxRecDepth 16384

noncomputable section

namespace Cert.QkvXRefIdeal.Hand

open Cert.QkvXRefIdeal Cert.QkvXRefIdeal.Gen Cert.QkvXRefIdeal.Read
open Idealize.ShloMosaic

/-- The reference's gradient of the norm's output in row `a`, column `b`. -/
theorem at_index (w : FVec Ideal S2048x6144 .bf16) (d : FVec Ideal S3x4096x2048 .bf16)
    (a : Fin 4096) (b : Fin 2048) : val_main_v6 (F := Ideal) w d (ix2 a b)
      = (∑ k : Fin 6144, d (ix3 (⟨k.val / 2048, by omega⟩ : Fin 3) a (⟨k.val % 2048, by omega⟩ : Fin 2048)) * w (ix2 b k) : EReal) := by
  pointwise [val_main_v6, val_main_v5, val_main_v4, val_main_v1, val_main_v0]

/-- The first moment of one element. -/
def mean (g p : EReal) : EReal := Scalar.ofBits (F := Ideal) .f32 0x3F666666#32 * p + Scalar.ofBits (F := Ideal) .f32 0x3DCCCCCD#32 * g

/-- The second moment of one element. -/
def square (g p : EReal) : EReal := Scalar.ofBits (F := Ideal) .f32 0x3F7FBE77#32 * p + Scalar.ofBits (F := Ideal) .f32 0x3A83126F#32 * (g * g)

/-- The update of one element. -/
def change (w g p q : EReal) : EReal :=
  Scalar.ofBits (F := Ideal) .f32 0xBA83126F#32 * (FloatOps.divf (F := Ideal) (φ := .f32)
    (FloatOps.divf (F := Ideal) (φ := .f32) (mean g p) (Scalar.ofBits .f32 0x3F26BD02#32))
    (FloatOps.addf (F := Ideal) (φ := .f32) (FloatOps.sqrt (F := Ideal) (φ := .f32) (FloatOps.divf (F := Ideal) (φ := .f32) (square g q) (Scalar.ofBits .f32 0x3C231ACC#32)))
      (Scalar.ofBits .f32 0x322BCC77#32)) + Scalar.ofBits (F := Ideal) .f32 0x3C23D70A#32 * w)

theorem mean_at (g p : FVec Ideal S2048x2048 .f32) (a b : Fin 2048) : val_main_v11 (F := Ideal) g p (ix2 a b) = mean (g (ix2 a b)) (p (ix2 a b)) := by
  pointwise [mean, val_main_v11, val_main_v10, val_main_v9, val_main_v8, val_main_v7, val_main_cst_0, val_main_cst_1]

theorem square_at (g q : FVec Ideal S2048x2048 .f32) (a b : Fin 2048) : val_main_v17 (F := Ideal) g q (ix2 a b) = square (g (ix2 a b)) (q (ix2 a b)) := by
  pointwise [square, val_main_v17, val_main_v16, val_main_v15, val_main_v14, val_main_v13, val_main_v12, val_main_cst_2, val_main_cst_3]

theorem change_at (w g p q : FVec Ideal S2048x2048 .f32) (a b : Fin 2048) : val_main_v30 (F := Ideal) w g p q (ix2 a b)
    = change (w (ix2 a b)) (g (ix2 a b)) (p (ix2 a b)) (q (ix2 a b)) := by
  pointwise [change, mean, square, val_main_v30, val_main_v29, val_main_v28, val_main_v27, val_main_v26, val_main_v25, val_main_v24, val_main_v23, val_main_v22,
    val_main_v21, val_main_v20, val_main_v19, val_main_v18, val_main_cst_4, val_main_cst_5, val_main_cst_6, val_main_cst_7, val_main_cst_8,
    val_main_v17, val_main_v16, val_main_v15, val_main_v14, val_main_v13, val_main_v12, val_main_cst_2, val_main_cst_3,
    val_main_v11, val_main_v10, val_main_v9, val_main_v8, val_main_v7, val_main_cst_0, val_main_cst_1]

end Cert.QkvXRefIdeal.Hand

namespace Cert.QkvXIdeal.Hand

open Cert.QkvXIdeal Cert.QkvXIdeal.Gen
open Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![t.val % 12 / 4, t.val / 12, t.val % 12 % 4] := (by decide +kernel : ∀ t : Fin grid0.N, _)
theorem index1 : ∀ t : Fin cfg0.N, win0_1.index t = ![t.val % 12 / 3, 0, t.val % 12 % 3] := (by decide +kernel : ∀ t : Fin grid0.N, _)
theorem index6 : ∀ t : Fin cfg0.N, win0_6.index t = ![t.val / 12, 0] := (by decide +kernel : ∀ t : Fin grid0.N, _)
theorem index2 : ∀ t : Fin cfg0.N, win0_2.index t = ![min t.val 31, 0] := (by decide +kernel : ∀ t : Fin grid0.N, _)
theorem index3 : ∀ t : Fin cfg0.N, win0_3.index t = ![min t.val 31, 0] := (by decide +kernel : ∀ t : Fin grid0.N, _)
theorem index4 : ∀ t : Fin cfg0.N, win0_4.index t = ![min t.val 31, 0] := (by decide +kernel : ∀ t : Fin grid0.N, _)
theorem index5 : ∀ t : Fin cfg0.N, win0_5.index t = ![min t.val 31, 0] := (by decide +kernel : ∀ t : Fin grid0.N, _)
theorem index7 : ∀ t : Fin cfg0.N, win0_7.index t = ![min t.val 31, 0] := (by decide +kernel : ∀ t : Fin grid0.N, _)
theorem index8 : ∀ t : Fin cfg0.N, win0_8.index t = ![min t.val 31, 0] := (by decide +kernel : ∀ t : Fin grid0.N, _)
theorem index9 : ∀ t : Fin cfg0.N, win0_9.index t = ![min t.val 31, 0] := (by decide +kernel : ∀ t : Fin grid0.N, _)
theorem index10 : ∀ t : Fin cfg0.N, win0_10.index t = ![min t.val 31, 0] := (by decide +kernel : ∀ t : Fin grid0.N, _)

theorem point_lt (t : Fin cfg0.N) : t.val < 48 := by have := t.isLt; have e : cfg0.N = 48 := N_0; omega

/-- Block `t`'s row. -/
def row (t : Fin cfg0.N) (r : Fin 1024) : Fin 4096 := ⟨t.val / 12 * 1024 + r.val, by have := point_lt t; omega⟩
/-- The row of the shard that block `t` of the update holds. -/
def line (t : Fin cfg0.N) (r : Fin 64) : Fin 2048 := ⟨min t.val 31 * 64 + r.val, by have := r.isLt; omega⟩

theorem line_side (t : Fin cfg0.N) (r : Fin 64) : line (sidePt t) r = line t r :=
  Fin.ext (by show min (min t.val 31) 31 * 64 + r.val = min t.val 31 * 64 + r.val; omega)

/-- The weight cut into four stacks of 1536 columns, as the launch is given it. -/
def cutw (w : FVec Ideal S2048x6144 .bf16) : FVec Ideal S4x2048x1536 .bf16 :=
  transpose S4x2048x1536 [1, 0, 2] (shapeCast S2048x4x1536 w shapeCasts_S2048x6144_S2048x4x1536) transposes_S2048x4x1536_S4x2048x1536_1_0_2

theorem cut_at (w : FVec Ideal S2048x6144 .bf16) (s : Fin 4) (a : Fin 2048) (b : Fin 1536) :
    cutw w (ix3 s a b) = w (ix2 a ⟨s.val * 1536 + b.val, by omega⟩) := by
  pointwise [cutw]

theorem V_cut (c : Dev nD) : V m c main_v1 = cutw (m (c.tc.loc main_arg0)) := by
  dsimp only [V, hostOps0]
  after_results_simp
  rfl

theorem blk0_at (c : Dev nD) (t : Fin cfg0.N) (r : Fin 1024) (k : Fin 512) :
    iblk m c 0 t (ix3 (0 : Fin 1) r k)
      = V m c main_arg1 (ix3 (⟨t.val % 12 / 4, by omega⟩ : Fin 3) (row t r) (⟨t.val % 12 % 4 * 512 + k.val, by omega⟩ : Fin 2048)) := by
  blk_simp [iblk]
  refine congrArg (V m c main_arg1) (funext fun b => Fin.ext ?_)
  match b with
  | ⟨0, _⟩ => blk_simp [index0]; rfl
  | ⟨1, _⟩ => blk_simp [index0]; rfl
  | ⟨2, _⟩ => blk_simp [index0]

theorem blk1_at (c : Dev nD) (t : Fin cfg0.N) (l : Fin 2048) (k : Fin 512) :
    iblk m c 1 t (ix3 (0 : Fin 1) l k)
      = V m c main_v1 (ix3 (⟨t.val % 12 / 3, by omega⟩ : Fin 4) l (⟨t.val % 12 % 3 * 512 + k.val, by omega⟩ : Fin 1536)) := by
  blk_simp [iblk]
  refine congrArg (V m c main_v1) (funext fun b => Fin.ext ?_)
  match b with
  | ⟨0, _⟩ => blk_simp [index1]; rfl
  | ⟨1, _⟩ => blk_simp [index1]
  | ⟨2, _⟩ => blk_simp [index1]

theorem blk2_at (c : Dev nD) (t : Fin cfg0.N) (r : Fin 64) (l : Fin 2048) :
    iblk m c 2 t (ix2 r l) = m (c.tc.loc main_arg2) (ix2 (line t r) l) := by
  rw [← V_main_arg2 m c]
  blk_simp [iblk]
  refine congrArg (V m c main_arg2) (funext fun b => Fin.ext ?_)
  match b with
  | ⟨0, _⟩ => blk_simp [index2]; rfl
  | ⟨1, _⟩ => blk_simp [index2]

theorem blk3_at (c : Dev nD) (t : Fin cfg0.N) (r : Fin 64) (l : Fin 2048) :
    iblk m c 3 t (ix2 r l) = m (c.tc.loc main_arg3) (ix2 (line t r) l) := by
  rw [← V_main_arg3 m c]
  blk_simp [iblk]
  refine congrArg (V m c main_arg3) (funext fun b => Fin.ext ?_)
  match b with
  | ⟨0, _⟩ => blk_simp [index3]; rfl
  | ⟨1, _⟩ => blk_simp [index3]

theorem blk4_at (c : Dev nD) (t : Fin cfg0.N) (r : Fin 64) (l : Fin 2048) :
    iblk m c 4 t (ix2 r l) = m (c.tc.loc main_arg4) (ix2 (line t r) l) := by
  rw [← V_main_arg4 m c]
  blk_simp [iblk]
  refine congrArg (V m c main_arg4) (funext fun b => Fin.ext ?_)
  match b with
  | ⟨0, _⟩ => blk_simp [index4]; rfl
  | ⟨1, _⟩ => blk_simp [index4]

theorem blk5_at (c : Dev nD) (t : Fin cfg0.N) (r : Fin 64) (l : Fin 2048) :
    iblk m c 5 t (ix2 r l) = m (c.tc.loc main_arg5) (ix2 (line t r) l) := by
  rw [← V_main_arg5 m c]
  blk_simp [iblk]
  refine congrArg (V m c main_arg5) (funext fun b => Fin.ext ?_)
  match b with
  | ⟨0, _⟩ => blk_simp [index5]; rfl
  | ⟨1, _⟩ => blk_simp [index5]

/-- The partial product of a pair of blocks. -/
def part (x : FVec Ideal S1x1024x512 .bf16) (y : FVec Ideal S1x2048x512 .bf16) (j : S1024x2048.Idx) : EReal :=
  ∑ k : Fin 512, x (ix3 (0 : Fin 1) (j 0) k) * y (ix3 (0 : Fin 1) (j 1) k)

theorem pay1_at (x : FVec Ideal S1x1024x512 .bf16) (y : FVec Ideal S1x2048x512 .bf16) (j : S1024x2048.Idx) :
    k0_pay1 (F := Ideal) x y j = (0 : EReal) + part x y j := by
  rw [zero_add]
  pointwise [k0_pay1, part]

theorem pay2_at (s : FVec Ideal S1024x2048 .f32) (x : FVec Ideal S1x1024x512 .bf16) (y : FVec Ideal S1x2048x512 .bf16) (j : S1024x2048.Idx) :
    k0_pay2 (F := Ideal) s x y j = (s j + part x y j : EReal) := by
  pointwise [k0_pay2, part]

theorem pay3_at (s : FVec Ideal S1024x2048 .f32) (x : FVec Ideal S1x1024x512 .bf16) (y : FVec Ideal S1x2048x512 .bf16) (j : S1024x2048.Idx) :
    k0_pay3 (F := Ideal) s x y j = (s j + part x y j : EReal) := by
  pointwise [k0_pay3, part]

theorem pay4_at (g p : FVec Ideal S64x2048 .f32) (r : Fin 64) (l : Fin 2048) : k0_pay4 (F := Ideal) g p (ix2 r l) = Cert.QkvXRefIdeal.Hand.mean (g (ix2 r l)) (p (ix2 r l)) := by
  pointwise [k0_pay4, Cert.QkvXRefIdeal.Hand.mean]

theorem pay5_at (g q : FVec Ideal S64x2048 .f32) (r : Fin 64) (l : Fin 2048) : k0_pay5 (F := Ideal) g q (ix2 r l) = Cert.QkvXRefIdeal.Hand.square (g (ix2 r l)) (q (ix2 r l)) := by
  pointwise [k0_pay5, Cert.QkvXRefIdeal.Hand.square]

theorem pay6_at (w g p q : FVec Ideal S64x2048 .f32) (r : Fin 64) (l : Fin 2048) : k0_pay6 (F := Ideal) w g p q (ix2 r l)
    = Cert.QkvXRefIdeal.Hand.change (w (ix2 r l)) (g (ix2 r l)) (p (ix2 r l)) (q (ix2 r l)) := by
  pointwise [k0_pay6, k0_pay4, k0_pay5, Cert.QkvXRefIdeal.Hand.change, Cert.QkvXRefIdeal.Hand.mean, Cert.QkvXRefIdeal.Hand.square]

/-- The running sum with a point's own product: the accumulator, and at a run's last point, which leaves it, its sum. -/
def total (c : Dev nD) (n : ℕ) (h : n < cfg0.N) (j : S1024x2048.Idx) : EReal :=
  if n % 12 = 11 then accAt (F := Ideal) m c (n - 1) (Nat.lt_of_le_of_lt (Nat.sub_le _ _) h) j
    + part (iblk m c 0 ⟨n, h⟩) (iblk m c 1 ⟨n, h⟩) j
  else accAt (F := Ideal) m c n h j

theorem total_first (c : Dev nD) (t : Fin cfg0.N) (h : t.val % 12 = 0) (j : S1024x2048.Idx) :
    total m c t.val t.isLt j = 0 + part (iblk m c 0 t) (iblk m c 1 t) j := by
  unfold total
  rw [if_neg (by omega), accAt_first m c t h]
  exact pay1_at _ _ _

theorem total_next (c : Dev nD) (t : Fin cfg0.N) (h : ¬t.val % 12 = 0) (j : S1024x2048.Idx) :
    total m c t.val t.isLt j
      = total m c (t.val - 1) (Nat.lt_of_le_of_lt (Nat.sub_le _ _) t.isLt) j + part (iblk m c 0 t) (iblk m c 1 t) j := by
  unfold total
  by_cases h11 : t.val % 12 = 11
  · rw [if_pos h11, if_neg (by omega)]
  · rw [if_neg h11, if_neg (by omega), accAt_mid m c t h h11]
    exact pay2_at _ _ _ _

/-- What a run's last point writes back. -/
theorem out_at (c : Dev nD) (t : Fin cfg0.N) (h : t.val % 12 = 11) (r : Fin 1024) (l : Fin 2048) :
    k0_pay3 (F := Ideal) (accAt m c (t.val - 1) (before_lt t)) (iblk m c 0 t) (iblk m c 1 t) (ix2 r l)
      = Cert.QkvXRefIdeal.Read.val_main_v6 (F := Ideal) (m (c.tc.loc main_arg0)) (m (c.tc.loc main_arg1)) (ix2 (row t r) l) := by
  have e : k0_pay3 (F := Ideal) (accAt m c (t.val - 1) (before_lt t)) (iblk m c 0 t) (iblk m c 1 t) (ix2 r l)
      = total m c t.val t.isLt (ix2 r l) := (pay3_at _ _ _ _).trans (if_pos h).symm
  rw [e, Pipeline.eq_sum_fin_of_reset_step_apply_of_flush (fun n h => total m c n h) 12 (fun _ => 0)
    (fun t => part (iblk m c 0 t) (iblk m c 1 t)) (total_first m c) (total_next m c) t h (ix2 r l), zero_add]
  refine Eq.trans ?_ (Cert.QkvXRefIdeal.Hand.at_index _ _ _ _).symm
  unfold part
  refine Fin.sum_mul_add_congr fun s k hl => ?_
  have hs := s.isLt
  have hk := k.isLt
  have ht := point_lt t
  refine congrArg₂ (fun x y : EReal => x * y) ((blk0_at m c _ r k).trans ?_) ((blk1_at m c _ l k).trans ?_)
  · rw [V_main_arg1]
    refine congrArg (m (c.tc.loc main_arg1)) (congr (congrArg₂ ix3 (Fin.ext ?_) (Fin.ext ?_)) (Fin.ext ?_))
    · dsimp only; omega
    · simp only [row]; omega
    · dsimp only; omega
  · rw [V_cut]
    refine (cut_at _ _ _ _).trans (congrArg (m (c.tc.loc main_arg0)) (congrArg₂ ix2 rfl (Fin.ext ?_)))
    dsimp only; omega

theorem flush6 : ∀ t : Fin cfg0.N, (cfg0.win 6).flush t = true ↔ t.val % 12 = 11 := by decide +kernel

/-- The gradient of the norm's output after the run. -/
theorem final6 (c : Dev nD) : (dats m 0 c).arrAt 6 cfg0.N
    = Cert.QkvXRefIdeal.Read.val_main_v6 (F := Ideal) (m (c.tc.loc main_arg0)) (m (c.tc.loc main_arg1)) := by
  refine (dats m 0 c).arrAt_eq_of_covers 6 _ (by decide +kernel) fun t hf y => ?_
  rw [after6]
  blk_simp
  have e : y = ix2 (y 0) (y 1) := funext fun b => by match b with | ⟨0, _⟩ => rfl | ⟨1, _⟩ => rfl
  rw [e]
  refine (out_at m c t ((flush6 t).mp hf) (y 0) (y 1)).trans (congrArg _ (Eq.symm ?_))
  funext b
  refine Fin.ext ?_
  match b with
  | ⟨0, _⟩ => blk_simp [index6]; rfl
  | ⟨1, _⟩ => blk_simp [index6]

/-- What the buffer of the gradient the update is given holds at point `t`. -/
theorem side7_at (c : Dev nD) (t : Fin cfg0.N) (r : Fin 64) (l : Fin 2048) :
    (iblk m c 3 (sidePt t) : FVec Ideal S64x2048 .f32) (ix2 r l) = (m (c.tc.loc main_arg3) : FVec Ideal S2048x2048 .f32) (ix2 (line t r) l) := by
  rw [blk3_at, line_side]

/-- The gradient the update is given after the run. -/
theorem final7 (c : Dev nD) : (dats m 0 c).arrAt 7 cfg0.N = m (c.tc.loc main_arg3) := by
  refine (dats m 0 c).arrAt_eq_of_covers 7 _ (by decide +kernel) fun t hf y => ?_
  rw [after7]
  blk_simp
  have e : y = ix2 (y 0) (y 1) := funext fun b => by match b with | ⟨0, _⟩ => rfl | ⟨1, _⟩ => rfl
  rw [e]
  refine (side7_at m c t (y 0) (y 1)).trans (congrArg _ (Eq.symm ?_))
  funext b
  refine Fin.ext ?_
  match b with
  | ⟨0, _⟩ => blk_simp [index7]; rfl
  | ⟨1, _⟩ => blk_simp [index7]

/-- What the buffer of the update holds at point `t`. -/
theorem side8_at (c : Dev nD) (t : Fin cfg0.N) (r : Fin 64) (l : Fin 2048) :
    (k0_pay6 (F := Ideal) (iblk m c 2 (sidePt t)) (iblk m c 3 (sidePt t)) (iblk m c 4 (sidePt t)) (iblk m c 5 (sidePt t)) : FVec Ideal S64x2048 .f32) (ix2 r l) = (Cert.QkvXRefIdeal.Read.val_main_v30 (F := Ideal) (m (c.tc.loc main_arg2)) (m (c.tc.loc main_arg3)) (m (c.tc.loc main_arg4)) (m (c.tc.loc main_arg5)) : FVec Ideal S2048x2048 .f32) (ix2 (line t r) l) := by
  rw [Cert.QkvXRefIdeal.Hand.change_at, pay6_at, blk2_at, blk3_at, blk4_at, blk5_at, line_side]

/-- The update after the run. -/
theorem final8 (c : Dev nD) : (dats m 0 c).arrAt 8 cfg0.N = Cert.QkvXRefIdeal.Read.val_main_v30 (F := Ideal) (m (c.tc.loc main_arg2)) (m (c.tc.loc main_arg3)) (m (c.tc.loc main_arg4)) (m (c.tc.loc main_arg5)) := by
  refine (dats m 0 c).arrAt_eq_of_covers 8 _ (by decide +kernel) fun t hf y => ?_
  rw [after8]
  blk_simp
  have e : y = ix2 (y 0) (y 1) := funext fun b => by match b with | ⟨0, _⟩ => rfl | ⟨1, _⟩ => rfl
  rw [e]
  refine (side8_at m c t (y 0) (y 1)).trans (congrArg _ (Eq.symm ?_))
  funext b
  refine Fin.ext ?_
  match b with
  | ⟨0, _⟩ => blk_simp [index8]; rfl
  | ⟨1, _⟩ => blk_simp [index8]

/-- What the buffer of the first moment holds at point `t`. -/
theorem side9_at (c : Dev nD) (t : Fin cfg0.N) (r : Fin 64) (l : Fin 2048) :
    (k0_pay4 (F := Ideal) (iblk m c 3 (sidePt t)) (iblk m c 4 (sidePt t)) : FVec Ideal S64x2048 .f32) (ix2 r l) = (Cert.QkvXRefIdeal.Read.val_main_v11 (F := Ideal) (m (c.tc.loc main_arg3)) (m (c.tc.loc main_arg4)) : FVec Ideal S2048x2048 .f32) (ix2 (line t r) l) := by
  rw [Cert.QkvXRefIdeal.Hand.mean_at, pay4_at, blk3_at, blk4_at, line_side]

/-- The first moment after the run. -/
theorem final9 (c : Dev nD) : (dats m 0 c).arrAt 9 cfg0.N = Cert.QkvXRefIdeal.Read.val_main_v11 (F := Ideal) (m (c.tc.loc main_arg3)) (m (c.tc.loc main_arg4)) := by
  refine (dats m 0 c).arrAt_eq_of_covers 9 _ (by decide +kernel) fun t hf y => ?_
  rw [after9]
  blk_simp
  have e : y = ix2 (y 0) (y 1) := funext fun b => by match b with | ⟨0, _⟩ => rfl | ⟨1, _⟩ => rfl
  rw [e]
  refine (side9_at m c t (y 0) (y 1)).trans (congrArg _ (Eq.symm ?_))
  funext b
  refine Fin.ext ?_
  match b with
  | ⟨0, _⟩ => blk_simp [index9]; rfl
  | ⟨1, _⟩ => blk_simp [index9]

/-- What the buffer of the second moment holds at point `t`. -/
theorem side10_at (c : Dev nD) (t : Fin cfg0.N) (r : Fin 64) (l : Fin 2048) :
    (k0_pay5 (F := Ideal) (iblk m c 3 (sidePt t)) (iblk m c 5 (sidePt t)) : FVec Ideal S64x2048 .f32) (ix2 r l) = (Cert.QkvXRefIdeal.Read.val_main_v17 (F := Ideal) (m (c.tc.loc main_arg3)) (m (c.tc.loc main_arg5)) : FVec Ideal S2048x2048 .f32) (ix2 (line t r) l) := by
  rw [Cert.QkvXRefIdeal.Hand.square_at, pay5_at, blk3_at, blk5_at, line_side]

/-- The second moment after the run. -/
theorem final10 (c : Dev nD) : (dats m 0 c).arrAt 10 cfg0.N = Cert.QkvXRefIdeal.Read.val_main_v17 (F := Ideal) (m (c.tc.loc main_arg3)) (m (c.tc.loc main_arg5)) := by
  refine (dats m 0 c).arrAt_eq_of_covers 10 _ (by decide +kernel) fun t hf y => ?_
  rw [after10]
  blk_simp
  have e : y = ix2 (y 0) (y 1) := funext fun b => by match b with | ⟨0, _⟩ => rfl | ⟨1, _⟩ => rfl
  rw [e]
  refine (side10_at m c t (y 0) (y 1)).trans (congrArg _ (Eq.symm ?_))
  funext b
  refine Fin.ext ?_
  match b with
  | ⟨0, _⟩ => blk_simp [index10]; rfl
  | ⟨1, _⟩ => blk_simp [index10]

/-- The whole run: each result is what the launch's points have written back, each argument unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_v2_2) = (dats m 0 c).arrAt 8 cfg0.N
      ∧ r.2.mem ((c.tc : Thread nD τ).loc main_v2_3) = (dats m 0 c).arrAt 9 cfg0.N
      ∧ r.2.mem ((c.tc : Thread nD τ).loc main_v2_4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.1 c).1 6, (h.1.1 c).1 7, (h.1.1 c).1 8, (h.1.1 c).1 9, (h.1.1 c).1 10, h.2 c⟩)
    (θ_run_and (run_main m ρ) (frame_of m ρ (dats m) (dats_A m) ((θ_run defs _ _).mono (fun _ h => h.1) (run_main m ρ))))

end Cert.QkvXIdeal.Hand
-- ==== Proof.MixSame.lean ====
/- The products and gates of the rest of the block: each program runs, leaves its arguments unchanged and every semaphore at
   zero, and each kernel's results are its reference's. -/
module

public import proofs.«01_k».proof.Defs
public import proofs.«01_k».proof.Proof.Gen.QkvW
public import proofs.«01_k».proof.Proof.Gen.QkvW.Frame
public import proofs.«01_k».proof.Proof.Gen.QkvWIdeal.Value
public import proofs.«01_k».proof.Proof.MixQkvW
public import proofs.«01_k».proof.Proof.Gen.QkvWRefIdeal.Run
public import proofs.«01_k».proof.Proof.Gen.QkvWRefIdeal.Read
public import proofs.«01_k».proof.Proof.Gen.GateW
public import proofs.«01_k».proof.Proof.Gen.GateW.Frame
public import proofs.«01_k».proof.Proof.Gen.GateWIdeal.Value
public import proofs.«01_k».proof.Proof.MixGateW
public import proofs.«01_k».proof.Proof.Gen.GateWRefIdeal.Run
public import proofs.«01_k».proof.Proof.Gen.GateWRefIdeal.Read
public import proofs.«01_k».proof.Proof.Gen.OutW
public import proofs.«01_k».proof.Proof.Gen.OutW.Frame
public import proofs.«01_k».proof.Proof.Gen.OutWIdeal.Value
public import proofs.«01_k».proof.Proof.MixOutW
public import proofs.«01_k».proof.Proof.Gen.OutWRefIdeal.Run
public import proofs.«01_k».proof.Proof.Gen.OutWRefIdeal.Read
public import proofs.«01_k».proof.Proof.Gen.ProjW
public import proofs.«01_k».proof.Proof.Gen.ProjW.Frame
public import proofs.«01_k».proof.Proof.Gen.ProjWIdeal.Value
public import proofs.«01_k».proof.Proof.MixProjW
public import proofs.«01_k».proof.Proof.Gen.ProjWRefIdeal.Run
public import proofs.«01_k».proof.Proof.Gen.ProjWRefIdeal.Read
public import proofs.«01_k».proof.Proof.Gen.UpF
public import proofs.«01_k».proof.Proof.Gen.UpF.Frame
public import proofs.«01_k».proof.Proof.Gen.UpFIdeal.Value
public import proofs.«01_k».proof.Proof.MixUpF
public import proofs.«01_k».proof.Proof.Gen.UpFRefIdeal.Run
public import proofs.«01_k».proof.Proof.Gen.UpFRefIdeal.Read
public import proofs.«01_k».proof.Proof.Gen.DownF
public import proofs.«01_k».proof.Proof.Gen.DownF.Frame
public import proofs.«01_k».proof.Proof.Gen.DownFIdeal.Value
public import proofs.«01_k».proof.Proof.MixDownF
public import proofs.«01_k».proof.Proof.Gen.DownFRefIdeal.Run
public import proofs.«01_k».proof.Proof.Gen.DownFRefIdeal.Read
public import proofs.«01_k».proof.Proof.Gen.OutF
public import proofs.«01_k».proof.Proof.Gen.OutF.Frame
public import proofs.«01_k».proof.Proof.Gen.OutFIdeal.Value
public import proofs.«01_k».proof.Proof.MixOutF
public import proofs.«01_k».proof.Proof.Gen.OutFRefIdeal.Run
public import proofs.«01_k».proof.Proof.Gen.OutFRefIdeal.Read
public import proofs.«01_k».proof.Proof.Gen.GateX
public import proofs.«01_k».proof.Proof.Gen.GateX.Frame
public import proofs.«01_k».proof.Proof.MixGateX
public import proofs.«01_k».proof.Proof.Gen.GateXRefIdeal.Run
public import proofs.«01_k».proof.Proof.Gen.GateXRefIdeal.Read
public import proofs.«01_k».proof.Proof.Gen.Merge
public import proofs.«01_k».proof.Proof.Gen.Merge.Frame
public import proofs.«01_k».proof.Proof.Gen.MergeIdeal.Value
public import proofs.«01_k».proof.Proof.MixMerge
public import proofs.«01_k».proof.Proof.Gen.MergeRefIdeal.Run
public import proofs.«01_k».proof.Proof.Gen.MergeRefIdeal.Read
public import proofs.«01_k».proof.Proof.Gen.OutX
public import proofs.«01_k».proof.Proof.Gen.OutX.Frame
public import proofs.«01_k».proof.Proof.Gen.OutXIdeal.Value
public import proofs.«01_k».proof.Proof.MixOutX
public import proofs.«01_k».proof.Proof.Gen.OutXRefIdeal.Run
public import proofs.«01_k».proof.Proof.Gen.OutXRefIdeal.Read
public import proofs.«01_k».proof.Proof.Gen.QkvX
public import proofs.«01_k».proof.Proof.Gen.QkvX.Frame
public import proofs.«01_k».proof.Proof.KQkvXRun
public import proofs.«01_k».proof.Proof.MixQkvX
public import proofs.«01_k».proof.Proof.Gen.QkvXRefIdeal.Run
public import proofs.«01_k».proof.Proof.Gen.QkvXRefIdeal.Read
public import Idealize.ShloMosaic.Adequacy
public import Idealize.ShloMosaic.Init
public import Idealize.ShloMosaic.Lib.Pipeline.Quiescent

@[expose] public section

noncomputable section

namespace Cert.Proof

open Idealize.ShloMosaic Idealize.ShloMosaic.TcCoe Idealize.SL.Sem

theorem quiet_qkv_input : Cert.quiescent_QkvX := fun m g _ =>
  θ_run_with_sems (QkvX.Gen.frame_of m g (QkvX.Hand.dats m) (QkvX.Hand.dats_A m)) (QkvX.Hand.run_main m g)

theorem quiet_qkv_input_ideal : Cert.quiescent_QkvXIdeal := fun m g _ =>
  θ_run_with_sems (QkvXIdeal.Gen.frame_of m g (QkvXIdeal.Hand.dats m) (QkvXIdeal.Hand.dats_A m)) (QkvXIdeal.Hand.run_main m g)

theorem quiet_qkv_weight_reference : Cert.quiescent_QkvWRefIdeal := fun m g _ =>
  (θ_run Cert.QkvWRefIdeal.defs _ _).mono (fun r h => ⟨fun c => (h c).2, sem_eq_zero_of_no_sems (by decide) r.2⟩)
    (Cert.QkvWRefIdeal.Value.run (F := Ideal) m g)

theorem same_qkv_weight : Cert.algebraic_QkvWIdeal_QkvWRefIdeal := by
  intro m g m' g' _ hagree
  refine ⟨fun c => Cert.QkvWRefIdeal.Read.val_main_v10 (F := Ideal) (m (c.tc.loc QkvWIdeal.main_arg0)) (m (c.tc.loc QkvWIdeal.main_arg1)),
    (θ_run Cert.QkvWIdeal.defs _ _).mono (fun r h c => ⟨(h c).1.trans (QkvWIdeal.Hand.final m c), (h c).2⟩)
      (Cert.QkvWIdeal.Value.run_blocks m g),
    (θ_run Cert.QkvWRefIdeal.defs _ _).mono (fun r h c => ?_) (Cert.QkvWRefIdeal.Value.run (F := Ideal) m' g')⟩
  obtain ⟨e0, e1⟩ := hagree c
  refine ⟨?_, (h c).2⟩
  · exact ((h c).1.trans (Cert.QkvWRefIdeal.Read.val_main_v10_eq _ _)).trans
      (congrArg₂ (fun x0 x1 => Cert.QkvWRefIdeal.Read.val_main_v10 (F := Ideal) x0 x1) e0 e1)

theorem quiet_gate_weight_reference : Cert.quiescent_GateWRefIdeal := fun m g _ =>
  (θ_run Cert.GateWRefIdeal.defs _ _).mono (fun r h => ⟨fun c => (h c).2, sem_eq_zero_of_no_sems (by decide) r.2⟩)
    (Cert.GateWRefIdeal.Value.run (F := Ideal) m g)

theorem same_gate_weight : Cert.algebraic_GateWIdeal_GateWRefIdeal := by
  intro m g m' g' _ hagree
  refine ⟨fun c => Cert.GateWRefIdeal.Read.val_main_v10 (F := Ideal) (m (c.tc.loc GateWIdeal.main_arg0)) (m (c.tc.loc GateWIdeal.main_arg1)),
    (θ_run Cert.GateWIdeal.defs _ _).mono (fun r h c => ⟨(h c).1.trans (GateWIdeal.Hand.final m c), (h c).2⟩)
      (Cert.GateWIdeal.Value.run_blocks m g),
    (θ_run Cert.GateWRefIdeal.defs _ _).mono (fun r h c => ?_) (Cert.GateWRefIdeal.Value.run (F := Ideal) m' g')⟩
  obtain ⟨e0, e1⟩ := hagree c
  refine ⟨?_, (h c).2⟩
  · exact ((h c).1.trans (Cert.GateWRefIdeal.Read.val_main_v10_eq _ _)).trans
      (congrArg₂ (fun x0 x1 => Cert.GateWRefIdeal.Read.val_main_v10 (F := Ideal) x0 x1) e0 e1)

theorem quiet_out_weight_reference : Cert.quiescent_OutWRefIdeal := fun m g _ =>
  (θ_run Cert.OutWRefIdeal.defs _ _).mono (fun r h => ⟨fun c => (h c).2, sem_eq_zero_of_no_sems (by decide) r.2⟩)
    (Cert.OutWRefIdeal.Value.run (F := Ideal) m g)

theorem same_out_weight : Cert.algebraic_OutWIdeal_OutWRefIdeal := by
  intro m g m' g' _ hagree
  refine ⟨fun c => Cert.OutWRefIdeal.Read.val_main_v6 (F := Ideal) (m (c.tc.loc OutWIdeal.main_arg0)) (m (c.tc.loc OutWIdeal.main_arg1)),
    (θ_run Cert.OutWIdeal.defs _ _).mono (fun r h c => ⟨(h c).1.trans (OutWIdeal.Hand.final m c), (h c).2⟩)
      (Cert.OutWIdeal.Value.run_blocks m g),
    (θ_run Cert.OutWRefIdeal.defs _ _).mono (fun r h c => ?_) (Cert.OutWRefIdeal.Value.run (F := Ideal) m' g')⟩
  obtain ⟨e0, e1⟩ := hagree c
  refine ⟨?_, (h c).2⟩
  · exact ((h c).1.trans (Cert.OutWRefIdeal.Read.val_main_v6_eq _ _)).trans
      (congrArg₂ (fun x0 x1 => Cert.OutWRefIdeal.Read.val_main_v6 (F := Ideal) x0 x1) e0 e1)

theorem quiet_proj_weight_reference : Cert.quiescent_ProjWRefIdeal := fun m g _ =>
  (θ_run Cert.ProjWRefIdeal.defs _ _).mono (fun r h => ⟨fun c => (h c).2, sem_eq_zero_of_no_sems (by decide) r.2⟩)
    (Cert.ProjWRefIdeal.Value.run (F := Ideal) m g)

theorem same_proj_weight : Cert.algebraic_ProjWIdeal_ProjWRefIdeal := by
  intro m g m' g' _ hagree
  refine ⟨fun c => Cert.ProjWRefIdeal.Read.val_main_v8 (F := Ideal) (m (c.tc.loc ProjWIdeal.main_arg0)) (m (c.tc.loc ProjWIdeal.main_arg1)),
    (θ_run Cert.ProjWIdeal.defs _ _).mono (fun r h c => ⟨(h c).1.trans (ProjWIdeal.Hand.final m c), (h c).2⟩)
      (Cert.ProjWIdeal.Value.run_blocks m g),
    (θ_run Cert.ProjWRefIdeal.defs _ _).mono (fun r h c => ?_) (Cert.ProjWRefIdeal.Value.run (F := Ideal) m' g')⟩
  obtain ⟨e0, e1⟩ := hagree c
  refine ⟨?_, (h c).2⟩
  · exact ((h c).1.trans (Cert.ProjWRefIdeal.Read.val_main_v8_eq _ _)).trans
      (congrArg₂ (fun x0 x1 => Cert.ProjWRefIdeal.Read.val_main_v8 (F := Ideal) x0 x1) e0 e1)

theorem quiet_up_forward_reference : Cert.quiescent_UpFRefIdeal := fun m g _ =>
  (θ_run Cert.UpFRefIdeal.defs _ _).mono (fun r h => ⟨fun c => (h c).2.2, sem_eq_zero_of_no_sems (by decide) r.2⟩)
    (Cert.UpFRefIdeal.Value.run (F := Ideal) m g)

theorem same_up_forward : Cert.algebraic_UpFIdeal_UpFRefIdeal := by
  intro m g m' g' _ hagree
  refine ⟨fun c => Cert.UpFRefIdeal.Read.val_main_v5 (F := Ideal) (m (c.tc.loc UpFIdeal.main_arg0)) (m (c.tc.loc UpFIdeal.main_arg1)),
    fun c => Cert.UpFRefIdeal.Read.val_main_v7 (F := Ideal) (m (c.tc.loc UpFIdeal.main_arg0)) (m (c.tc.loc UpFIdeal.main_arg1)),
    (θ_run Cert.UpFIdeal.defs _ _).mono (fun r h c => ⟨(h c).1.trans (UpFIdeal.Hand.final2 m c), (h c).2.1.trans (UpFIdeal.Hand.final3 m c), (h c).2.2⟩)
      (Cert.UpFIdeal.Value.run_blocks m g),
    (θ_run Cert.UpFRefIdeal.defs _ _).mono (fun r h c => ?_) (Cert.UpFRefIdeal.Value.run (F := Ideal) m' g')⟩
  obtain ⟨e0, e1⟩ := hagree c
  refine ⟨?_, ?_, (h c).2.2⟩
  · exact ((h c).1.trans (Cert.UpFRefIdeal.Read.val_main_v5_eq _ _)).trans
      (congrArg₂ (fun x0 x1 => Cert.UpFRefIdeal.Read.val_main_v5 (F := Ideal) x0 x1) e0 e1)
  · exact ((h c).2.1.trans (Cert.UpFRefIdeal.Read.val_main_v7_eq _ _)).trans
      (congrArg₂ (fun x0 x1 => Cert.UpFRefIdeal.Read.val_main_v7 (F := Ideal) x0 x1) e0 e1)

theorem quiet_down_forward_reference : Cert.quiescent_DownFRefIdeal := fun m g _ =>
  (θ_run Cert.DownFRefIdeal.defs _ _).mono (fun r h => ⟨fun c => (h c).2, sem_eq_zero_of_no_sems (by decide) r.2⟩)
    (Cert.DownFRefIdeal.Value.run (F := Ideal) m g)

theorem same_down_forward : Cert.algebraic_DownFIdeal_DownFRefIdeal := by
  intro m g m' g' _ hagree
  refine ⟨fun c => Cert.DownFRefIdeal.Read.val_main_v4 (F := Ideal) (m (c.tc.loc DownFIdeal.main_arg0)) (m (c.tc.loc DownFIdeal.main_arg1)) (m (c.tc.loc DownFIdeal.main_arg2)),
    (θ_run Cert.DownFIdeal.defs _ _).mono (fun r h c => ⟨(h c).1.trans (DownFIdeal.Hand.final m c), (h c).2⟩)
      (Cert.DownFIdeal.Value.run_blocks m g),
    (θ_run Cert.DownFRefIdeal.defs _ _).mono (fun r h c => ?_) (Cert.DownFRefIdeal.Value.run (F := Ideal) m' g')⟩
  obtain ⟨e0, e1, e2⟩ := hagree c
  refine ⟨?_, (h c).2⟩
  · exact ((h c).1.trans (Cert.DownFRefIdeal.Read.val_main_v4_eq _ _ _)).trans
      (congr (congrArg₂ (fun x0 x1 x2 => Cert.DownFRefIdeal.Read.val_main_v4 (F := Ideal) x0 x1 x2) e0 e1) e2)

theorem quiet_out_forward_reference : Cert.quiescent_OutFRefIdeal := fun m g _ =>
  (θ_run Cert.OutFRefIdeal.defs _ _).mono (fun r h => ⟨fun c => (h c).2.2, sem_eq_zero_of_no_sems (by decide) r.2⟩)
    (Cert.OutFRefIdeal.Value.run (F := Ideal) m g)

theorem same_out_forward : Cert.algebraic_OutFIdeal_OutFRefIdeal := by
  intro m g m' g' _ hagree
  refine ⟨fun c => Cert.OutFRefIdeal.Read.val_main_v3 (F := Ideal) (m (c.tc.loc OutFIdeal.main_arg0)) (m (c.tc.loc OutFIdeal.main_arg1)) (m (c.tc.loc OutFIdeal.main_arg2)),
    fun c => Cert.OutFRefIdeal.Read.val_main_v16 (F := Ideal) (m (c.tc.loc OutFIdeal.main_arg0)) (m (c.tc.loc OutFIdeal.main_arg1)) (m (c.tc.loc OutFIdeal.main_arg2)) (m (c.tc.loc OutFIdeal.main_arg3)),
    (θ_run Cert.OutFIdeal.defs _ _).mono (fun r h c => ⟨(h c).1.trans (OutFIdeal.Hand.final4 m c), (h c).2.1.trans (OutFIdeal.Hand.final5 m c), (h c).2.2⟩)
      (Cert.OutFIdeal.Value.run_blocks m g),
    (θ_run Cert.OutFRefIdeal.defs _ _).mono (fun r h c => ?_) (Cert.OutFRefIdeal.Value.run (F := Ideal) m' g')⟩
  obtain ⟨e0, e1, e2, e3⟩ := hagree c
  refine ⟨?_, ?_, (h c).2.2⟩
  · exact ((h c).1.trans (Cert.OutFRefIdeal.Read.val_main_v3_eq _ _ _)).trans
      (congr (congrArg₂ (fun x0 x1 x2 => Cert.OutFRefIdeal.Read.val_main_v3 (F := Ideal) x0 x1 x2) e0 e1) e2)
  · exact ((h c).2.1.trans (Cert.OutFRefIdeal.Read.val_main_v16_eq _ _ _ _)).trans
      (congr (congr (congrArg₂ (fun x0 x1 x2 x3 => Cert.OutFRefIdeal.Read.val_main_v16 (F := Ideal) x0 x1 x2 x3) e0 e1) e2) e3)

theorem quiet_gate_input_reference : Cert.quiescent_GateXRefIdeal := fun m g _ =>
  (θ_run Cert.GateXRefIdeal.defs _ _).mono (fun r h => ⟨fun c => (h c).2.2.2.2.2, sem_eq_zero_of_no_sems (by decide) r.2⟩)
    (Cert.GateXRefIdeal.Value.run (F := Ideal) m g)

theorem same_gate_input : Cert.algebraic_GateXIdeal_GateXRefIdeal := by
  intro m g m' g' _ hagree
  refine ⟨fun c => Cert.GateXRefIdeal.Read.val_main_v7 (F := Ideal) (m (c.tc.loc GateXIdeal.main_arg0)) (m (c.tc.loc GateXIdeal.main_arg1)) (m (c.tc.loc GateXIdeal.main_arg2)),
    fun c => m (c.tc.loc GateXIdeal.main_arg4),
    fun c => Cert.GateXRefIdeal.Read.val_main_v31 (F := Ideal) (m (c.tc.loc GateXIdeal.main_arg3)) (m (c.tc.loc GateXIdeal.main_arg4)) (m (c.tc.loc GateXIdeal.main_arg5)) (m (c.tc.loc GateXIdeal.main_arg6)),
    fun c => Cert.GateXRefIdeal.Read.val_main_v12 (F := Ideal) (m (c.tc.loc GateXIdeal.main_arg4)) (m (c.tc.loc GateXIdeal.main_arg5)),
    fun c => Cert.GateXRefIdeal.Read.val_main_v18 (F := Ideal) (m (c.tc.loc GateXIdeal.main_arg4)) (m (c.tc.loc GateXIdeal.main_arg6)),
    (θ_run Cert.GateXIdeal.defs _ _).mono (fun r h c => ⟨(h c).1.trans (GateXIdeal.Hand.final7 m c), (h c).2.1.trans (GateXIdeal.Hand.final8 m c), (h c).2.2.1.trans (GateXIdeal.Hand.final9 m c), (h c).2.2.2.1.trans (GateXIdeal.Hand.final10 m c), (h c).2.2.2.2.1.trans (GateXIdeal.Hand.final11 m c), (h c).2.2.2.2.2⟩)
      (Cert.GateXIdeal.Hand.run m g),
    (θ_run Cert.GateXRefIdeal.defs _ _).mono (fun r h c => ?_) (Cert.GateXRefIdeal.Value.run (F := Ideal) m' g')⟩
  obtain ⟨e0, e1, e2, e3, e4, e5, e6⟩ := hagree c
  refine ⟨?_, ?_, ?_, ?_, ?_, (h c).2.2.2.2.2⟩
  · exact ((h c).1.trans (Cert.GateXRefIdeal.Read.val_main_v7_eq _ _ _)).trans
      (congr (congrArg₂ (fun x0 x1 x2 => Cert.GateXRefIdeal.Read.val_main_v7 (F := Ideal) x0 x1 x2) e0 e1) e2)
  · exact (h c).2.1.trans e4
  · exact ((h c).2.2.1.trans (Cert.GateXRefIdeal.Read.val_main_v31_eq _ _ _ _)).trans
      (congr (congr (congrArg₂ (fun x0 x1 x2 x3 => Cert.GateXRefIdeal.Read.val_main_v31 (F := Ideal) x0 x1 x2 x3) e3 e4) e5) e6)
  · exact ((h c).2.2.2.1.trans (Cert.GateXRefIdeal.Read.val_main_v12_eq _ _)).trans
      (congrArg₂ (fun x0 x1 => Cert.GateXRefIdeal.Read.val_main_v12 (F := Ideal) x0 x1) e4 e5)
  · exact ((h c).2.2.2.2.1.trans (Cert.GateXRefIdeal.Read.val_main_v18_eq _ _)).trans
      (congrArg₂ (fun x0 x1 => Cert.GateXRefIdeal.Read.val_main_v18 (F := Ideal) x0 x1) e4 e6)

theorem quiet_merge_reference : Cert.quiescent_MergeRefIdeal := fun m g _ =>
  (θ_run Cert.MergeRefIdeal.defs _ _).mono (fun r h => ⟨fun c => (h c).2.2, sem_eq_zero_of_no_sems (by decide) r.2⟩)
    (Cert.MergeRefIdeal.Value.run (F := Ideal) m g)

theorem same_merge : Cert.algebraic_MergeIdeal_MergeRefIdeal := by
  intro m g m' g' _ hagree
  refine ⟨fun c => Cert.MergeRefIdeal.Read.val_main_v22 (F := Ideal) (m (c.tc.loc MergeIdeal.main_arg0)) (m (c.tc.loc MergeIdeal.main_arg1)) (m (c.tc.loc MergeIdeal.main_arg2)) (m (c.tc.loc MergeIdeal.main_arg3)) (m (c.tc.loc MergeIdeal.main_arg4)),
    fun c => Cert.MergeRefIdeal.Read.val_main_v32 (F := Ideal) (m (c.tc.loc MergeIdeal.main_arg0)) (m (c.tc.loc MergeIdeal.main_arg1)) (m (c.tc.loc MergeIdeal.main_arg2)) (m (c.tc.loc MergeIdeal.main_arg3)) (m (c.tc.loc MergeIdeal.main_arg4)),
    (θ_run Cert.MergeIdeal.defs _ _).mono (fun r h c => ⟨(h c).1.trans (MergeIdeal.Hand.final5 m c), (h c).2.1.trans (MergeIdeal.Hand.final6 m c), (h c).2.2⟩)
      (Cert.MergeIdeal.Value.run_blocks m g),
    (θ_run Cert.MergeRefIdeal.defs _ _).mono (fun r h c => ?_) (Cert.MergeRefIdeal.Value.run (F := Ideal) m' g')⟩
  obtain ⟨e0, e1, e2, e3, e4⟩ := hagree c
  refine ⟨?_, ?_, (h c).2.2⟩
  · exact ((h c).1.trans (Cert.MergeRefIdeal.Read.val_main_v22_eq _ _ _ _ _)).trans
      (congr (congr (congr (congrArg₂ (fun x0 x1 x2 x3 x4 => Cert.MergeRefIdeal.Read.val_main_v22 (F := Ideal) x0 x1 x2 x3 x4) e0 e1) e2) e3) e4)
  · exact ((h c).2.1.trans (Cert.MergeRefIdeal.Read.val_main_v32_eq _ _ _ _ _)).trans
      (congr (congr (congr (congrArg₂ (fun x0 x1 x2 x3 x4 => Cert.MergeRefIdeal.Read.val_main_v32 (F := Ideal) x0 x1 x2 x3 x4) e0 e1) e2) e3) e4)

theorem quiet_out_input_reference : Cert.quiescent_OutXRefIdeal := fun m g _ =>
  (θ_run Cert.OutXRefIdeal.defs _ _).mono (fun r h => ⟨fun c => (h c).2.2.2.2.2.2, sem_eq_zero_of_no_sems (by decide) r.2⟩)
    (Cert.OutXRefIdeal.Value.run (F := Ideal) m g)

theorem same_out_input : Cert.algebraic_OutXIdeal_OutXRefIdeal := by
  intro m g m' g' _ hagree
  refine ⟨fun c => Cert.OutXRefIdeal.Read.val_main_v41 (F := Ideal) (m (c.tc.loc OutXIdeal.main_arg2)) (m (c.tc.loc OutXIdeal.main_arg3)) (m (c.tc.loc OutXIdeal.main_arg6)),
    fun c => Cert.OutXRefIdeal.Read.val_main_v42 (F := Ideal) (m (c.tc.loc OutXIdeal.main_arg2)) (m (c.tc.loc OutXIdeal.main_arg3)) (m (c.tc.loc OutXIdeal.main_arg6)),
    fun c => Cert.OutXRefIdeal.Read.val_main_v43 (F := Ideal) (m (c.tc.loc OutXIdeal.main_arg0)) (m (c.tc.loc OutXIdeal.main_arg1)) (m (c.tc.loc OutXIdeal.main_arg2)) (m (c.tc.loc OutXIdeal.main_arg3)) (m (c.tc.loc OutXIdeal.main_arg6)),
    fun c => Cert.OutXRefIdeal.Read.val_main_v40 (F := Ideal) (m (c.tc.loc OutXIdeal.main_arg0)) (m (c.tc.loc OutXIdeal.main_arg1)) (m (c.tc.loc OutXIdeal.main_arg2)) (m (c.tc.loc OutXIdeal.main_arg3)) (m (c.tc.loc OutXIdeal.main_arg6)),
    fun c => Cert.OutXRefIdeal.Read.val_main_v44 (F := Ideal) (m (c.tc.loc OutXIdeal.main_arg2)) (m (c.tc.loc OutXIdeal.main_arg3)) (m (c.tc.loc OutXIdeal.main_arg4)) (m (c.tc.loc OutXIdeal.main_arg6)),
    fun c => Cert.OutXRefIdeal.Read.val_main_v45 (F := Ideal) (m (c.tc.loc OutXIdeal.main_arg2)) (m (c.tc.loc OutXIdeal.main_arg3)) (m (c.tc.loc OutXIdeal.main_arg5)) (m (c.tc.loc OutXIdeal.main_arg6)),
    (θ_run Cert.OutXIdeal.defs _ _).mono (fun r h c => ⟨(h c).1.trans (OutXIdeal.Hand.final6 m c), (h c).2.1.trans (OutXIdeal.Hand.final7 m c), (h c).2.2.1.trans (OutXIdeal.Hand.final8 m c), (h c).2.2.2.1.trans (OutXIdeal.Hand.final9 m c), (h c).2.2.2.2.1.trans (OutXIdeal.Hand.final10 m c), (h c).2.2.2.2.2.1.trans (OutXIdeal.Hand.final11 m c), (h c).2.2.2.2.2.2⟩)
      (Cert.OutXIdeal.Value.run_blocks m g),
    (θ_run Cert.OutXRefIdeal.defs _ _).mono (fun r h c => ?_) (Cert.OutXRefIdeal.Value.run (F := Ideal) m' g')⟩
  obtain ⟨e0, e1, e2, e3, e4, e5, e6⟩ := hagree c
  refine ⟨?_, ?_, ?_, ?_, ?_, ?_, (h c).2.2.2.2.2.2⟩
  · exact ((h c).1.trans (Cert.OutXRefIdeal.Read.val_main_v41_eq _ _ _)).trans
      (congr (congrArg₂ (fun x0 x1 x2 => Cert.OutXRefIdeal.Read.val_main_v41 (F := Ideal) x0 x1 x2) e2 e3) e6)
  · exact ((h c).2.1.trans (Cert.OutXRefIdeal.Read.val_main_v42_eq _ _ _)).trans
      (congr (congrArg₂ (fun x0 x1 x2 => Cert.OutXRefIdeal.Read.val_main_v42 (F := Ideal) x0 x1 x2) e2 e3) e6)
  · exact ((h c).2.2.1.trans (Cert.OutXRefIdeal.Read.val_main_v43_eq _ _ _ _ _)).trans
      (congr (congr (congr (congrArg₂ (fun x0 x1 x2 x3 x4 => Cert.OutXRefIdeal.Read.val_main_v43 (F := Ideal) x0 x1 x2 x3 x4) e0 e1) e2) e3) e6)
  · exact ((h c).2.2.2.1.trans (Cert.OutXRefIdeal.Read.val_main_v40_eq _ _ _ _ _)).trans
      (congr (congr (congr (congrArg₂ (fun x0 x1 x2 x3 x4 => Cert.OutXRefIdeal.Read.val_main_v40 (F := Ideal) x0 x1 x2 x3 x4) e0 e1) e2) e3) e6)
  · exact ((h c).2.2.2.2.1.trans (Cert.OutXRefIdeal.Read.val_main_v44_eq _ _ _ _)).trans
      (congr (congr (congrArg₂ (fun x0 x1 x2 x3 => Cert.OutXRefIdeal.Read.val_main_v44 (F := Ideal) x0 x1 x2 x3) e2 e3) e4) e6)
  · exact ((h c).2.2.2.2.2.1.trans (Cert.OutXRefIdeal.Read.val_main_v45_eq _ _ _ _)).trans
      (congr (congr (congrArg₂ (fun x0 x1 x2 x3 => Cert.OutXRefIdeal.Read.val_main_v45 (F := Ideal) x0 x1 x2 x3) e2 e3) e5) e6)

theorem quiet_qkv_input_reference : Cert.quiescent_QkvXRefIdeal := fun m g _ =>
  (θ_run Cert.QkvXRefIdeal.defs _ _).mono (fun r h => ⟨fun c => (h c).2.2.2.2.2, sem_eq_zero_of_no_sems (by decide) r.2⟩)
    (Cert.QkvXRefIdeal.Value.run (F := Ideal) m g)

theorem same_qkv_input : Cert.algebraic_QkvXIdeal_QkvXRefIdeal := by
  intro m g m' g' _ hagree
  refine ⟨fun c => Cert.QkvXRefIdeal.Read.val_main_v6 (F := Ideal) (m (c.tc.loc QkvXIdeal.main_arg0)) (m (c.tc.loc QkvXIdeal.main_arg1)),
    fun c => m (c.tc.loc QkvXIdeal.main_arg3),
    fun c => Cert.QkvXRefIdeal.Read.val_main_v30 (F := Ideal) (m (c.tc.loc QkvXIdeal.main_arg2)) (m (c.tc.loc QkvXIdeal.main_arg3)) (m (c.tc.loc QkvXIdeal.main_arg4)) (m (c.tc.loc QkvXIdeal.main_arg5)),
    fun c => Cert.QkvXRefIdeal.Read.val_main_v11 (F := Ideal) (m (c.tc.loc QkvXIdeal.main_arg3)) (m (c.tc.loc QkvXIdeal.main_arg4)),
    fun c => Cert.QkvXRefIdeal.Read.val_main_v17 (F := Ideal) (m (c.tc.loc QkvXIdeal.main_arg3)) (m (c.tc.loc QkvXIdeal.main_arg5)),
    (θ_run Cert.QkvXIdeal.defs _ _).mono (fun r h c => ⟨(h c).1.trans (QkvXIdeal.Hand.final6 m c), (h c).2.1.trans (QkvXIdeal.Hand.final7 m c), (h c).2.2.1.trans (QkvXIdeal.Hand.final8 m c), (h c).2.2.2.1.trans (QkvXIdeal.Hand.final9 m c), (h c).2.2.2.2.1.trans (QkvXIdeal.Hand.final10 m c), (h c).2.2.2.2.2⟩)
      (Cert.QkvXIdeal.Hand.run m g),
    (θ_run Cert.QkvXRefIdeal.defs _ _).mono (fun r h c => ?_) (Cert.QkvXRefIdeal.Value.run (F := Ideal) m' g')⟩
  obtain ⟨e0, e1, e2, e3, e4, e5⟩ := hagree c
  refine ⟨?_, ?_, ?_, ?_, ?_, (h c).2.2.2.2.2⟩
  · exact ((h c).1.trans (Cert.QkvXRefIdeal.Read.val_main_v6_eq _ _)).trans
      (congrArg₂ (fun x0 x1 => Cert.QkvXRefIdeal.Read.val_main_v6 (F := Ideal) x0 x1) e0 e1)
  · exact (h c).2.1.trans e3
  · exact ((h c).2.2.1.trans (Cert.QkvXRefIdeal.Read.val_main_v30_eq _ _ _ _)).trans
      (congr (congr (congrArg₂ (fun x0 x1 x2 x3 => Cert.QkvXRefIdeal.Read.val_main_v30 (F := Ideal) x0 x1 x2 x3) e2 e3) e4) e5)
  · exact ((h c).2.2.2.1.trans (Cert.QkvXRefIdeal.Read.val_main_v11_eq _ _)).trans
      (congrArg₂ (fun x0 x1 => Cert.QkvXRefIdeal.Read.val_main_v11 (F := Ideal) x0 x1) e3 e4)
  · exact ((h c).2.2.2.2.1.trans (Cert.QkvXRefIdeal.Read.val_main_v17_eq _ _)).trans
      (congrArg₂ (fun x0 x1 => Cert.QkvXRefIdeal.Read.val_main_v17 (F := Ideal) x0 x1) e3 e5)

end Cert.Proof

end
-- ==== Proof.lean ====
module

public import proofs.«01_k».proof.Defs
public import proofs.«01_k».proof.Proof.Run
public import proofs.«01_k».proof.Proof.KRun
public import proofs.«01_k».proof.Proof.Final
public import proofs.«01_k».proof.Proof.Finite
public import proofs.«01_k».proof.Proof.RefGrad
public import proofs.«01_k».proof.Proof.MlpSame
public import proofs.«01_k».proof.Proof.MixSame
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.TcCoe Idealize.SL.Sem Cert.Attn
open Idealize.ShloMosaic.Pipeline (FramePost)

attribute [local instance] Cert.Pre_finite.Hand.facts

theorem quiet_kernel : Cert.quiescent_Kernel := fun m g _ =>
  θ_run_with_sems (Kernel.Gen.frame_of m g (Kernel.Hand.dats m) (Kernel.Hand.dats_A m)) (Kernel.Hand.run_main m g)

theorem quiet_ideal : Cert.quiescent_KernelIdeal := fun m g _ =>
  θ_run_with_sems (KernelIdeal.Gen.frame_of m g (KernelIdeal.Hand.dats m) (KernelIdeal.Hand.dats_A m)) (KernelIdeal.Hand.run_main m g)

theorem quiet_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's result at finite arguments. -/
theorem reference_grad {A : Args} {x0 x1 x2 x3 x4 x5 x6 x7} (H : Cert.ReferenceIdeal.Hand.Holds A x0 x1 x2 x3 x4 x5 x6 x7) :
    Cert.ReferenceIdeal.Read.val_main_v194 (F := Ideal) x0 x1 x2 x3 x4 x5 x6 x7 = KernelIdeal.Hand.grad A := by
  funext j
  have e : j = ix3 (j 0) (j 1) (j 2) := funext fun b => by match b with | ⟨0, _⟩ => rfl | ⟨1, _⟩ => rfl | ⟨2, _⟩ => rfl
  rw [e]
  exact Cert.ReferenceIdeal.Hand.r194 H (j 1) (j 0) (j 2)

theorem holds_congr {A : Args} {x0 x1 x2 x3 x4 x5 x6 x7 y0 y1 y2 y3 y4 y5 y6 y7} (e0 : y0 = x0) (e1 : y1 = x1) (e2 : y2 = x2) (e3 : y3 = x3)
    (e4 : y4 = x4) (e5 : y5 = x5) (e6 : y6 = x6) (e7 : y7 = x7) (H : Cert.ReferenceIdeal.Hand.Holds A x0 x1 x2 x3 x4 x5 x6 x7) :
    Cert.ReferenceIdeal.Hand.Holds A y0 y1 y2 y3 y4 y5 y6 y7 := by subst e0 e1 e2 e3 e4 e5 e6 e7; exact H

theorem same_gradient : Cert.algebraic_KernelIdeal_ReferenceIdeal_pre_finite := by
  intro m g m' g' hpre hagree
  have hA : ∀ c : Dev KernelIdeal.nD, ∃ A, Cert.ReferenceIdeal.Hand.Holds A (m (c.tc.loc KernelIdeal.main_arg0)) (m (c.tc.loc KernelIdeal.main_arg1))
      (m (c.tc.loc KernelIdeal.main_arg2)) (m (c.tc.loc KernelIdeal.main_arg3)) (m (c.tc.loc KernelIdeal.main_arg4))
      (m (c.tc.loc KernelIdeal.main_arg5)) (m (c.tc.loc KernelIdeal.main_arg6)) (m (c.tc.loc KernelIdeal.main_arg7)) :=
    fun c => Cert.Pre_finite.Hand.holds (hpre c)
  refine ⟨fun c => KernelIdeal.Hand.grad (hA c).choose, ?_, ?_⟩
  · refine ⟨fun t ht hf c => ?_, (KernelIdeal.Hand.run_main m g).progress, (KernelIdeal.Hand.run_main m g).fair⟩
    have h := (KernelIdeal.Hand.run_main m g).post t ht hf
    have f := (quiet_ideal m g trivial).post t ht hf
    exact ⟨(h.1.out_eq c 4).trans (KernelIdeal.Hand.final_grad (hA c).choose_spec), f.1 c⟩
  · refine (θ_run Cert.ReferenceIdeal.defs _ _).mono (fun r h c => ⟨?_, (h c).2⟩) (Cert.ReferenceIdeal.Value.run (F := Ideal) m' g')
    refine ((h c).1.trans (Cert.ReferenceIdeal.Read.val_main_v194_eq (Idealize.ShloMosaic.StableHlo.launchContents m' c))).trans (reference_grad ?_)
    obtain ⟨e0, e1, e2, e3, e4, e5, e6, e7⟩ := hagree c
    exact holds_congr e0 e1 e2 e3 e4 e5 e6 e7 (hA c).choose_spec

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.DownW.Gen.facts, Cert.DownWIdeal.Gen.facts, Cert.DownWRefIdeal.Gen.facts,
    Cert.UpW.Gen.facts, Cert.UpWIdeal.Gen.facts, Cert.UpWRefIdeal.Gen.facts,
    Cert.UpX.Gen.facts, Cert.UpXIdeal.Gen.facts, Cert.UpXRefIdeal.Gen.facts,
    Cert.QkvW.Gen.facts, Cert.QkvWIdeal.Gen.facts, Cert.QkvWRefIdeal.Gen.facts,
    Cert.GateW.Gen.facts, Cert.GateWIdeal.Gen.facts, Cert.GateWRefIdeal.Gen.facts,
    Cert.OutW.Gen.facts, Cert.OutWIdeal.Gen.facts, Cert.OutWRefIdeal.Gen.facts,
    Cert.ProjW.Gen.facts, Cert.ProjWIdeal.Gen.facts, Cert.ProjWRefIdeal.Gen.facts,
    Cert.UpF.Gen.facts, Cert.UpFIdeal.Gen.facts, Cert.UpFRefIdeal.Gen.facts,
    Cert.DownF.Gen.facts, Cert.DownFIdeal.Gen.facts, Cert.DownFRefIdeal.Gen.facts,
    Cert.OutF.Gen.facts, Cert.OutFIdeal.Gen.facts, Cert.OutFRefIdeal.Gen.facts,
    Cert.GateX.Gen.facts, Cert.GateXIdeal.Gen.facts, Cert.GateXRefIdeal.Gen.facts,
    Cert.Merge.Gen.facts, Cert.MergeIdeal.Gen.facts, Cert.MergeRefIdeal.Gen.facts,
    Cert.OutX.Gen.facts, Cert.OutXIdeal.Gen.facts, Cert.OutXRefIdeal.Gen.facts,
    Cert.QkvX.Gen.facts, Cert.QkvXIdeal.Gen.facts, Cert.QkvXRefIdeal.Gen.facts,
    Cert.Pre_finite.Hand.facts,
    quiet_kernel, quiet_ideal, fun m g _ => quiet_ideal m g trivial, quiet_reference, fun m g _ => quiet_reference m g trivial,
    fun m g _ => Cert.Up.Gen.frame m g, fun m g _ => Cert.UpIdeal.Gen.frame m g, quiet_up_reference,
    fun m g _ => Cert.DownW.Gen.frame m g, fun m g _ => Cert.DownWIdeal.Gen.frame m g, quiet_down_weight_reference,
    fun m g _ => Cert.UpW.Gen.frame m g, fun m g _ => Cert.UpWIdeal.Gen.frame m g, quiet_up_weight_reference,
    fun m g _ => Cert.UpX.Gen.frame m g, fun m g _ => Cert.UpXIdeal.Gen.frame m g, quiet_up_input_reference,
    fun m g _ => Cert.QkvW.Gen.frame m g, fun m g _ => Cert.QkvWIdeal.Gen.frame m g, quiet_qkv_weight_reference,
    fun m g _ => Cert.GateW.Gen.frame m g, fun m g _ => Cert.GateWIdeal.Gen.frame m g, quiet_gate_weight_reference,
    fun m g _ => Cert.OutW.Gen.frame m g, fun m g _ => Cert.OutWIdeal.Gen.frame m g, quiet_out_weight_reference,
    fun m g _ => Cert.ProjW.Gen.frame m g, fun m g _ => Cert.ProjWIdeal.Gen.frame m g, quiet_proj_weight_reference,
    fun m g _ => Cert.UpF.Gen.frame m g, fun m g _ => Cert.UpFIdeal.Gen.frame m g, quiet_up_forward_reference,
    fun m g _ => Cert.DownF.Gen.frame m g, fun m g _ => Cert.DownFIdeal.Gen.frame m g, quiet_down_forward_reference,
    fun m g _ => Cert.OutF.Gen.frame m g, fun m g _ => Cert.OutFIdeal.Gen.frame m g, quiet_out_forward_reference,
    fun m g _ => Cert.GateX.Gen.frame m g, fun m g _ => Cert.GateXIdeal.Gen.frame m g, quiet_gate_input_reference,
    fun m g _ => Cert.Merge.Gen.frame m g, fun m g _ => Cert.MergeIdeal.Gen.frame m g, quiet_merge_reference,
    fun m g _ => Cert.OutX.Gen.frame m g, fun m g _ => Cert.OutXIdeal.Gen.frame m g, quiet_out_input_reference,
    quiet_qkv_input, quiet_qkv_input_ideal, quiet_qkv_input_reference,
    IdealRules.named_const.statement Cert.KernelIdeal.κ "slope" .f32 0xBEEC9820#32 (((-(2 / 3)) * (Real.log 2) : ℝ) : EReal) rfl,
    same_gradient,
    trivial, same_up,
    trivial, same_down_weight,
    trivial, same_up_weight,
    trivial, same_up_input,
    trivial, same_qkv_weight,
    trivial, same_gate_weight,
    trivial, same_out_weight,
    trivial, same_proj_weight,
    trivial, same_up_forward,
    trivial, same_down_forward,
    trivial, same_out_forward,
    trivial, same_gate_input,
    trivial, same_merge,
    trivial, same_out_input,
    trivial, same_qkv_input⟩

end Cert.Proof

end
